-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.1 = (fun _ => 1#1)
    ∧ (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.1 = (fun _ => 1#1)
    ∧ (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .f32 0x7149F2CA#32 ⊤

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v465) = v0 c
          ∧ r.2.mem ((c.tc : Thread Cert.ReferenceIdeal.nD Cert.ReferenceIdeal.τ).loc Cert.ReferenceIdeal.main_v491) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S4096x3 : Shape := ⟨2, ![4096, 3]⟩
abbrev S4095x2 : Shape := ⟨2, ![4095, 2]⟩
abbrev S4093x4 : Shape := ⟨2, ![4093, 4]⟩
abbrev S4093 : Shape := ⟨1, ![4093]⟩
abbrev S4093x3 : Shape := ⟨2, ![4093, 3]⟩
abbrev S4096 : Shape := ⟨1, ![4096]⟩
abbrev S20x20 : Shape := ⟨2, ![20, 20]⟩
abbrev S8382465x2 : Shape := ⟨2, ![8382465, 2]⟩
abbrev S3 : Shape := ⟨1, ![3]⟩
abbrev S1 : Shape := ⟨1, ![1]⟩
abbrev S_ : Shape := ⟨0, ![]⟩
abbrev S4096x1 : Shape := ⟨2, ![4096, 1]⟩
abbrev S8382465x1 : Shape := ⟨2, ![8382465, 1]⟩
abbrev S8382465 : Shape := ⟨1, ![8382465]⟩
abbrev S4096x4096 : Shape := ⟨2, ![4096, 4096]⟩
abbrev S1x4096 : Shape := ⟨2, ![1, 4096]⟩
abbrev S4095 : Shape := ⟨1, ![4095]⟩
abbrev S4094 : Shape := ⟨1, ![4094]⟩

class Facts : Prop where
  slices_S3_S1_0 : S3.Slices ![0] S1
  shapeCasts_S1_S_ : S1.ShapeCasts S_
  slices_S4096x3_S4096x1_0_0 : S4096x3.Slices ![0, 0] S4096x1
  shapeCasts_S4096x1_S4096 : S4096x1.ShapeCasts S4096
  slices_S4096x3_S4096x1_0_1 : S4096x3.Slices ![0, 1] S4096x1
  slices_S4096x3_S4096x1_0_2 : S4096x3.Slices ![0, 2] S4096x1
  slices_S8382465x2_S8382465x1_0_0 : S8382465x2.Slices ![0, 0] S8382465x1
  shapeCasts_S8382465x1_S8382465 : S8382465x1.ShapeCasts S8382465
  slices_S8382465x2_S8382465x1_0_1 : S8382465x2.Slices ![0, 1] S8382465x1
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  slices_S4096_S4095_0 : S4096.Slices ![0] S4095
  slices_S4096_S4095_1 : S4096.Slices ![1] S4095
  bcast_S_S4095 : S_.BroadcastsInDim S4095 (![] : Fin 0 → Fin S4095.rank)
  slices_S4095_S4094_0 : S4095.Slices ![0] S4094
  slices_S4095_S4094_1 : S4095.Slices ![1] S4094
  bcast_S_S4096x3 : S_.BroadcastsInDim S4096x3 (![] : Fin 0 → Fin S4096x3.rank)
  bcast_S_S20x20 : S_.BroadcastsInDim S20x20 (![] : Fin 0 → Fin S20x20.rank)
  bcast_S_S3 : S_.BroadcastsInDim S3 (![] : Fin 0 → Fin S3.rank)
  bcast_S_S4096 : S_.BroadcastsInDim S4096 (![] : Fin 0 → Fin S4096.rank)
  bcast_S_S8382465 : S_.BroadcastsInDim S8382465 (![] : Fin 0 → Fin S8382465.rank)
  bcast_S_S4094 : S_.BroadcastsInDim S4094 (![] : Fin 0 → Fin S4094.rank)

variable [Facts]

def fn_round {F : FTy → Type} [FloatOps F] (arg0 : FVec F S4096x4096 .f32) : FVec F S4096x4096 .f32 :=
  let v0 : FVec F S4096x4096 .f32 := Host.roundeven arg0
  v0

def fn_round_0 {F : FTy → Type} [FloatOps F] (arg0 : FVec F S4095 .f32) : FVec F S4095 .f32 :=
  let v0 : FVec F S4095 .f32 := Host.roundeven arg0
  v0

def fn_part7 {F : FTy → Type} [FloatOps F] (main_v12 : IVec S4096x4096 32) (main_v13 : IVec S4096x4096 32) (main_v24 : FVec F S4096x4096 .f32) (main_v35 : FVec F S4096x4096 .f32) (main_v46 : FVec F S4096x4096 .f32) (main_v80 : FVec F S4094 .f32) (main_v87 : FVec F S4094 .f32) (main_v94 : FVec F S4094 .f32) (main_v97 : IVec S4096x3 1) (main_v100 : IVec S20x20 1) (main_v109 : IVec S3 1) (main_v114 : IVec S4096 1) (main_v118 : IVec S4095x2 1) (main_v122 : IVec S4093x4 1) (main_v124 : IVec S4093 1) (main_v139 : IVec S8382465 1) (main_v152 : IVec S8382465 1) : IVec S4096x3 1 × IVec S20x20 1 × IVec S3 1 × IVec S4096 1 × IVec S4095x2 1 × IVec S4093x4 1 × IVec S4093 1 × IVec S8382465 1 × IVec S8382465 1 × IVec S4096x4096 1 × IVec S4094 1 :=
  let main_v153 : FVec F S4096x4096 .f32 := mulf main_v24 main_v24
  let main_v154 : FVec F S4096x4096 .f32 := mulf main_v35 main_v35
  let main_v155 : FVec F S4096x4096 .f32 := addf main_v153 main_v154
  let main_v156 : FVec F S4096x4096 .f32 := mulf main_v46 main_v46
  let main_v157 : FVec F S4096x4096 .f32 := addf main_v155 main_v156
  let main_cst_13 : FVec F S_ .f32 := constant S_ .f32 0x00000000#32
  let main_v158 : FVec F S4096x4096 .f32 := broadcastInDim S4096x4096 ![] bcast_S_S4096x4096 main_cst_13
  let main_v159 : IVec S4096x4096 1 := cmpf .ogt main_v157 main_v158
  let main_c_14 : IVec S_ 32 := constantI S_ 32 2#32
  let main_v160 : IVec S4096x4096 32 := broadcastInDim S4096x4096 ![] bcast_S_S4096x4096 main_c_14
  let main_v161 : IVec S4096x4096 32 := addi main_v12 main_v160
  let main_v162 : IVec S4096x4096 1 := cmpi .slt main_v13 main_v161
  let main_v163 : IVec S4096x4096 1 := ori main_v159 main_v162
  let main_v164 : FVec F S4094 .f32 := mulf main_v80 main_v80
  let main_v165 : FVec F S4094 .f32 := mulf main_v87 main_v87
  let main_v166 : FVec F S4094 .f32 := addf main_v164 main_v165
  let main_v167 : FVec F S4094 .f32 := mulf main_v94 main_v94
  let main_v168 : FVec F S4094 .f32 := addf main_v166 main_v167
  let main_cst_15 : FVec F S_ .f32 := constant S_ .f32 0x00000000#32
  let main_v169 : FVec F S4094 .f32 := broadcastInDim S4094 ![] bcast_S_S4094 main_cst_15
  let main_v170 : IVec S4094 1 := cmpf .ogt main_v168 main_v169
  (main_v97, main_v100, main_v109, main_v114, main_v118, main_v122, main_v124, main_v139, main_v152, main_v163, main_v170)

def fn_part6 {F : FTy → Type} [FloatOps F] (main_v9 : IVec S8382465 32) (main_v11 : IVec S8382465 32) (main_v12 : IVec S4096x4096 32) (main_v13 : IVec S4096x4096 32) (main_v24 : FVec F S4096x4096 .f32) (main_v35 : FVec F S4096x4096 .f32) (main_v46 : FVec F S4096x4096 .f32) (main_v80 : FVec F S4094 .f32) (main_v87 : FVec F S4094 .f32) (main_v94 : FVec F S4094 .f32) (main_v97 : IVec S4096x3 1) (main_v100 : IVec S20x20 1) (main_v109 : IVec S3 1) (main_v114 : IVec S4096 1) (main_v118 : IVec S4095x2 1) (main_v122 : IVec S4093x4 1) (main_v124 : IVec S4093 1) (main_v132 : IVec S8382465 1) (main_v133 : IVec S8382465 32) : IVec S4096x3 1 × IVec S20x20 1 × IVec S3 1 × IVec S4096 1 × IVec S4095x2 1 × IVec S4093x4 1 × IVec S4093 1 × IVec S8382465 1 × IVec S8382465 1 × IVec S4096x4096 1 × IVec S4094 1 :=
  let main_v134 : IVec S8382465 1 := cmpi .slt main_v11 main_v133
  let main_v135 : IVec S8382465 1 := andi main_v132 main_v134
  let main_c_8 : IVec S_ 32 := constantI S_ 32 2#32
  let main_v136 : IVec S8382465 32 := broadcastInDim S8382465 ![] bcast_S_S8382465 main_c_8
  let main_v137 : IVec S8382465 32 := addi main_v9 main_v136
  let main_v138 : IVec S8382465 1 := cmpi .sle main_v137 main_v11
  let main_v139 : IVec S8382465 1 := andi main_v135 main_v138
  let main_c_9 : IVec S_ 32 := constantI S_ 32 8189#32
  let main_v140 : IVec S8382465 32 := broadcastInDim S8382465 ![] bcast_S_S8382465 main_c_9
  let main_v141 : IVec S8382465 32 := subi main_v140 main_v9
  let main_v142 : IVec S8382465 32 := muli main_v9 main_v141
  let main_v143 : IVec S8382465 32 := subi main_v11 main_v9
  let main_c_10 : IVec S_ 32 := constantI S_ 32 2#32
  let main_v144 : IVec S8382465 32 := broadcastInDim S8382465 ![] bcast_S_S8382465 main_c_10
  let main_v145 : IVec S8382465 32 := subi main_v143 main_v144
  let main_c_11 : IVec S_ 32 := constantI S_ 32 2#32
  let main_v146 : IVec S8382465 32 := broadcastInDim S8382465 ![] bcast_S_S8382465 main_c_11
  let main_v147 : IVec S8382465 32 := muli main_v146 main_v145
  let main_v148 : IVec S8382465 32 := addi main_v142 main_v147
  let main_v149 : IVec S8382465 32 := iotaInDim S8382465 32 0
  let main_c_12 : IVec S_ 32 := constantI S_ 32 2#32
  let main_v150 : IVec S8382465 32 := broadcastInDim S8382465 ![] bcast_S_S8382465 main_c_12
  let main_v151 : IVec S8382465 32 := muli main_v150 main_v149
  let main_v152 : IVec S8382465 1 := cmpi .eq main_v148 main_v151
  fn_part7 (F := F) main_v12 main_v13 main_v24 main_v35 main_v46 main_v80 main_v87 main_v94 main_v97 main_v100 main_v109 main_v114 main_v118 main_v122 main_v124 main_v139 main_v152

def fn_part5 {F : FTy → Type} [FloatOps F] (main_arg1 : IVec S4095x2 32) (main_arg3 : IVec S4093x4 32) (main_arg4 : IVec S4093 32) (main_v9 : IVec S8382465 32) (main_v11 : IVec S8382465 32) (main_v12 : IVec S4096x4096 32) (main_v13 : IVec S4096x4096 32) (main_v24 : FVec F S4096x4096 .f32) (main_v35 : FVec F S4096x4096 .f32) (main_v46 : FVec F S4096x4096 .f32) (main_v80 : FVec F S4094 .f32) (main_v87 : FVec F S4094 .f32) (main_v94 : FVec F S4094 .f32) (main_v97 : IVec S4096x3 1) (main_v100 : IVec S20x20 1) (main_v109 : IVec S3 1) (main_v111 : IVec S4096 1) (main_v113 : IVec S4096 1) : IVec S4096x3 1 × IVec S20x20 1 × IVec S3 1 × IVec S4096 1 × IVec S4095x2 1 × IVec S4093x4 1 × IVec S4093 1 × IVec S8382465 1 × IVec S8382465 1 × IVec S4096x4096 1 × IVec S4094 1 :=
  let main_v114 : IVec S4096 1 := andi main_v111 main_v113
  let main_v115 : IVec S4095x2 32 := iotaInDim S4095x2 32 0
  let main_v116 : IVec S4095x2 32 := iotaInDim S4095x2 32 1
  let main_v117 : IVec S4095x2 32 := addi main_v115 main_v116
  let main_v118 : IVec S4095x2 1 := cmpi .eq main_arg1 main_v117
  let main_v119 : IVec S4093x4 32 := iotaInDim S4093x4 32 0
  let main_v120 : IVec S4093x4 32 := iotaInDim S4093x4 32 1
  let main_v121 : IVec S4093x4 32 := addi main_v119 main_v120
  let main_v122 : IVec S4093x4 1 := cmpi .eq main_arg3 main_v121
  let main_v123 : IVec S4093 32 := iotaInDim S4093 32 0
  let main_v124 : IVec S4093 1 := cmpi .eq main_arg4 main_v123
  let main_c_4 : IVec S_ 32 := constantI S_ 32 0#32
  let main_v125 : IVec S8382465 32 := broadcastInDim S8382465 ![] bcast_S_S8382465 main_c_4
  let main_v126 : IVec S8382465 1 := cmpi .sge main_v9 main_v125
  let main_c_5 : IVec S_ 32 := constantI S_ 32 4096#32
  let main_v127 : IVec S8382465 32 := broadcastInDim S8382465 ![] bcast_S_S8382465 main_c_5
  let main_v128 : IVec S8382465 1 := cmpi .slt main_v9 main_v127
  let main_v129 : IVec S8382465 1 := andi main_v126 main_v128
  let main_c_6 : IVec S_ 32 := constantI S_ 32 0#32
  let main_v130 : IVec S8382465 32 := broadcastInDim S8382465 ![] bcast_S_S8382465 main_c_6
  let main_v131 : IVec S8382465 1 := cmpi .sge main_v11 main_v130
  let main_v132 : IVec S8382465 1 := andi main_v129 main_v131
  let main_c_7 : IVec S_ 32 := constantI S_ 32 4096#32
  let main_v133 : IVec S8382465 32 := broadcastInDim S8382465 ![] bcast_S_S8382465 main_c_7
  fn_part6 (F := F) main_v9 main_v11 main_v12 main_v13 main_v24 main_v35 main_v46 main_v80 main_v87 main_v94 main_v97 main_v100 main_v109 main_v114 main_v118 main_v122 main_v124 main_v132 main_v133

def fn_part4 {F : FTy → Type} [FloatOps F] (main_arg1 : IVec S4095x2 32) (main_arg3 : IVec S4093x4 32) (main_arg4 : IVec S4093 32) (main_arg6 : IVec S4096 32) (main_arg7 : FVec F S20x20 .f32) (main_arg9 : FVec F S3 .f32) (main_v1 : FVec F S_ .f32) (main_v9 : IVec S8382465 32) (main_v11 : IVec S8382465 32) (main_v12 : IVec S4096x4096 32) (main_v13 : IVec S4096x4096 32) (main_v24 : FVec F S4096x4096 .f32) (main_v35 : FVec F S4096x4096 .f32) (main_v46 : FVec F S4096x4096 .f32) (main_v80 : FVec F S4094 .f32) (main_v87 : FVec F S4094 .f32) (main_v94 : FVec F S4094 .f32) (main_v95 : FVec F S4096x3 .f32) : IVec S4096x3 1 × IVec S20x20 1 × IVec S3 1 × IVec S4096 1 × IVec S4095x2 1 × IVec S4093x4 1 × IVec S4093 1 × IVec S8382465 1 × IVec S8382465 1 × IVec S4096x4096 1 × IVec S4094 1 :=
  let main_cst : FVec F S_ .f32 := constant S_ .f32 0x7F800000#32
  let main_v96 : FVec F S4096x3 .f32 := broadcastInDim S4096x3 ![] bcast_S_S4096x3 main_cst
  let main_v97 : IVec S4096x3 1 := cmpf .olt main_v95 main_v96
  let main_v98 : FVec F S20x20 .f32 := Host.absf main_arg7
  let main_cst_0 : FVec F S_ .f32 := constant S_ .f32 0x7F800000#32
  let main_v99 : FVec F S20x20 .f32 := broadcastInDim S20x20 ![] bcast_S_S20x20 main_cst_0
  let main_v100 : IVec S20x20 1 := cmpf .olt main_v98 main_v99
  let main_v101 : FVec F S3 .f32 := Host.absf main_arg9
  let main_cst_1 : FVec F S_ .f32 := constant S_ .f32 0x7F800000#32
  let main_v102 : FVec F S3 .f32 := broadcastInDim S3 ![] bcast_S_S3 main_cst_1
  let main_v103 : IVec S3 1 := cmpf .olt main_v101 main_v102
  let main_cst_2 : FVec F S_ .f32 := constant S_ .f32 0x00000000#32
  let main_v104 : FVec F S3 .f32 := broadcastInDim S3 ![] bcast_S_S3 main_cst_2
  let main_v105 : IVec S3 1 := cmpf .une main_arg9 main_v104
  let main_v106 : IVec S3 1 := andi main_v103 main_v105
  let main_v107 : FVec F S3 .f32 := broadcastInDim S3 ![] bcast_S_S3 main_v1
  let main_v108 : IVec S3 1 := cmpf .oeq main_arg9 main_v107
  let main_v109 : IVec S3 1 := andi main_v106 main_v108
  let main_c : IVec S_ 32 := constantI S_ 32 0#32
  let main_v110 : IVec S4096 32 := broadcastInDim S4096 ![] bcast_S_S4096 main_c
  let main_v111 : IVec S4096 1 := cmpi .sge main_arg6 main_v110
  let main_c_3 : IVec S_ 32 := constantI S_ 32 20#32
  let main_v112 : IVec S4096 32 := broadcastInDim S4096 ![] bcast_S_S4096 main_c_3
  let main_v113 : IVec S4096 1 := cmpi .slt main_arg6 main_v112
  fn_part5 (F := F) main_arg1 main_arg3 main_arg4 main_v9 main_v11 main_v12 main_v13 main_v24 main_v35 main_v46 main_v80 main_v87 main_v94 main_v97 main_v100 main_v109 main_v111 main_v113

def fn_part3 {F : FTy → Type} [FloatOps F] (main_arg0 : FVec F S4096x3 .f32) (main_arg1 : IVec S4095x2 32) (main_arg3 : IVec S4093x4 32) (main_arg4 : IVec S4093 32) (main_arg6 : IVec S4096 32) (main_arg7 : FVec F S20x20 .f32) (main_arg9 : FVec F S3 .f32) (main_v1 : FVec F S_ .f32) (main_v9 : IVec S8382465 32) (main_v11 : IVec S8382465 32) (main_v12 : IVec S4096x4096 32) (main_v13 : IVec S4096x4096 32) (main_v24 : FVec F S4096x4096 .f32) (main_v35 : FVec F S4096x4096 .f32) (main_v46 : FVec F S4096x4096 .f32) (main_v55 : FVec F S4095 .f32) (main_v64 : FVec F S4095 .f32) (main_v67 : FVec F S4095 .f32) (main_v70 : FVec F S4095 .f32) (main_v71 : FVec F S4095 .f32) : IVec S4096x3 1 × IVec S20x20 1 × IVec S3 1 × IVec S4096 1 × IVec S4095x2 1 × IVec S4093x4 1 × IVec S4093 1 × IVec S8382465 1 × IVec S8382465 1 × IVec S4096x4096 1 × IVec S4094 1 :=
  let main_v72 : FVec F S4095 .f32 := mulf main_v71 main_v70
  let main_v73 : FVec F S4095 .f32 := subf main_v67 main_v72
  let main_v74 : FVec F S4094 .f32 := (extractStridedSlice S4094 ![0] · slices_S4095_S4094_0) main_v64
  let main_v75 : FVec F S4094 .f32 := (extractStridedSlice S4094 ![1] · slices_S4095_S4094_1) main_v73
  let main_v76 : FVec F S4094 .f32 := mulf main_v74 main_v75
  let main_v77 : FVec F S4094 .f32 := (extractStridedSlice S4094 ![0] · slices_S4095_S4094_0) main_v73
  let main_v78 : FVec F S4094 .f32 := (extractStridedSlice S4094 ![1] · slices_S4095_S4094_1) main_v64
  let main_v79 : FVec F S4094 .f32 := mulf main_v77 main_v78
  let main_v80 : FVec F S4094 .f32 := subf main_v76 main_v79
  let main_v81 : FVec F S4094 .f32 := (extractStridedSlice S4094 ![0] · slices_S4095_S4094_0) main_v73
  let main_v82 : FVec F S4094 .f32 := (extractStridedSlice S4094 ![1] · slices_S4095_S4094_1) main_v55
  let main_v83 : FVec F S4094 .f32 := mulf main_v81 main_v82
  let main_v84 : FVec F S4094 .f32 := (extractStridedSlice S4094 ![0] · slices_S4095_S4094_0) main_v55
  let main_v85 : FVec F S4094 .f32 := (extractStridedSlice S4094 ![1] · slices_S4095_S4094_1) main_v73
  let main_v86 : FVec F S4094 .f32 := mulf main_v84 main_v85
  let main_v87 : FVec F S4094 .f32 := subf main_v83 main_v86
  let main_v88 : FVec F S4094 .f32 := (extractStridedSlice S4094 ![0] · slices_S4095_S4094_0) main_v55
  let main_v89 : FVec F S4094 .f32 := (extractStridedSlice S4094 ![1] · slices_S4095_S4094_1) main_v64
  let main_v90 : FVec F S4094 .f32 := mulf main_v88 main_v89
  let main_v91 : FVec F S4094 .f32 := (extractStridedSlice S4094 ![0] · slices_S4095_S4094_0) main_v64
  let main_v92 : FVec F S4094 .f32 := (extractStridedSlice S4094 ![1] · slices_S4095_S4094_1) main_v55
  let main_v93 : FVec F S4094 .f32 := mulf main_v91 main_v92
  let main_v94 : FVec F S4094 .f32 := subf main_v90 main_v93
  let main_v95 : FVec F S4096x3 .f32 := Host.absf main_arg0
  fn_part4 (F := F) main_arg1 main_arg3 main_arg4 main_arg6 main_arg7 main_arg9 main_v1 main_v9 main_v11 main_v12 main_v13 main_v24 main_v35 main_v46 main_v80 main_v87 main_v94 main_v95

def fn_part2 {F : FTy → Type} [FloatOps F] (main_arg0 : FVec F S4096x3 .f32) (main_arg1 : IVec S4095x2 32) (main_arg3 : IVec S4093x4 32) (main_arg4 : IVec S4093 32) (main_arg6 : IVec S4096 32) (main_arg7 : FVec F S20x20 .f32) (main_arg9 : FVec F S3 .f32) (main_v1 : FVec F S_ .f32) (main_v3 : FVec F S4096 .f32) (main_v5 : FVec F S4096 .f32) (main_v7 : FVec F S4096 .f32) (main_v9 : IVec S8382465 32) (main_v11 : IVec S8382465 32) (main_v12 : IVec S4096x4096 32) (main_v13 : IVec S4096x4096 32) (main_v24 : FVec F S4096x4096 .f32) (main_v35 : FVec F S4096x4096 .f32) (main_v46 : FVec F S4096x4096 .f32) (main_v47 : FVec F S4095 .f32) : IVec S4096x3 1 × IVec S20x20 1 × IVec S3 1 × IVec S4096 1 × IVec S4095x2 1 × IVec S4093x4 1 × IVec S4093 1 × IVec S8382465 1 × IVec S8382465 1 × IVec S4096x4096 1 × IVec S4094 1 :=
  let main_v48 : FVec F S4095 .f32 := (extractStridedSlice S4095 ![1] · slices_S4096_S4095_1) main_v3
  let main_v49 : FVec F S4095 .f32 := subf main_v47 main_v48
  let main_v50 : FVec F S4095 .f32 := broadcastInDim S4095 ![] bcast_S_S4095 main_v1
  let main_v51 : FVec F S4095 .f32 := Host.divf main_v49 main_v50
  let main_v52 : FVec F S4095 .f32 := fn_round_0 (F := F) main_v51
  let main_v53 : FVec F S4095 .f32 := broadcastInDim S4095 ![] bcast_S_S4095 main_v1
  let main_v54 : FVec F S4095 .f32 := mulf main_v53 main_v52
  let main_v55 : FVec F S4095 .f32 := subf main_v49 main_v54
  let main_v56 : FVec F S4095 .f32 := (extractStridedSlice S4095 ![0] · slices_S4096_S4095_0) main_v5
  let main_v57 : FVec F S4095 .f32 := (extractStridedSlice S4095 ![1] · slices_S4096_S4095_1) main_v5
  let main_v58 : FVec F S4095 .f32 := subf main_v56 main_v57
  let main_v59 : FVec F S4095 .f32 := broadcastInDim S4095 ![] bcast_S_S4095 main_v1
  let main_v60 : FVec F S4095 .f32 := Host.divf main_v58 main_v59
  let main_v61 : FVec F S4095 .f32 := fn_round_0 (F := F) main_v60
  let main_v62 : FVec F S4095 .f32 := broadcastInDim S4095 ![] bcast_S_S4095 main_v1
  let main_v63 : FVec F S4095 .f32 := mulf main_v62 main_v61
  let main_v64 : FVec F S4095 .f32 := subf main_v58 main_v63
  let main_v65 : FVec F S4095 .f32 := (extractStridedSlice S4095 ![0] · slices_S4096_S4095_0) main_v7
  let main_v66 : FVec F S4095 .f32 := (extractStridedSlice S4095 ![1] · slices_S4096_S4095_1) main_v7
  let main_v67 : FVec F S4095 .f32 := subf main_v65 main_v66
  let main_v68 : FVec F S4095 .f32 := broadcastInDim S4095 ![] bcast_S_S4095 main_v1
  let main_v69 : FVec F S4095 .f32 := Host.divf main_v67 main_v68
  let main_v70 : FVec F S4095 .f32 := fn_round_0 (F := F) main_v69
  let main_v71 : FVec F S4095 .f32 := broadcastInDim S4095 ![] bcast_S_S4095 main_v1
  fn_part3 (F := F) main_arg0 main_arg1 main_arg3 main_arg4 main_arg6 main_arg7 main_arg9 main_v1 main_v9 main_v11 main_v12 main_v13 main_v24 main_v35 main_v46 main_v55 main_v64 main_v67 main_v70 main_v71

def fn_part1 {F : FTy → Type} [FloatOps F] (main_arg0 : FVec F S4096x3 .f32) (main_arg1 : IVec S4095x2 32) (main_arg3 : IVec S4093x4 32) (main_arg4 : IVec S4093 32) (main_arg6 : IVec S4096 32) (main_arg7 : FVec F S20x20 .f32) (main_arg9 : FVec F S3 .f32) (main_v1 : FVec F S_ .f32) (main_v3 : FVec F S4096 .f32) (main_v5 : FVec F S4096 .f32) (main_v7 : FVec F S4096 .f32) (main_v9 : IVec S8382465 32) (main_v11 : IVec S8382465 32) (main_v12 : IVec S4096x4096 32) (main_v13 : IVec S4096x4096 32) (main_v18 : FVec F S4096x4096 .f32) (main_v23 : FVec F S4096x4096 .f32) : IVec S4096x3 1 × IVec S20x20 1 × IVec S3 1 × IVec S4096 1 × IVec S4095x2 1 × IVec S4093x4 1 × IVec S4093 1 × IVec S8382465 1 × IVec S8382465 1 × IVec S4096x4096 1 × IVec S4094 1 :=
  let main_v24 : FVec F S4096x4096 .f32 := subf main_v18 main_v23
  let main_v25 : FVec F S4096x1 .f32 := broadcastInDim S4096x1 ![0] bcast_S4096_S4096x1_0 main_v5
  let main_v26 : FVec F S1x4096 .f32 := broadcastInDim S1x4096 ![1] bcast_S4096_S1x4096_1 main_v5
  let main_v27 : FVec F S4096x4096 .f32 := broadcastInDim S4096x4096 ![0, 1] bcast_S4096x1_S4096x4096_0_1 main_v25
  let main_v28 : FVec F S4096x4096 .f32 := broadcastInDim S4096x4096 ![0, 1] bcast_S1x4096_S4096x4096_0_1 main_v26
  let main_v29 : FVec F S4096x4096 .f32 := subf main_v27 main_v28
  let main_v30 : FVec F S4096x4096 .f32 := broadcastInDim S4096x4096 ![] bcast_S_S4096x4096 main_v1
  let main_v31 : FVec F S4096x4096 .f32 := Host.divf main_v29 main_v30
  let main_v32 : FVec F S4096x4096 .f32 := fn_round (F := F) main_v31
  let main_v33 : FVec F S4096x4096 .f32 := broadcastInDim S4096x4096 ![] bcast_S_S4096x4096 main_v1
  let main_v34 : FVec F S4096x4096 .f32 := mulf main_v33 main_v32
  let main_v35 : FVec F S4096x4096 .f32 := subf main_v29 main_v34
  let main_v36 : FVec F S4096x1 .f32 := broadcastInDim S4096x1 ![0] bcast_S4096_S4096x1_0 main_v7
  let main_v37 : FVec F S1x4096 .f32 := broadcastInDim S1x4096 ![1] bcast_S4096_S1x4096_1 main_v7
  let main_v38 : FVec F S4096x4096 .f32 := broadcastInDim S4096x4096 ![0, 1] bcast_S4096x1_S4096x4096_0_1 main_v36
  let main_v39 : FVec F S4096x4096 .f32 := broadcastInDim S4096x4096 ![0, 1] bcast_S1x4096_S4096x4096_0_1 main_v37
  let main_v40 : FVec F S4096x4096 .f32 := subf main_v38 main_v39
  let main_v41 : FVec F S4096x4096 .f32 := broadcastInDim S4096x4096 ![] bcast_S_S4096x4096 main_v1
  let main_v42 : FVec F S4096x4096 .f32 := Host.divf main_v40 main_v41
  let main_v43 : FVec F S4096x4096 .f32 := fn_round (F := F) main_v42
  let main_v44 : FVec F S4096x4096 .f32 := broadcastInDim S4096x4096 ![] bcast_S_S4096x4096 main_v1
  let main_v45 : FVec F S4096x4096 .f32 := mulf main_v44 main_v43
  let main_v46 : FVec F S4096x4096 .f32 := subf main_v40 main_v45
  let main_v47 : FVec F S4095 .f32 := (extractStridedSlice S4095 ![0] · slices_S4096_S4095_0) main_v3
  fn_part2 (F := F) main_arg0 main_arg1 main_arg3 main_arg4 main_arg6 main_arg7 main_arg9 main_v1 main_v3 main_v5 main_v7 main_v9 main_v11 main_v12 main_v13 main_v24 main_v35 main_v46 main_v47

def fn {F : FTy → Type} [FloatOps F] (main_arg0 : FVec F S4096x3 .f32) (main_arg1 : IVec S4095x2 32) (main_arg2 : FVec F S4095x2 .f32) (main_arg3 : IVec S4093x4 32) (main_arg4 : IVec S4093 32) (main_arg5 : FVec F S4093x3 .f32) (main_arg6 : IVec S4096 32) (main_arg7 : FVec F S20x20 .f32) (main_arg8 : IVec S8382465x2 32) (main_arg9 : FVec F S3 .f32) : IVec S4096x3 1 × IVec S20x20 1 × IVec S3 1 × IVec S4096 1 × IVec S4095x2 1 × IVec S4093x4 1 × IVec S4093 1 × IVec S8382465 1 × IVec S8382465 1 × IVec S4096x4096 1 × IVec S4094 1 :=
  let main_v0 : FVec F S1 .f32 := (extractStridedSlice S1 ![0] · slices_S3_S1_0) main_arg9
  let main_v1 : FVec F S_ .f32 := shapeCast S_ main_v0 shapeCasts_S1_S_
  let main_v2 : FVec F S4096x1 .f32 := (extractStridedSlice S4096x1 ![0, 0] · slices_S4096x3_S4096x1_0_0) main_arg0
  let main_v3 : FVec F S4096 .f32 := shapeCast S4096 main_v2 shapeCasts_S4096x1_S4096
  let main_v4 : FVec F S4096x1 .f32 := (extractStridedSlice S4096x1 ![0, 1] · slices_S4096x3_S4096x1_0_1) main_arg0
  let main_v5 : FVec F S4096 .f32 := shapeCast S4096 main_v4 shapeCasts_S4096x1_S4096
  let main_v6 : FVec F S4096x1 .f32 := (extractStridedSlice S4096x1 ![0, 2] · slices_S4096x3_S4096x1_0_2) main_arg0
  let main_v7 : FVec F S4096 .f32 := shapeCast S4096 main_v6 shapeCasts_S4096x1_S4096
  let main_v8 : IVec S8382465x1 32 := (extractStridedSlice S8382465x1 ![0, 0] · slices_S8382465x2_S8382465x1_0_0) main_arg8
  let main_v9 : IVec S8382465 32 := shapeCast S8382465 main_v8 shapeCasts_S8382465x1_S8382465
  let main_v10 : IVec S8382465x1 32 := (extractStridedSlice S8382465x1 ![0, 1] · slices_S8382465x2_S8382465x1_0_1) main_arg8
  let main_v11 : IVec S8382465 32 := shapeCast S8382465 main_v10 shapeCasts_S8382465x1_S8382465
  let main_v12 : IVec S4096x4096 32 := iotaInDim S4096x4096 32 0
  let main_v13 : IVec S4096x4096 32 := iotaInDim S4096x4096 32 1
  let main_v14 : FVec F S4096x1 .f32 := broadcastInDim S4096x1 ![0] bcast_S4096_S4096x1_0 main_v3
  let main_v15 : FVec F S1x4096 .f32 := broadcastInDim S1x4096 ![1] bcast_S4096_S1x4096_1 main_v3
  let main_v16 : FVec F S4096x4096 .f32 := broadcastInDim S4096x4096 ![0, 1] bcast_S4096x1_S4096x4096_0_1 main_v14
  let main_v17 : FVec F S4096x4096 .f32 := broadcastInDim S4096x4096 ![0, 1] bcast_S1x4096_S4096x4096_0_1 main_v15
  let main_v18 : FVec F S4096x4096 .f32 := subf main_v16 main_v17
  let main_v19 : FVec F S4096x4096 .f32 := broadcastInDim S4096x4096 ![] bcast_S_S4096x4096 main_v1
  let main_v20 : FVec F S4096x4096 .f32 := Host.divf main_v18 main_v19
  let main_v21 : FVec F S4096x4096 .f32 := fn_round (F := F) main_v20
  let main_v22 : FVec F S4096x4096 .f32 := broadcastInDim S4096x4096 ![] bcast_S_S4096x4096 main_v1
  let main_v23 : FVec F S4096x4096 .f32 := mulf main_v22 main_v21
  fn_part1 (F := F) main_arg0 main_arg1 main_arg3 main_arg4 main_arg6 main_arg7 main_arg9 main_v1 main_v3 main_v5 main_v7 main_v9 main_v11 main_v12 main_v13 main_v18 main_v23
-- ==== Kernel.lean ====
abbrev S4096x3 : Shape := ⟨2, ![4096, 3]⟩
abbrev S4095x2 : Shape := ⟨2, ![4095, 2]⟩
abbrev S4093x4 : Shape := ⟨2, ![4093, 4]⟩
abbrev S4093 : Shape := ⟨1, ![4093]⟩
abbrev S4093x3 : Shape := ⟨2, ![4093, 3]⟩
abbrev S4096 : Shape := ⟨1, ![4096]⟩
abbrev S20x20 : Shape := ⟨2, ![20, 20]⟩
abbrev S8382465x2 : Shape := ⟨2, ![8382465, 2]⟩
abbrev S3 : Shape := ⟨1, ![3]⟩
abbrev S_ : Shape := ⟨0, ![]⟩
abbrev S1x3 : Shape := ⟨2, ![1, 3]⟩
abbrev S3x4096 : Shape := ⟨2, ![3, 4096]⟩
abbrev S4096x1 : Shape := ⟨2, ![4096, 1]⟩
abbrev S20 : Shape := ⟨1, ![20]⟩
abbrev S1x20 : Shape := ⟨2, ![1, 20]⟩
abbrev S4096x20 : Shape := ⟨2, ![4096, 20]⟩
abbrev S2x4095 : Shape := ⟨2, ![2, 4095]⟩
abbrev S3x4093 : Shape := ⟨2, ![3, 4093]⟩
abbrev S20x4096 : Shape := ⟨2, ![20, 4096]⟩
abbrev S1x1 : Shape := ⟨2, ![1, 1]⟩
abbrev S1024x3 : Shape := ⟨2, ![1024, 3]⟩
abbrev S1024x20 : Shape := ⟨2, ![1024, 20]⟩
abbrev S1x4095 : Shape := ⟨2, ![1, 4095]⟩
abbrev S1x1x4095 : Shape := ⟨3, ![1, 1, 4095]⟩
abbrev S1 : Shape := ⟨1, ![1]⟩
abbrev S1x1x1 : Shape := ⟨3, ![1, 1, 1]⟩
abbrev S1x4096 : Shape := ⟨2, ![1, 4096]⟩
abbrev S1x4093 : Shape := ⟨2, ![1, 4093]⟩
abbrev S1x1x4093 : Shape := ⟨3, ![1, 1, 4093]⟩
abbrev S512x512 : Shape := ⟨2, ![512, 512]⟩
abbrev S1024x1024 : Shape := ⟨2, ![1024, 1024]⟩
abbrev S512x1 : Shape := ⟨2, ![512, 1]⟩
abbrev S1x512 : Shape := ⟨2, ![1, 512]⟩
abbrev S20x512 : Shape := ⟨2, ![20, 512]⟩
abbrev S512x20 : Shape := ⟨2, ![512, 20]⟩
abbrev S512 : Shape := ⟨1, ![512]⟩
abbrev S1024x1 : Shape := ⟨2, ![1024, 1]⟩
abbrev S1x1024 : Shape := ⟨2, ![1, 1024]⟩
abbrev S20x1024 : Shape := ⟨2, ![20, 1024]⟩
abbrev S1024 : Shape := ⟨1, ![1024]⟩
abbrev S1x1024x1 : Shape := ⟨3, ![1, 1024, 1]⟩

abbrev nBuf : Space → Nat
  | .hbm => 44
  | .vmem => 16
  | .smem => 0
  | _ => 0

abbrev bufTy : (tb : Table) → Fin (tcTables nBuf tb) → BufTy
  | .hbm, ⟨0, _⟩ => ⟨S4096x3, .f32⟩
  | .hbm, ⟨1, _⟩ => ⟨S4095x2, .i32⟩
  | .hbm, ⟨2, _⟩ => ⟨S4095x2, .f32⟩
  | .hbm, ⟨3, _⟩ => ⟨S4093x4, .i32⟩
  | .hbm, ⟨4, _⟩ => ⟨S4093, .i32⟩
  | .hbm, ⟨5, _⟩ => ⟨S4093x3, .f32⟩
  | .hbm, ⟨6, _⟩ => ⟨S4096, .i32⟩
  | .hbm, ⟨7, _⟩ => ⟨S20x20, .f32⟩
  | .hbm, ⟨8, _⟩ => ⟨S8382465x2, .i32⟩
  | .hbm, ⟨9, _⟩ => ⟨S3, .f32⟩
  | .hbm, ⟨10, _⟩ => ⟨S_, .f32⟩
  | .hbm, ⟨11, _⟩ => ⟨S3, .f32⟩
  | .hbm, ⟨12, _⟩ => ⟨S3, .f32⟩
  | .hbm, ⟨13, _⟩ => ⟨S1x3, .f32⟩
  | .hbm, ⟨14, _⟩ => ⟨S4096x3, .f32⟩
  | .hbm, ⟨15, _⟩ => ⟨S4096x3, .f32⟩
  | .hbm, ⟨16, _⟩ => ⟨S3x4096, .f32⟩
  | .hbm, ⟨17, _⟩ => ⟨S4096x1, .i32⟩
  | .hbm, ⟨18, _⟩ => ⟨S20, .i32⟩
  | .hbm, ⟨19, _⟩ => ⟨S1x20, .i32⟩
  | .hbm, ⟨20, _⟩ => ⟨S4096x20, .i32⟩
  | .hbm, ⟨21, _⟩ => ⟨S4096x20, .i32⟩
  | .hbm, ⟨22, _⟩ => ⟨S4096x20, .i1⟩
  | .hbm, ⟨23, _⟩ => ⟨S4096x20, .f32⟩
  | .hbm, ⟨24, _⟩ => ⟨S20x20, .f32⟩
  | .hbm, ⟨25, _⟩ => ⟨S20x20, .f32⟩
  | .hbm, ⟨26, _⟩ => ⟨S_, .f32⟩
  | .hbm, ⟨27, _⟩ => ⟨S20x20, .f32⟩
  | .hbm, ⟨28, _⟩ => ⟨S20x20, .f32⟩
  | .hbm, ⟨29, _⟩ => ⟨S20x20, .f32⟩
  | .hbm, ⟨30, _⟩ => ⟨S20x20, .f32⟩
  | .hbm, ⟨31, _⟩ => ⟨S_, .f32⟩
  | .hbm, ⟨32, _⟩ => ⟨S20x20, .f32⟩
  | .hbm, ⟨33, _⟩ => ⟨S20x20, .f32⟩
  | .hbm, ⟨34, _⟩ => ⟨S2x4095, .f32⟩
  | .hbm, ⟨35, _⟩ => ⟨S3x4093, .f32⟩
  | .hbm, ⟨36, _⟩ => ⟨S1x3, .f32⟩
  | .hbm, ⟨37, _⟩ => ⟨S20x4096, .f32⟩
  | .hbm, ⟨38, _⟩ => ⟨S4096x3, .f32⟩
  | .hbm, ⟨39, _⟩ => ⟨S3x4096, .f32⟩
  | .hbm, ⟨40, _⟩ => ⟨S1x1, .f32⟩
  | .hbm, ⟨41, _⟩ => ⟨S4096x3, .f32⟩
  | .hbm, ⟨42, _⟩ => ⟨S4096x3, .f32⟩
  | .hbm, ⟨43, _⟩ => ⟨S_, .f32⟩
  | .local _ .vmem, ⟨0, _⟩ => ⟨S1024x3, .f32⟩
  | .local _ .vmem, ⟨1, _⟩ => ⟨S1024x3, .f32⟩
  | .local _ .vmem, ⟨2, _⟩ => ⟨S3x4096, .f32⟩
  | .local _ .vmem, ⟨3, _⟩ => ⟨S1024x20, .f32⟩
  | .local _ .vmem, ⟨4, _⟩ => ⟨S1024x20, .f32⟩
  | .local _ .vmem, ⟨5, _⟩ => ⟨S20x4096, .f32⟩
  | .local _ .vmem, ⟨6, _⟩ => ⟨S20x20, .f32⟩
  | .local _ .vmem, ⟨7, _⟩ => ⟨S20x20, .f32⟩
  | .local _ .vmem, ⟨8, _⟩ => ⟨S20x20, .f32⟩
  | .local _ .vmem, ⟨9, _⟩ => ⟨S2x4095, .f32⟩
  | .local _ .vmem, ⟨10, _⟩ => ⟨S3x4093, .f32⟩
  | .local _ .vmem, ⟨11, _⟩ => ⟨S1x3, .f32⟩
  | .local _ .vmem, ⟨12, _⟩ => ⟨S1024x3, .f32⟩
  | .local _ .vmem, ⟨13, _⟩ => ⟨S1024x3, .f32⟩
  | .local _ .vmem, ⟨14, _⟩ => ⟨S3x4096, .f32⟩
  | .local _ .vmem, ⟨15, _⟩ => ⟨S1x1, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25_0 : Ref sig .tc := ⟨.hbm, 38, rfl⟩
abbrev main_v25_1 : Ref sig .tc := ⟨.hbm, 39, rfl⟩
abbrev main_v25_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0_35 : Index := 0#32
  let arg0 : BitVec 32 := BitVec.ofNat 32 (i 0).val
  let c1024_i32 : BitVec 32 := 1024#32
  let v59 : BitVec 32 := Scalar.muli arg0 c1024_i32
  let v63 : Index := Scalar.indexCast v59
  ![0, v63.toNat]
def k0_off2 (i : grid0.Coords) : Fin 2 → Nat :=
  let c1_38 : Index := 1#32
  let arg0 : BitVec 32 := BitVec.ofNat 32 (i 0).val
  let c1024_i32 : BitVec 32 := 1024#32
  let v59 : BitVec 32 := Scalar.muli arg0 c1024_i32
  let v75 : Index := Scalar.indexCast v59
  ![1, v75.toNat]
def k0_off3 (i : grid0.Coords) : Fin 2 → Nat :=
  let c2_41 : Index := 2#32
  let arg0 : BitVec 32 := BitVec.ofNat 32 (i 0).val
  let c1024_i32 : BitVec 32 := 1024#32
  let v59 : BitVec 32 := Scalar.muli arg0 c1024_i32
  let v87 : Index := Scalar.indexCast v59
  ![2, v87.toNat]
def k0_off4 (i : grid0.Coords) : Fin 2 → Nat :=
  let c0_42 : Index := 0#32
  let arg0 : BitVec 32 := BitVec.ofNat 32 (i 0).val
  let c1024_i32 : BitVec 32 := 1024#32
  let v59 : BitVec 32 := Scalar.muli arg0 c1024_i32
  let v97 : Index := Scalar.indexCast v59
  ![0, v97.toNat]
def k0_off5 (i : grid0.Coords) : Fin 2 → Nat :=
  let c0_54 : Index := 0#32
  let arg0 : BitVec 32 := BitVec.ofNat 32 (i 0).val
  let c1024_i32_50 : BitVec 32 := 1024#32
  let v126 : BitVec 32 := Scalar.muli arg0 c1024_i32_50
  let c512_i32 : BitVec 32 := 512#32
  let v127 : BitVec 32 := Scalar.addi v126 c512_i32
  let v131 : Index := Scalar.indexCast v127
  ![0, v131.toNat]
def k0_off6 (i : grid0.Coords) : Fin 2 → Nat :=
  let c1_57 : Index := 1#32
  let arg0 : BitVec 32 := BitVec.ofNat 32 (i 0).val
  let c1024_i32_50 : BitVec 32 := 1024#32
  let v126 : BitVec 32 := Scalar.muli arg0 c1024_i32_50
  let c512_i32 : BitVec 32 := 512#32
  let v127 : BitVec 32 := Scalar.addi v126 c512_i32
  let v143 : Index := Scalar.indexCast v127
  ![1, v143.toNat]
def k0_off7 (i : grid0.Coords) : Fin 2 → Nat :=
  let c2_60 : Index := 2#32
  let arg0 : BitVec 32 := BitVec.ofNat 32 (i 0).val
  let c1024_i32_50 : BitVec 32 := 1024#32
  let v126 : BitVec 32 := Scalar.muli arg0 c1024_i32_50
  let c512_i32 : BitVec 32 := 512#32
  let v127 : BitVec 32 := Scalar.addi v126 c512_i32
  let v155 : Index := Scalar.indexCast v127
  ![2, v155.toNat]
def k0_off8 (i : grid0.Coords) : Fin 2 → Nat :=
  let c0_61 : Index := 0#32
  let arg0 : BitVec 32 := BitVec.ofNat 32 (i 0).val
  let c1024_i32_50 : BitVec 32 := 1024#32
  let v126 : BitVec 32 := Scalar.muli arg0 c1024_i32_50
  let c512_i32 : BitVec 32 := 512#32
  let v127 : BitVec 32 := Scalar.addi v126 c512_i32
  let v165 : Index := Scalar.indexCast v127
  ![0, v165.toNat]
def k0_cond2 (i : grid0.Coords) : BitVec 1 :=
  let arg0 : BitVec 32 := BitVec.ofNat 32 (i 0).val
  let c1_i32_95 : BitVec 32 := 1#32
  let v294 : BitVec 32 := Scalar.addi arg0 c1_i32_95
  let c4_i32 : BitVec 32 := 4#32
  let v295 : BitVec 1 := Scalar.cmpi .slt v294 c4_i32
  let v296 : BitVec 32 := Scalar.extui v295
  let c0_i32_96 : BitVec 32 := 0#32
  let v297 : BitVec 1 := Scalar.cmpi .ne v296 c0_i32_96
  v297

def k0_off9 (i : grid0.Coords) : Fin 2 → Nat :=
  let c0_105 : Index := 0#32
  let arg0 : BitVec 32 := BitVec.ofNat 32 (i 0).val
  let c1_i32_100 : BitVec 32 := 1#32
  let v302 : BitVec 32 := Scalar.addi arg0 c1_i32_100
  let c1024_i32_101 : BitVec 32 := 1024#32
  let v303 : BitVec 32 := Scalar.muli v302 c1024_i32_101
  let v307 : Index := Scalar.indexCast v303
  ![0, v307.toNat]
def k0_off10 (i : grid0.Coords) : Fin 2 → Nat :=
  let c1_108 : Index := 1#32
  let arg0 : BitVec 32 := BitVec.ofNat 32 (i 0).val
  let c1_i32_100 : BitVec 32 := 1#32
  let v302 : BitVec 32 := Scalar.addi arg0 c1_i32_100
  let c1024_i32_101 : BitVec 32 := 1024#32
  let v303 : BitVec 32 := Scalar.muli v302 c1024_i32_101
  let v319 : Index := Scalar.indexCast v303
  ![1, v319.toNat]
def k0_off11 (i : grid0.Coords) : Fin 2 → Nat :=
  let c2_111 : Index := 2#32
  let arg0 : BitVec 32 := BitVec.ofNat 32 (i 0).val
  let c1_i32_100 : BitVec 32 := 1#32
  let v302 : BitVec 32 := Scalar.addi arg0 c1_i32_100
  let c1024_i32_101 : BitVec 32 := 1024#32
  let v303 : BitVec 32 := Scalar.muli v302 c1024_i32_101
  let v331 : Index := Scalar.indexCast v303
  ![2, v331.toNat]
def k0_off12 (i : grid0.Coords) : Fin 2 → Nat :=
  let c0_112 : Index := 0#32
  let arg0 : BitVec 32 := BitVec.ofNat 32 (i 0).val
  let c1_i32_100 : BitVec 32 := 1#32
  let v302 : BitVec 32 := Scalar.addi arg0 c1_i32_100
  let c1024_i32_101 : BitVec 32 := 1024#32
  let v303 : BitVec 32 := Scalar.muli v302 c1024_i32_101
  let v341 : Index := Scalar.indexCast v303
  ![0, v341.toNat]
@[reducible] def k0_t1_loop (i : grid0.Coords) : Scf.Loop 32 :=
  let arg0 : BitVec 32 := BitVec.ofNat 32 (i 0).val
  let c2_i32 : BitVec 32 := 2#32
  let v393 : BitVec 32 := Scalar.addi arg0 c2_i32
  let c4_i32_127 : BitVec 32 := 4#32
  let v398 : BitVec 32 := Scalar.subi c4_i32_127 v393
  let c1_i32_128 : BitVec 32 := 1#32
  let v400 : BitVec 32 := Scalar.divsi v398 c1_i32_128
  let v401 : BitVec 32 := Scalar.muli v400 c1_i32_128
  let v402 : BitVec 32 := Scalar.addi v393 v401
  let c1_i32_129 : BitVec 32 := 1#32
  ⟨v393, v402, c1_i32_129⟩
def k0_off13 (i : grid0.Coords) (k0_t1 : Fin (k0_t1_loop i).trips) : Fin 2 → Nat :=
  let c0_142 : Index := 0#32
  let arg0 : BitVec 32 := BitVec.ofNat 32 (i 0).val
  let c2_i32 : BitVec 32 := 2#32
  let v393 : BitVec 32 := Scalar.addi arg0 c2_i32
  let c1_i32_129 : BitVec 32 := 1#32
  let arg14 : BitVec 32 := Scf.iv v393 c1_i32_129 k0_t1
  let c1024_i32_138 : BitVec 32 := 1024#32
  let v420 : BitVec 32 := Scalar.muli arg14 c1024_i32_138
  let v424 : Index := Scalar.indexCast v420
  ![0, v424.toNat]
def k0_off14 (i : grid0.Coords) (k0_t1 : Fin (k0_t1_loop i).trips) : Fin 2 → Nat :=
  let c1_145 : Index := 1#32
  let arg0 : BitVec 32 := BitVec.ofNat 32 (i 0).val
  let c2_i32 : BitVec 32 := 2#32
  let v393 : BitVec 32 := Scalar.addi arg0 c2_i32
  let c1_i32_129 : BitVec 32 := 1#32
  let arg14 : BitVec 32 := Scf.iv v393 c1_i32_129 k0_t1
  let c1024_i32_138 : BitVec 32 := 1024#32
  let v420 : BitVec 32 := Scalar.muli arg14 c1024_i32_138
  let v436 : Index := Scalar.indexCast v420
  ![1, v436.toNat]
def k0_off15 (i : grid0.Coords) (k0_t1 : Fin (k0_t1_loop i).trips) : Fin 2 → Nat :=
  let c2_148 : Index := 2#32
  let arg0 : BitVec 32 := BitVec.ofNat 32 (i 0).val
  let c2_i32 : BitVec 32 := 2#32
  let v393 : BitVec 32 := Scalar.addi arg0 c2_i32
  let c1_i32_129 : BitVec 32 := 1#32
  let arg14 : BitVec 32 := Scf.iv v393 c1_i32_129 k0_t1
  let c1024_i32_138 : BitVec 32 := 1024#32
  let v420 : BitVec 32 := Scalar.muli arg14 c1024_i32_138
  let v448 : Index := Scalar.indexCast v420
  ![2, v448.toNat]
def k0_off16 (i : grid0.Coords) (k0_t1 : Fin (k0_t1_loop i).trips) : Fin 2 → Nat :=
  let c0_149 : Index := 0#32
  let arg0 : BitVec 32 := BitVec.ofNat 32 (i 0).val
  let c2_i32 : BitVec 32 := 2#32
  let v393 : BitVec 32 := Scalar.addi arg0 c2_i32
  let c1_i32_129 : BitVec 32 := 1#32
  let arg14 : BitVec 32 := Scf.iv v393 c1_i32_129 k0_t1
  let c1024_i32_138 : BitVec 32 := 1024#32
  let v420 : BitVec 32 := Scalar.muli arg14 c1024_i32_138
  let v458 : Index := Scalar.indexCast v420
  ![0, v458.toNat]
@[reducible] def k0_t2_loop (i : grid0.Coords) : Scf.Loop 32 :=
  let arg0 : BitVec 32 := BitVec.ofNat 32 (i 0).val
  let c2_i32 : BitVec 32 := 2#32
  let v393 : BitVec 32 := Scalar.addi arg0 c2_i32
  let c4_i32_127 : BitVec 32 := 4#32
  let v398 : BitVec 32 := Scalar.subi c4_i32_127 v393
  let c1_i32_128 : BitVec 32 := 1#32
  let v400 : BitVec 32 := Scalar.divsi v398 c1_i32_128
  let v401 : BitVec 32 := Scalar.muli v400 c1_i32_128
  let v402 : BitVec 32 := Scalar.addi v393 v401
  let v399 : BitVec 32 := Scalar.addi v393 v398
  let c1_i32_130 : BitVec 32 := 1#32
  ⟨v402, v399, c1_i32_130⟩
def k0_off17 (i : grid0.Coords) (k0_t2 : Fin (k0_t2_loop i).trips) : Fin 2 → Nat :=
  let c0_142 : Index := 0#32
  let arg0 : BitVec 32 := BitVec.ofNat 32 (i 0).val
  let c2_i32 : BitVec 32 := 2#32
  let v393 : BitVec 32 := Scalar.addi arg0 c2_i32
  let c4_i32_127 : BitVec 32 := 4#32
  let v398 : BitVec 32 := Scalar.subi c4_i32_127 v393
  let c1_i32_128 : BitVec 32 := 1#32
  let v400 : BitVec 32 := Scalar.divsi v398 c1_i32_128
  let v401 : BitVec 32 := Scalar.muli v400 c1_i32_128
  let v402 : BitVec 32 := Scalar.addi v393 v401
  let c1_i32_130 : BitVec 32 := 1#32
  let arg14 : BitVec 32 := Scf.iv v402 c1_i32_130 k0_t2
  let c1024_i32_138 : BitVec 32 := 1024#32
  let v420 : BitVec 32 := Scalar.muli arg14 c1024_i32_138
  let v424 : Index := Scalar.indexCast v420
  ![0, v424.toNat]
def k0_off18 (i : grid0.Coords) (k0_t2 : Fin (k0_t2_loop i).trips) : Fin 2 → Nat :=
  let c1_145 : Index := 1#32
  let arg0 : BitVec 32 := BitVec.ofNat 32 (i 0).val
  let c2_i32 : BitVec 32 := 2#32
  let v393 : BitVec 32 := Scalar.addi arg0 c2_i32
  let c4_i32_127 : BitVec 32 := 4#32
  let v398 : BitVec 32 := Scalar.subi c4_i32_127 v393
  let c1_i32_128 : BitVec 32 := 1#32
  let v400 : BitVec 32 := Scalar.divsi v398 c1_i32_128
  let v401 : BitVec 32 := Scalar.muli v400 c1_i32_128
  let v402 : BitVec 32 := Scalar.addi v393 v401
  let c1_i32_130 : BitVec 32 := 1#32
  let arg14 : BitVec 32 := Scf.iv v402 c1_i32_130 k0_t2
  let c1024_i32_138 : BitVec 32 := 1024#32
  let v420 : BitVec 32 := Scalar.muli arg14 c1024_i32_138
  let v436 : Index := Scalar.indexCast v420
  ![1, v436.toNat]
def k0_off19 (i : grid0.Coords) (k0_t2 : Fin (k0_t2_loop i).trips) : Fin 2 → Nat :=
  let c2_148 : Index := 2#32
  let arg0 : BitVec 32 := BitVec.ofNat 32 (i 0).val
  let c2_i32 : BitVec 32 := 2#32
  let v393 : BitVec 32 := Scalar.addi arg0 c2_i32
  let c4_i32_127 : BitVec 32 := 4#32
  let v398 : BitVec 32 := Scalar.subi c4_i32_127 v393
  let c1_i32_128 : BitVec 32 := 1#32
  let v400 : BitVec 32 := Scalar.divsi v398 c1_i32_128
  let v401 : BitVec 32 := Scalar.muli v400 c1_i32_128
  let v402 : BitVec 32 := Scalar.addi v393 v401
  let c1_i32_130 : BitVec 32 := 1#32
  let arg14 : BitVec 32 := Scf.iv v402 c1_i32_130 k0_t2
  let c1024_i32_138 : BitVec 32 := 1024#32
  let v420 : BitVec 32 := Scalar.muli arg14 c1024_i32_138
  let v448 : Index := Scalar.indexCast v420
  ![2, v448.toNat]
def k0_off20 (i : grid0.Coords) (k0_t2 : Fin (k0_t2_loop i).trips) : Fin 2 → Nat :=
  let c0_149 : Index := 0#32
  let arg0 : BitVec 32 := BitVec.ofNat 32 (i 0).val
  let c2_i32 : BitVec 32 := 2#32
  let v393 : BitVec 32 := Scalar.addi arg0 c2_i32
  let c4_i32_127 : BitVec 32 := 4#32
  let v398 : BitVec 32 := Scalar.subi c4_i32_127 v393
  let c1_i32_128 : BitVec 32 := 1#32
  let v400 : BitVec 32 := Scalar.divsi v398 c1_i32_128
  let v401 : BitVec 32 := Scalar.muli v400 c1_i32_128
  let v402 : BitVec 32 := Scalar.addi v393 v401
  let c1_i32_130 : BitVec 32 := 1#32
  let arg14 : BitVec 32 := Scf.iv v402 c1_i32_130 k0_t2
  let c1024_i32_138 : BitVec 32 := 1024#32
  let v420 : BitVec 32 := Scalar.muli arg14 c1024_i32_138
  let v458 : Index := Scalar.indexCast v420
  ![0, v458.toNat]
def k0_cond3 (i : grid0.Coords) : BitVec 1 :=
  let arg0 : BitVec 32 := BitVec.ofNat 32 (i 0).val
  let c1_i32_97 : BitVec 32 := 1#32
  let v298 : BitVec 32 := Scalar.addi arg0 c1_i32_97
  let c4_i32_98 : BitVec 32 := 4#32
  let v299 : BitVec 1 := Scalar.cmpi .sge v298 c4_i32_98
  let v300 : BitVec 32 := Scalar.extui v299
  let c0_i32_99 : BitVec 32 := 0#32
  let v301 : BitVec 1 := Scalar.cmpi .ne v300 c0_i32_99
  v301

def k0_cond1 (i : grid0.Coords) : BitVec 1 :=
  let arg0 : BitVec 32 := BitVec.ofNat 32 (i 0).val
  let c0_i32 : BitVec 32 := 0#32
  let v6 : BitVec 1 := Scalar.cmpi .eq arg0 c0_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S20x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x4095 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x4093 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x4096 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
variable {F : FTy → Type} [FloatOps F] [Named F]
def κ : String → Option EReal := fun
  | "mask" => some ⊤
  | _ => none
-- ==== ReferenceIdeal.lean ====
abbrev S4096x3 : Shape := ⟨2, ![4096, 3]⟩
abbrev S4095x2 : Shape := ⟨2, ![4095, 2]⟩
abbrev S4093x4 : Shape := ⟨2, ![4093, 4]⟩
abbrev S4093 : Shape := ⟨1, ![4093]⟩
abbrev S4093x3 : Shape := ⟨2, ![4093, 3]⟩
abbrev S4096 : Shape := ⟨1, ![4096]⟩
abbrev S20x20 : Shape := ⟨2, ![20, 20]⟩
abbrev S8382465x2 : Shape := ⟨2, ![8382465, 2]⟩
abbrev S3 : Shape := ⟨1, ![3]⟩
abbrev S_ : Shape := ⟨0, ![]⟩
abbrev S4095x1 : Shape := ⟨2, ![4095, 1]⟩
abbrev S4095 : Shape := ⟨1, ![4095]⟩
abbrev S4095x3 : Shape := ⟨2, ![4095, 3]⟩
abbrev S1x3 : Shape := ⟨2, ![1, 3]⟩
abbrev S4093x2 : Shape := ⟨2, ![4093, 2]⟩
abbrev S4093x1 : Shape := ⟨2, ![4093, 1]⟩
abbrev S8382465x1 : Shape := ⟨2, ![8382465, 1]⟩
abbrev S8382465 : Shape := ⟨1, ![8382465]⟩
abbrev S8382465x3 : Shape := ⟨2, ![8382465, 3]⟩

abbrev nBuf : Space → Nat
  | .hbm => 593
  | .vmem => 0
  | .smem => 0
  | _ => 0

abbrev hbmTy0_0 (i : Nat) : BufTy := match i % 128 with
  | 0 => ⟨S4096x3, .f32⟩
  | 1 => ⟨S4095x2, .i32⟩
  | 2 => ⟨S4095x2, .f32⟩
  | 3 => ⟨S4093x4, .i32⟩
  | 4 => ⟨S4093, .i32⟩
  | 5 => ⟨S4093x3, .f32⟩
  | 6 => ⟨S4096, .i32⟩
  | 7 => ⟨S20x20, .f32⟩
  | 8 => ⟨S8382465x2, .i32⟩
  | 9 => ⟨S3, .f32⟩
  | 10 => ⟨S_, .f32⟩
  | 11 => ⟨S4096x3, .f32⟩
  | 12 => ⟨S4095x1, .i32⟩
  | 13 => ⟨S4095, .i32⟩
  | 14 => ⟨S_, .i32⟩
  | 15 => ⟨S4095, .i32⟩
  | 16 => ⟨S4095, .i1⟩
  | 17 => ⟨S_, .i32⟩
  | 18 => ⟨S4095, .i32⟩
  | 19 => ⟨S4095, .i32⟩
  | 20 => ⟨S4095, .i32⟩
  | 21 => ⟨S4095x1, .i32⟩
  | 22 => ⟨S4095x3, .f32⟩
  | 23 => ⟨S4095x1, .i32⟩
  | 24 => ⟨S4095, .i32⟩
  | 25 => ⟨S_, .i32⟩
  | 26 => ⟨S4095, .i32⟩
  | 27 => ⟨S4095, .i1⟩
  | 28 => ⟨S_, .i32⟩
  | 29 => ⟨S4095, .i32⟩
  | 30 => ⟨S4095, .i32⟩
  | 31 => ⟨S4095, .i32⟩
  | 32 => ⟨S4095x1, .i32⟩
  | 33 => ⟨S4095x3, .f32⟩
  | 34 => ⟨S4095x3, .f32⟩
  | 35 => ⟨S1x3, .f32⟩
  | 36 => ⟨S1x3, .f32⟩
  | 37 => ⟨S4095x3, .f32⟩
  | 38 => ⟨S4095x3, .f32⟩
  | 39 => ⟨S4095x3, .f32⟩
  | 40 => ⟨S4095x3, .f32⟩
  | 41 => ⟨S4095x3, .f32⟩
  | 42 => ⟨S4095x3, .f32⟩
  | 43 => ⟨S4095x3, .f32⟩
  | 44 => ⟨S_, .f32⟩
  | 45 => ⟨S4095, .f32⟩
  | 46 => ⟨S4095, .f32⟩
  | 47 => ⟨S4095x1, .f32⟩
  | 48 => ⟨S4095x3, .f32⟩
  | 49 => ⟨S4095x3, .f32⟩
  | 50 => ⟨S4095x1, .f32⟩
  | 51 => ⟨S4095, .f32⟩
  | 52 => ⟨S4095x1, .f32⟩
  | 53 => ⟨S4095, .f32⟩
  | 54 => ⟨S4095, .f32⟩
  | 55 => ⟨S4095, .f32⟩
  | 56 => ⟨S4095, .f32⟩
  | 57 => ⟨S_, .f32⟩
  | 58 => ⟨S_, .f32⟩
  | 59 => ⟨S_, .f32⟩
  | 60 => ⟨S4095, .f32⟩
  | 61 => ⟨S4095, .f32⟩
  | 62 => ⟨S4095, .f32⟩
  | 63 => ⟨S4095x1, .f32⟩
  | 64 => ⟨S4095x3, .f32⟩
  | 65 => ⟨S4095x3, .f32⟩
  | 66 => ⟨S4095x1, .i32⟩
  | 67 => ⟨S4095, .i32⟩
  | 68 => ⟨S4095x3, .f32⟩
  | 69 => ⟨S_, .i32⟩
  | 70 => ⟨S4095, .i32⟩
  | 71 => ⟨S4095, .i1⟩
  | 72 => ⟨S_, .i32⟩
  | 73 => ⟨S4095, .i32⟩
  | 74 => ⟨S4095, .i32⟩
  | 75 => ⟨S4095, .i32⟩
  | 76 => ⟨S4095x1, .i32⟩
  | 77 => ⟨S4096x3, .f32⟩
  | 78 => ⟨S4095x1, .i32⟩
  | 79 => ⟨S4095, .i32⟩
  | 80 => ⟨S_, .i32⟩
  | 81 => ⟨S4095, .i32⟩
  | 82 => ⟨S4095, .i1⟩
  | 83 => ⟨S_, .i32⟩
  | 84 => ⟨S4095, .i32⟩
  | 85 => ⟨S4095, .i32⟩
  | 86 => ⟨S4095, .i32⟩
  | 87 => ⟨S4095x1, .i32⟩
  | 88 => ⟨S4096x3, .f32⟩
  | 89 => ⟨S4093x2, .i32⟩
  | 90 => ⟨S4093x1, .i32⟩
  | 91 => ⟨S4093, .i32⟩
  | 92 => ⟨S_, .i32⟩
  | 93 => ⟨S4093, .i32⟩
  | 94 => ⟨S4093, .i1⟩
  | 95 => ⟨S_, .i32⟩
  | 96 => ⟨S4093, .i32⟩
  | 97 => ⟨S4093, .i32⟩
  | 98 => ⟨S4093, .i32⟩
  | 99 => ⟨S4093x1, .i32⟩
  | 100 => ⟨S4093x3, .f32⟩
  | 101 => ⟨S4093x1, .i32⟩
  | 102 => ⟨S4093, .i32⟩
  | 103 => ⟨S_, .i32⟩
  | 104 => ⟨S4093, .i32⟩
  | 105 => ⟨S4093, .i1⟩
  | 106 => ⟨S_, .i32⟩
  | 107 => ⟨S4093, .i32⟩
  | 108 => ⟨S4093, .i32⟩
  | 109 => ⟨S4093, .i32⟩
  | 110 => ⟨S4093x1, .i32⟩
  | 111 => ⟨S4093x3, .f32⟩
  | 112 => ⟨S4093x3, .f32⟩
  | 113 => ⟨S1x3, .f32⟩
  | 114 => ⟨S1x3, .f32⟩
  | 115 => ⟨S4093x3, .f32⟩
  | 116 => ⟨S4093x3, .f32⟩
  | 117 => ⟨S4093x3, .f32⟩
  | 118 => ⟨S4093x3, .f32⟩
  | 119 => ⟨S4093x3, .f32⟩
  | 120 => ⟨S4093x3, .f32⟩
  | 121 => ⟨S4093x3, .f32⟩
  | 122 => ⟨S_, .f32⟩
  | 123 => ⟨S4093, .f32⟩
  | 124 => ⟨S4093, .f32⟩
  | 125 => ⟨S4093x1, .f32⟩
  | 126 => ⟨S4093x3, .f32⟩
  | 127 => ⟨S4093x3, .f32⟩
  | _ => ⟨S4096x3, .f32⟩

abbrev hbmTy0_1 (i : Nat) : BufTy := match i % 128 with
  | 0 => ⟨S4093x2, .i32⟩
  | 1 => ⟨S4093x1, .i32⟩
  | 2 => ⟨S4093, .i32⟩
  | 3 => ⟨S_, .i32⟩
  | 4 => ⟨S4093, .i32⟩
  | 5 => ⟨S4093, .i1⟩
  | 6 => ⟨S_, .i32⟩
  | 7 => ⟨S4093, .i32⟩
  | 8 => ⟨S4093, .i32⟩
  | 9 => ⟨S4093, .i32⟩
  | 10 => ⟨S4093x1, .i32⟩
  | 11 => ⟨S4093x3, .f32⟩
  | 12 => ⟨S4093x1, .i32⟩
  | 13 => ⟨S4093, .i32⟩
  | 14 => ⟨S_, .i32⟩
  | 15 => ⟨S4093, .i32⟩
  | 16 => ⟨S4093, .i1⟩
  | 17 => ⟨S_, .i32⟩
  | 18 => ⟨S4093, .i32⟩
  | 19 => ⟨S4093, .i32⟩
  | 20 => ⟨S4093, .i32⟩
  | 21 => ⟨S4093x1, .i32⟩
  | 22 => ⟨S4093x3, .f32⟩
  | 23 => ⟨S4093x3, .f32⟩
  | 24 => ⟨S1x3, .f32⟩
  | 25 => ⟨S1x3, .f32⟩
  | 26 => ⟨S4093x3, .f32⟩
  | 27 => ⟨S4093x3, .f32⟩
  | 28 => ⟨S4093x3, .f32⟩
  | 29 => ⟨S4093x3, .f32⟩
  | 30 => ⟨S4093x3, .f32⟩
  | 31 => ⟨S4093x3, .f32⟩
  | 32 => ⟨S4093x3, .f32⟩
  | 33 => ⟨S_, .f32⟩
  | 34 => ⟨S4093, .f32⟩
  | 35 => ⟨S4093, .f32⟩
  | 36 => ⟨S4093x1, .f32⟩
  | 37 => ⟨S4093x3, .f32⟩
  | 38 => ⟨S4093x3, .f32⟩
  | 39 => ⟨S4093x2, .i32⟩
  | 40 => ⟨S4093x1, .i32⟩
  | 41 => ⟨S4093, .i32⟩
  | 42 => ⟨S_, .i32⟩
  | 43 => ⟨S4093, .i32⟩
  | 44 => ⟨S4093, .i1⟩
  | 45 => ⟨S_, .i32⟩
  | 46 => ⟨S4093, .i32⟩
  | 47 => ⟨S4093, .i32⟩
  | 48 => ⟨S4093, .i32⟩
  | 49 => ⟨S4093x1, .i32⟩
  | 50 => ⟨S4093x3, .f32⟩
  | 51 => ⟨S4093x1, .i32⟩
  | 52 => ⟨S4093, .i32⟩
  | 53 => ⟨S_, .i32⟩
  | 54 => ⟨S4093, .i32⟩
  | 55 => ⟨S4093, .i1⟩
  | 56 => ⟨S_, .i32⟩
  | 57 => ⟨S4093, .i32⟩
  | 58 => ⟨S4093, .i32⟩
  | 59 => ⟨S4093, .i32⟩
  | 60 => ⟨S4093x1, .i32⟩
  | 61 => ⟨S4093x3, .f32⟩
  | 62 => ⟨S4093x3, .f32⟩
  | 63 => ⟨S1x3, .f32⟩
  | 64 => ⟨S1x3, .f32⟩
  | 65 => ⟨S4093x3, .f32⟩
  | 66 => ⟨S4093x3, .f32⟩
  | 67 => ⟨S4093x3, .f32⟩
  | 68 => ⟨S4093x3, .f32⟩
  | 69 => ⟨S4093x3, .f32⟩
  | 70 => ⟨S4093x3, .f32⟩
  | 71 => ⟨S4093x3, .f32⟩
  | 72 => ⟨S_, .f32⟩
  | 73 => ⟨S4093, .f32⟩
  | 74 => ⟨S4093, .f32⟩
  | 75 => ⟨S4093x1, .f32⟩
  | 76 => ⟨S4093x3, .f32⟩
  | 77 => ⟨S4093x3, .f32⟩
  | 78 => ⟨S4093x1, .f32⟩
  | 79 => ⟨S4093, .f32⟩
  | 80 => ⟨S4093x1, .f32⟩
  | 81 => ⟨S4093, .f32⟩
  | 82 => ⟨S4093, .f32⟩
  | 83 => ⟨S4093x1, .f32⟩
  | 84 => ⟨S4093, .f32⟩
  | 85 => ⟨S4093x1, .f32⟩
  | 86 => ⟨S4093, .f32⟩
  | 87 => ⟨S4093, .f32⟩
  | 88 => ⟨S4093, .f32⟩
  | 89 => ⟨S4093x1, .f32⟩
  | 90 => ⟨S4093, .f32⟩
  | 91 => ⟨S4093x1, .f32⟩
  | 92 => ⟨S4093, .f32⟩
  | 93 => ⟨S4093, .f32⟩
  | 94 => ⟨S4093x1, .f32⟩
  | 95 => ⟨S4093, .f32⟩
  | 96 => ⟨S4093x1, .f32⟩
  | 97 => ⟨S4093, .f32⟩
  | 98 => ⟨S4093, .f32⟩
  | 99 => ⟨S4093, .f32⟩
  | 100 => ⟨S4093x1, .f32⟩
  | 101 => ⟨S4093, .f32⟩
  | 102 => ⟨S4093x1, .f32⟩
  | 103 => ⟨S4093, .f32⟩
  | 104 => ⟨S4093, .f32⟩
  | 105 => ⟨S4093x1, .f32⟩
  | 106 => ⟨S4093, .f32⟩
  | 107 => ⟨S4093x1, .f32⟩
  | 108 => ⟨S4093, .f32⟩
  | 109 => ⟨S4093, .f32⟩
  | 110 => ⟨S4093, .f32⟩
  | 111 => ⟨S4093x1, .f32⟩
  | 112 => ⟨S4093x1, .f32⟩
  | 113 => ⟨S4093x1, .f32⟩
  | 114 => ⟨S4093x3, .f32⟩
  | 115 => ⟨S4093x1, .f32⟩
  | 116 => ⟨S4093, .f32⟩
  | 117 => ⟨S4093x1, .f32⟩
  | 118 => ⟨S4093, .f32⟩
  | 119 => ⟨S4093, .f32⟩
  | 120 => ⟨S4093x1, .f32⟩
  | 121 => ⟨S4093, .f32⟩
  | 122 => ⟨S4093x1, .f32⟩
  | 123 => ⟨S4093, .f32⟩
  | 124 => ⟨S4093, .f32⟩
  | 125 => ⟨S4093, .f32⟩
  | 126 => ⟨S4093x1, .f32⟩
  | 127 => ⟨S4093, .f32⟩
  | _ => ⟨S4096x3, .f32⟩

abbrev hbmTy0_2 (i : Nat) : BufTy := match i % 128 with
  | 0 => ⟨S4093x1, .f32⟩
  | 1 => ⟨S4093, .f32⟩
  | 2 => ⟨S4093, .f32⟩
  | 3 => ⟨S4093x1, .f32⟩
  | 4 => ⟨S4093, .f32⟩
  | 5 => ⟨S4093x1, .f32⟩
  | 6 => ⟨S4093, .f32⟩
  | 7 => ⟨S4093, .f32⟩
  | 8 => ⟨S4093, .f32⟩
  | 9 => ⟨S4093x1, .f32⟩
  | 10 => ⟨S4093, .f32⟩
  | 11 => ⟨S4093x1, .f32⟩
  | 12 => ⟨S4093, .f32⟩
  | 13 => ⟨S4093, .f32⟩
  | 14 => ⟨S4093x1, .f32⟩
  | 15 => ⟨S4093, .f32⟩
  | 16 => ⟨S4093x1, .f32⟩
  | 17 => ⟨S4093, .f32⟩
  | 18 => ⟨S4093, .f32⟩
  | 19 => ⟨S4093, .f32⟩
  | 20 => ⟨S4093x1, .f32⟩
  | 21 => ⟨S4093x1, .f32⟩
  | 22 => ⟨S4093x1, .f32⟩
  | 23 => ⟨S4093x3, .f32⟩
  | 24 => ⟨S4093x1, .f32⟩
  | 25 => ⟨S4093, .f32⟩
  | 26 => ⟨S4093x1, .f32⟩
  | 27 => ⟨S4093, .f32⟩
  | 28 => ⟨S4093, .f32⟩
  | 29 => ⟨S4093x1, .f32⟩
  | 30 => ⟨S4093, .f32⟩
  | 31 => ⟨S4093x1, .f32⟩
  | 32 => ⟨S4093, .f32⟩
  | 33 => ⟨S4093, .f32⟩
  | 34 => ⟨S4093, .f32⟩
  | 35 => ⟨S4093x1, .f32⟩
  | 36 => ⟨S4093, .f32⟩
  | 37 => ⟨S4093x1, .f32⟩
  | 38 => ⟨S4093, .f32⟩
  | 39 => ⟨S4093, .f32⟩
  | 40 => ⟨S4093x1, .f32⟩
  | 41 => ⟨S4093, .f32⟩
  | 42 => ⟨S4093x1, .f32⟩
  | 43 => ⟨S4093, .f32⟩
  | 44 => ⟨S4093, .f32⟩
  | 45 => ⟨S4093, .f32⟩
  | 46 => ⟨S4093x1, .f32⟩
  | 47 => ⟨S4093, .f32⟩
  | 48 => ⟨S4093x1, .f32⟩
  | 49 => ⟨S4093, .f32⟩
  | 50 => ⟨S4093, .f32⟩
  | 51 => ⟨S4093x1, .f32⟩
  | 52 => ⟨S4093, .f32⟩
  | 53 => ⟨S4093x1, .f32⟩
  | 54 => ⟨S4093, .f32⟩
  | 55 => ⟨S4093, .f32⟩
  | 56 => ⟨S4093, .f32⟩
  | 57 => ⟨S4093x1, .f32⟩
  | 58 => ⟨S4093x1, .f32⟩
  | 59 => ⟨S4093x1, .f32⟩
  | 60 => ⟨S4093x3, .f32⟩
  | 61 => ⟨S4093x3, .f32⟩
  | 62 => ⟨S_, .f32⟩
  | 63 => ⟨S4093, .f32⟩
  | 64 => ⟨S4093, .f32⟩
  | 65 => ⟨S4093x3, .f32⟩
  | 66 => ⟨S_, .f32⟩
  | 67 => ⟨S4093, .f32⟩
  | 68 => ⟨S4093, .f32⟩
  | 69 => ⟨S4093x3, .f32⟩
  | 70 => ⟨S_, .f32⟩
  | 71 => ⟨S4093, .f32⟩
  | 72 => ⟨S4093, .f32⟩
  | 73 => ⟨S4093x1, .f32⟩
  | 74 => ⟨S4093x3, .f32⟩
  | 75 => ⟨S4093x3, .f32⟩
  | 76 => ⟨S4093x3, .f32⟩
  | 77 => ⟨S_, .f32⟩
  | 78 => ⟨S4093, .f32⟩
  | 79 => ⟨S4093, .f32⟩
  | 80 => ⟨S4093x3, .f32⟩
  | 81 => ⟨S_, .f32⟩
  | 82 => ⟨S4093, .f32⟩
  | 83 => ⟨S4093, .f32⟩
  | 84 => ⟨S4093, .f32⟩
  | 85 => ⟨S4093, .f32⟩
  | 86 => ⟨S4093x1, .f32⟩
  | 87 => ⟨S4093, .f32⟩
  | 88 => ⟨S4093x1, .f32⟩
  | 89 => ⟨S4093, .f32⟩
  | 90 => ⟨S4093x1, .f32⟩
  | 91 => ⟨S4093, .f32⟩
  | 92 => ⟨S_, .i32⟩
  | 93 => ⟨S4093, .i32⟩
  | 94 => ⟨S4093, .i1⟩
  | 95 => ⟨S_, .i32⟩
  | 96 => ⟨S4093, .i32⟩
  | 97 => ⟨S4093, .i32⟩
  | 98 => ⟨S4093, .i32⟩
  | 99 => ⟨S4093x1, .i32⟩
  | 100 => ⟨S4093, .f32⟩
  | 101 => ⟨S4093, .f32⟩
  | 102 => ⟨S4093, .f32⟩
  | 103 => ⟨S_, .f32⟩
  | 104 => ⟨S4093, .f32⟩
  | 105 => ⟨S4093, .f32⟩
  | 106 => ⟨S_, .f32⟩
  | 107 => ⟨S4093, .f32⟩
  | 108 => ⟨S4093, .f32⟩
  | 109 => ⟨S4093, .f32⟩
  | 110 => ⟨S_, .i32⟩
  | 111 => ⟨S4093, .i32⟩
  | 112 => ⟨S4093, .i1⟩
  | 113 => ⟨S_, .i32⟩
  | 114 => ⟨S4093, .i32⟩
  | 115 => ⟨S4093, .i32⟩
  | 116 => ⟨S4093, .i32⟩
  | 117 => ⟨S4093x1, .i32⟩
  | 118 => ⟨S4093, .f32⟩
  | 119 => ⟨S_, .f32⟩
  | 120 => ⟨S4093, .f32⟩
  | 121 => ⟨S4093, .f32⟩
  | 122 => ⟨S4093, .f32⟩
  | 123 => ⟨S4093, .f32⟩
  | 124 => ⟨S4093, .f32⟩
  | 125 => ⟨S_, .i32⟩
  | 126 => ⟨S4093, .i32⟩
  | 127 => ⟨S4093, .i1⟩
  | _ => ⟨S4096x3, .f32⟩

abbrev hbmTy0_3 (i : Nat) : BufTy := match i % 128 with
  | 0 => ⟨S_, .i32⟩
  | 1 => ⟨S4093, .i32⟩
  | 2 => ⟨S4093, .i32⟩
  | 3 => ⟨S4093, .i32⟩
  | 4 => ⟨S4093x1, .i32⟩
  | 5 => ⟨S4093, .f32⟩
  | 6 => ⟨S_, .f32⟩
  | 7 => ⟨S_, .f32⟩
  | 8 => ⟨S_, .f32⟩
  | 9 => ⟨S4093x3, .f32⟩
  | 10 => ⟨S_, .f32⟩
  | 11 => ⟨S4093, .f32⟩
  | 12 => ⟨S4093, .f32⟩
  | 13 => ⟨S4093, .f32⟩
  | 14 => ⟨S4093, .f32⟩
  | 15 => ⟨S4093, .f32⟩
  | 16 => ⟨S4093, .f32⟩
  | 17 => ⟨S4093, .f32⟩
  | 18 => ⟨S4093x3, .f32⟩
  | 19 => ⟨S_, .f32⟩
  | 20 => ⟨S4093, .f32⟩
  | 21 => ⟨S4093, .f32⟩
  | 22 => ⟨S4093x3, .f32⟩
  | 23 => ⟨S_, .f32⟩
  | 24 => ⟨S4093, .f32⟩
  | 25 => ⟨S4093, .f32⟩
  | 26 => ⟨S4093, .f32⟩
  | 27 => ⟨S4093, .f32⟩
  | 28 => ⟨S4093, .f32⟩
  | 29 => ⟨S4093x1, .f32⟩
  | 30 => ⟨S4093x3, .f32⟩
  | 31 => ⟨S4093x3, .f32⟩
  | 32 => ⟨S4093x1, .f32⟩
  | 33 => ⟨S4093x3, .f32⟩
  | 34 => ⟨S4093x3, .f32⟩
  | 35 => ⟨S4093x1, .f32⟩
  | 36 => ⟨S4093x3, .f32⟩
  | 37 => ⟨S4093x3, .f32⟩
  | 38 => ⟨S4093x1, .f32⟩
  | 39 => ⟨S4093x3, .f32⟩
  | 40 => ⟨S4093x3, .f32⟩
  | 41 => ⟨S4093x3, .f32⟩
  | 42 => ⟨S4093x1, .i32⟩
  | 43 => ⟨S4093, .i32⟩
  | 44 => ⟨S4093x3, .f32⟩
  | 45 => ⟨S_, .i32⟩
  | 46 => ⟨S4093, .i32⟩
  | 47 => ⟨S4093, .i1⟩
  | 48 => ⟨S_, .i32⟩
  | 49 => ⟨S4093, .i32⟩
  | 50 => ⟨S4093, .i32⟩
  | 51 => ⟨S4093, .i32⟩
  | 52 => ⟨S4093x1, .i32⟩
  | 53 => ⟨S4096x3, .f32⟩
  | 54 => ⟨S4093x1, .i32⟩
  | 55 => ⟨S4093, .i32⟩
  | 56 => ⟨S4093x3, .f32⟩
  | 57 => ⟨S_, .i32⟩
  | 58 => ⟨S4093, .i32⟩
  | 59 => ⟨S4093, .i1⟩
  | 60 => ⟨S_, .i32⟩
  | 61 => ⟨S4093, .i32⟩
  | 62 => ⟨S4093, .i32⟩
  | 63 => ⟨S4093, .i32⟩
  | 64 => ⟨S4093x1, .i32⟩
  | 65 => ⟨S4096x3, .f32⟩
  | 66 => ⟨S4093x1, .i32⟩
  | 67 => ⟨S4093, .i32⟩
  | 68 => ⟨S4093x3, .f32⟩
  | 69 => ⟨S_, .i32⟩
  | 70 => ⟨S4093, .i32⟩
  | 71 => ⟨S4093, .i1⟩
  | 72 => ⟨S_, .i32⟩
  | 73 => ⟨S4093, .i32⟩
  | 74 => ⟨S4093, .i32⟩
  | 75 => ⟨S4093, .i32⟩
  | 76 => ⟨S4093x1, .i32⟩
  | 77 => ⟨S4096x3, .f32⟩
  | 78 => ⟨S4093x1, .i32⟩
  | 79 => ⟨S4093, .i32⟩
  | 80 => ⟨S4093x3, .f32⟩
  | 81 => ⟨S_, .i32⟩
  | 82 => ⟨S4093, .i32⟩
  | 83 => ⟨S4093, .i1⟩
  | 84 => ⟨S_, .i32⟩
  | 85 => ⟨S4093, .i32⟩
  | 86 => ⟨S4093, .i32⟩
  | 87 => ⟨S4093, .i32⟩
  | 88 => ⟨S4093x1, .i32⟩
  | 89 => ⟨S4096x3, .f32⟩
  | 90 => ⟨S8382465x1, .i32⟩
  | 91 => ⟨S8382465, .i32⟩
  | 92 => ⟨S_, .i32⟩
  | 93 => ⟨S8382465, .i32⟩
  | 94 => ⟨S8382465, .i1⟩
  | 95 => ⟨S_, .i32⟩
  | 96 => ⟨S8382465, .i32⟩
  | 97 => ⟨S8382465, .i32⟩
  | 98 => ⟨S8382465, .i32⟩
  | 99 => ⟨S8382465x1, .i32⟩
  | 100 => ⟨S8382465x3, .f32⟩
  | 101 => ⟨S8382465x1, .i32⟩
  | 102 => ⟨S8382465, .i32⟩
  | 103 => ⟨S_, .i32⟩
  | 104 => ⟨S8382465, .i32⟩
  | 105 => ⟨S8382465, .i1⟩
  | 106 => ⟨S_, .i32⟩
  | 107 => ⟨S8382465, .i32⟩
  | 108 => ⟨S8382465, .i32⟩
  | 109 => ⟨S8382465, .i32⟩
  | 110 => ⟨S8382465x1, .i32⟩
  | 111 => ⟨S8382465x3, .f32⟩
  | 112 => ⟨S8382465x3, .f32⟩
  | 113 => ⟨S1x3, .f32⟩
  | 114 => ⟨S1x3, .f32⟩
  | 115 => ⟨S8382465x3, .f32⟩
  | 116 => ⟨S8382465x3, .f32⟩
  | 117 => ⟨S8382465x3, .f32⟩
  | 118 => ⟨S8382465x3, .f32⟩
  | 119 => ⟨S8382465x3, .f32⟩
  | 120 => ⟨S8382465x3, .f32⟩
  | 121 => ⟨S8382465x3, .f32⟩
  | 122 => ⟨S_, .f32⟩
  | 123 => ⟨S8382465, .f32⟩
  | 124 => ⟨S8382465, .f32⟩
  | 125 => ⟨S8382465x1, .f32⟩
  | 126 => ⟨S8382465x3, .f32⟩
  | 127 => ⟨S8382465x3, .f32⟩
  | _ => ⟨S4096x3, .f32⟩

abbrev hbmTy0_4 (i : Nat) : BufTy := match i % 128 with
  | 0 => ⟨S8382465x1, .i32⟩
  | 1 => ⟨S8382465, .i32⟩
  | 2 => ⟨S_, .i32⟩
  | 3 => ⟨S8382465, .i32⟩
  | 4 => ⟨S8382465, .i1⟩
  | 5 => ⟨S_, .i32⟩
  | 6 => ⟨S8382465, .i32⟩
  | 7 => ⟨S8382465, .i32⟩
  | 8 => ⟨S8382465, .i32⟩
  | 9 => ⟨S8382465x1, .i32⟩
  | 10 => ⟨S8382465, .i32⟩
  | 11 => ⟨S8382465x1, .i32⟩
  | 12 => ⟨S8382465, .i32⟩
  | 13 => ⟨S_, .i32⟩
  | 14 => ⟨S8382465, .i32⟩
  | 15 => ⟨S8382465, .i1⟩
  | 16 => ⟨S_, .i32⟩
  | 17 => ⟨S8382465, .i32⟩
  | 18 => ⟨S8382465, .i32⟩
  | 19 => ⟨S8382465, .i32⟩
  | 20 => ⟨S8382465x1, .i32⟩
  | 21 => ⟨S8382465, .i32⟩
  | 22 => ⟨S_, .i32⟩
  | 23 => ⟨S8382465, .i32⟩
  | 24 => ⟨S8382465, .i1⟩
  | 25 => ⟨S_, .i32⟩
  | 26 => ⟨S8382465, .i32⟩
  | 27 => ⟨S8382465, .i32⟩
  | 28 => ⟨S8382465, .i32⟩
  | 29 => ⟨S_, .i32⟩
  | 30 => ⟨S8382465, .i32⟩
  | 31 => ⟨S8382465, .i1⟩
  | 32 => ⟨S_, .i32⟩
  | 33 => ⟨S8382465, .i32⟩
  | 34 => ⟨S8382465, .i32⟩
  | 35 => ⟨S8382465, .i32⟩
  | 36 => ⟨S8382465x1, .i32⟩
  | 37 => ⟨S8382465x1, .i32⟩
  | 38 => ⟨S8382465x2, .i32⟩
  | 39 => ⟨S8382465, .f32⟩
  | 40 => ⟨S_, .f32⟩
  | 41 => ⟨S8382465, .f32⟩
  | 42 => ⟨S8382465, .f32⟩
  | 43 => ⟨S8382465, .f32⟩
  | 44 => ⟨S8382465, .f32⟩
  | 45 => ⟨S8382465, .f32⟩
  | 46 => ⟨S8382465, .f32⟩
  | 47 => ⟨S_, .f32⟩
  | 48 => ⟨S_, .f32⟩
  | 49 => ⟨S_, .f32⟩
  | 50 => ⟨S_, .f32⟩
  | 51 => ⟨S8382465, .f32⟩
  | 52 => ⟨S8382465, .f32⟩
  | 53 => ⟨S8382465, .f32⟩
  | 54 => ⟨S8382465, .f32⟩
  | 55 => ⟨S8382465x1, .f32⟩
  | 56 => ⟨S8382465x3, .f32⟩
  | 57 => ⟨S8382465x3, .f32⟩
  | 58 => ⟨S8382465x1, .i32⟩
  | 59 => ⟨S8382465, .i32⟩
  | 60 => ⟨S8382465x3, .f32⟩
  | 61 => ⟨S_, .i32⟩
  | 62 => ⟨S8382465, .i32⟩
  | 63 => ⟨S8382465, .i1⟩
  | 64 => ⟨S_, .i32⟩
  | 65 => ⟨S8382465, .i32⟩
  | 66 => ⟨S8382465, .i32⟩
  | 67 => ⟨S8382465, .i32⟩
  | 68 => ⟨S8382465x1, .i32⟩
  | 69 => ⟨S4096x3, .f32⟩
  | 70 => ⟨S8382465x1, .i32⟩
  | 71 => ⟨S8382465, .i32⟩
  | 72 => ⟨S_, .i32⟩
  | 73 => ⟨S8382465, .i32⟩
  | 74 => ⟨S8382465, .i1⟩
  | 75 => ⟨S_, .i32⟩
  | 76 => ⟨S8382465, .i32⟩
  | 77 => ⟨S8382465, .i32⟩
  | 78 => ⟨S8382465, .i32⟩
  | 79 => ⟨S8382465x1, .i32⟩
  | 80 => ⟨S4096x3, .f32⟩
  | _ => ⟨S4096x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_v0 : Ref sig .tc := ⟨.hbm, 43, rfl⟩
abbrev main_call1_cst : Ref sig .tc := ⟨.hbm, 44, rfl⟩
abbrev main_call1_v1 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_cst_4 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_5 : Ref sig .tc := ⟨.hbm, 69, rfl⟩
abbrev main_v49 : Ref sig .tc := ⟨.hbm, 70, rfl⟩
abbrev main_v50 : Ref sig .tc := ⟨.hbm, 71, rfl⟩
abbrev main_c_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_7 : Ref sig .tc := ⟨.hbm, 80, rfl⟩
abbrev main_v58 : Ref sig .tc := ⟨.hbm, 81, rfl⟩
abbrev main_v59 : Ref sig .tc := ⟨.hbm, 82, rfl⟩
abbrev main_c_8 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_9 : Ref sig .tc := ⟨.hbm, 92, rfl⟩
abbrev main_v68 : Ref sig .tc := ⟨.hbm, 93, rfl⟩
abbrev main_v69 : Ref sig .tc := ⟨.hbm, 94, rfl⟩
abbrev main_c_10 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_11 : Ref sig .tc := ⟨.hbm, 103, rfl⟩
abbrev main_v77 : Ref sig .tc := ⟨.hbm, 104, rfl⟩
abbrev main_v78 : Ref sig .tc := ⟨.hbm, 105, rfl⟩
abbrev main_c_12 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call3_v0 : Ref sig .tc := ⟨.hbm, 121, rfl⟩
abbrev main_call3_cst : Ref sig .tc := ⟨.hbm, 122, rfl⟩
abbrev main_call3_v1 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_13 : Ref sig .tc := ⟨.hbm, 131, rfl⟩
abbrev main_v100 : Ref sig .tc := ⟨.hbm, 132, rfl⟩
abbrev main_v101 : Ref sig .tc := ⟨.hbm, 133, rfl⟩
abbrev main_c_14 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_c_15 : Ref sig .tc := ⟨.hbm, 142, rfl⟩
abbrev main_v109 : Ref sig .tc := ⟨.hbm, 143, rfl⟩
abbrev main_v110 : Ref sig .tc := ⟨.hbm, 144, rfl⟩
abbrev main_c_16 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_call5_v0 : Ref sig .tc := ⟨.hbm, 160, rfl⟩
abbrev main_call5_cst : Ref sig .tc := ⟨.hbm, 161, rfl⟩
abbrev main_call5_v1 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_c_17 : Ref sig .tc := ⟨.hbm, 170, rfl⟩
abbrev main_v132 : Ref sig .tc := ⟨.hbm, 171, rfl⟩
abbrev main_v133 : Ref sig .tc := ⟨.hbm, 172, rfl⟩
abbrev main_c_18 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_c_19 : Ref sig .tc := ⟨.hbm, 181, rfl⟩
abbrev main_v141 : Ref sig .tc := ⟨.hbm, 182, rfl⟩
abbrev main_v142 : Ref sig .tc := ⟨.hbm, 183, rfl⟩
abbrev main_c_20 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_call7_v0 : Ref sig .tc := ⟨.hbm, 199, rfl⟩
abbrev main_call7_cst : Ref sig .tc := ⟨.hbm, 200, rfl⟩
abbrev main_call7_v1 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev main_v180 : Ref sig .tc := ⟨.hbm, 225, rfl⟩
abbrev main_v181 : Ref sig .tc := ⟨.hbm, 226, rfl⟩
abbrev main_v182 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_v231 : Ref sig .tc := ⟨.hbm, 276, rfl⟩
abbrev main_v232 : Ref sig .tc := ⟨.hbm, 277, rfl⟩
abbrev main_v233 : Ref sig .tc := ⟨.hbm, 278, rfl⟩
abbrev main_v234 : Ref sig .tc := ⟨.hbm, 279, rfl⟩
abbrev main_v235 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_v240 : Ref sig .tc := ⟨.hbm, 285, rfl⟩
abbrev main_v241 : Ref sig .tc := ⟨.hbm, 286, rfl⟩
abbrev main_v242 : Ref sig .tc := ⟨.hbm, 287, rfl⟩
abbrev main_v243 : Ref sig .tc := ⟨.hbm, 288, rfl⟩
abbrev main_v244 : Ref sig .tc := ⟨.hbm, 289, rfl⟩
abbrev main_v245 : Ref sig .tc := ⟨.hbm, 290, rfl⟩
abbrev main_v246 : Ref sig .tc := ⟨.hbm, 291, rfl⟩
abbrev main_v247 : Ref sig .tc := ⟨.hbm, 292, rfl⟩
abbrev main_v248 : Ref sig .tc := ⟨.hbm, 293, rfl⟩
abbrev main_v249 : Ref sig .tc := ⟨.hbm, 294, rfl⟩
abbrev main_v250 : Ref sig .tc := ⟨.hbm, 295, rfl⟩
abbrev main_v251 : Ref sig .tc := ⟨.hbm, 296, rfl⟩
abbrev main_v252 : Ref sig .tc := ⟨.hbm, 297, rfl⟩
abbrev main_v253 : Ref sig .tc := ⟨.hbm, 298, rfl⟩
abbrev main_v254 : Ref sig .tc := ⟨.hbm, 299, rfl⟩
abbrev main_v255 : Ref sig .tc := ⟨.hbm, 300, rfl⟩
abbrev main_v256 : Ref sig .tc := ⟨.hbm, 301, rfl⟩
abbrev main_v257 : Ref sig .tc := ⟨.hbm, 302, rfl⟩
abbrev main_v258 : Ref sig .tc := ⟨.hbm, 303, rfl⟩
abbrev main_v259 : Ref sig .tc := ⟨.hbm, 304, rfl⟩
abbrev main_v260 : Ref sig .tc := ⟨.hbm, 305, rfl⟩
abbrev main_v261 : Ref sig .tc := ⟨.hbm, 306, rfl⟩
abbrev main_v262 : Ref sig .tc := ⟨.hbm, 307, rfl⟩
abbrev main_v263 : Ref sig .tc := ⟨.hbm, 308, rfl⟩
abbrev main_v264 : Ref sig .tc := ⟨.hbm, 309, rfl⟩
abbrev main_v265 : Ref sig .tc := ⟨.hbm, 310, rfl⟩
abbrev main_v266 : Ref sig .tc := ⟨.hbm, 311, rfl⟩
abbrev main_v267 : Ref sig .tc := ⟨.hbm, 312, rfl⟩
abbrev main_v268 : Ref sig .tc := ⟨.hbm, 313, rfl⟩
abbrev main_v269 : Ref sig .tc := ⟨.hbm, 314, rfl⟩
abbrev main_v270 : Ref sig .tc := ⟨.hbm, 315, rfl⟩
abbrev main_v271 : Ref sig .tc := ⟨.hbm, 316, rfl⟩
abbrev main_call8_v0 : Ref sig .tc := ⟨.hbm, 317, rfl⟩
abbrev main_call8_cst : Ref sig .tc := ⟨.hbm, 318, rfl⟩
abbrev main_call8_v1 : Ref sig .tc := ⟨.hbm, 319, rfl⟩
abbrev main_v272 : Ref sig .tc := ⟨.hbm, 320, rfl⟩
abbrev main_call9_v0 : Ref sig .tc := ⟨.hbm, 321, rfl⟩
abbrev main_call9_cst : Ref sig .tc := ⟨.hbm, 322, rfl⟩
abbrev main_call9_v1 : Ref sig .tc := ⟨.hbm, 323, rfl⟩
abbrev main_v273 : Ref sig .tc := ⟨.hbm, 324, rfl⟩
abbrev main_call10_v0 : Ref sig .tc := ⟨.hbm, 325, rfl⟩
abbrev main_call10_cst : Ref sig .tc := ⟨.hbm, 326, rfl⟩
abbrev main_call10_v1 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_cst_21 : Ref sig .tc := ⟨.hbm, 333, rfl⟩
abbrev main_v279 : Ref sig .tc := ⟨.hbm, 334, rfl⟩
abbrev main_v280 : Ref sig .tc := ⟨.hbm, 335, rfl⟩
abbrev main_v281 : Ref sig .tc := ⟨.hbm, 336, rfl⟩
abbrev main_cst_22 : Ref sig .tc := ⟨.hbm, 337, rfl⟩
abbrev main_v282 : Ref sig .tc := ⟨.hbm, 338, rfl⟩
abbrev main_v283 : Ref sig .tc := ⟨.hbm, 339, rfl⟩
abbrev main_v284 : Ref sig .tc := ⟨.hbm, 340, rfl⟩
abbrev main_v285 : Ref sig .tc := ⟨.hbm, 341, rfl⟩
abbrev main_v286 : Ref sig .tc := ⟨.hbm, 342, rfl⟩
abbrev main_v287 : Ref sig .tc := ⟨.hbm, 343, rfl⟩
abbrev main_v288 : Ref sig .tc := ⟨.hbm, 344, rfl⟩
abbrev main_v289 : Ref sig .tc := ⟨.hbm, 345, rfl⟩
abbrev main_v290 : Ref sig .tc := ⟨.hbm, 346, rfl⟩
abbrev main_v291 : Ref sig .tc := ⟨.hbm, 347, rfl⟩
abbrev main_c_23 : Ref sig .tc := ⟨.hbm, 348, rfl⟩
abbrev main_v292 : Ref sig .tc := ⟨.hbm, 349, rfl⟩
abbrev main_v293 : Ref sig .tc := ⟨.hbm, 350, rfl⟩
abbrev main_c_24 : Ref sig .tc := ⟨.hbm, 351, rfl⟩
abbrev main_v294 : Ref sig .tc := ⟨.hbm, 352, rfl⟩
abbrev main_v295 : Ref sig .tc := ⟨.hbm, 353, rfl⟩
abbrev main_v296 : Ref sig .tc := ⟨.hbm, 354, rfl⟩
abbrev main_v297 : Ref sig .tc := ⟨.hbm, 355, rfl⟩
abbrev main_v298 : Ref sig .tc := ⟨.hbm, 356, rfl⟩
abbrev main_v299 : Ref sig .tc := ⟨.hbm, 357, rfl⟩
abbrev main_v300 : Ref sig .tc := ⟨.hbm, 358, rfl⟩
abbrev main_cst_25 : Ref sig .tc := ⟨.hbm, 359, rfl⟩
abbrev main_v301 : Ref sig .tc := ⟨.hbm, 360, rfl⟩
abbrev main_v302 : Ref sig .tc := ⟨.hbm, 361, rfl⟩
abbrev main_cst_26 : Ref sig .tc := ⟨.hbm, 362, rfl⟩
abbrev main_v303 : Ref sig .tc := ⟨.hbm, 363, rfl⟩
abbrev main_v304 : Ref sig .tc := ⟨.hbm, 364, rfl⟩
abbrev main_v305 : Ref sig .tc := ⟨.hbm, 365, rfl⟩
abbrev main_c_27 : Ref sig .tc := ⟨.hbm, 366, rfl⟩
abbrev main_v306 : Ref sig .tc := ⟨.hbm, 367, rfl⟩
abbrev main_v307 : Ref sig .tc := ⟨.hbm, 368, rfl⟩
abbrev main_c_28 : Ref sig .tc := ⟨.hbm, 369, rfl⟩
abbrev main_v308 : Ref sig .tc := ⟨.hbm, 370, rfl⟩
abbrev main_v309 : Ref sig .tc := ⟨.hbm, 371, rfl⟩
abbrev main_v310 : Ref sig .tc := ⟨.hbm, 372, rfl⟩
abbrev main_v311 : Ref sig .tc := ⟨.hbm, 373, rfl⟩
abbrev main_v312 : Ref sig .tc := ⟨.hbm, 374, rfl⟩
abbrev main_cst_29 : Ref sig .tc := ⟨.hbm, 375, rfl⟩
abbrev main_v313 : Ref sig .tc := ⟨.hbm, 376, rfl⟩
abbrev main_v314 : Ref sig .tc := ⟨.hbm, 377, rfl⟩
abbrev main_v315 : Ref sig .tc := ⟨.hbm, 378, rfl⟩
abbrev main_v316 : Ref sig .tc := ⟨.hbm, 379, rfl⟩
abbrev main_v317 : Ref sig .tc := ⟨.hbm, 380, rfl⟩
abbrev main_c_30 : Ref sig .tc := ⟨.hbm, 381, rfl⟩
abbrev main_v318 : Ref sig .tc := ⟨.hbm, 382, rfl⟩
abbrev main_v319 : Ref sig .tc := ⟨.hbm, 383, rfl⟩
abbrev main_c_31 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_v323 : Ref sig .tc := ⟨.hbm, 388, rfl⟩
abbrev main_v324 : Ref sig .tc := ⟨.hbm, 389, rfl⟩
abbrev main_cst_32 : Ref sig .tc := ⟨.hbm, 390, rfl⟩
abbrev main_v325 : Ref sig .tc := ⟨.hbm, 391, rfl⟩
abbrev main_v326 : Ref sig .tc := ⟨.hbm, 392, rfl⟩
abbrev main_call11_v0 : Ref sig .tc := ⟨.hbm, 393, rfl⟩
abbrev main_call11_cst : Ref sig .tc := ⟨.hbm, 394, rfl⟩
abbrev main_call11_v1 : Ref sig .tc := ⟨.hbm, 395, rfl⟩
abbrev main_v327 : Ref sig .tc := ⟨.hbm, 396, rfl⟩
abbrev main_v328 : Ref sig .tc := ⟨.hbm, 397, rfl⟩
abbrev main_v329 : Ref sig .tc := ⟨.hbm, 398, rfl⟩
abbrev main_v330 : Ref sig .tc := ⟨.hbm, 399, rfl⟩
abbrev main_v331 : Ref sig .tc := ⟨.hbm, 400, rfl⟩
abbrev main_v332 : Ref sig .tc := ⟨.hbm, 401, rfl⟩
abbrev main_v333 : Ref sig .tc := ⟨.hbm, 402, rfl⟩
abbrev main_cst_33 : Ref sig .tc := ⟨.hbm, 403, rfl⟩
abbrev main_v334 : Ref sig .tc := ⟨.hbm, 404, rfl⟩
abbrev main_v335 : Ref sig .tc := ⟨.hbm, 405, rfl⟩
abbrev main_v336 : Ref sig .tc := ⟨.hbm, 406, rfl⟩
abbrev main_cst_34 : Ref sig .tc := ⟨.hbm, 407, rfl⟩
abbrev main_v337 : Ref sig .tc := ⟨.hbm, 408, rfl⟩
abbrev main_v338 : Ref sig .tc := ⟨.hbm, 409, rfl⟩
abbrev main_v339 : Ref sig .tc := ⟨.hbm, 410, rfl⟩
abbrev main_v340 : Ref sig .tc := ⟨.hbm, 411, rfl⟩
abbrev main_v341 : Ref sig .tc := ⟨.hbm, 412, rfl⟩
abbrev main_v342 : Ref sig .tc := ⟨.hbm, 413, rfl⟩
abbrev main_v343 : Ref sig .tc := ⟨.hbm, 414, rfl⟩
abbrev main_v344 : Ref sig .tc := ⟨.hbm, 415, rfl⟩
abbrev main_v345 : Ref sig .tc := ⟨.hbm, 416, rfl⟩
abbrev main_v346 : Ref sig .tc := ⟨.hbm, 417, rfl⟩
abbrev main_v347 : Ref sig .tc := ⟨.hbm, 418, rfl⟩
abbrev main_v348 : Ref sig .tc := ⟨.hbm, 419, rfl⟩
abbrev main_v349 : Ref sig .tc := ⟨.hbm, 420, rfl⟩
abbrev main_v350 : Ref sig .tc := ⟨.hbm, 421, rfl⟩
abbrev main_v351 : Ref sig .tc := ⟨.hbm, 422, rfl⟩
abbrev main_v352 : Ref sig .tc := ⟨.hbm, 423, rfl⟩
abbrev main_v353 : Ref sig .tc := ⟨.hbm, 424, rfl⟩
abbrev main_v354 : Ref sig .tc := ⟨.hbm, 425, rfl⟩
abbrev main_v355 : Ref sig .tc := ⟨.hbm, 426, rfl⟩
abbrev main_v356 : Ref sig .tc := ⟨.hbm, 427, rfl⟩
abbrev main_v357 : Ref sig .tc := ⟨.hbm, 428, rfl⟩
abbrev main_c_35 : Ref sig .tc := ⟨.hbm, 429, rfl⟩
abbrev main_v358 : Ref sig .tc := ⟨.hbm, 430, rfl⟩
abbrev main_v359 : Ref sig .tc := ⟨.hbm, 431, rfl⟩
abbrev main_c_36 : Ref sig .tc := ⟨.hbm, 432, rfl⟩
abbrev main_v360 : Ref sig .tc := ⟨.hbm, 433, rfl⟩
abbrev main_v361 : Ref sig .tc := ⟨.hbm, 434, rfl⟩
abbrev main_v362 : Ref sig .tc := ⟨.hbm, 435, rfl⟩
abbrev main_v363 : Ref sig .tc := ⟨.hbm, 436, rfl⟩
abbrev main_v364 : Ref sig .tc := ⟨.hbm, 437, rfl⟩
abbrev main_v365 : Ref sig .tc := ⟨.hbm, 438, rfl⟩
abbrev main_v366 : Ref sig .tc := ⟨.hbm, 439, rfl⟩
abbrev main_v367 : Ref sig .tc := ⟨.hbm, 440, rfl⟩
abbrev main_c_37 : Ref sig .tc := ⟨.hbm, 441, rfl⟩
abbrev main_v368 : Ref sig .tc := ⟨.hbm, 442, rfl⟩
abbrev main_v369 : Ref sig .tc := ⟨.hbm, 443, rfl⟩
abbrev main_c_38 : Ref sig .tc := ⟨.hbm, 444, rfl⟩
abbrev main_v370 : Ref sig .tc := ⟨.hbm, 445, rfl⟩
abbrev main_v371 : Ref sig .tc := ⟨.hbm, 446, rfl⟩
abbrev main_v372 : Ref sig .tc := ⟨.hbm, 447, rfl⟩
abbrev main_v373 : Ref sig .tc := ⟨.hbm, 448, rfl⟩
abbrev main_v374 : Ref sig .tc := ⟨.hbm, 449, rfl⟩
abbrev main_v375 : Ref sig .tc := ⟨.hbm, 450, rfl⟩
abbrev main_v376 : Ref sig .tc := ⟨.hbm, 451, rfl⟩
abbrev main_v377 : Ref sig .tc := ⟨.hbm, 452, rfl⟩
abbrev main_c_39 : Ref sig .tc := ⟨.hbm, 453, rfl⟩
abbrev main_v378 : Ref sig .tc := ⟨.hbm, 454, rfl⟩
abbrev main_v379 : Ref sig .tc := ⟨.hbm, 455, rfl⟩
abbrev main_c_40 : Ref sig .tc := ⟨.hbm, 456, rfl⟩
abbrev main_v380 : Ref sig .tc := ⟨.hbm, 457, rfl⟩
abbrev main_v381 : Ref sig .tc := ⟨.hbm, 458, rfl⟩
abbrev main_v382 : Ref sig .tc := ⟨.hbm, 459, rfl⟩
abbrev main_v383 : Ref sig .tc := ⟨.hbm, 460, rfl⟩
abbrev main_v384 : Ref sig .tc := ⟨.hbm, 461, rfl⟩
abbrev main_v385 : Ref sig .tc := ⟨.hbm, 462, rfl⟩
abbrev main_v386 : Ref sig .tc := ⟨.hbm, 463, rfl⟩
abbrev main_v387 : Ref sig .tc := ⟨.hbm, 464, rfl⟩
abbrev main_c_41 : Ref sig .tc := ⟨.hbm, 465, rfl⟩
abbrev main_v388 : Ref sig .tc := ⟨.hbm, 466, rfl⟩
abbrev main_v389 : Ref sig .tc := ⟨.hbm, 467, rfl⟩
abbrev main_c_42 : Ref sig .tc := ⟨.hbm, 468, rfl⟩
abbrev main_v390 : Ref sig .tc := ⟨.hbm, 469, rfl⟩
abbrev main_v391 : Ref sig .tc := ⟨.hbm, 470, rfl⟩
abbrev main_v392 : Ref sig .tc := ⟨.hbm, 471, rfl⟩
abbrev main_v393 : Ref sig .tc := ⟨.hbm, 472, rfl⟩
abbrev main_v394 : Ref sig .tc := ⟨.hbm, 473, rfl⟩
abbrev main_v395 : Ref sig .tc := ⟨.hbm, 474, rfl⟩
abbrev main_v396 : Ref sig .tc := ⟨.hbm, 475, rfl⟩
abbrev main_c_43 : Ref sig .tc := ⟨.hbm, 476, rfl⟩
abbrev main_v397 : Ref sig .tc := ⟨.hbm, 477, rfl⟩
abbrev main_v398 : Ref sig .tc := ⟨.hbm, 478, rfl⟩
abbrev main_c_44 : Ref sig .tc := ⟨.hbm, 479, rfl⟩
abbrev main_v399 : Ref sig .tc := ⟨.hbm, 480, rfl⟩
abbrev main_v400 : Ref sig .tc := ⟨.hbm, 481, rfl⟩
abbrev main_v401 : Ref sig .tc := ⟨.hbm, 482, rfl⟩
abbrev main_v402 : Ref sig .tc := ⟨.hbm, 483, rfl⟩
abbrev main_v403 : Ref sig .tc := ⟨.hbm, 484, rfl⟩
abbrev main_v404 : Ref sig .tc := ⟨.hbm, 485, rfl⟩
abbrev main_v405 : Ref sig .tc := ⟨.hbm, 486, rfl⟩
abbrev main_c_45 : Ref sig .tc := ⟨.hbm, 487, rfl⟩
abbrev main_v406 : Ref sig .tc := ⟨.hbm, 488, rfl⟩
abbrev main_v407 : Ref sig .tc := ⟨.hbm, 489, rfl⟩
abbrev main_c_46 : Ref sig .tc := ⟨.hbm, 490, rfl⟩
abbrev main_v408 : Ref sig .tc := ⟨.hbm, 491, rfl⟩
abbrev main_v409 : Ref sig .tc := ⟨.hbm, 492, rfl⟩
abbrev main_v410 : Ref sig .tc := ⟨.hbm, 493, rfl⟩
abbrev main_v411 : Ref sig .tc := ⟨.hbm, 494, rfl⟩
abbrev main_v412 : Ref sig .tc := ⟨.hbm, 495, rfl⟩
abbrev main_v413 : Ref sig .tc := ⟨.hbm, 496, rfl⟩
abbrev main_v414 : Ref sig .tc := ⟨.hbm, 497, rfl⟩
abbrev main_v415 : Ref sig .tc := ⟨.hbm, 498, rfl⟩
abbrev main_v416 : Ref sig .tc := ⟨.hbm, 499, rfl⟩
abbrev main_v417 : Ref sig .tc := ⟨.hbm, 500, rfl⟩
abbrev main_v418 : Ref sig .tc := ⟨.hbm, 501, rfl⟩
abbrev main_v419 : Ref sig .tc := ⟨.hbm, 502, rfl⟩
abbrev main_v420 : Ref sig .tc := ⟨.hbm, 503, rfl⟩
abbrev main_v421 : Ref sig .tc := ⟨.hbm, 504, rfl⟩
abbrev main_call13_v0 : Ref sig .tc := ⟨.hbm, 505, rfl⟩
abbrev main_call13_cst : Ref sig .tc := ⟨.hbm, 506, rfl⟩
abbrev main_call13_v1 : Ref sig .tc := ⟨.hbm, 507, rfl⟩
abbrev main_v422 : Ref sig .tc := ⟨.hbm, 508, rfl⟩
abbrev main_v423 : Ref sig .tc := ⟨.hbm, 509, rfl⟩
abbrev main_v424 : Ref sig .tc := ⟨.hbm, 510, rfl⟩
abbrev main_v425 : Ref sig .tc := ⟨.hbm, 511, rfl⟩
abbrev main_v426 : Ref sig .tc := ⟨.hbm, 512, rfl⟩
abbrev main_v427 : Ref sig .tc := ⟨.hbm, 513, rfl⟩
abbrev main_c_47 : Ref sig .tc := ⟨.hbm, 514, rfl⟩
abbrev main_v428 : Ref sig .tc := ⟨.hbm, 515, rfl⟩
abbrev main_v429 : Ref sig .tc := ⟨.hbm, 516, rfl⟩
abbrev main_c_48 : Ref sig .tc := ⟨.hbm, 517, rfl⟩
abbrev main_v430 : Ref sig .tc := ⟨.hbm, 518, rfl⟩
abbrev main_v431 : Ref sig .tc := ⟨.hbm, 519, rfl⟩
abbrev main_v432 : Ref sig .tc := ⟨.hbm, 520, rfl⟩
abbrev main_v433 : Ref sig .tc := ⟨.hbm, 521, rfl⟩
abbrev main_v434 : Ref sig .tc := ⟨.hbm, 522, rfl⟩
abbrev main_v435 : Ref sig .tc := ⟨.hbm, 523, rfl⟩
abbrev main_v436 : Ref sig .tc := ⟨.hbm, 524, rfl⟩
abbrev main_c_49 : Ref sig .tc := ⟨.hbm, 525, rfl⟩
abbrev main_v437 : Ref sig .tc := ⟨.hbm, 526, rfl⟩
abbrev main_v438 : Ref sig .tc := ⟨.hbm, 527, rfl⟩
abbrev main_c_50 : Ref sig .tc := ⟨.hbm, 528, rfl⟩
abbrev main_v439 : Ref sig .tc := ⟨.hbm, 529, rfl⟩
abbrev main_v440 : Ref sig .tc := ⟨.hbm, 530, rfl⟩
abbrev main_v441 : Ref sig .tc := ⟨.hbm, 531, rfl⟩
abbrev main_v442 : Ref sig .tc := ⟨.hbm, 532, rfl⟩
abbrev main_v443 : Ref sig .tc := ⟨.hbm, 533, rfl⟩
abbrev main_c_51 : Ref sig .tc := ⟨.hbm, 534, rfl⟩
abbrev main_v444 : Ref sig .tc := ⟨.hbm, 535, rfl⟩
abbrev main_v445 : Ref sig .tc := ⟨.hbm, 536, rfl⟩
abbrev main_c_52 : Ref sig .tc := ⟨.hbm, 537, rfl⟩
abbrev main_v446 : Ref sig .tc := ⟨.hbm, 538, rfl⟩
abbrev main_v447 : Ref sig .tc := ⟨.hbm, 539, rfl⟩
abbrev main_v448 : Ref sig .tc := ⟨.hbm, 540, rfl⟩
abbrev main_c_53 : Ref sig .tc := ⟨.hbm, 541, rfl⟩
abbrev main_v449 : Ref sig .tc := ⟨.hbm, 542, rfl⟩
abbrev main_v450 : Ref sig .tc := ⟨.hbm, 543, rfl⟩
abbrev main_c_54 : Ref sig .tc := ⟨.hbm, 544, rfl⟩
abbrev main_v451 : Ref sig .tc := ⟨.hbm, 545, rfl⟩
abbrev main_v452 : Ref sig .tc := ⟨.hbm, 546, rfl⟩
abbrev main_v453 : Ref sig .tc := ⟨.hbm, 547, rfl⟩
abbrev main_v454 : Ref sig .tc := ⟨.hbm, 548, rfl⟩
abbrev main_v455 : Ref sig .tc := ⟨.hbm, 549, rfl⟩
abbrev main_v456 : Ref sig .tc := ⟨.hbm, 550, rfl⟩
abbrev main_v457 : Ref sig .tc := ⟨.hbm, 551, rfl⟩
abbrev main_cst_55 : Ref sig .tc := ⟨.hbm, 552, rfl⟩
abbrev main_v458 : Ref sig .tc := ⟨.hbm, 553, rfl⟩
abbrev main_v459 : Ref sig .tc := ⟨.hbm, 554, rfl⟩
abbrev main_v460 : Ref sig .tc := ⟨.hbm, 555, rfl⟩
abbrev main_v461 : Ref sig .tc := ⟨.hbm, 556, rfl⟩
abbrev main_v462 : Ref sig .tc := ⟨.hbm, 557, rfl⟩
abbrev main_v463 : Ref sig .tc := ⟨.hbm, 558, rfl⟩
abbrev main_cst_56 : Ref sig .tc := ⟨.hbm, 559, rfl⟩
abbrev main_v464 : Ref sig .tc := ⟨.hbm, 560, rfl⟩
abbrev main_v465 : Ref sig .tc := ⟨.hbm, 561, rfl⟩
abbrev main_cst_57 : Ref sig .tc := ⟨.hbm, 562, rfl⟩
abbrev main_v466 : Ref sig .tc := ⟨.hbm, 563, rfl⟩
abbrev main_v467 : Ref sig .tc := ⟨.hbm, 564, rfl⟩
abbrev main_v468 : Ref sig .tc := ⟨.hbm, 565, rfl⟩
abbrev main_v469 : Ref sig .tc := ⟨.hbm, 566, rfl⟩
abbrev main_v470 : Ref sig .tc := ⟨.hbm, 567, rfl⟩
abbrev main_v471 : Ref sig .tc := ⟨.hbm, 568, rfl⟩
abbrev main_v472 : Ref sig .tc := ⟨.hbm, 569, rfl⟩
abbrev main_v473 : Ref sig .tc := ⟨.hbm, 570, rfl⟩
abbrev main_v474 : Ref sig .tc := ⟨.hbm, 571, rfl⟩
abbrev main_v475 : Ref sig .tc := ⟨.hbm, 572, rfl⟩
abbrev main_c_58 : Ref sig .tc := ⟨.hbm, 573, rfl⟩
abbrev main_v476 : Ref sig .tc := ⟨.hbm, 574, rfl⟩
abbrev main_v477 : Ref sig .tc := ⟨.hbm, 575, rfl⟩
abbrev main_c_59 : Ref sig .tc := ⟨.hbm, 576, rfl⟩
abbrev main_v478 : Ref sig .tc := ⟨.hbm, 577, rfl⟩
abbrev main_v479 : Ref sig .tc := ⟨.hbm, 578, rfl⟩
abbrev main_v480 : Ref sig .tc := ⟨.hbm, 579, rfl⟩
abbrev main_v481 : Ref sig .tc := ⟨.hbm, 580, rfl⟩
abbrev main_v482 : Ref sig .tc := ⟨.hbm, 581, rfl⟩
abbrev main_v483 : Ref sig .tc := ⟨.hbm, 582, rfl⟩
abbrev main_v484 : Ref sig .tc := ⟨.hbm, 583, rfl⟩
abbrev main_c_60 : Ref sig .tc := ⟨.hbm, 584, rfl⟩
abbrev main_v485 : Ref sig .tc := ⟨.hbm, 585, rfl⟩
abbrev main_v486 : Ref sig .tc := ⟨.hbm, 586, rfl⟩
abbrev main_c_61 : Ref sig .tc := ⟨.hbm, 587, rfl⟩
abbrev main_v487 : Ref sig .tc := ⟨.hbm, 588, rfl⟩
abbrev main_v488 : Ref sig .tc := ⟨.hbm, 589, rfl⟩
abbrev main_v489 : Ref sig .tc := ⟨.hbm, 590, rfl⟩
abbrev main_v490 : Ref sig .tc := ⟨.hbm, 591, rfl⟩
abbrev main_v491 : Ref sig .tc := ⟨.hbm, 592, rfl⟩

abbrev nD : Nat := 1
abbrev τ : Topo := Topo.v7x

variable {F : FTy → Type} [FloatOps F]
-- ==== Proof.TripIdeal.lean ====
/-
  One trip of the kernel's loop over the full blocks to the right of the diagonal, and the loop's invariant.

  A trip reads the rows of the block (`arg1`), the columns of the block (`arg2`) and the columns' type rows (`arg4`),
  adds to the four carried columns and adds the column sums into `arg12`. What it leaves is found by the run. Of the
  values in scope at the loop a trip uses five; the others stand for nothing here and are filled with any value.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Tactic
public import Idealize.ShloMosaic.Lib.LoopRemainder

@[expose] public section

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

abbrev 𝒱₀ : Variants := Variants.none

/-- The four carried columns. -/
abbrev Acc (F : FTy → Type) : Type := FVec F S1024x1 .f32 × FVec F S1024x1 .f32 × FVec F S1024x1 .f32 × FVec F S1024x1 .f32

/-- Memref `M`'s buffer on core `c`, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦[M.view.set]{fullShare} f

/-- The one index of a `1 × 1` array. -/
abbrev o11 : S1x1.Idx := fun a => ⟨0, by fin_cases a <;> decide⟩

theorem off13_eq : ∀ (i : grid0.Coords) (k : Fin (k0_t1_loop i).trips), k0_off13 i k = ![0, 1024 * ((i 0).val + k.val) + 2048] := by decide +kernel
theorem off14_eq : ∀ (i : grid0.Coords) (k : Fin (k0_t1_loop i).trips), k0_off14 i k = ![1, 1024 * ((i 0).val + k.val) + 2048] := by decide +kernel
theorem off15_eq : ∀ (i : grid0.Coords) (k : Fin (k0_t1_loop i).trips), k0_off15 i k = ![2, 1024 * ((i 0).val + k.val) + 2048] := by decide +kernel
theorem off16_eq : ∀ (i : grid0.Coords) (k : Fin (k0_t1_loop i).trips), k0_off16 i k = ![0, 1024 * ((i 0).val + k.val) + 2048] := by decide +kernel
instance closedOff13 (i : grid0.Coords) (k : Fin (k0_t1_loop i).trips) : ClosedOff (k0_off13 i k) := ⟨_, off13_eq i k⟩
instance closedOff14 (i : grid0.Coords) (k : Fin (k0_t1_loop i).trips) : ClosedOff (k0_off14 i k) := ⟨_, off14_eq i k⟩
instance closedOff15 (i : grid0.Coords) (k : Fin (k0_t1_loop i).trips) : ClosedOff (k0_off15 i k) := ⟨_, off15_eq i k⟩
instance closedOff16 (i : grid0.Coords) (k : Fin (k0_t1_loop i).trips) : ClosedOff (k0_off16 i k) := ⟨_, off16_eq i k⟩

/-- The stores into `arg12`, newest first. -/
abbrev Stores (F : FTy → Type) : Type := List (View.Piece (Elt F) S3x4096 .f32)

theorem writes_append {sp : Space} {S : Shape} {e : EltTy} (M : Memref sig .tc sp S e) (f : M.view.ty.Contents (Elt F))
    (A B : List (View.Piece (Elt F) S e)) :
    M.view.writes (Elt F) f (A ++ B) = M.view.writes (Elt F) (M.view.writes (Elt F) f B) A := by
  induction A with
  | nil => rfl
  | cons p A ih => rw [List.cons_append, View.writes_cons, View.writes_cons, ih]

/-- One trip: what it yields and what it stores into `arg12`, with the proof that it does. -/
def trip (c : Dev nD) (i : grid0.Coords) (arg1 : Memref sig .tc .vmem S1024x3 .f32) (harg1 : arg1.IsWhole) (arg2 : Memref sig .tc .vmem S3x4096 .f32) (harg2 : arg2.IsWhole) (arg3 : Memref sig .tc .vmem S1024x20 .f32) (harg3 : arg3.IsWhole) (arg4 : Memref sig .tc .vmem S20x4096 .f32) (harg4 : arg4.IsWhole) (arg5 : Memref sig .tc .vmem S20x20 .f32) (harg5 : arg5.IsWhole) (arg6 : Memref sig .tc .vmem S20x20 .f32) (harg6 : arg6.IsWhole) (arg7 : Memref sig .tc .vmem S20x20 .f32) (harg7 : arg7.IsWhole) (arg8 : Memref sig .tc .vmem S2x4095 .f32) (harg8 : arg8.IsWhole) (arg9 : Memref sig .tc .vmem S3x4093 .f32) (harg9 : arg9.IsWhole) (arg10 : Memref sig .tc .vmem S1x3 .f32) (harg10 : arg10.IsWhole) (arg11 : Memref sig .tc .vmem S1024x3 .f32) (harg11 : arg11.IsWhole) (arg12 : Memref sig .tc .vmem S3x4096 .f32) (harg12 : arg12.IsWhole) (arg13 : Memref sig .tc .vmem S1x1 .f32) (harg13 : arg13.IsWhole) (v12 : FVec F S1024x20 .f32) (v27 : FVec F S1x1 .f32) (v31 : FVec F S1x1 .f32) (k0_h2 : k0_cond2 i = 1#1) (v393 : BitVec 32)
    (f1 : Bf (F := F) c arg1) (f2 : Bf (F := F) c arg2) (f4 : Bf (F := F) c arg4)
    (k : Fin (k0_t1_loop i).trips) (acc : Acc F) (g : Bf (F := F) c arg12) :
    { W : Acc F × Stores F //
      iprop(pt c arg1 f1 ∗ pt c arg2 f2 ∗ pt c arg4 f4 ∗ pt c arg12 g)
        ⊢ wp frame (wpE (defs₀ (F := F)) 𝒱₀ (c : Thread nD τ) none) Set.univ
            (k0_t1_body (F := F) i arg1 harg1 arg2 harg2 arg3 harg3 arg4 harg4 arg5 harg5 arg6 harg6 arg7 harg7 arg8 harg8 arg9 harg9 arg10 harg10 arg11 harg11 arg12 harg12 arg13 harg13 0#32 v12 v12 v12 v27 v27 v27 v31 (fun _ => v27 o11) (fun _ => v27 o11) (fun _ => v27 o11) (fun _ => v27 o11) (fun _ => v27 o11) (fun _ => v27 o11) (fun _ => v27 o11) (fun _ => v27 o11) (fun _ => v27 o11) (fun _ => v27 o11) (fun _ => v27 o11) 0#32 (fun _ => v27 o11) (fun _ => v27 o11) (fun _ => v27 o11) (fun _ => v27 o11) k0_h2 v393 k acc)
            (fun r => iprop(pt c arg1 f1 ∗ pt c arg2 f2 ∗ pt c arg4 f4
              ∗ (∃ L, pt c arg12 (arg12.view.writes (Elt F) g L) ∗ ⌜(r, L) = W⌝))) } := by
  obtain ⟨a15, a16, a17, a18⟩ := acc
  refine ⟨?_, ?run⟩
  case run =>
    unfold k0_t1_body
    iintro ⟨H1, H2, H4, H12⟩
    sl_exec_parts!
    sl_step
    isplitl [H1]; · iexact H1
    isplitl [H2]; · iexact H2
    isplitl [H4]; · iexact H4
    iexists _; isplitl [H12]; · iexact H12
    ipureintro; exact rfl

/-- The carried columns before trip `k` and the stores of the trips before it, from `init` and `g`. -/
def st (c : Dev nD) (i : grid0.Coords) (arg1 : Memref sig .tc .vmem S1024x3 .f32) (harg1 : arg1.IsWhole) (arg2 : Memref sig .tc .vmem S3x4096 .f32) (harg2 : arg2.IsWhole) (arg3 : Memref sig .tc .vmem S1024x20 .f32) (harg3 : arg3.IsWhole) (arg4 : Memref sig .tc .vmem S20x4096 .f32) (harg4 : arg4.IsWhole) (arg5 : Memref sig .tc .vmem S20x20 .f32) (harg5 : arg5.IsWhole) (arg6 : Memref sig .tc .vmem S20x20 .f32) (harg6 : arg6.IsWhole) (arg7 : Memref sig .tc .vmem S20x20 .f32) (harg7 : arg7.IsWhole) (arg8 : Memref sig .tc .vmem S2x4095 .f32) (harg8 : arg8.IsWhole) (arg9 : Memref sig .tc .vmem S3x4093 .f32) (harg9 : arg9.IsWhole) (arg10 : Memref sig .tc .vmem S1x3 .f32) (harg10 : arg10.IsWhole) (arg11 : Memref sig .tc .vmem S1024x3 .f32) (harg11 : arg11.IsWhole) (arg12 : Memref sig .tc .vmem S3x4096 .f32) (harg12 : arg12.IsWhole) (arg13 : Memref sig .tc .vmem S1x1 .f32) (harg13 : arg13.IsWhole) (v12 : FVec F S1024x20 .f32) (v27 : FVec F S1x1 .f32) (v31 : FVec F S1x1 .f32) (k0_h2 : k0_cond2 i = 1#1) (v393 : BitVec 32)
    (f1 : Bf (F := F) c arg1) (f2 : Bf (F := F) c arg2) (f4 : Bf (F := F) c arg4)
    (init : Acc F) (g : Bf (F := F) c arg12) : ℕ → Acc F × Stores F
  | 0 => (init, [])
  | k + 1 =>
    let p := st c i arg1 harg1 arg2 harg2 arg3 harg3 arg4 harg4 arg5 harg5 arg6 harg6 arg7 harg7 arg8 harg8 arg9 harg9 arg10 harg10 arg11 harg11 arg12 harg12 arg13 harg13 v12 v27 v31 k0_h2 v393 f1 f2 f4 init g k
    if h : k < (k0_t1_loop i).trips then
      let W := (trip c i arg1 harg1 arg2 harg2 arg3 harg3 arg4 harg4 arg5 harg5 arg6 harg6 arg7 harg7 arg8 harg8 arg9 harg9 arg10 harg10 arg11 harg11 arg12 harg12 arg13 harg13 v12 v27 v31 k0_h2 v393 f1 f2 f4 ⟨k, h⟩ p.1 (arg12.view.writes (Elt F) g p.2)).1
      (W.1, W.2 ++ p.2)
    else p

@[sl_loop, instance_reducible] def loopInv (c : Dev nD) (i : grid0.Coords) (arg1 : Memref sig .tc .vmem S1024x3 .f32) (harg1 : arg1.IsWhole) (arg2 : Memref sig .tc .vmem S3x4096 .f32) (harg2 : arg2.IsWhole) (arg3 : Memref sig .tc .vmem S1024x20 .f32) (harg3 : arg3.IsWhole) (arg4 : Memref sig .tc .vmem S20x4096 .f32) (harg4 : arg4.IsWhole) (arg5 : Memref sig .tc .vmem S20x20 .f32) (harg5 : arg5.IsWhole) (arg6 : Memref sig .tc .vmem S20x20 .f32) (harg6 : arg6.IsWhole) (arg7 : Memref sig .tc .vmem S20x20 .f32) (harg7 : arg7.IsWhole) (arg8 : Memref sig .tc .vmem S2x4095 .f32) (harg8 : arg8.IsWhole) (arg9 : Memref sig .tc .vmem S3x4093 .f32) (harg9 : arg9.IsWhole) (arg10 : Memref sig .tc .vmem S1x3 .f32) (harg10 : arg10.IsWhole) (arg11 : Memref sig .tc .vmem S1024x3 .f32) (harg11 : arg11.IsWhole) (arg12 : Memref sig .tc .vmem S3x4096 .f32) (harg12 : arg12.IsWhole) (arg13 : Memref sig .tc .vmem S1x1 .f32) (harg13 : arg13.IsWhole) (v12 : FVec F S1024x20 .f32) (v27 : FVec F S1x1 .f32) (v31 : FVec F S1x1 .f32) (k0_h2 : k0_cond2 i = 1#1) (v393 : BitVec 32) (init : Acc F)
    (f1 : Bf (F := F) c arg1) (f2 : Bf (F := F) c arg2) (f4 : Bf (F := F) c arg4) (g : Bf (F := F) c arg12) :
    LoopInvTy_k0_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 0#32 v12 v12 v12 v27 v27 v27 v31 (fun _ => v27 o11) (fun _ => v27 o11) (fun _ => v27 o11) (fun _ => v27 o11) (fun _ => v27 o11) (fun _ => v27 o11) (fun _ => v27 o11) (fun _ => v27 o11) (fun _ => v27 o11) (fun _ => v27 o11) (fun _ => v27 o11) 0#32 (fun _ => v27 o11) (fun _ => v27 o11) (fun _ => v27 o11) (fun _ => v27 o11) k0_h2 v393 init where
  inv k acc := iprop(pt c arg1 f1 ∗ pt c arg2 f2 ∗ pt c arg4 f4
    ∗ (∃ h, pt c arg12 h ∗ ⌜h = arg12.view.writes (Elt F) g (st c i arg1 harg1 arg2 harg2 arg3 harg3 arg4 harg4 arg5 harg5 arg6 harg6 arg7 harg7 arg8 harg8 arg9 harg9 arg10 harg10 arg11 harg11 arg12 harg12 arg13 harg13 v12 v27 v31 k0_h2 v393 f1 f2 f4 init g k).2⌝)
    ∗ ⌜acc = (st c i arg1 harg1 arg2 harg2 arg3 harg3 arg4 harg4 arg5 harg5 arg6 harg6 arg7 harg7 arg8 harg8 arg9 harg9 arg10 harg10 arg11 harg11 arg12 harg12 arg13 harg13 v12 v27 v31 k0_h2 v393 f1 f2 f4 init g k).1⌝)
  step k acc := by
    iintro ⟨H1, H2, H4, ⟨%h, H12, %hh⟩, %ha⟩
    subst ha; subst hh
    have hs : st c i arg1 harg1 arg2 harg2 arg3 harg3 arg4 harg4 arg5 harg5 arg6 harg6 arg7 harg7 arg8 harg8 arg9 harg9 arg10 harg10 arg11 harg11 arg12 harg12 arg13 harg13 v12 v27 v31 k0_h2 v393 f1 f2 f4 init g (k.val + 1) =
        (let W := (trip c i arg1 harg1 arg2 harg2 arg3 harg3 arg4 harg4 arg5 harg5 arg6 harg6 arg7 harg7 arg8 harg8 arg9 harg9 arg10 harg10 arg11 harg11 arg12 harg12 arg13 harg13 v12 v27 v31 k0_h2 v393 f1 f2 f4 k (st c i arg1 harg1 arg2 harg2 arg3 harg3 arg4 harg4 arg5 harg5 arg6 harg6 arg7 harg7 arg8 harg8 arg9 harg9 arg10 harg10 arg11 harg11 arg12 harg12 arg13 harg13 v12 v27 v31 k0_h2 v393 f1 f2 f4 init g k).1
            (arg12.view.writes (Elt F) g (st c i arg1 harg1 arg2 harg2 arg3 harg3 arg4 harg4 arg5 harg5 arg6 harg6 arg7 harg7 arg8 harg8 arg9 harg9 arg10 harg10 arg11 harg11 arg12 harg12 arg13 harg13 v12 v27 v31 k0_h2 v393 f1 f2 f4 init g k).2)).1
         (W.1, W.2 ++ (st c i arg1 harg1 arg2 harg2 arg3 harg3 arg4 harg4 arg5 harg5 arg6 harg6 arg7 harg7 arg8 harg8 arg9 harg9 arg10 harg10 arg11 harg11 arg12 harg12 arg13 harg13 v12 v27 v31 k0_h2 v393 f1 f2 f4 init g k).2)) := by
      rw [st]; exact dif_pos k.isLt
    iapply (wp_wand_r frame (wpE (defs₀ (F := F)) 𝒱₀ (c : Thread nD τ) none) Set.univ)
    isplitl [H1 H2 H4 H12]
    · iapply (trip c i arg1 harg1 arg2 harg2 arg3 harg3 arg4 harg4 arg5 harg5 arg6 harg6 arg7 harg7 arg8 harg8 arg9 harg9 arg10 harg10 arg11 harg11 arg12 harg12 arg13 harg13 v12 v27 v31 k0_h2 v393 f1 f2 f4 k (st c i arg1 harg1 arg2 harg2 arg3 harg3 arg4 harg4 arg5 harg5 arg6 harg6 arg7 harg7 arg8 harg8 arg9 harg9 arg10 harg10 arg11 harg11 arg12 harg12 arg13 harg13 v12 v27 v31 k0_h2 v393 f1 f2 f4 init g k).1
        (arg12.view.writes (Elt F) g (st c i arg1 harg1 arg2 harg2 arg3 harg3 arg4 harg4 arg5 harg5 arg6 harg6 arg7 harg7 arg8 harg8 arg9 harg9 arg10 harg10 arg11 harg11 arg12 harg12 arg13 harg13 v12 v27 v31 k0_h2 v393 f1 f2 f4 init g k).2)).2
      isplitl [H1]; · iexact H1
      isplitl [H2]; · iexact H2
      isplitl [H4]; · iexact H4
      iexact H12
    iintro %r ⟨H1, H2, H4, ⟨%L, H12, %hr⟩⟩
    rw [hs]
    isplitl [H1]; · iexact H1
    isplitl [H2]; · iexact H2
    isplitl [H4]; · iexact H4
    isplitl [H12]
    · iexists _; isplitl [H12]; · iexact H12
      ipureintro
      rw [writes_append, ← hr]
    ipureintro; rw [← hr]

end Cert.Proof.KernelIdeal

end
-- ==== Proof.FirstIdeal.lean ====
/-
  The kernel's body at one grid point, the first: the bonded terms are written and the blocks to the right follow.

  The body is run over any whole windows: the inputs hold `x1 … x10`. What it leaves in the three outputs is
  found by the run (`.1`), with the proof that the body leaves it (`.2`).
-/
module

public import proofs.«01_k».proof.Proof.TripIdeal

@[expose] public section

set_option maxRecDepth 16384
set_option maxHeartbeats 4000000

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

def runFirst (c : Dev nD) (i : grid0.Coords) (arg1 : Memref sig .tc .vmem S1024x3 .f32) (harg1 : arg1.IsWhole) (arg2 : Memref sig .tc .vmem S3x4096 .f32) (harg2 : arg2.IsWhole) (arg3 : Memref sig .tc .vmem S1024x20 .f32) (harg3 : arg3.IsWhole) (arg4 : Memref sig .tc .vmem S20x4096 .f32) (harg4 : arg4.IsWhole) (arg5 : Memref sig .tc .vmem S20x20 .f32) (harg5 : arg5.IsWhole) (arg6 : Memref sig .tc .vmem S20x20 .f32) (harg6 : arg6.IsWhole) (arg7 : Memref sig .tc .vmem S20x20 .f32) (harg7 : arg7.IsWhole) (arg8 : Memref sig .tc .vmem S2x4095 .f32) (harg8 : arg8.IsWhole) (arg9 : Memref sig .tc .vmem S3x4093 .f32) (harg9 : arg9.IsWhole) (arg10 : Memref sig .tc .vmem S1x3 .f32) (harg10 : arg10.IsWhole) (arg11 : Memref sig .tc .vmem S1024x3 .f32) (harg11 : arg11.IsWhole) (arg12 : Memref sig .tc .vmem S3x4096 .f32) (harg12 : arg12.IsWhole) (arg13 : Memref sig .tc .vmem S1x1 .f32) (harg13 : arg13.IsWhole)
    (x1 : Vec F S1024x3 .f32) (x2 : Vec F S3x4096 .f32) (x3 : Vec F S1024x20 .f32) (x4 : Vec F S20x4096 .f32) (x5 : Vec F S20x20 .f32) (x6 : Vec F S20x20 .f32) (x7 : Vec F S20x20 .f32) (x8 : Vec F S2x4095 .f32) (x9 : Vec F S3x4093 .f32) (x10 : Vec F S1x3 .f32)
    (hc1 : k0_cond1 i = 1#1) (hc2 : k0_cond2 i = 1#1) (hc3 : ¬ k0_cond3 i = 1#1) :
    { Y : Vec F S1024x3 .f32 × Vec F S3x4096 .f32 × Vec F S1x1 .f32 // ∀ (K : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ (∃ d, owns (c : Thread nD τ) arg12 fullShare d) ∗ (∃ d, owns (c : Thread nD τ) arg13 fullShare d)
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
              ∗ (∃ y11 y12 y13, owns (c : Thread nD τ) arg11 fullShare y11 ∗ owns (c : Thread nD τ) arg12 fullShare y12 ∗ owns (c : Thread nD τ) arg13 fullShare y13 ∗ ⌜(y11, y12, y13) = Y⌝)) -∗ K ⟨⟩))
        ⊢ wp frame (wpE (defs₀ (F := F)) 𝒱₀ (c : Thread nD τ) none) Set.univ (cc0__kern (F := F) i arg1 harg1 arg2 harg2 arg3 harg3 arg4 harg4 arg5 harg5 arg6 harg6 arg7 harg7 arg8 harg8 arg9 harg9 arg10 harg10 arg11 harg11 arg12 harg12 arg13 harg13) K } := by
  refine ⟨?_, fun K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    sl_unfold [cc0__kern]
    sl_exec_parts! (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    iexists _, _, _
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    ipureintro; exact rfl

end Cert.Proof.KernelIdeal

end
-- ==== Proof.MiddleIdeal.lean ====
/-
  The kernel's body at one grid point, one in the middle: no bonded terms, and there are blocks to the right.

  The body is run over any whole windows: the inputs hold `x1 … x10`, the two running sums hold `x12` and `x13`. What it leaves in the three outputs is
  found by the run (`.1`), with the proof that the body leaves it (`.2`).
-/
module

public import proofs.«01_k».proof.Proof.TripIdeal

@[expose] public section

set_option maxRecDepth 16384
set_option maxHeartbeats 4000000

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

def runMiddle (c : Dev nD) (i : grid0.Coords) (arg1 : Memref sig .tc .vmem S1024x3 .f32) (harg1 : arg1.IsWhole) (arg2 : Memref sig .tc .vmem S3x4096 .f32) (harg2 : arg2.IsWhole) (arg3 : Memref sig .tc .vmem S1024x20 .f32) (harg3 : arg3.IsWhole) (arg4 : Memref sig .tc .vmem S20x4096 .f32) (harg4 : arg4.IsWhole) (arg5 : Memref sig .tc .vmem S20x20 .f32) (harg5 : arg5.IsWhole) (arg6 : Memref sig .tc .vmem S20x20 .f32) (harg6 : arg6.IsWhole) (arg7 : Memref sig .tc .vmem S20x20 .f32) (harg7 : arg7.IsWhole) (arg8 : Memref sig .tc .vmem S2x4095 .f32) (harg8 : arg8.IsWhole) (arg9 : Memref sig .tc .vmem S3x4093 .f32) (harg9 : arg9.IsWhole) (arg10 : Memref sig .tc .vmem S1x3 .f32) (harg10 : arg10.IsWhole) (arg11 : Memref sig .tc .vmem S1024x3 .f32) (harg11 : arg11.IsWhole) (arg12 : Memref sig .tc .vmem S3x4096 .f32) (harg12 : arg12.IsWhole) (arg13 : Memref sig .tc .vmem S1x1 .f32) (harg13 : arg13.IsWhole)
    (x1 : Vec F S1024x3 .f32) (x2 : Vec F S3x4096 .f32) (x3 : Vec F S1024x20 .f32) (x4 : Vec F S20x4096 .f32) (x5 : Vec F S20x20 .f32) (x6 : Vec F S20x20 .f32) (x7 : Vec F S20x20 .f32) (x8 : Vec F S2x4095 .f32) (x9 : Vec F S3x4093 .f32) (x10 : Vec F S1x3 .f32) (x12 : Vec F S3x4096 .f32) (x13 : Vec F S1x1 .f32)
    (hc1 : ¬ k0_cond1 i = 1#1) (hc2 : k0_cond2 i = 1#1) (hc3 : ¬ k0_cond3 i = 1#1) :
    { Y : Vec F S1024x3 .f32 × Vec F S3x4096 .f32 × Vec F S1x1 .f32 // ∀ (K : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare x12 ∗ owns (c : Thread nD τ) arg13 fullShare x13
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
              ∗ (∃ y11 y12 y13, owns (c : Thread nD τ) arg11 fullShare y11 ∗ owns (c : Thread nD τ) arg12 fullShare y12 ∗ owns (c : Thread nD τ) arg13 fullShare y13 ∗ ⌜(y11, y12, y13) = Y⌝)) -∗ K ⟨⟩))
        ⊢ wp frame (wpE (defs₀ (F := F)) 𝒱₀ (c : Thread nD τ) none) Set.univ (cc0__kern (F := F) i arg1 harg1 arg2 harg2 arg3 harg3 arg4 harg4 arg5 harg5 arg6 harg6 arg7 harg7 arg8 harg8 arg9 harg9 arg10 harg10 arg11 harg11 arg12 harg12 arg13 harg13) K } := by
  refine ⟨?_, fun K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg12.eq_unread hf12
    obtain rfl := harg13.eq_unread hf13
    sl_unfold [cc0__kern]
    sl_exec_parts! (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    iexists _, _, _
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    ipureintro; exact rfl

end Cert.Proof.KernelIdeal

end
-- ==== Proof.LastIdeal.lean ====
/-
  The kernel's body at one grid point, the last: no bonded terms and no block to the right.

  The body is run over any whole windows: the inputs hold `x1 … x10`, the two running sums hold `x12` and `x13`. What it leaves in the three outputs is
  found by the run (`.1`), with the proof that the body leaves it (`.2`).
-/
module

public import proofs.«01_k».proof.Proof.TripIdeal

@[expose] public section

set_option maxRecDepth 16384
set_option maxHeartbeats 4000000

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

def runLast (c : Dev nD) (i : grid0.Coords) (arg1 : Memref sig .tc .vmem S1024x3 .f32) (harg1 : arg1.IsWhole) (arg2 : Memref sig .tc .vmem S3x4096 .f32) (harg2 : arg2.IsWhole) (arg3 : Memref sig .tc .vmem S1024x20 .f32) (harg3 : arg3.IsWhole) (arg4 : Memref sig .tc .vmem S20x4096 .f32) (harg4 : arg4.IsWhole) (arg5 : Memref sig .tc .vmem S20x20 .f32) (harg5 : arg5.IsWhole) (arg6 : Memref sig .tc .vmem S20x20 .f32) (harg6 : arg6.IsWhole) (arg7 : Memref sig .tc .vmem S20x20 .f32) (harg7 : arg7.IsWhole) (arg8 : Memref sig .tc .vmem S2x4095 .f32) (harg8 : arg8.IsWhole) (arg9 : Memref sig .tc .vmem S3x4093 .f32) (harg9 : arg9.IsWhole) (arg10 : Memref sig .tc .vmem S1x3 .f32) (harg10 : arg10.IsWhole) (arg11 : Memref sig .tc .vmem S1024x3 .f32) (harg11 : arg11.IsWhole) (arg12 : Memref sig .tc .vmem S3x4096 .f32) (harg12 : arg12.IsWhole) (arg13 : Memref sig .tc .vmem S1x1 .f32) (harg13 : arg13.IsWhole)
    (x1 : Vec F S1024x3 .f32) (x2 : Vec F S3x4096 .f32) (x3 : Vec F S1024x20 .f32) (x4 : Vec F S20x4096 .f32) (x5 : Vec F S20x20 .f32) (x6 : Vec F S20x20 .f32) (x7 : Vec F S20x20 .f32) (x8 : Vec F S2x4095 .f32) (x9 : Vec F S3x4093 .f32) (x10 : Vec F S1x3 .f32) (x12 : Vec F S3x4096 .f32) (x13 : Vec F S1x1 .f32)
    (hc1 : ¬ k0_cond1 i = 1#1) (hc2 : ¬ k0_cond2 i = 1#1) (hc3 : k0_cond3 i = 1#1) :
    { Y : Vec F S1024x3 .f32 × Vec F S3x4096 .f32 × Vec F S1x1 .f32 // ∀ (K : PUnit → sProp 𝕄),
      iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ (∃ d, owns (c : Thread nD τ) arg11 fullShare d) ∗ owns (c : Thread nD τ) arg12 fullShare x12 ∗ owns (c : Thread nD τ) arg13 fullShare x13
          ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
              ∗ (∃ y11 y12 y13, owns (c : Thread nD τ) arg11 fullShare y11 ∗ owns (c : Thread nD τ) arg12 fullShare y12 ∗ owns (c : Thread nD τ) arg13 fullShare y13 ∗ ⌜(y11, y12, y13) = Y⌝)) -∗ K ⟨⟩))
        ⊢ wp frame (wpE (defs₀ (F := F)) 𝒱₀ (c : Thread nD τ) none) Set.univ (cc0__kern (F := F) i arg1 harg1 arg2 harg2 arg3 harg3 arg4 harg4 arg5 harg5 arg6 harg6 arg7 harg7 arg8 harg8 arg9 harg9 arg10 harg10 arg11 harg11 arg12 harg12 arg13 harg13) K } := by
  refine ⟨?_, fun K => ?run⟩
  case run =>
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, Hk⟩
    obtain rfl := harg1.eq_unread hf1
    obtain rfl := harg2.eq_unread hf2
    obtain rfl := harg3.eq_unread hf3
    obtain rfl := harg4.eq_unread hf4
    obtain rfl := harg5.eq_unread hf5
    obtain rfl := harg6.eq_unread hf6
    obtain rfl := harg7.eq_unread hf7
    obtain rfl := harg8.eq_unread hf8
    obtain rfl := harg9.eq_unread hf9
    obtain rfl := harg10.eq_unread hf10
    obtain rfl := harg12.eq_unread hf12
    obtain rfl := harg13.eq_unread hf13
    sl_unfold [cc0__kern]
    sl_exec_parts! (disch := first | exact hc1 | exact hc2 | exact hc3)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    iexists _, _, _
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    ipureintro; exact rfl

end Cert.Proof.KernelIdeal

end
-- ==== Proof.RunIdeal.lean ====
/-
  The kernel's program from launch to end: what each window holds at each grid point, the body's obligation, and the run.

  The two running sums (`fb` and the energy) are carried from point to point; a point leaves what `runFirst`,
  `runMiddle` or `runLast` finds.
-/
module

public import proofs.«01_k».proof.Proof.FirstIdeal
public import proofs.«01_k».proof.Proof.MiddleIdeal
public import proofs.«01_k».proof.Proof.LastIdeal

@[expose] public section

set_option maxRecDepth 16384

noncomputable section

namespace Cert.Proof.KernelIdeal

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

theorem cond1_iff : ∀ t : Fin cfg0.N, k0_cond1 (grid0.coords t) = 1#1 ↔ t.val = 0 := by decide +kernel
theorem cond2_iff : ∀ t : Fin cfg0.N, k0_cond2 (grid0.coords t) = 1#1 ↔ t.val < 3 := by decide +kernel
theorem cond3_iff : ∀ t : Fin cfg0.N, k0_cond3 (grid0.coords t) = 1#1 ↔ t.val = 3 := by decide +kernel
theorem idle10 : ∀ i : grid0.Coords, idle0 10 i = false := by decide +kernel
theorem idle12 : ∀ i : grid0.Coords, idle0 12 i = false := by decide +kernel

/-- What the three outputs' windows hold after a point. -/
abbrev Outs (F : FTy → Type) : Type := Vec F S1024x3 .f32 × Vec F S3x4096 .f32 × Vec F S1x1 .f32

/-- After the first point. -/
def outFirst (c : Dev nD) (t : Fin cfg0.N) (h : t.val = 0) : Outs F :=
  (runFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12))
    (iblk m c 0 t) (iblk m c 1 t) (iblk m c 2 t) (iblk m c 3 t) (iblk m c 4 t) (iblk m c 5 t) (iblk m c 6 t) (iblk m c 7 t) (iblk m c 8 t) (iblk m c 9 t)
    ((cond1_iff t).mpr h) ((cond2_iff t).mpr (by omega)) (fun h3 => by have := (cond3_iff t).mp h3; omega)).1

/-- After a middle point, the running sums before it being `y12` and `y13`. -/
def outMiddle (c : Dev nD) (t : Fin cfg0.N) (h : t.val ≠ 0) (h' : t.val < 3) (y12 : Vec F S3x4096 .f32) (y13 : Vec F S1x1 .f32) : Outs F :=
  (runMiddle c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12))
    (iblk m c 0 t) (iblk m c 1 t) (iblk m c 2 t) (iblk m c 3 t) (iblk m c 4 t) (iblk m c 5 t) (iblk m c 6 t) (iblk m c 7 t) (iblk m c 8 t) (iblk m c 9 t) y12 y13
    (fun h1 => h ((cond1_iff t).mp h1)) ((cond2_iff t).mpr h') (fun h3 => by have := (cond3_iff t).mp h3; omega)).1

/-- After the last point, the running sums before it being `y12` and `y13`. -/
def outLast (c : Dev nD) (t : Fin cfg0.N) (h : t.val = 3) (y12 : Vec F S3x4096 .f32) (y13 : Vec F S1x1 .f32) : Outs F :=
  (runLast c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12))
    (iblk m c 0 t) (iblk m c 1 t) (iblk m c 2 t) (iblk m c 3 t) (iblk m c 4 t) (iblk m c 5 t) (iblk m c 6 t) (iblk m c 7 t) (iblk m c 8 t) (iblk m c 9 t) y12 y13
    (fun h1 => by have := (cond1_iff t).mp h1; omega) (fun h2 => by have := (cond2_iff t).mp h2; omega) ((cond3_iff t).mpr h)).1

/-- What the outputs' windows hold after point `n`. -/
def outsN (c : Dev nD) : (n : ℕ) → n < cfg0.N → Outs F
  | 0, hn => outFirst m c ⟨0, hn⟩ rfl
  | n + 1, hn =>
    if h : n + 1 < 3 then outMiddle m c ⟨n + 1, hn⟩ (Nat.succ_ne_zero n) h (outsN c n (by omega)).2.1 (outsN c n (by omega)).2.2
    else outLast m c ⟨n + 1, hn⟩ (by have : cfg0.N = 4 := N_0; show n + 1 = 3; omega) (outsN c n (by omega)).2.1 (outsN c n (by omega)).2.2

abbrev outs (c : Dev nD) (t : Fin cfg0.N) : Outs F := outsN m c t.val t.isLt

/-- The outputs after the point before `t`. -/
abbrev outsPrev (c : Dev nD) (t : Fin cfg0.N) : Outs F := outsN m c (t.val - 1) (Nat.lt_of_le_of_lt (Nat.sub_le _ _) t.isLt)

theorem outs_first (c : Dev nD) (t : Fin cfg0.N) (h : t.val = 0) : outs m c t = outFirst m c t h := by
  obtain ⟨n, hn⟩ := t
  obtain rfl : n = 0 := h
  rfl

theorem outs_middle (c : Dev nD) (t : Fin cfg0.N) (h : t.val ≠ 0) (h' : t.val < 3) :
    outs m c t = outMiddle m c t h h' (outsPrev m c t).2.1 (outsPrev m c t).2.2 := by
  obtain ⟨n, hn⟩ := t
  cases n with
  | zero => exact absurd rfl h
  | succ n => unfold outs; rw [outsN]; exact dif_pos h'

theorem outs_last (c : Dev nD) (t : Fin cfg0.N) (h : t.val = 3) :
    outs m c t = outLast m c t h (outsPrev m c t).2.1 (outsPrev m c t).2.2 := by
  obtain ⟨n, hn⟩ := t
  cases n with
  | zero => exact absurd h (by show ¬ (0 = 3); omega)
  | succ n => unfold outs; rw [outsN]; exact dif_neg (by have h2 : n + 1 = 3 := h; omega)

/-- The arrays as the region finds them; after the body each input's buffer at its block and the outputs' at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outs m c t).1
    | ⟨11, _⟩ => (outs m c t).2.1
    | ⟨12, _⟩ => (outs m c t).2.2
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outs m c t).1 := by dsimp only [dats]
theorem after0_11 (c : Dev nD) (t : Fin cfg0.N) : (dats m 0 c).after 11 t = (outs m c t).2.1 := by dsimp only [dats]
theorem after0_12 (c : Dev nD) (t : Fin cfg0.N) : (dats m 0 c).after 12 t = (outs m c t).2.2 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_11 (c : Dev nD) (t : Fin cfg0.N) (h : t.val ≠ 0) (d) : (dats m 0 c).before 11 t d = (outsPrev m c t).2.1 :=
  ((dats m 0 c).before_out_kept 11 rfl t h
    (by rw [Bool.eq_false_iff]; intro hf; have h4 := (flush0_11 _).mp hf; have h5 : t.val < 4 := t.isLt; dsimp only at h4; omega)
    (fun _ => rfl) (fun _ _ => rfl) d).trans (after0_11 m c _)
theorem before0_12 (c : Dev nD) (t : Fin cfg0.N) (h : t.val ≠ 0) (d) : (dats m 0 c).before 12 t d = (outsPrev m c t).2.2 :=
  ((dats m 0 c).before_out_kept 12 rfl t h
    (by rw [Bool.eq_false_iff]; intro hf; have h4 := (flush0_12 _).mp hf; have h5 : t.val < 4 := t.isLt; dsimp only at h4; omega)
    idle12 (fun _ _ => rfl) d).trans (after0_12 m c _)

/-- The body at every point. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl, after0_0, after0_1, after0_2, after0_3, after0_4, after0_5, after0_6, after0_7, after0_8, after0_9, after0_10, after0_11, after0_12]
  by_cases h0 : t.val = 0
  · rw [outs_first m c t h0]
    unfold outFirst
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runFirst c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _ _ _).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    iintro ⟨H0, H1, H2, H3, H4, H5, H6, H7, H8, H9, ⟨%y11, %y12, %y13, H10, H11, H12, %hy⟩⟩
    rw [← hy, idle10 (grid0.coords t), idle12 (grid0.coords t)]
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  by_cases h3 : t.val < 3
  · simp only [before0_11 m c t h0, before0_12 m c t h0]
    rw [outs_middle m c t h0 h3]
    unfold outMiddle
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runMiddle c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (outsPrev m c t).2.1 (outsPrev m c t).2.2 _ _ _).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    iintro ⟨H0, H1, H2, H3, H4, H5, H6, H7, H8, H9, ⟨%y11, %y12, %y13, H10, H11, H12, %hy⟩⟩
    rw [← hy, idle10 (grid0.coords t), idle12 (grid0.coords t)]
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · have h4 : t.val = 3 := by have h5 : t.val < 4 := t.isLt; omega
    simp only [before0_11 m c t h0, before0_12 m c t h0]
    rw [outs_last m c t h4]
    unfold outLast
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply ((runLast c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (outsPrev m c t).2.1 (outsPrev m c t).2.2 _ _ _).2 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    iintro ⟨H0, H1, H2, H3, H4, H5, H6, H7, H8, H9, ⟨%y11, %y12, %y13, H10, H11, H12, %hy⟩⟩
    rw [← hy, idle10 (grid0.coords t), idle12 (grid0.coords t)]
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

set_option backward.isDefEq.respectTransparency.types false in
/-- Every weakly fair execution of the program terminates, with every array at what the proof data computes and every
    semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ 𝒱₀ m ρ main
    (hbody := fun c => (body_obligation m c).loose) (hshare := fun c => (dats m 0 c).share_full fun _ => rfl)
    (howed := fun _ _ => rfl) (V₀ := V0 m) (opss := [hostOps1]) sfx_sub sfx_fresh sfx_keeps
    (hmain := hmain m 𝒱₀) (hA := fun _ _ => rfl) (hΦ := fun _ _ => rfl)

end Cert.Proof.KernelIdeal

end
-- ==== Proof.RefRun.lean ====
/-
  The reference's run, as generated, and its frame: the arguments are the last conjuncts of the run, and the
  program declares no semaphore.
-/
module

public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_regular
public import proofs.«01_k».proof.Defs
public import Idealize.ShloMosaic.Adequacy

@[expose] public section

noncomputable section

namespace Cert.Proof.ReferenceIdeal

open Idealize.ShloMosaic Idealize.SL.Sem

instance : Cert.ReferenceIdeal.Facts := Cert.ReferenceIdeal.Gen.facts

theorem frame : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

end Cert.Proof.ReferenceIdeal

end
-- ==== Proof.Block.lean ====
/-
  One block of pairs, as the kernel computes it: the wrapped separations of a column of positions from a row of
  positions, the squared distances, and each row's sum of the energies. Each operation is read at an index.
-/
module

public import proofs.«01_k».proof.Proof.RunIdeal
public import Idealize.ShloMosaic.Lib.Pointwise

@[expose] public section

set_option maxRecDepth 16384

noncomputable section

namespace Cert.Proof.Energy

open Cert.KernelIdeal Cert.KernelIdeal.Gen
open Idealize.ShloMosaic

/-- The wrapped separation, over the reals, in units of the box. -/
def wr (d : ℝ) : ℝ := d - ((Ideal.roundHalfEven d : ℤ) : ℝ)

/-- The squared wrapped distance of two points, in units of the box. -/
def sq2 (p q : Fin 3 → ℝ) : ℝ := wr (p 0 - q 0) * wr (p 0 - q 0) + wr (p 1 - q 1) * wr (p 1 - q 1) + wr (p 2 - q 2) * wr (p 2 - q 2)

/-- The kernel's expression for one pair, from `1 / b²`, the squared distance and the coefficient. -/
def pairE (ib s cc : EReal) : EReal :=
  cc * (Ideal.div ib s * Ideal.div ib s * (Ideal.div ib s * Ideal.div ib s)) * s

/-! Half blocks: 512 rows, 512 columns. -/

def wH (a : FVec Ideal S512x1 .f32) (b : FVec Ideal S1x512 .f32) : FVec Ideal S512x512 .f32 :=
  subf (subf (broadcastTo S512x512 a broadcasts_S512x1_S512x512) (broadcastTo S512x512 b broadcasts_S1x512_S512x512))
    (roundeven (subf (broadcastTo S512x512 a broadcasts_S512x1_S512x512) (broadcastTo S512x512 b broadcasts_S1x512_S512x512)))

def s2H (a0 a1 a2 : FVec Ideal S512x1 .f32) (b0 b1 b2 : FVec Ideal S1x512 .f32) : FVec Ideal S512x512 .f32 :=
  addf (addf (addf (broadcast S512x512 (Scalar.ofBits (F := Ideal) .f32 0x00000000#32)) (mulf (wH a0 b0) (wH a0 b0)))
    (mulf (wH a1 b1) (wH a1 b1))) (mulf (wH a2 b2) (wH a2 b2))

def eH (ib : FVec Ideal S1x1 .f32) (s cc : FVec Ideal S512x512 .f32) : FVec Ideal S512x1 .f32 :=
  shapeCast S512x1 (multiReduction .add [1] S512
    (mulf (mulf cc (mulf (mulf (divf (broadcastTo S512x512 ib broadcasts_S1x1_S512x512) s) (divf (broadcastTo S512x512 ib broadcasts_S1x1_S512x512) s))
      (mulf (divf (broadcastTo S512x512 ib broadcasts_S1x1_S512x512) s) (divf (broadcastTo S512x512 ib broadcasts_S1x1_S512x512) s)))) s)
    0x00000000#32 reduces_S512x512_S512 (.inl rfl) rfl) shapeCasts_S512_S512x1

def ccH (o : ℕ) (h : S1024x20.Slices (![o, 0] : Fin 2 → ℕ) S512x20) (p : FVec Ideal S1024x20 .f32) (q : FVec Ideal S20x512 .f32) : FVec Ideal S512x512 .f32 :=
  matmul dot_S512x20_S20x512_S512x512_1_0_0_1_n_n none (extractStridedSlice S512x20 ![o, 0] p h) q (constant (F := Ideal) S512x512 .f32 0x00000000#32)

theorem wH_apply (a : FVec Ideal S512x1 .f32) (b : FVec Ideal S1x512 .f32) (r c : Fin 512) :
    wH a b (ix2 r c) = (a (ix2 r 0) - b (ix2 0 c)) - Ideal.liftRound Ideal.roundHalfEven (a (ix2 r 0) - b (ix2 0 c)) := by
  unfold wH
  pointwise

theorem s2H_real (a0 a1 a2 : FVec Ideal S512x1 .f32) (b0 b1 b2 : FVec Ideal S1x512 .f32) (r c : Fin 512) (p q : Fin 3 → ℝ)
    (h0 : a0 (ix2 r 0) = (p 0 : ℝ)) (h1 : a1 (ix2 r 0) = (p 1 : ℝ)) (h2 : a2 (ix2 r 0) = (p 2 : ℝ))
    (g0 : b0 (ix2 0 c) = (q 0 : ℝ)) (g1 : b1 (ix2 0 c) = (q 1 : ℝ)) (g2 : b2 (ix2 0 c) = (q 2 : ℝ)) :
    s2H a0 a1 a2 b0 b1 b2 (ix2 r c) = ((sq2 p q : ℝ) : EReal) := by
  have e : s2H a0 a1 a2 b0 b1 b2 (ix2 r c) = (0 : EReal) + wH a0 b0 (ix2 r c) * wH a0 b0 (ix2 r c) + wH a1 b1 (ix2 r c) * wH a1 b1 (ix2 r c)
      + wH a2 b2 (ix2 r c) * wH a2 b2 (ix2 r c) := by
    unfold s2H
    pointwise
  rw [e, wH_apply, wH_apply, wH_apply, h0, h1, h2, g0, g1, g2]
  simp only [← EReal.coe_sub, Ideal.liftRound_coe, ← EReal.coe_mul, ← EReal.coe_add, zero_add]
  rfl

theorem eH_apply (ib : FVec Ideal S1x1 .f32) (s cc : FVec Ideal S512x512 .f32) (r : Fin 512) :
    eH ib s cc (ix2 r 0) = ∑ c : Fin 512, pairE (ib (ix2 0 0)) (s (ix2 r c)) (cc (ix2 r c)) := by
  unfold eH
  pointwise
  rfl

theorem ccH_apply (o : ℕ) (h : S1024x20.Slices (![o, 0] : Fin 2 → ℕ) S512x20) (p : FVec Ideal S1024x20 .f32) (q : FVec Ideal S20x512 .f32) (r c : Fin 512) (ho : o + 512 ≤ 1024) :
    ccH o h p q (ix2 r c) = ∑ k : Fin 20, p (ix2 ⟨o + r.val, by omega⟩ k) * q (ix2 k c) := by
  unfold ccH
  pointwise

/-! Whole blocks: 1024 rows, 1024 columns. -/

def wF (a : FVec Ideal S1024x1 .f32) (b : FVec Ideal S1x1024 .f32) : FVec Ideal S1024x1024 .f32 :=
  subf (subf (broadcastTo S1024x1024 a broadcasts_S1024x1_S1024x1024) (broadcastTo S1024x1024 b broadcasts_S1x1024_S1024x1024))
    (roundeven (subf (broadcastTo S1024x1024 a broadcasts_S1024x1_S1024x1024) (broadcastTo S1024x1024 b broadcasts_S1x1024_S1024x1024)))

def s2F (a0 a1 a2 : FVec Ideal S1024x1 .f32) (b0 b1 b2 : FVec Ideal S1x1024 .f32) : FVec Ideal S1024x1024 .f32 :=
  addf (addf (addf (broadcast S1024x1024 (Scalar.ofBits (F := Ideal) .f32 0x00000000#32)) (mulf (wF a0 b0) (wF a0 b0)))
    (mulf (wF a1 b1) (wF a1 b1))) (mulf (wF a2 b2) (wF a2 b2))

def eF (ib : FVec Ideal S1x1 .f32) (s cc : FVec Ideal S1024x1024 .f32) : FVec Ideal S1024x1 .f32 :=
  shapeCast S1024x1 (multiReduction .add [1] S1024
    (mulf (mulf cc (mulf (mulf (divf (broadcastTo S1024x1024 ib broadcasts_S1x1_S1024x1024) s) (divf (broadcastTo S1024x1024 ib broadcasts_S1x1_S1024x1024) s))
      (mulf (divf (broadcastTo S1024x1024 ib broadcasts_S1x1_S1024x1024) s) (divf (broadcastTo S1024x1024 ib broadcasts_S1x1_S1024x1024) s)))) s)
    0x00000000#32 reduces_S1024x1024_S1024 (.inl rfl) rfl) shapeCasts_S1024_S1024x1

def ccF (p : FVec Ideal S1024x20 .f32) (q : FVec Ideal S20x1024 .f32) : FVec Ideal S1024x1024 .f32 :=
  matmul dot_S1024x20_S20x1024_S1024x1024_1_0_0_1_n_n none p q (constant (F := Ideal) S1024x1024 .f32 0x00000000#32)

theorem wF_apply (a : FVec Ideal S1024x1 .f32) (b : FVec Ideal S1x1024 .f32) (r c : Fin 1024) :
    wF a b (ix2 r c) = (a (ix2 r 0) - b (ix2 0 c)) - Ideal.liftRound Ideal.roundHalfEven (a (ix2 r 0) - b (ix2 0 c)) := by
  unfold wF
  pointwise

theorem s2F_real (a0 a1 a2 : FVec Ideal S1024x1 .f32) (b0 b1 b2 : FVec Ideal S1x1024 .f32) (r c : Fin 1024) (p q : Fin 3 → ℝ)
    (h0 : a0 (ix2 r 0) = (p 0 : ℝ)) (h1 : a1 (ix2 r 0) = (p 1 : ℝ)) (h2 : a2 (ix2 r 0) = (p 2 : ℝ))
    (g0 : b0 (ix2 0 c) = (q 0 : ℝ)) (g1 : b1 (ix2 0 c) = (q 1 : ℝ)) (g2 : b2 (ix2 0 c) = (q 2 : ℝ)) :
    s2F a0 a1 a2 b0 b1 b2 (ix2 r c) = ((sq2 p q : ℝ) : EReal) := by
  have e : s2F a0 a1 a2 b0 b1 b2 (ix2 r c) = (0 : EReal) + wF a0 b0 (ix2 r c) * wF a0 b0 (ix2 r c) + wF a1 b1 (ix2 r c) * wF a1 b1 (ix2 r c)
      + wF a2 b2 (ix2 r c) * wF a2 b2 (ix2 r c) := by
    unfold s2F
    pointwise
  rw [e, wF_apply, wF_apply, wF_apply, h0, h1, h2, g0, g1, g2]
  simp only [← EReal.coe_sub, Ideal.liftRound_coe, ← EReal.coe_mul, ← EReal.coe_add, zero_add]
  rfl

theorem eF_apply (ib : FVec Ideal S1x1 .f32) (s cc : FVec Ideal S1024x1024 .f32) (r : Fin 1024) :
    eF ib s cc (ix2 r 0) = ∑ c : Fin 1024, pairE (ib (ix2 0 0)) (s (ix2 r c)) (cc (ix2 r c)) := by
  unfold eF
  pointwise
  rfl

theorem ccF_apply (p : FVec Ideal S1024x20 .f32) (q : FVec Ideal S20x1024 .f32) (r c : Fin 1024) :
    ccF p q (ix2 r c) = ∑ k : Fin 20, p (ix2 r k) * q (ix2 k c) := by
  unfold ccF
  pointwise

/-! The masks at an index. -/

theorem toInt_diff (r c : ℕ) (hr : r < 1024) (hc : c < 1024) :
    (BitVec.ofNat 32 c - BitVec.ofNat 32 r).toInt = (c : ℤ) - r := by
  rw [BitVec.toInt_sub, BitVec.toInt_ofNat', BitVec.toInt_ofNat']
  simp only [Int.bmod_def]
  omega

theorem select_of_iff {P : Prop} [Decidable P] {q : Bool} (h : q = true ↔ P) (a b : EReal) :
    Scalar.select (BitVec.ofBool q) a b = if P then a else b := by
  cases q
  · rw [if_neg (fun hp => Bool.noConfusion (h.mpr hp))]; rfl
  · rw [if_pos (h.mp rfl)]; rfl

theorem mask_top : Named.named (F := Ideal) (φ := .f32) κ "mask" 1900671690#32 = (⊤ : EReal) :=
  IdealRules.named_const.ideal_named_scalar _ _ _ _ rfl

theorem ofBits_neg_one : Ideal.ofBits FTy.f32 3212836864#32 = (-1 : EReal) := by
  have h : Ideal.ofBits FTy.f32 3212836864#32 = ((-(1 : ℝ) : ℝ) : EReal) := by
    simp [Ideal.ofBits, Ideal.ieee, -EReal.coe_mul, -EReal.coe_neg]; norm_num
  rw [h, EReal.coe_neg, EReal.coe_one]

theorem ofBits_half : Ideal.ofBits FTy.f32 0x3F000000#32 = ((1 / 2 : ℝ) : EReal) := by
  simp [Ideal.ofBits, Ideal.ieee, -EReal.coe_mul, -EReal.coe_neg]; norm_num

theorem diag_mask (r c : Fin 512) : k0_pay140 (F := Ideal) (ix2 r c) = if c.val ≤ r.val + 1 ∧ r.val ≤ c.val + 1 then ⊤ else 0 := by
  unfold k0_pay140 k0_pay139
  pointwise
  rw [mask_top]
  refine select_of_iff ?_ _ _
  have hd := toInt_diff r.val c.val (by omega) (by omega)
  have ho : (1#32 : BitVec 32).toInt = 1 := by decide
  simp only [BitVec.sle, IntOp.absi, IntOp.subi, decide_eq_true_eq, ho, BitVec.msb_eq_toInt, hd]
  split
  · rw [BitVec.toInt_neg, hd]
    simp only [Int.bmod_def]
    omega
  · rw [hd]
    omega

theorem sign_mask (r c : Fin 512) : k0_pay141 (F := Ideal) (ix2 r c) = if r.val < c.val then 1 else -1 := by
  unfold k0_pay141 k0_pay139
  pointwise
  rw [ofBits_neg_one]
  refine select_of_iff ?_ _ _
  have hd := toInt_diff r.val c.val (by omega) (by omega)
  have ho : (0#32 : BitVec 32).toInt = 0 := by decide
  simp only [BitVec.slt, IntOp.subi, decide_eq_true_eq, ho, hd]
  omega

theorem corner_maskH (r c : Fin 512) : k0_pay142 (F := Ideal) (ix2 r c) = if c.val + 511 = r.val then ⊤ else 0 := by
  unfold k0_pay142 k0_pay139
  pointwise
  rw [mask_top]
  refine select_of_iff ?_ _ _
  have hd := toInt_diff r.val c.val (by omega) (by omega)
  have ho : (4294966785#32 : BitVec 32).toInt = -511 := by decide
  simp only [beq_iff_eq, ← BitVec.toInt_inj, IntOp.subi, ho, hd]
  omega

theorem corner_maskF (r c : Fin 1024) : k0_pay143 (F := Ideal) (ix2 r c) = if c.val + 1023 = r.val then ⊤ else 0 := by
  unfold k0_pay143
  pointwise
  rw [mask_top]
  refine select_of_iff ?_ _ _
  have hd := toInt_diff r.val c.val (by omega) (by omega)
  have ho : (4294966273#32 : BitVec 32).toInt = -1023 := by decide
  simp only [beq_iff_eq, ← BitVec.toInt_inj, IntOp.subi, ho, hd]
  omega

/-! One pair, over the reals. -/

/-- A masked pair contributes nothing. -/
theorem pairE_masked (ib cc s : ℝ) : pairE (ib : EReal) ((s : EReal) + ⊤) (cc : EReal) = 0 := by
  have h : Ideal.div (ib : EReal) ⊤ = 0 := by
    unfold Ideal.div
    rw [if_neg (by simp)]
    simp
  unfold pairE
  rw [EReal.coe_add_top, h]
  simp

/-- The energy of a pair over the reals, up to the factor `b²`. -/
def pairR (ib s cc : ℝ) : ℝ := cc * (ib * (1 / s) * (ib * (1 / s)) * (ib * (1 / s) * (ib * (1 / s)))) * s

theorem pairE_real (ib cc s : ℝ) (hs : s ≠ 0) : pairE (ib : EReal) (s : EReal) (cc : EReal) = ((pairR ib s cc : ℝ) : EReal) := by
  unfold pairE pairR
  rw [Ideal.div_coe hs]
  simp only [← EReal.coe_mul]

end Cert.Proof.Energy

end
-- ==== Proof.Rows.lean ====
/-
  The rows of one grid point: the sums over the blocks to the right, as sums over the reals. `H` is the energy of a
  pair at least two apart in the chain, and zero for any other.
-/
module

public import proofs.«01_k».proof.Proof.Block

@[expose] public section

set_option maxRecDepth 16384

noncomputable section

namespace Cert.Proof.Energy

open Cert.KernelIdeal Cert.KernelIdeal.Gen
open Idealize.ShloMosaic

theorem roundHalfEven_neg (d : ℝ) : Ideal.roundHalfEven (-d) = -Ideal.roundHalfEven d := by
  unfold Ideal.roundHalfEven
  have h0 := Int.floor_le d
  have h1 := Int.lt_floor_add_one d
  by_cases hz : d = ⌊d⌋
  · have e : ⌊-d⌋ = -⌊d⌋ := by
      rw [Int.floor_eq_iff]; push_cast; constructor <;> linarith
    rw [e]
    have a : -d - ((-⌊d⌋ : ℤ) : ℝ) < 1 / 2 := by push_cast; linarith
    have b : d - (⌊d⌋ : ℝ) < 1 / 2 := by linarith
    simp only [a, b, if_true]
  · have hlt : (⌊d⌋ : ℝ) < d := lt_of_le_of_ne h0 (Ne.symm hz)
    have e : ⌊-d⌋ = -⌊d⌋ - 1 := by
      rw [Int.floor_eq_iff]; push_cast; constructor <;> linarith
    rw [e]
    rcases lt_trichotomy (d - (⌊d⌋ : ℝ)) (1 / 2) with h | h | h
    · have a : ¬ (-d - ((-⌊d⌋ - 1 : ℤ) : ℝ) < 1 / 2) := by push_cast; linarith
      have b : 1 / 2 < -d - ((-⌊d⌋ - 1 : ℤ) : ℝ) := by push_cast; linarith
      simp only [a, b, h, if_true, if_false]; ring
    · have a : ¬ (-d - ((-⌊d⌋ - 1 : ℤ) : ℝ) < 1 / 2) := by push_cast; linarith
      have b : ¬ (1 / 2 < -d - ((-⌊d⌋ - 1 : ℤ) : ℝ)) := by push_cast; linarith
      have a' : ¬ (d - (⌊d⌋ : ℝ) < 1 / 2) := by linarith
      have b' : ¬ (1 / 2 < d - (⌊d⌋ : ℝ)) := by linarith
      simp only [a, b, a', b', if_false]
      by_cases hp : Even ⌊d⌋
      · have hq : ¬ Even (-⌊d⌋ - 1) := by
          rw [Int.not_even_iff_odd]; exact (hp.neg).sub_odd odd_one
        simp only [hp, hq, if_true, if_false]; ring
      · have hq : Even (-⌊d⌋ - 1) := by
          rw [Int.not_even_iff_odd] at hp; exact (hp.neg).sub_odd odd_one
        simp only [hp, hq, if_true, if_false]; ring
    · have a : -d - ((-⌊d⌋ - 1 : ℤ) : ℝ) < 1 / 2 := by push_cast; linarith
      have a' : ¬ (d - (⌊d⌋ : ℝ) < 1 / 2) := by linarith
      simp only [a, a', h, if_true, if_false]; ring

theorem wr_neg (d : ℝ) : wr (-d) = -wr d := by
  unfold wr
  rw [roundHalfEven_neg]
  push_cast
  ring

theorem sq2_comm (p q : Fin 3 → ℝ) : sq2 p q = sq2 q p := by
  unfold sq2
  rw [← neg_sub (q 0), ← neg_sub (q 1), ← neg_sub (q 2), wr_neg, wr_neg, wr_neg]
  ring

/-- Positions in units of the box, types, coefficients, and `1 / b²`. -/
structure Sys where
  U : ℕ → Fin 3 → ℝ
  T : ℕ → Fin 20
  C : Fin 20 → Fin 20 → ℝ
  ib : ℝ
  sep : ∀ r c, r + 2 ≤ c → c < 4096 → sq2 (U r) (U c) ≠ 0

variable (S : Sys)

/-- The energy of the pair `r`, `c`, up to the factor `b²`. -/
def Sys.H (r c : ℕ) : ℝ := if r + 2 ≤ c then pairR S.ib (sq2 (S.U r) (S.U c)) (S.C (S.T r) (S.T c)) else 0

theorem coe_sum {n : ℕ} (f : Fin n → ℝ) : (∑ c, ((f c : ℝ) : EReal)) = ((∑ c, f c : ℝ) : EReal) := by
  induction n with
  | zero => simp
  | succ n ih => rw [Fin.sum_univ_succ, Fin.sum_univ_succ, ih, EReal.coe_add]

/-- A half block on the diagonal, rows and columns from `R`. -/
theorem diag_real (R : ℕ) (hR : R + 512 ≤ 4096) (ib : FVec Ideal S1x1 .f32) (s cs ca : FVec Ideal S512x512 .f32)
    (hib : ib (ix2 0 0) = (S.ib : ℝ))
    (hs : ∀ r c : Fin 512, s (ix2 r c) = ((sq2 (S.U (R + r)) (S.U (R + c)) : ℝ) : EReal))
    (hcs : ∀ r c : Fin 512, cs (ix2 r c) = (((1 / 2) * (S.C (S.T (R + r)) (S.T (R + c)) + S.C (S.T (R + c)) (S.T (R + r))) : ℝ) : EReal))
    (hca : ∀ r c : Fin 512, ca (ix2 r c) = (((1 / 2) * (S.C (S.T (R + r)) (S.T (R + c)) - S.C (S.T (R + c)) (S.T (R + r))) : ℝ) : EReal))
    (r : Fin 512) :
    mulf (eH ib (addf s (k0_pay140 (F := Ideal))) (addf cs (mulf (k0_pay141 (F := Ideal)) ca)))
        (broadcast S512x1 (Scalar.ofBits (F := Ideal) .f32 0x3F000000#32)) (ix2 r 0)
      = (((∑ c : Fin 512, (S.H (R + r) (R + c) + S.H (R + c) (R + r))) * (1 / 2) : ℝ) : EReal) := by
  show eH ib _ _ (ix2 r 0) * Ideal.ofBits FTy.f32 0x3F000000#32 = _
  rw [eH_apply, ofBits_half, EReal.coe_mul, ← coe_sum]
  congr 1
  refine Finset.sum_congr rfl fun c _ => ?_
  show pairE (ib (ix2 0 0)) (s (ix2 r c) + k0_pay140 (F := Ideal) (ix2 r c)) (cs (ix2 r c) + k0_pay141 (F := Ideal) (ix2 r c) * ca (ix2 r c)) = _
  rw [hib, hs, hcs, hca, diag_mask, sign_mask]
  by_cases h1 : c.val ≤ r.val + 1 ∧ r.val ≤ c.val + 1
  · rw [if_pos h1]
    have e : ∃ x : ℝ, ((((1 / 2) * (S.C (S.T (R + r)) (S.T (R + c)) + S.C (S.T (R + c)) (S.T (R + r))) : ℝ) : EReal)
        + (if r.val < c.val then 1 else -1) * (((1 / 2) * (S.C (S.T (R + r)) (S.T (R + c)) - S.C (S.T (R + c)) (S.T (R + r))) : ℝ) : EReal)) = (x : EReal) := by
      split
      · rw [one_mul, ← EReal.coe_add]; exact ⟨_, rfl⟩
      · rw [← EReal.coe_one, ← EReal.coe_neg, ← EReal.coe_mul, ← EReal.coe_add]; exact ⟨_, rfl⟩
    obtain ⟨x, hx⟩ := e
    rw [hx, pairE_masked]
    unfold Sys.H
    rw [if_neg (by omega), if_neg (by omega), add_zero, EReal.coe_zero]
  · rw [if_neg h1, add_zero]
    by_cases h2 : r.val < c.val
    · rw [if_pos h2, one_mul, ← EReal.coe_add, pairE_real _ _ _ (S.sep _ _ (by omega) (by omega))]
      unfold Sys.H
      rw [if_pos (by omega), if_neg (by omega), add_zero]
      congr 2; ring
    · rw [if_neg h2, ← EReal.coe_one, ← EReal.coe_neg, ← EReal.coe_mul, ← EReal.coe_add, sq2_comm,
        pairE_real _ _ _ (S.sep _ _ (by omega) (by omega))]
      unfold Sys.H
      rw [if_neg (by omega), if_pos (by omega), zero_add]
      congr 2; ring

/-- The half block to the right of the diagonal, rows from `R`. -/
theorem cornerH_real (R : ℕ) (hR : R + 1024 ≤ 4096) (ib : FVec Ideal S1x1 .f32) (s cc : FVec Ideal S512x512 .f32)
    (hib : ib (ix2 0 0) = (S.ib : ℝ))
    (hs : ∀ r c : Fin 512, s (ix2 r c) = ((sq2 (S.U (R + r)) (S.U (R + 512 + c)) : ℝ) : EReal))
    (hcc : ∀ r c : Fin 512, cc (ix2 r c) = ((S.C (S.T (R + r)) (S.T (R + 512 + c)) : ℝ) : EReal))
    (r : Fin 512) :
    eH ib (addf s (k0_pay142 (F := Ideal))) cc (ix2 r 0) = ((∑ c : Fin 512, S.H (R + r) (R + 512 + c) : ℝ) : EReal) := by
  rw [eH_apply, ← coe_sum]
  refine Finset.sum_congr rfl fun c _ => ?_
  show pairE (ib (ix2 0 0)) (s (ix2 r c) + k0_pay142 (F := Ideal) (ix2 r c)) (cc (ix2 r c)) = _
  rw [hib, hs, hcc, corner_maskH]
  by_cases h1 : c.val + 511 = r.val
  · rw [if_pos h1, pairE_masked]
    unfold Sys.H
    rw [if_neg (by omega), EReal.coe_zero]
  · rw [if_neg h1, add_zero, pairE_real _ _ _ (S.sep _ _ (by omega) (by omega))]
    unfold Sys.H
    rw [if_pos (by omega)]

/-- The block to the right of the diagonal's, rows from `R`. -/
theorem cornerF_real (R : ℕ) (hR : R + 2048 ≤ 4096) (ib : FVec Ideal S1x1 .f32) (s cc : FVec Ideal S1024x1024 .f32)
    (hib : ib (ix2 0 0) = (S.ib : ℝ))
    (hs : ∀ r c : Fin 1024, s (ix2 r c) = ((sq2 (S.U (R + r)) (S.U (R + 1024 + c)) : ℝ) : EReal))
    (hcc : ∀ r c : Fin 1024, cc (ix2 r c) = ((S.C (S.T (R + r)) (S.T (R + 1024 + c)) : ℝ) : EReal))
    (r : Fin 1024) :
    eF ib (addf s (k0_pay143 (F := Ideal))) cc (ix2 r 0) = ((∑ c : Fin 1024, S.H (R + r) (R + 1024 + c) : ℝ) : EReal) := by
  rw [eF_apply, ← coe_sum]
  refine Finset.sum_congr rfl fun c _ => ?_
  show pairE (ib (ix2 0 0)) (s (ix2 r c) + k0_pay143 (F := Ideal) (ix2 r c)) (cc (ix2 r c)) = _
  rw [hib, hs, hcc, corner_maskF]
  by_cases h1 : c.val + 1023 = r.val
  · rw [if_pos h1, pairE_masked]
    unfold Sys.H
    rw [if_neg (by omega), EReal.coe_zero]
  · rw [if_neg h1, add_zero, pairE_real _ _ _ (S.sep _ _ (by omega) (by omega))]
    unfold Sys.H
    rw [if_pos (by omega)]

/-- A block further to the right, rows from `R`, columns from `Q`. -/
theorem full_real (R Q : ℕ) (hR : R + 2048 ≤ Q) (hQ : Q + 1024 ≤ 4096) (ib : FVec Ideal S1x1 .f32) (s cc : FVec Ideal S1024x1024 .f32)
    (hib : ib (ix2 0 0) = (S.ib : ℝ))
    (hs : ∀ r c : Fin 1024, s (ix2 r c) = ((sq2 (S.U (R + r)) (S.U (Q + c)) : ℝ) : EReal))
    (hcc : ∀ r c : Fin 1024, cc (ix2 r c) = ((S.C (S.T (R + r)) (S.T (Q + c)) : ℝ) : EReal))
    (r : Fin 1024) :
    eF ib s cc (ix2 r 0) = ((∑ c : Fin 1024, S.H (R + r) (Q + c) : ℝ) : EReal) := by
  rw [eF_apply, ← coe_sum]
  refine Finset.sum_congr rfl fun c _ => ?_
  rw [hib, hs, hcc, pairE_real _ _ _ (S.sep _ _ (by omega) (by omega))]
  unfold Sys.H
  rw [if_pos (by omega)]

/-! The coefficients by one-hot products. -/

def pB (o : FVec Ideal S1024x20 .f32) (b : FVec Ideal S20x20 .f32) : FVec Ideal S1024x20 .f32 :=
  matmul dot_S1024x20_S20x20_S1024x20_1_0_0_1_n_n none o b (constant (F := Ideal) S1024x20 .f32 0x00000000#32)

theorem pB_apply (o : FVec Ideal S1024x20 .f32) (b : FVec Ideal S20x20 .f32) (r : Fin 1024) (k t : Fin 20)
    (ho : ∀ l : Fin 20, o (ix2 r l) = if l = t then 1 else 0) : pB o b (ix2 r k) = b (ix2 t k) := by
  have e : pB o b (ix2 r k) = ∑ l : Fin 20, o (ix2 r l) * b (ix2 l k) := by
    unfold pB
    pointwise
  rw [e]
  simp only [ho, ite_mul, one_mul, zero_mul, Finset.sum_ite_eq', Finset.mem_univ, if_true]

theorem ccH_hot (o : ℕ) (h : S1024x20.Slices (![o, 0] : Fin 2 → ℕ) S512x20) (ho : o + 512 ≤ 1024) (p : FVec Ideal S1024x20 .f32)
    (q : FVec Ideal S20x512 .f32) (r c : Fin 512) (t : Fin 20) (hq : ∀ k : Fin 20, q (ix2 k c) = if k = t then 1 else 0) :
    ccH o h p q (ix2 r c) = p (ix2 ⟨o + r.val, by omega⟩ t) := by
  rw [ccH_apply o h p q r c ho]
  simp only [hq, mul_ite, mul_one, mul_zero, Finset.sum_ite_eq', Finset.mem_univ, if_true]

theorem ccF_hot (p : FVec Ideal S1024x20 .f32) (q : FVec Ideal S20x1024 .f32) (r c : Fin 1024) (t : Fin 20)
    (hq : ∀ k : Fin 20, q (ix2 k c) = if k = t then 1 else 0) : ccF p q (ix2 r c) = p (ix2 r t) := by
  rw [ccF_apply]
  simp only [hq, mul_ite, mul_one, mul_zero, Finset.sum_ite_eq', Finset.mem_univ, if_true]

/-! The two halves put together, and the energy's running sum. -/

def joinOp (a b c : FVec Ideal S512x1 .f32) : FVec Ideal S1024x1 .f32 :=
  concatenate S1024x1 0 [⟨S512x1, addf a b⟩, ⟨S512x1, c⟩] concatenates_S512x1_S512x1_S1024x1_d0

theorem joinOp_apply (a b c : FVec Ideal S512x1 .f32) (r : Fin 1024) :
    joinOp a b c (ix2 r 0) = if h : r.val < 512 then a (ix2 ⟨r.val, h⟩ 0) + b (ix2 ⟨r.val, h⟩ 0) else c (ix2 ⟨r.val - 512, by omega⟩ 0) := by
  unfold joinOp
  pointwise

def potOp (b0 x13 : FVec Ideal S1x1 .f32) (p : FVec Ideal S1024x1 .f32) : FVec Ideal S1x1 .f32 :=
  addf x13 (mulf (broadcast S1x1 (extractAt ![0, 0, 0] (shapeCast S1x1x1 (multiReduction .add [1, 2] S1
    (shapeCast S1x1024x1 p shapeCasts_S1024x1_S1x1024x1) 0x00000000#32 reduces_S1x1024x1_S1 (.inl rfl) rfl) shapeCasts_S1_S1x1x1) inpos_S1x1x1_p0_0_0)) (mulf b0 b0))

theorem potOp_apply (b0 x13 : FVec Ideal S1x1 .f32) (p : FVec Ideal S1024x1 .f32) :
    potOp b0 x13 p (ix2 0 0) = x13 (ix2 0 0) + (∑ r : Fin 1024, p (ix2 r 0)) * (b0 (ix2 0 0) * b0 (ix2 0 0)) := by
  unfold potOp
  pointwise
  simp only [Finset.univ_unique, Finset.sum_singleton]

end Cert.Proof.Energy

end
-- ==== Proof.Bonded.lean ====
/-
  The bonded terms, as the kernel's first grid point computes them: the bonds' wrapped vectors, the bond energies and
  the dihedral energies, each read at an index.
-/
module

public import proofs.«01_k».proof.Proof.Rows

@[expose] public section

set_option maxRecDepth 16384

noncomputable section

namespace Cert.Proof.Energy

open Cert.KernelIdeal Cert.KernelIdeal.Gen
open Idealize.ShloMosaic

/-! Vectors of three reals. -/

def crossR (a b : Fin 3 → ℝ) : Fin 3 → ℝ := ![a 1 * b 2 - a 2 * b 1, a 2 * b 0 - a 0 * b 2, a 0 * b 1 - a 1 * b 0]
def dotR (a b : Fin 3 → ℝ) : ℝ := a 0 * b 0 + a 1 * b 1 + a 2 * b 2
/-- The cosine and sine of the dihedral of three consecutive bond vectors. -/
def cosR (p q r : Fin 3 → ℝ) : ℝ :=
  dotR (crossR p q) (crossR q r) * (1 / √(dotR (crossR q r) (crossR q r))) * (1 / √(dotR (crossR p q) (crossR p q)))
def sinR (p q r : Fin 3 → ℝ) : ℝ :=
  dotR (crossR q (crossR p q)) (crossR q r) * (1 / √(dotR (crossR q r) (crossR q r))) * (1 / √(dotR (crossR q (crossR p q)) (crossR q (crossR p q))))

theorem dotR_self_nonneg (a : Fin 3 → ℝ) : 0 ≤ dotR a a := by
  unfold dotR; nlinarith [mul_self_nonneg (a 0), mul_self_nonneg (a 1), mul_self_nonneg (a 2)]

theorem sqrt_dot (a : Fin 3 → ℝ) : Ideal.sqrt ((dotR a a : ℝ) : EReal) = ((√(dotR a a) : ℝ) : EReal) := by
  rw [Ideal.sqrt_coe, if_neg (not_lt.mpr (dotR_self_nonneg a))]

theorem dotC (p q : Fin 3 → ℝ) : dotR (crossR q (crossR p q)) (crossR q (crossR p q)) = dotR q q * dotR (crossR p q) (crossR p q) := by
  simp only [dotR, crossR, Matrix.cons_val_zero, Matrix.cons_val_one, Matrix.cons_val]
  ring

theorem dotC_ne (p q : Fin 3 → ℝ) (h : dotR (crossR p q) (crossR p q) ≠ 0) : dotR (crossR q (crossR p q)) (crossR q (crossR p q)) ≠ 0 := by
  rw [dotC]
  refine mul_ne_zero (fun hq => h ?_) h
  unfold dotR at hq
  have h0 : q 0 = 0 := by nlinarith [mul_self_nonneg (q 0), mul_self_nonneg (q 1), mul_self_nonneg (q 2)]
  have h1 : q 1 = 0 := by nlinarith [mul_self_nonneg (q 0), mul_self_nonneg (q 1), mul_self_nonneg (q 2)]
  have h2 : q 2 = 0 := by nlinarith [mul_self_nonneg (q 0), mul_self_nonneg (q 1), mul_self_nonneg (q 2)]
  simp [dotR, crossR, h0, h1, h2]

theorem sqrt_ne {x : ℝ} (h : 0 ≤ x) (hx : x ≠ 0) : √x ≠ 0 := (Real.sqrt_pos.mpr (lt_of_le_of_ne h (Ne.symm hx))).ne'

/-! The kernel's operations. -/

def bvOp (p q : FVec Ideal S1x4095 .f32) (b : FVec Ideal S1x1 .f32) : FVec Ideal S1x4095 .f32 :=
  mulf (subf (subf p q) (roundeven (subf p q))) (broadcastTo S1x4095 b broadcasts_S1x1_S1x4095)

def bondOp (b0 b1 b2 k0 d0 : FVec Ideal S1x4095 .f32) : FVec Ideal S1x4095 .f32 :=
  mulf (mulf k0 (subf (sqrt (addf (addf (mulf b0 b0) (mulf b1 b1)) (mulf b2 b2))) d0))
    (subf (sqrt (addf (addf (mulf b0 b0) (mulf b1 b1)) (mulf b2 b2))) d0)

abbrev V93 := FVec Ideal S1x4093 .f32
def crs (a b c d : V93) : V93 := subf (mulf a b) (mulf c d)
def dt3 (a0 a1 a2 b0 b1 b2 : V93) : V93 := addf (addf (mulf a0 b0) (mulf a1 b1)) (mulf a2 b2)

def angOp (a0 a1 a2 b0 b1 b2 c0 c1 c2 : V93) : V93 :=
  subf (broadcast S1x4093 (Scalar.ofBits (F := Ideal) .f32 0x00000000#32))
    (atan2 (divf (mulf (dt3 c0 c1 c2 b0 b1 b2) (divf (broadcast S1x4093 (Scalar.ofBits (F := Ideal) .f32 0x3F800000#32)) (sqrt (dt3 b0 b1 b2 b0 b1 b2)))) (sqrt (dt3 c0 c1 c2 c0 c1 c2)))
      (divf (mulf (dt3 a0 a1 a2 b0 b1 b2) (divf (broadcast S1x4093 (Scalar.ofBits (F := Ideal) .f32 0x3F800000#32)) (sqrt (dt3 b0 b1 b2 b0 b1 b2)))) (sqrt (dt3 a0 a1 a2 a0 a1 a2))))

def phiOp (p0 p1 p2 q0 q1 q2 r0 r1 r2 : V93) : V93 :=
  angOp (crs p1 q2 p2 q1) (crs p2 q0 p0 q2) (crs p0 q1 p1 q0) (crs q1 r2 q2 r1) (crs q2 r0 q0 r2) (crs q0 r1 q1 r0)
    (crs q1 (crs p0 q1 p1 q0) q2 (crs p2 q0 p0 q2)) (crs q2 (crs p1 q2 p2 q1) q0 (crs p0 q1 p1 q0)) (crs q0 (crs p2 q0 p0 q2) q1 (crs p1 q2 p2 q1))

def torOp (phi k0 phi0 per : V93) : V93 :=
  mulf k0 (addf (broadcast S1x4093 (Scalar.ofBits (F := Ideal) .f32 0x3F800000#32)) (cos (subf (mulf per phi) phi0)))

def dihOp (b0 b1 b2 : FVec Ideal S1x4095 .f32) (k0 phi0 per : V93) : V93 :=
  torOp (phiOp (extractStridedSlice S1x4093 ![0, 0] b0 slices_S1x4095_o0_0_S1x4093) (extractStridedSlice S1x4093 ![0, 0] b1 slices_S1x4095_o0_0_S1x4093)
    (extractStridedSlice S1x4093 ![0, 0] b2 slices_S1x4095_o0_0_S1x4093) (extractStridedSlice S1x4093 ![0, 1] b0 slices_S1x4095_o0_1_S1x4093)
    (extractStridedSlice S1x4093 ![0, 1] b1 slices_S1x4095_o0_1_S1x4093) (extractStridedSlice S1x4093 ![0, 1] b2 slices_S1x4095_o0_1_S1x4093)
    (extractStridedSlice S1x4093 ![0, 2] b0 slices_S1x4095_o0_2_S1x4093) (extractStridedSlice S1x4093 ![0, 2] b1 slices_S1x4095_o0_2_S1x4093)
    (extractStridedSlice S1x4093 ![0, 2] b2 slices_S1x4095_o0_2_S1x4093)) k0 phi0 per

def bondedOp (e : FVec Ideal S1x4095 .f32) (t : V93) : FVec Ideal S1x1 .f32 :=
  broadcast S1x1 (Scalar.addf
    (extractAt ![0, 0, 0] (shapeCast S1x1x1 (multiReduction .add [1, 2] S1 (shapeCast S1x1x4095 e shapeCasts_S1x4095_S1x1x4095) 0x00000000#32 reduces_S1x1x4095_S1 (.inl rfl) rfl) shapeCasts_S1_S1x1x1) inpos_S1x1x1_p0_0_0)
    (extractAt ![0, 0, 0] (shapeCast S1x1x1 (multiReduction .add [1, 2] S1 (shapeCast S1x1x4093 t shapeCasts_S1x4093_S1x1x4093) 0x00000000#32 reduces_S1x1x4093_S1 (.inl rfl) rfl) shapeCasts_S1_S1x1x1) inpos_S1x1x1_p0_0_0))

theorem bondedOp_apply (e : FVec Ideal S1x4095 .f32) (t : V93) :
    bondedOp e t (ix2 0 0) = (∑ j : Fin 4095, e (ix2 0 j)) + ∑ j : Fin 4093, t (ix2 0 j) := by
  unfold bondedOp
  pointwise
  simp only [Finset.univ_unique, Finset.sum_singleton]

theorem bvOp_real (p q : FVec Ideal S1x4095 .f32) (b : FVec Ideal S1x1 .f32) (j : Fin 4095) (x y L : ℝ)
    (hp : p (ix2 0 j) = (x : EReal)) (hq : q (ix2 0 j) = (y : EReal)) (hb : b (ix2 0 0) = (L : EReal)) :
    bvOp p q b (ix2 0 j) = ((wr (x - y) * L : ℝ) : EReal) := by
  have e : bvOp p q b (ix2 0 j) = ((p (ix2 0 j) - q (ix2 0 j)) - Ideal.liftRound Ideal.roundHalfEven (p (ix2 0 j) - q (ix2 0 j))) * b (ix2 0 0) := by
    unfold bvOp
    pointwise
  rw [e, hp, hq, hb]
  simp only [← EReal.coe_sub, Ideal.liftRound_coe, ← EReal.coe_mul]
  rfl

/-- A bond's energy, from its vector. -/
def bondE (v : Fin 3 → ℝ) (k0 d0 : EReal) : EReal := k0 * ((((√(dotR v v) : ℝ) : EReal) - d0) * (((√(dotR v v) : ℝ) : EReal) - d0))

theorem bondOp_real (b0 b1 b2 k0 d0 : FVec Ideal S1x4095 .f32) (j : Fin 4095) (v : Fin 3 → ℝ)
    (h0 : b0 (ix2 0 j) = (v 0 : ℝ)) (h1 : b1 (ix2 0 j) = (v 1 : ℝ)) (h2 : b2 (ix2 0 j) = (v 2 : ℝ)) :
    bondOp b0 b1 b2 k0 d0 (ix2 0 j) = bondE v (k0 (ix2 0 j)) (d0 (ix2 0 j)) := by
  have e : bondOp b0 b1 b2 k0 d0 (ix2 0 j) = k0 (ix2 0 j) * (Ideal.sqrt (b0 (ix2 0 j) * b0 (ix2 0 j) + b1 (ix2 0 j) * b1 (ix2 0 j) + b2 (ix2 0 j) * b2 (ix2 0 j)) - d0 (ix2 0 j))
      * (Ideal.sqrt (b0 (ix2 0 j) * b0 (ix2 0 j) + b1 (ix2 0 j) * b1 (ix2 0 j) + b2 (ix2 0 j) * b2 (ix2 0 j)) - d0 (ix2 0 j)) := by
    unfold bondOp
    pointwise
  rw [e, h0, h1, h2]
  simp only [← EReal.coe_mul, ← EReal.coe_add]
  rw [show v 0 * v 0 + v 1 * v 1 + v 2 * v 2 = dotR v v from rfl, sqrt_dot, mul_assoc]
  rfl

/-- A dihedral's energy, from its three bond vectors. -/
def dihE (p q r : Fin 3 → ℝ) (k0 phi0 per : EReal) : EReal :=
  k0 * (1 + Ideal.cos (per * -Ideal.atan2 ((sinR p q r : ℝ) : EReal) ((cosR p q r : ℝ) : EReal) - phi0))

theorem crs_real (a b c d : V93) (j : Fin 4093) (x y z w : ℝ) (ha : a (ix2 0 j) = (x : EReal)) (hb : b (ix2 0 j) = (y : EReal))
    (hc : c (ix2 0 j) = (z : EReal)) (hd : d (ix2 0 j) = (w : EReal)) : crs a b c d (ix2 0 j) = ((x * y - z * w : ℝ) : EReal) := by
  show a (ix2 0 j) * b (ix2 0 j) - c (ix2 0 j) * d (ix2 0 j) = _
  rw [ha, hb, hc, hd]
  simp only [← EReal.coe_mul, ← EReal.coe_sub]

theorem dt3_real (a0 a1 a2 b0 b1 b2 : V93) (j : Fin 4093) (a b : Fin 3 → ℝ) (ha0 : a0 (ix2 0 j) = (a 0 : ℝ)) (ha1 : a1 (ix2 0 j) = (a 1 : ℝ))
    (ha2 : a2 (ix2 0 j) = (a 2 : ℝ)) (hb0 : b0 (ix2 0 j) = (b 0 : ℝ)) (hb1 : b1 (ix2 0 j) = (b 1 : ℝ)) (hb2 : b2 (ix2 0 j) = (b 2 : ℝ)) :
    dt3 a0 a1 a2 b0 b1 b2 (ix2 0 j) = ((dotR a b : ℝ) : EReal) := by
  show a0 (ix2 0 j) * b0 (ix2 0 j) + a1 (ix2 0 j) * b1 (ix2 0 j) + a2 (ix2 0 j) * b2 (ix2 0 j) = _
  rw [ha0, ha1, ha2, hb0, hb1, hb2]
  simp only [← EReal.coe_mul, ← EReal.coe_add]
  rfl

theorem angOp_real (a0 a1 a2 b0 b1 b2 c0 c1 c2 : V93) (j : Fin 4093) (a b c : Fin 3 → ℝ)
    (ha0 : a0 (ix2 0 j) = (a 0 : ℝ)) (ha1 : a1 (ix2 0 j) = (a 1 : ℝ)) (ha2 : a2 (ix2 0 j) = (a 2 : ℝ))
    (hb0 : b0 (ix2 0 j) = (b 0 : ℝ)) (hb1 : b1 (ix2 0 j) = (b 1 : ℝ)) (hb2 : b2 (ix2 0 j) = (b 2 : ℝ))
    (hc0 : c0 (ix2 0 j) = (c 0 : ℝ)) (hc1 : c1 (ix2 0 j) = (c 1 : ℝ)) (hc2 : c2 (ix2 0 j) = (c 2 : ℝ))
    (na : dotR a a ≠ 0) (nb : dotR b b ≠ 0) (nc : dotR c c ≠ 0) :
    angOp a0 a1 a2 b0 b1 b2 c0 c1 c2 (ix2 0 j) =
      -Ideal.atan2 ((dotR c b * (1 / √(dotR b b)) * (1 / √(dotR c c)) : ℝ) : EReal) ((dotR a b * (1 / √(dotR b b)) * (1 / √(dotR a a)) : ℝ) : EReal) := by
  have e : angOp a0 a1 a2 b0 b1 b2 c0 c1 c2 (ix2 0 j) = 0 - Ideal.atan2
      (Ideal.div (dt3 c0 c1 c2 b0 b1 b2 (ix2 0 j) * Ideal.div 1 (Ideal.sqrt (dt3 b0 b1 b2 b0 b1 b2 (ix2 0 j)))) (Ideal.sqrt (dt3 c0 c1 c2 c0 c1 c2 (ix2 0 j))))
      (Ideal.div (dt3 a0 a1 a2 b0 b1 b2 (ix2 0 j) * Ideal.div 1 (Ideal.sqrt (dt3 b0 b1 b2 b0 b1 b2 (ix2 0 j)))) (Ideal.sqrt (dt3 a0 a1 a2 a0 a1 a2 (ix2 0 j)))) := by
    unfold angOp
    pointwise
  rw [e, dt3_real _ _ _ _ _ _ j c b hc0 hc1 hc2 hb0 hb1 hb2, dt3_real _ _ _ _ _ _ j b b hb0 hb1 hb2 hb0 hb1 hb2,
    dt3_real _ _ _ _ _ _ j c c hc0 hc1 hc2 hc0 hc1 hc2, dt3_real _ _ _ _ _ _ j a b ha0 ha1 ha2 hb0 hb1 hb2,
    dt3_real _ _ _ _ _ _ j a a ha0 ha1 ha2 ha0 ha1 ha2, sqrt_dot, sqrt_dot, sqrt_dot,
    Ideal.div_coe (sqrt_ne (dotR_self_nonneg a) na), Ideal.div_coe (sqrt_ne (dotR_self_nonneg b) nb), Ideal.div_coe (sqrt_ne (dotR_self_nonneg c) nc),
    one_mul, zero_sub]
  simp only [← EReal.coe_mul]

theorem dihOp_real (b0 b1 b2 : FVec Ideal S1x4095 .f32) (k0 phi0 per : V93) (j : Fin 4093) (v : ℕ → Fin 3 → ℝ)
    (h0 : ∀ i : Fin 4095, b0 (ix2 0 i) = (v i 0 : ℝ)) (h1 : ∀ i : Fin 4095, b1 (ix2 0 i) = (v i 1 : ℝ)) (h2 : ∀ i : Fin 4095, b2 (ix2 0 i) = (v i 2 : ℝ))
    (na : dotR (crossR (v j) (v (j + 1))) (crossR (v j) (v (j + 1))) ≠ 0)
    (nb : dotR (crossR (v (j + 1)) (v (j + 2))) (crossR (v (j + 1)) (v (j + 2))) ≠ 0) :
    dihOp b0 b1 b2 k0 phi0 per (ix2 0 j) = dihE (v j) (v (j + 1)) (v (j + 2)) (k0 (ix2 0 j)) (phi0 (ix2 0 j)) (per (ix2 0 j)) := by
  have s0 : ∀ (b : FVec Ideal S1x4095 .f32), extractStridedSlice S1x4093 ![0, 0] b slices_S1x4095_o0_0_S1x4093 (ix2 0 j) = b (ix2 0 ⟨j, by omega⟩) := fun b => by
    pointwise
  have s1 : ∀ (b : FVec Ideal S1x4095 .f32), extractStridedSlice S1x4093 ![0, 1] b slices_S1x4095_o0_1_S1x4093 (ix2 0 j) = b (ix2 0 ⟨j + 1, by omega⟩) := fun b => by
    pointwise
    congr 2; apply Fin.ext; show 1 + j.val = j.val + 1; omega
  have s2 : ∀ (b : FVec Ideal S1x4095 .f32), extractStridedSlice S1x4093 ![0, 2] b slices_S1x4095_o0_2_S1x4093 (ix2 0 j) = b (ix2 0 ⟨j + 2, by omega⟩) := fun b => by
    pointwise
    congr 2; apply Fin.ext; show 2 + j.val = j.val + 2; omega
  have p0 := (s0 b0).trans (h0 _)
  have p1 := (s0 b1).trans (h1 _)
  have p2 := (s0 b2).trans (h2 _)
  have q0 := (s1 b0).trans (h0 _)
  have q1 := (s1 b1).trans (h1 _)
  have q2 := (s1 b2).trans (h2 _)
  have r0 := (s2 b0).trans (h0 _)
  have r1 := (s2 b1).trans (h1 _)
  have r2 := (s2 b2).trans (h2 _)
  have A0 := crs_real _ _ _ _ j _ _ _ _ p1 q2 p2 q1
  have A1 := crs_real _ _ _ _ j _ _ _ _ p2 q0 p0 q2
  have A2 := crs_real _ _ _ _ j _ _ _ _ p0 q1 p1 q0
  have B0 := crs_real _ _ _ _ j _ _ _ _ q1 r2 q2 r1
  have B1 := crs_real _ _ _ _ j _ _ _ _ q2 r0 q0 r2
  have B2 := crs_real _ _ _ _ j _ _ _ _ q0 r1 q1 r0
  have C0 := crs_real _ _ _ _ j _ _ _ _ q1 A2 q2 A1
  have C1 := crs_real _ _ _ _ j _ _ _ _ q2 A0 q0 A2
  have C2 := crs_real _ _ _ _ j _ _ _ _ q0 A1 q1 A0
  have e := angOp_real _ _ _ _ _ _ _ _ _ j (crossR (v j) (v (j + 1))) (crossR (v (j + 1)) (v (j + 2))) (crossR (v (j + 1)) (crossR (v j) (v (j + 1))))
    A0 A1 A2 B0 B1 B2 C0 C1 C2 na nb (dotC_ne _ _ na)
  show k0 (ix2 0 j) * (Ideal.ofBits .f32 0x3F800000#32 + Ideal.cos (per (ix2 0 j) * phiOp _ _ _ _ _ _ _ _ _ (ix2 0 j) - phi0 (ix2 0 j))) = _
  unfold phiOp
  rw [e, Ideal.ofBits_one_f32]
  rfl

end Cert.Proof.Energy

end
-- ==== Proof.Pot.lean ====
/-
  What a grid point adds to the energy, as an expression in the blocks the point reads.
-/
module

public import proofs.«01_k».proof.Proof.Bonded
public import Idealize.ShloMosaic.Lib.WritesUnit

@[expose] public section

set_option maxRecDepth 16384
set_option maxHeartbeats 1000000

noncomputable section

namespace Cert.Proof.Energy

open Cert.KernelIdeal Cert.KernelIdeal.Gen Cert.Proof.KernelIdeal
open Idealize.ShloMosaic Idealize.ShloMosaic.TcCoe

/-! The loads. -/

/-- Half a column of positions. -/
def ldRowH (arg : Memref sig .tc .vmem S1024x3 .f32) (harg : arg.IsWhole) (x : Vec Ideal S1024x3 .f32) (off : Fin 2 → ℕ)
    (inb : ∀ a, off a + S512x1.size a ≤ S1024x3.size a) : FVec Ideal S512x1 .f32 :=
  shapeCast S512x1 (View.readAt (Elt Ideal) arg.view (Rect.unit (s := S1024x3) off S512x1.size inb).toLoadRect (harg.unread x)) shapeCasts_S512x1_S512x1

/-- A column of positions. -/
def ldRowF (arg : Memref sig .tc .vmem S1024x3 .f32) (harg : arg.IsWhole) (x : Vec Ideal S1024x3 .f32) (off : Fin 2 → ℕ)
    (inb : ∀ a, off a + S1024x1.size a ≤ S1024x3.size a) : FVec Ideal S1024x1 .f32 :=
  shapeCast S1024x1 (View.readAt (Elt Ideal) arg.view (Rect.unit (s := S1024x3) off S1024x1.size inb).toLoadRect (harg.unread x)) shapeCasts_S1024x1_S1024x1

/-- Part of a row of positions. -/
def ldColH (arg : Memref sig .tc .vmem S3x4096 .f32) (harg : arg.IsWhole) (x : Vec Ideal S3x4096 .f32) (off : Fin 2 → ℕ)
    (inb : ∀ a, off a + S1x512.size a ≤ S3x4096.size a) : FVec Ideal S1x512 .f32 :=
  shapeCast S1x512 (View.readAt (Elt Ideal) arg.view (Rect.unit (s := S3x4096) off S1x512.size inb).toLoadRect (harg.unread x)) shapeCasts_S1x512_S1x512

/-- Part of a row of positions. -/
def ldColF (arg : Memref sig .tc .vmem S3x4096 .f32) (harg : arg.IsWhole) (x : Vec Ideal S3x4096 .f32) (off : Fin 2 → ℕ)
    (inb : ∀ a, off a + S1x1024.size a ≤ S3x4096.size a) : FVec Ideal S1x1024 .f32 :=
  shapeCast S1x1024 (View.readAt (Elt Ideal) arg.view (Rect.unit (s := S3x4096) off S1x1024.size inb).toLoadRect (harg.unread x)) shapeCasts_S1x1024_S1x1024

/-- Part of the one-hot types. -/
def ldHotH (arg : Memref sig .tc .vmem S20x4096 .f32) (harg : arg.IsWhole) (x : Vec Ideal S20x4096 .f32) (off : Fin 2 → ℕ)
    (inb : ∀ a, off a + S20x512.size a ≤ S20x4096.size a) : FVec Ideal S20x512 .f32 :=
  shapeCast S20x512 (View.readAt (Elt Ideal) arg.view (Rect.unit (s := S20x4096) off S20x512.size inb).toLoadRect (harg.unread x)) shapeCasts_S20x512_S20x512

/-- Part of the one-hot types. -/
def ldHotF (arg : Memref sig .tc .vmem S20x4096 .f32) (harg : arg.IsWhole) (x : Vec Ideal S20x4096 .f32) (off : Fin 2 → ℕ)
    (inb : ∀ a, off a + S20x1024.size a ≤ S20x4096.size a) : FVec Ideal S20x1024 .f32 :=
  shapeCast S20x1024 (View.readAt (Elt Ideal) arg.view (Rect.unit (s := S20x4096) off S20x1024.size inb).toLoadRect (harg.unread x)) shapeCasts_S20x1024_S20x1024

/-- The one-hot types of the rows. -/
def ldHot (arg : Memref sig .tc .vmem S1024x20 .f32) (harg : arg.IsWhole) (x : Vec Ideal S1024x20 .f32) (off : Fin 2 → ℕ)
    (inb : ∀ a, off a + S1024x20.size a ≤ S1024x20.size a) : FVec Ideal S1024x20 .f32 :=
  shapeCast S1024x20 (View.readAt (Elt Ideal) arg.view (Rect.unit (s := S1024x20) off S1024x20.size inb).toLoadRect (harg.unread x)) shapeCasts_S1024x20_S1024x20

/-- The coefficients. -/
def ldC (arg : Memref sig .tc .vmem S20x20 .f32) (harg : arg.IsWhole) (x : Vec Ideal S20x20 .f32) (off : Fin 2 → ℕ)
    (inb : ∀ a, off a + S20x20.size a ≤ S20x20.size a) : FVec Ideal S20x20 .f32 :=
  shapeCast S20x20 (View.readAt (Elt Ideal) arg.view (Rect.unit (s := S20x20) off S20x20.size inb).toLoadRect (harg.unread x)) shapeCasts_S20x20_S20x20

/-- One side of the box. -/
def ldBox (arg : Memref sig .tc .vmem S1x3 .f32) (harg : arg.IsWhole) (x : Vec Ideal S1x3 .f32) (off : Fin 2 → ℕ)
    (inb : ∀ a, off a + S1x1.size a ≤ S1x3.size a) : FVec Ideal S1x1 .f32 :=
  shapeCast S1x1 (View.readAt (Elt Ideal) arg.view (Rect.unit (s := S1x3) off S1x1.size inb).toLoadRect (harg.unread x)) shapeCasts_S1x1_S1x1

/-- The running sum. -/
def ldSum (arg : Memref sig .tc .vmem S1x1 .f32) (harg : arg.IsWhole) (x : Vec Ideal S1x1 .f32) (off : Fin 2 → ℕ)
    (inb : ∀ a, off a + S1x1.size a ≤ S1x1.size a) : FVec Ideal S1x1 .f32 :=
  shapeCast S1x1 (View.readAt (Elt Ideal) arg.view (Rect.unit (s := S1x1) off S1x1.size inb).toLoadRect (harg.unread x)) shapeCasts_S1x1_S1x1

/-- The coefficients, as they are first loaded. -/
def ldC0 (arg : Memref sig .tc .vmem S20x20 .f32) (harg : arg.IsWhole) (x : Vec Ideal S20x20 .f32) (off : Fin 2 → ℕ)
    (inb : ∀ a, off a + S20x20.size a ≤ S20x20.size a) : FVec Ideal S20x20 .f32 :=
  View.readAt (Elt Ideal) arg.view (Rect.unit (s := S20x20) off S20x20.size inb).toLoadRect (harg.unread x)

/-- `1 / b²`. -/
def ibOp (b0 : FVec Ideal S1x1 .f32) : FVec Ideal S1x1 .f32 :=
  divf (broadcast S1x1 (Scalar.ofBits (F := Ideal) .f32 0x3F800000#32)) (mulf b0 b0)

section
variable (i : grid0.Coords) (arg1 : Memref sig .tc .vmem S1024x3 .f32) (harg1 : arg1.IsWhole) (arg2 : Memref sig .tc .vmem S3x4096 .f32) (harg2 : arg2.IsWhole)
  (arg4 : Memref sig .tc .vmem S20x4096 .f32) (harg4 : arg4.IsWhole) (x1 : Vec Ideal S1024x3 .f32) (x2 : Vec Ideal S3x4096 .f32) (x4 : Vec Ideal S20x4096 .f32)
  (v12 v17 v22 : FVec Ideal S1024x20 .f32) (ib : FVec Ideal S1x1 .f32)

/-- The two diagonal half blocks and the one between them. -/
def rowsOp : FVec Ideal S1024x1 .f32 :=
  joinOp
    (mulf (eH ib (addf (s2H (ldRowH arg1 harg1 x1 ![0, 0] inb_S1024x3_S512x1_0_0) (ldRowH arg1 harg1 x1 ![0, 1] inb_S1024x3_S512x1_0_1) (ldRowH arg1 harg1 x1 ![0, 2] inb_S1024x3_S512x1_0_2)
        (ldColH arg2 harg2 x2 (k0_off1 i) (k0_off1_inb i)) (ldColH arg2 harg2 x2 (k0_off2 i) (k0_off2_inb i)) (ldColH arg2 harg2 x2 (k0_off3 i) (k0_off3_inb i))) (k0_pay140 (F := Ideal)))
      (addf (ccH 0 slices_S1024x20_o0_0_S512x20 v17 (ldHotH arg4 harg4 x4 (k0_off4 i) (k0_off4_inb i)))
        (mulf (k0_pay141 (F := Ideal)) (ccH 0 slices_S1024x20_o0_0_S512x20 v22 (ldHotH arg4 harg4 x4 (k0_off4 i) (k0_off4_inb i))))))
      (broadcast S512x1 (Scalar.ofBits (F := Ideal) .f32 0x3F000000#32)))
    (eH ib (addf (s2H (ldRowH arg1 harg1 x1 ![0, 0] inb_S1024x3_S512x1_0_0) (ldRowH arg1 harg1 x1 ![0, 1] inb_S1024x3_S512x1_0_1) (ldRowH arg1 harg1 x1 ![0, 2] inb_S1024x3_S512x1_0_2)
        (ldColH arg2 harg2 x2 (k0_off5 i) (k0_off5_inb i)) (ldColH arg2 harg2 x2 (k0_off6 i) (k0_off6_inb i)) (ldColH arg2 harg2 x2 (k0_off7 i) (k0_off7_inb i))) (k0_pay142 (F := Ideal)))
      (ccH 0 slices_S1024x20_o0_0_S512x20 v12 (ldHotH arg4 harg4 x4 (k0_off8 i) (k0_off8_inb i))))
    (mulf (eH ib (addf (s2H (ldRowH arg1 harg1 x1 ![512, 0] inb_S1024x3_S512x1_512_0) (ldRowH arg1 harg1 x1 ![512, 1] inb_S1024x3_S512x1_512_1) (ldRowH arg1 harg1 x1 ![512, 2] inb_S1024x3_S512x1_512_2)
        (ldColH arg2 harg2 x2 (k0_off5 i) (k0_off5_inb i)) (ldColH arg2 harg2 x2 (k0_off6 i) (k0_off6_inb i)) (ldColH arg2 harg2 x2 (k0_off7 i) (k0_off7_inb i))) (k0_pay140 (F := Ideal)))
      (addf (ccH 512 slices_S1024x20_o512_0_S512x20 v17 (ldHotH arg4 harg4 x4 (k0_off8 i) (k0_off8_inb i)))
        (mulf (k0_pay141 (F := Ideal)) (ccH 512 slices_S1024x20_o512_0_S512x20 v22 (ldHotH arg4 harg4 x4 (k0_off8 i) (k0_off8_inb i))))))
      (broadcast S512x1 (Scalar.ofBits (F := Ideal) .f32 0x3F000000#32)))

/-- The block next to the diagonal's. -/
def cornerOp (h : k0_cond2 i = 1#1) : FVec Ideal S1024x1 .f32 :=
  eF ib (addf (s2F (ldRowF arg1 harg1 x1 ![0, 0] inb_S1024x3_S1024x1_0_0) (ldRowF arg1 harg1 x1 ![0, 1] inb_S1024x3_S1024x1_0_1) (ldRowF arg1 harg1 x1 ![0, 2] inb_S1024x3_S1024x1_0_2)
      (ldColF arg2 harg2 x2 (k0_off9 i) (k0_off9_inb i h)) (ldColF arg2 harg2 x2 (k0_off10 i) (k0_off10_inb i h)) (ldColF arg2 harg2 x2 (k0_off11 i) (k0_off11_inb i h))) (k0_pay143 (F := Ideal)))
    (ccF v12 (ldHotF arg4 harg4 x4 (k0_off12 i) (k0_off12_inb i h)))

/-- One block of the loop. -/
def tripOp (h : k0_cond2 i = 1#1) (k : Fin (k0_t1_loop i).trips) : FVec Ideal S1024x1 .f32 :=
  eF ib (s2F (ldRowF arg1 harg1 x1 ![0, 0] inb_S1024x3_S1024x1_0_0) (ldRowF arg1 harg1 x1 ![0, 1] inb_S1024x3_S1024x1_0_1) (ldRowF arg1 harg1 x1 ![0, 2] inb_S1024x3_S1024x1_0_2)
      (ldColF arg2 harg2 x2 (k0_off13 i k) (k0_off13_inb i k h)) (ldColF arg2 harg2 x2 (k0_off14 i k) (k0_off14_inb i k h)) (ldColF arg2 harg2 x2 (k0_off15 i k) (k0_off15_inb i k h)))
    (ccF v12 (ldHotF arg4 harg4 x4 (k0_off16 i k) (k0_off16_inb i k h)))

/-- The loop's column of sums before trip `k`. -/
def loopOp (h : k0_cond2 i = 1#1) (init : FVec Ideal S1024x1 .f32) : ℕ → FVec Ideal S1024x1 .f32
  | 0 => init
  | k + 1 => if hk : k < (k0_t1_loop i).trips then addf (loopOp h init k) (tripOp i arg1 harg1 arg2 harg2 arg4 harg4 x1 x2 x4 v12 ib h ⟨k, hk⟩) else loopOp h init k

end

theorem st_loopOp (c : Dev nD) (i : grid0.Coords)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (v12 : FVec Ideal S1024x20 .f32) (v27 v31 : FVec Ideal S1x1 .f32) (h : k0_cond2 i = 1#1) (v393 : BitVec 32)
    (x1 : Vec Ideal S1024x3 .f32) (x2 : Vec Ideal S3x4096 .f32) (x4 : Vec Ideal S20x4096 .f32) (init : Acc Ideal) (g : Bf (F := Ideal) c arg12) (k : ℕ) :
    (st (F := Ideal) c i arg1 harg1 arg2 harg2 arg3 harg3 arg4 harg4 arg5 harg5 arg6 harg6 arg7 harg7 arg8 harg8 arg9 harg9 arg10 harg10 arg11 harg11 arg12 harg12 arg13 harg13 v12 v27 v31 h v393 (harg1.unread x1) (harg2.unread x2) (harg4.unread x4) init g k).1.2.2.2
      = loopOp i arg1 harg1 arg2 harg2 arg4 harg4 x1 x2 x4 v12 v27 h init.2.2.2 k := by
  induction k with
  | zero => rfl
  | succ k ih =>
    rw [st, loopOp]
    by_cases hk : k < (k0_t1_loop i).trips
    · rw [dif_pos hk, dif_pos hk, ← ih]
      rfl
    · rw [dif_neg hk, dif_neg hk, ih]

theorem middle_pot (c : Dev nD) (i : grid0.Coords)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (x1 : Vec Ideal S1024x3 .f32) (x2 : Vec Ideal S3x4096 .f32) (x3 : Vec Ideal S1024x20 .f32) (x4 : Vec Ideal S20x4096 .f32) (x5 : Vec Ideal S20x20 .f32) (x6 : Vec Ideal S20x20 .f32) (x7 : Vec Ideal S20x20 .f32) (x8 : Vec Ideal S2x4095 .f32) (x9 : Vec Ideal S3x4093 .f32) (x10 : Vec Ideal S1x3 .f32) (x12 : Vec Ideal S3x4096 .f32) (x13 : Vec Ideal S1x1 .f32)
    (hc1 : ¬ k0_cond1 i = 1#1) (hc2 : k0_cond2 i = 1#1) (hc3 : ¬ k0_cond3 i = 1#1) :
    (runMiddle (F := Ideal) c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x12 x13 hc1 hc2 hc3).1.2.2 (ix2 0 0)
      = potOp (ldBox arg10 harg10 x10 ![0, 0] inb_S1x3_S1x1_0_0) (ldSum arg13 harg13 x13 ![0, 0] inb_S1x1_S1x1_0_0) (loopOp i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 (addf (rowsOp i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0))) (cornerOp i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2)) (k0_t1_loop i).trips) (ix2 0 0) := by
  refine (View.read_writes_cons_unit_of_mem _ _ _ _ _ (ix2 0 0) (ix2 0 0) rfl (fun a => by fin_cases a <;> rfl)).trans ?_
  rw [← st_loopOp c i arg1 harg1 arg2 harg2 arg3 harg3 arg4 harg4 arg5 harg5 arg6 harg6 arg7 harg7 arg8 harg8 arg9 harg9 arg10 harg10 arg11 harg11 arg12 harg12 arg13 harg13 _ _ _ hc2 _ x1 x2 x4 (_, _, _, _) _ _]
  rfl

theorem last_pot (c : Dev nD) (i : grid0.Coords)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (x1 : Vec Ideal S1024x3 .f32) (x2 : Vec Ideal S3x4096 .f32) (x3 : Vec Ideal S1024x20 .f32) (x4 : Vec Ideal S20x4096 .f32) (x5 : Vec Ideal S20x20 .f32) (x6 : Vec Ideal S20x20 .f32) (x7 : Vec Ideal S20x20 .f32) (x8 : Vec Ideal S2x4095 .f32) (x9 : Vec Ideal S3x4093 .f32) (x10 : Vec Ideal S1x3 .f32) (x12 : Vec Ideal S3x4096 .f32) (x13 : Vec Ideal S1x1 .f32)
    (hc1 : ¬ k0_cond1 i = 1#1) (hc2 : ¬ k0_cond2 i = 1#1) (hc3 : k0_cond3 i = 1#1) :
    (runLast (F := Ideal) c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x12 x13 hc1 hc2 hc3).1.2.2 (ix2 0 0)
      = potOp (ldBox arg10 harg10 x10 ![0, 0] inb_S1x3_S1x1_0_0) (ldSum arg13 harg13 x13 ![0, 0] inb_S1x1_S1x1_0_0) (rowsOp i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0))) (ix2 0 0) := by
  refine (View.read_writes_cons_unit_of_mem _ _ _ _ _ (ix2 0 0) (ix2 0 0) rfl (fun a => by fin_cases a <;> rfl)).trans ?_
  rfl

/-- A row of positions without its first or last. -/
def ldLine (arg : Memref sig .tc .vmem S3x4096 .f32) (harg : arg.IsWhole) (x : Vec Ideal S3x4096 .f32) (off : Fin 2 → ℕ)
    (inb : ∀ a, off a + S1x4095.size a ≤ S3x4096.size a) : FVec Ideal S1x4095 .f32 :=
  shapeCast S1x4095 (View.readAt (Elt Ideal) arg.view (Rect.unit (s := S3x4096) off S1x4095.size inb).toLoadRect (harg.unread x)) shapeCasts_S1x4095_S1x4095

/-- A row of the bonds’ parameters. -/
def ldBond (arg : Memref sig .tc .vmem S2x4095 .f32) (harg : arg.IsWhole) (x : Vec Ideal S2x4095 .f32) (off : Fin 2 → ℕ)
    (inb : ∀ a, off a + S1x4095.size a ≤ S2x4095.size a) : FVec Ideal S1x4095 .f32 :=
  shapeCast S1x4095 (View.readAt (Elt Ideal) arg.view (Rect.unit (s := S2x4095) off S1x4095.size inb).toLoadRect (harg.unread x)) shapeCasts_S1x4095_S1x4095

/-- A row of the dihedrals’ parameters. -/
def ldTor (arg : Memref sig .tc .vmem S3x4093 .f32) (harg : arg.IsWhole) (x : Vec Ideal S3x4093 .f32) (off : Fin 2 → ℕ)
    (inb : ∀ a, off a + S1x4093.size a ≤ S3x4093.size a) : FVec Ideal S1x4093 .f32 :=
  shapeCast S1x4093 (View.readAt (Elt Ideal) arg.view (Rect.unit (s := S3x4093) off S1x4093.size inb).toLoadRect (harg.unread x)) shapeCasts_S1x4093_S1x4093

/-- The bonded energy. -/
def bondedAt (arg2 : Memref sig .tc .vmem S3x4096 .f32) (harg2 : arg2.IsWhole) (arg8 : Memref sig .tc .vmem S2x4095 .f32) (harg8 : arg8.IsWhole)
    (arg9 : Memref sig .tc .vmem S3x4093 .f32) (harg9 : arg9.IsWhole) (arg10 : Memref sig .tc .vmem S1x3 .f32) (harg10 : arg10.IsWhole)
    (x2 : Vec Ideal S3x4096 .f32) (x8 : Vec Ideal S2x4095 .f32) (x9 : Vec Ideal S3x4093 .f32) (x10 : Vec Ideal S1x3 .f32) : FVec Ideal S1x1 .f32 :=
  bondedOp (bondOp (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2))
      (ldBond arg8 harg8 x8 ![0, 0] inb_S2x4095_S1x4095_0_0) (ldBond arg8 harg8 x8 ![1, 0] inb_S2x4095_S1x4095_1_0))
    (dihOp (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2))
      (ldTor arg9 harg9 x9 ![0, 0] inb_S3x4093_S1x4093_0_0) (ldTor arg9 harg9 x9 ![1, 0] inb_S3x4093_S1x4093_1_0) (ldTor arg9 harg9 x9 ![2, 0] inb_S3x4093_S1x4093_2_0))

/-- The running sum as the first grid point reads it back after its first store. -/
def sumBack (arg : Memref sig .tc .vmem S1x1 .f32) (w : FVec Ideal S1x1 .f32) : FVec Ideal S1x1 .f32 :=
  shapeCast S1x1 (arg.view.readCov (Val := Elt Ideal) [⟨Rect.unit (s := S1x1) ![0, 0] S1x1.size inb_S1x1_S1x1_0_0, w⟩] (Rect.unit (s := S1x1) ![0, 0] S1x1.size inb_S1x1_S1x1_0_0).toLoadRect) shapeCasts_S1x1_S1x1

theorem first_pot (c : Dev nD) (i : grid0.Coords)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (x1 : Vec Ideal S1024x3 .f32) (x2 : Vec Ideal S3x4096 .f32) (x3 : Vec Ideal S1024x20 .f32) (x4 : Vec Ideal S20x4096 .f32) (x5 : Vec Ideal S20x20 .f32) (x6 : Vec Ideal S20x20 .f32) (x7 : Vec Ideal S20x20 .f32) (x8 : Vec Ideal S2x4095 .f32) (x9 : Vec Ideal S3x4093 .f32) (x10 : Vec Ideal S1x3 .f32)
    (hc1 : k0_cond1 i = 1#1) (hc2 : k0_cond2 i = 1#1) (hc3 : ¬ k0_cond3 i = 1#1) :
    (runFirst (F := Ideal) c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 hc1 hc2 hc3).1.2.2 (ix2 0 0)
      = potOp (ldBox arg10 harg10 x10 ![0, 0] inb_S1x3_S1x1_0_0) (sumBack arg13 (bondedAt arg2 harg2 arg8 harg8 arg9 harg9 arg10 harg10 x2 x8 x9 x10)) (loopOp i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 (addf (rowsOp i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0))) (cornerOp i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2)) (k0_t1_loop i).trips) (ix2 0 0) := by
  refine (View.read_writes_cons_unit_of_mem _ _ _ _ _ (ix2 0 0) (ix2 0 0) rfl (fun a => by fin_cases a <;> rfl)).trans ?_
  rw [← st_loopOp c i arg1 harg1 arg2 harg2 arg3 harg3 arg4 harg4 arg5 harg5 arg6 harg6 arg7 harg7 arg8 harg8 arg9 harg9 arg10 harg10 arg11 harg11 arg12 harg12 arg13 harg13 _ _ _ hc2 _ x1 x2 x4 (_, _, _, _) _ _]
  rfl

end Cert.Proof.Energy

end
-- ==== Proof.Point.lean ====
/-
  What a grid point adds to the energy, over the reals: the sums of the pairs' energies of its rows.
-/
module

public import proofs.«01_k».proof.Proof.Pot
public import Idealize.ShloMosaic.Lib.Pipeline.ValueKit.Basic

@[expose] public section

set_option maxRecDepth 16384

noncomputable section

namespace Cert.Proof.Energy

open Cert.KernelIdeal Cert.KernelIdeal.Gen Cert.Proof.KernelIdeal
open Idealize.ShloMosaic Idealize.ShloMosaic.TcCoe

/-! The loads, at an index. -/

theorem ld_ix {s : Shape} (arg : Memref sig .tc .vmem s .f32) (harg : arg.IsWhole) (x : Vec Ideal s .f32) (off size : Fin s.rank → ℕ)
    (inb : ∀ a, off a + size a ≤ s.size a) (j : (Rect.unit (s := s) off size inb).shape.Idx) (y : s.Idx) (hy : ∀ a, (y a).val = off a + (j a).val) :
    View.readAt (Elt Ideal) arg.view (Rect.unit (s := s) off size inb).toLoadRect (harg.unread x) j = x y := by
  rw [View.readAt_apply, harg.read_unread]
  refine congrArg x (funext fun a => Fin.ext ?_)
  rw [hy a]
  show off a + 1 * (j a).val = _
  omega

theorem ldRowH_apply (arg : Memref sig .tc .vmem S1024x3 .f32) (harg : arg.IsWhole) (x : Vec Ideal S1024x3 .f32) (R : ℕ) (k : Fin 3) (hR : R + 512 ≤ 1024)
    (inb : ∀ a, (![R, k.val] : Fin 2 → ℕ) a + S512x1.size a ≤ S1024x3.size a) (r : Fin 512) :
    ldRowH arg harg x ![R, k.val] inb (ix2 r 0) = x (ix2 ⟨R + r.val, by omega⟩ k) := by
  exact (congrFun (shapeCast_self (s := S512x1) _ _) _).trans (ld_ix arg harg x _ _ inb _ _ fun a => by fin_cases a <;> rfl)

theorem ldRowF_apply (arg : Memref sig .tc .vmem S1024x3 .f32) (harg : arg.IsWhole) (x : Vec Ideal S1024x3 .f32) (k : Fin 3)
    (inb : ∀ a, (![0, k.val] : Fin 2 → ℕ) a + S1024x1.size a ≤ S1024x3.size a) (r : Fin 1024) :
    ldRowF arg harg x ![0, k.val] inb (ix2 r 0) = x (ix2 r k) := by
  exact (congrFun (shapeCast_self (s := S1024x1) _ _) _).trans (ld_ix arg harg x _ _ inb _ _ fun a => by fin_cases a <;> first | rfl | exact (Nat.zero_add _).symm)

theorem ldColH_apply (arg : Memref sig .tc .vmem S3x4096 .f32) (harg : arg.IsWhole) (x : Vec Ideal S3x4096 .f32) (off : Fin 2 → ℕ) (Q : ℕ) (k : Fin 3) (hQ : Q + 512 ≤ 4096)
    (ho : off = ![k.val, Q]) (inb : ∀ a, off a + S1x512.size a ≤ S3x4096.size a) (c : Fin 512) :
    ldColH arg harg x off inb (ix2 0 c) = x (ix2 k ⟨Q + c.val, by omega⟩) := by
  subst ho
  exact (congrFun (shapeCast_self (s := S1x512) _ _) _).trans (ld_ix arg harg x _ _ inb _ _ fun a => by fin_cases a <;> rfl)

theorem ldColF_apply (arg : Memref sig .tc .vmem S3x4096 .f32) (harg : arg.IsWhole) (x : Vec Ideal S3x4096 .f32) (off : Fin 2 → ℕ) (Q : ℕ) (k : Fin 3) (hQ : Q + 1024 ≤ 4096)
    (ho : off = ![k.val, Q]) (inb : ∀ a, off a + S1x1024.size a ≤ S3x4096.size a) (c : Fin 1024) :
    ldColF arg harg x off inb (ix2 0 c) = x (ix2 k ⟨Q + c.val, by omega⟩) := by
  subst ho
  exact (congrFun (shapeCast_self (s := S1x1024) _ _) _).trans (ld_ix arg harg x _ _ inb _ _ fun a => by fin_cases a <;> rfl)

theorem ldHotH_apply (arg : Memref sig .tc .vmem S20x4096 .f32) (harg : arg.IsWhole) (x : Vec Ideal S20x4096 .f32) (off : Fin 2 → ℕ) (Q : ℕ) (hQ : Q + 512 ≤ 4096)
    (ho : off = ![0, Q]) (inb : ∀ a, off a + S20x512.size a ≤ S20x4096.size a) (k : Fin 20) (c : Fin 512) :
    ldHotH arg harg x off inb (ix2 k c) = x (ix2 k ⟨Q + c.val, by omega⟩) := by
  subst ho
  exact (congrFun (shapeCast_self (s := S20x512) _ _) _).trans (ld_ix arg harg x _ _ inb _ _ fun a => by fin_cases a <;> first | rfl | exact (Nat.zero_add _).symm)

theorem ldHotF_apply (arg : Memref sig .tc .vmem S20x4096 .f32) (harg : arg.IsWhole) (x : Vec Ideal S20x4096 .f32) (off : Fin 2 → ℕ) (Q : ℕ) (hQ : Q + 1024 ≤ 4096)
    (ho : off = ![0, Q]) (inb : ∀ a, off a + S20x1024.size a ≤ S20x4096.size a) (k : Fin 20) (c : Fin 1024) :
    ldHotF arg harg x off inb (ix2 k c) = x (ix2 k ⟨Q + c.val, by omega⟩) := by
  subst ho
  exact (congrFun (shapeCast_self (s := S20x1024) _ _) _).trans (ld_ix arg harg x _ _ inb _ _ fun a => by fin_cases a <;> first | rfl | exact (Nat.zero_add _).symm)

theorem ldHot_apply (arg : Memref sig .tc .vmem S1024x20 .f32) (harg : arg.IsWhole) (x : Vec Ideal S1024x20 .f32)
    (inb : ∀ a, (![0, 0] : Fin 2 → ℕ) a + S1024x20.size a ≤ S1024x20.size a) (r : Fin 1024) (k : Fin 20) :
    ldHot arg harg x ![0, 0] inb (ix2 r k) = x (ix2 r k) := by
  exact (congrFun (shapeCast_self (s := S1024x20) _ _) _).trans (ld_ix arg harg x _ _ inb _ _ fun a => by fin_cases a <;> exact (Nat.zero_add _).symm)

theorem ldC_apply (arg : Memref sig .tc .vmem S20x20 .f32) (harg : arg.IsWhole) (x : Vec Ideal S20x20 .f32)
    (inb : ∀ a, (![0, 0] : Fin 2 → ℕ) a + S20x20.size a ≤ S20x20.size a) (r k : Fin 20) :
    ldC arg harg x ![0, 0] inb (ix2 r k) = x (ix2 r k) := by
  exact (congrFun (shapeCast_self (s := S20x20) _ _) _).trans (ld_ix arg harg x _ _ inb _ _ fun a => by fin_cases a <;> exact (Nat.zero_add _).symm)

theorem ldC0_apply (arg : Memref sig .tc .vmem S20x20 .f32) (harg : arg.IsWhole) (x : Vec Ideal S20x20 .f32)
    (inb : ∀ a, (![0, 0] : Fin 2 → ℕ) a + S20x20.size a ≤ S20x20.size a) (r k : Fin 20) :
    ldC0 arg harg x ![0, 0] inb (ix2 r k) = x (ix2 r k) := by
  unfold ldC0
  exact ld_ix arg harg x _ _ inb _ _ fun a => by fin_cases a <;> exact (Nat.zero_add _).symm

theorem ldBox_apply (arg : Memref sig .tc .vmem S1x3 .f32) (harg : arg.IsWhole) (x : Vec Ideal S1x3 .f32) (k : Fin 3)
    (inb : ∀ a, (![0, k.val] : Fin 2 → ℕ) a + S1x1.size a ≤ S1x3.size a) :
    ldBox arg harg x ![0, k.val] inb (ix2 0 0) = x (ix2 0 k) := by
  exact (congrFun (shapeCast_self (s := S1x1) _ _) _).trans (ld_ix arg harg x _ _ inb _ _ fun a => by fin_cases a <;> rfl)

theorem ldSum_apply (arg : Memref sig .tc .vmem S1x1 .f32) (harg : arg.IsWhole) (x : Vec Ideal S1x1 .f32)
    (inb : ∀ a, (![0, 0] : Fin 2 → ℕ) a + S1x1.size a ≤ S1x1.size a) :
    ldSum arg harg x ![0, 0] inb (ix2 0 0) = x (ix2 0 0) := by
  exact (congrFun (shapeCast_self (s := S1x1) _ _) _).trans (ld_ix arg harg x _ _ inb _ _ fun a => by fin_cases a <;> rfl)

theorem ldLine_apply (arg : Memref sig .tc .vmem S3x4096 .f32) (harg : arg.IsWhole) (x : Vec Ideal S3x4096 .f32) (o : ℕ) (k : Fin 3) (hQ : o + 4095 ≤ 4096)
    (inb : ∀ a, (![k.val, o] : Fin 2 → ℕ) a + S1x4095.size a ≤ S3x4096.size a) (c : Fin 4095) :
    ldLine arg harg x ![k.val, o] inb (ix2 0 c) = x (ix2 k ⟨o + c.val, by omega⟩) := by
  exact (congrFun (shapeCast_self (s := S1x4095) _ _) _).trans (ld_ix arg harg x _ _ inb _ _ fun a => by fin_cases a <;> rfl)

theorem ldBond_apply (arg : Memref sig .tc .vmem S2x4095 .f32) (harg : arg.IsWhole) (x : Vec Ideal S2x4095 .f32) (k : Fin 2)
    (inb : ∀ a, (![k.val, 0] : Fin 2 → ℕ) a + S1x4095.size a ≤ S2x4095.size a) (c : Fin 4095) :
    ldBond arg harg x ![k.val, 0] inb (ix2 0 c) = x (ix2 k c) := by
  exact (congrFun (shapeCast_self (s := S1x4095) _ _) _).trans (ld_ix arg harg x _ _ inb _ _ fun a => by fin_cases a <;> first | rfl | exact (Nat.zero_add _).symm)

theorem ldTor_apply (arg : Memref sig .tc .vmem S3x4093 .f32) (harg : arg.IsWhole) (x : Vec Ideal S3x4093 .f32) (k : Fin 3)
    (inb : ∀ a, (![k.val, 0] : Fin 2 → ℕ) a + S1x4093.size a ≤ S3x4093.size a) (c : Fin 4093) :
    ldTor arg harg x ![k.val, 0] inb (ix2 0 c) = x (ix2 k c) := by
  exact (congrFun (shapeCast_self (s := S1x4093) _ _) _).trans (ld_ix arg harg x _ _ inb _ _ fun a => by fin_cases a <;> first | rfl | exact (Nat.zero_add _).symm)

theorem zeros : ∀ a : Fin 2, (![0, 0] : Fin 2 → ℕ) a = 0 := by decide

theorem sumBack_apply (arg : Memref sig .tc .vmem S1x1 .f32) (w : FVec Ideal S1x1 .f32) : sumBack arg w = w := by
  exact (shapeCast_self (s := S1x1) _ _).trans (View.readCov_unit_lit (Val := Elt Ideal) (S := S1x1) arg.view (off := ![0, 0]) inb_S1x1_S1x1_0_0 w zeros)

/-! Where the blocks start. -/

theorem off1_eq : ∀ i : grid0.Coords, k0_off1 i = ![(0 : Fin 3).val, 1024 * (i 0).val] := by decide +kernel
theorem off2_eq : ∀ i : grid0.Coords, k0_off2 i = ![(1 : Fin 3).val, 1024 * (i 0).val] := by decide +kernel
theorem off3_eq : ∀ i : grid0.Coords, k0_off3 i = ![(2 : Fin 3).val, 1024 * (i 0).val] := by decide +kernel
theorem off4_eq : ∀ i : grid0.Coords, k0_off4 i = ![0, 1024 * (i 0).val] := by decide +kernel
theorem off5_eq : ∀ i : grid0.Coords, k0_off5 i = ![(0 : Fin 3).val, 1024 * (i 0).val + 512] := by decide +kernel
theorem off6_eq : ∀ i : grid0.Coords, k0_off6 i = ![(1 : Fin 3).val, 1024 * (i 0).val + 512] := by decide +kernel
theorem off7_eq : ∀ i : grid0.Coords, k0_off7 i = ![(2 : Fin 3).val, 1024 * (i 0).val + 512] := by decide +kernel
theorem off8_eq : ∀ i : grid0.Coords, k0_off8 i = ![0, 1024 * (i 0).val + 512] := by decide +kernel
theorem off9_eq : ∀ i : grid0.Coords, k0_off9 i = ![(0 : Fin 3).val, 1024 * (i 0).val + 1024] := by decide +kernel
theorem off10_eq : ∀ i : grid0.Coords, k0_off10 i = ![(1 : Fin 3).val, 1024 * (i 0).val + 1024] := by decide +kernel
theorem off11_eq : ∀ i : grid0.Coords, k0_off11 i = ![(2 : Fin 3).val, 1024 * (i 0).val + 1024] := by decide +kernel
theorem off12_eq : ∀ i : grid0.Coords, k0_off12 i = ![0, 1024 * (i 0).val + 1024] := by decide +kernel
theorem trips_eq : ∀ i : grid0.Coords, k0_cond2 i = 1#1 → (k0_t1_loop i).trips + (i 0).val = 2 := by decide +kernel
theorem coord_lt : ∀ i : grid0.Coords, (i 0).val < 4 := by decide +kernel

end Cert.Proof.Energy

end
-- ==== Proof.Total.lean ====
/-
  A grid point's sums: each row's, then the point's.
-/
module

public import proofs.«01_k».proof.Proof.Point

@[expose] public section

set_option maxRecDepth 16384
set_option maxHeartbeats 1000000

noncomputable section

namespace Cert.Proof.Energy

open Cert.KernelIdeal Cert.KernelIdeal.Gen Cert.Proof.KernelIdeal
open Idealize.ShloMosaic Idealize.ShloMosaic.TcCoe

/-- What the blocks of point `I` hold. -/
structure Blocks (S : Sys) (L : ℝ) (I : ℕ) (x1 : Vec Ideal S1024x3 .f32) (x2 : Vec Ideal S3x4096 .f32) (x3 : Vec Ideal S1024x20 .f32) (x4 : Vec Ideal S20x4096 .f32)
    (x5 x6 x7 : Vec Ideal S20x20 .f32) (x10 : Vec Ideal S1x3 .f32) : Prop where
  hL : L ≠ 0
  hib : S.ib = 1 / (L * L)
  h1 : ∀ (r : Fin 1024) (k : Fin 3), x1 (ix2 r k) = ((S.U (1024 * I + r) k : ℝ) : EReal)
  h2 : ∀ (k : Fin 3) (c : Fin 4096), x2 (ix2 k c) = ((S.U c k : ℝ) : EReal)
  h3 : ∀ (r : Fin 1024) (l : Fin 20), x3 (ix2 r l) = if l = S.T (1024 * I + r) then 1 else 0
  h4 : ∀ (l : Fin 20) (c : Fin 4096), x4 (ix2 l c) = if l = S.T c then 1 else 0
  h5 : ∀ a b : Fin 20, x5 (ix2 a b) = ((S.C a b : ℝ) : EReal)
  h6 : ∀ a b : Fin 20, x6 (ix2 a b) = (((1 / 2) * (S.C a b + S.C b a) : ℝ) : EReal)
  h7 : ∀ a b : Fin 20, x7 (ix2 a b) = (((1 / 2) * (S.C a b - S.C b a) : ℝ) : EReal)
  h10 : ∀ k : Fin 3, x10 (ix2 0 k) = (L : EReal)

section
variable {S : Sys} {L : ℝ} {i : grid0.Coords}
  (arg1 : Memref sig .tc .vmem S1024x3 .f32) (harg1 : arg1.IsWhole) (arg2 : Memref sig .tc .vmem S3x4096 .f32) (harg2 : arg2.IsWhole)
  (arg3 : Memref sig .tc .vmem S1024x20 .f32) (harg3 : arg3.IsWhole) (arg4 : Memref sig .tc .vmem S20x4096 .f32) (harg4 : arg4.IsWhole)
  (arg5 : Memref sig .tc .vmem S20x20 .f32) (harg5 : arg5.IsWhole) (arg6 : Memref sig .tc .vmem S20x20 .f32) (harg6 : arg6.IsWhole)
  (arg7 : Memref sig .tc .vmem S20x20 .f32) (harg7 : arg7.IsWhole) (arg10 : Memref sig .tc .vmem S1x3 .f32) (harg10 : arg10.IsWhole)
  {x1 : Vec Ideal S1024x3 .f32} {x2 : Vec Ideal S3x4096 .f32} {x3 : Vec Ideal S1024x20 .f32} {x4 : Vec Ideal S20x4096 .f32}
  {x5 x6 x7 : Vec Ideal S20x20 .f32} {x10 : Vec Ideal S1x3 .f32}

variable (hB : Blocks S L (i 0).val x1 x2 x3 x4 x5 x6 x7 x10)
include hB

theorem ib_real : (ibOp (ldBox arg10 harg10 x10 ![0, 0] inb_S1x3_S1x1_0_0)) (ix2 0 0) = ((S.ib : ℝ) : EReal) := by
  have e : ∀ b : FVec Ideal S1x1 .f32, ibOp b (ix2 0 0) = Ideal.div 1 (b (ix2 0 0) * b (ix2 0 0)) := fun b => by
    unfold ibOp
    pointwise
  rw [e, show ldBox arg10 harg10 x10 ![0, 0] inb_S1x3_S1x1_0_0 (ix2 0 0) = (L : EReal) from (ldBox_apply arg10 harg10 x10 0 _).trans (hB.h10 0),
    ← EReal.coe_mul, Ideal.div_coe (mul_ne_zero hB.hL hB.hL), one_mul, hB.hib]

theorem v12_real (r : Fin 1024) (k : Fin 20) : (pB (ldHot arg3 harg3 x3 ![0, 0] inb_S1024x20_S1024x20_0_0) (ldC0 arg5 harg5 x5 ![0, 0] inb_S20x20_S20x20_0_0)) (ix2 r k) = ((S.C (S.T (1024 * (i 0).val + r)) k : ℝ) : EReal) :=
  (pB_apply _ _ r k (S.T (1024 * (i 0).val + r)) fun l => (ldHot_apply arg3 harg3 x3 _ r l).trans (hB.h3 r l)).trans ((ldC0_apply arg5 harg5 x5 _ _ _).trans (hB.h5 _ _))

theorem v17_real (r : Fin 1024) (k : Fin 20) : (pB (ldHot arg3 harg3 x3 ![0, 0] inb_S1024x20_S1024x20_0_0) (ldC arg6 harg6 x6 ![0, 0] inb_S20x20_S20x20_0_0)) (ix2 r k)
    = (((1 / 2) * (S.C (S.T (1024 * (i 0).val + r)) k + S.C k (S.T (1024 * (i 0).val + r))) : ℝ) : EReal) :=
  (pB_apply _ _ r k (S.T (1024 * (i 0).val + r)) fun l => (ldHot_apply arg3 harg3 x3 _ r l).trans (hB.h3 r l)).trans ((ldC_apply arg6 harg6 x6 _ _ _).trans (hB.h6 _ _))

theorem v22_real (r : Fin 1024) (k : Fin 20) : (pB (ldHot arg3 harg3 x3 ![0, 0] inb_S1024x20_S1024x20_0_0) (ldC arg7 harg7 x7 ![0, 0] inb_S20x20_S20x20_0_0)) (ix2 r k)
    = (((1 / 2) * (S.C (S.T (1024 * (i 0).val + r)) k - S.C k (S.T (1024 * (i 0).val + r))) : ℝ) : EReal) :=
  (pB_apply _ _ r k (S.T (1024 * (i 0).val + r)) fun l => (ldHot_apply arg3 harg3 x3 _ r l).trans (hB.h3 r l)).trans ((ldC_apply arg7 harg7 x7 _ _ _).trans (hB.h7 _ _))

theorem rowH_real (R : ℕ) (hR : R + 512 ≤ 1024) (k : Fin 3) (inb : ∀ a, (![R, k.val] : Fin 2 → ℕ) a + S512x1.size a ≤ S1024x3.size a) (r : Fin 512) :
    ldRowH arg1 harg1 x1 ![R, k.val] inb (ix2 r 0) = ((S.U (1024 * (i 0).val + R + r) k : ℝ) : EReal) := by
  rw [ldRowH_apply arg1 harg1 x1 R k hR inb r, hB.h1, Nat.add_assoc]

theorem rowF_real (k : Fin 3) (inb : ∀ a, (![0, k.val] : Fin 2 → ℕ) a + S1024x1.size a ≤ S1024x3.size a) (r : Fin 1024) :
    ldRowF arg1 harg1 x1 ![0, k.val] inb (ix2 r 0) = ((S.U (1024 * (i 0).val + r) k : ℝ) : EReal) := by
  rw [ldRowF_apply arg1 harg1 x1 k inb r, hB.h1]

theorem colH_real (off : Fin 2 → ℕ) (Q : ℕ) (k : Fin 3) (hQ : Q + 512 ≤ 4096) (ho : off = ![k.val, Q]) (inb : ∀ a, off a + S1x512.size a ≤ S3x4096.size a) (c : Fin 512) :
    ldColH arg2 harg2 x2 off inb (ix2 0 c) = ((S.U (Q + c) k : ℝ) : EReal) := by
  rw [ldColH_apply arg2 harg2 x2 off Q k hQ ho inb c, hB.h2]

theorem colF_real (off : Fin 2 → ℕ) (Q : ℕ) (k : Fin 3) (hQ : Q + 1024 ≤ 4096) (ho : off = ![k.val, Q]) (inb : ∀ a, off a + S1x1024.size a ≤ S3x4096.size a) (c : Fin 1024) :
    ldColF arg2 harg2 x2 off inb (ix2 0 c) = ((S.U (Q + c) k : ℝ) : EReal) := by
  rw [ldColF_apply arg2 harg2 x2 off Q k hQ ho inb c, hB.h2]

theorem hotH_real (off : Fin 2 → ℕ) (Q : ℕ) (hQ : Q + 512 ≤ 4096) (ho : off = ![0, Q]) (inb : ∀ a, off a + S20x512.size a ≤ S20x4096.size a) (k : Fin 20) (c : Fin 512) :
    ldHotH arg4 harg4 x4 off inb (ix2 k c) = if k = S.T (Q + c) then 1 else 0 := by
  rw [ldHotH_apply arg4 harg4 x4 off Q hQ ho inb k c, hB.h4]

theorem hotF_real (off : Fin 2 → ℕ) (Q : ℕ) (hQ : Q + 1024 ≤ 4096) (ho : off = ![0, Q]) (inb : ∀ a, off a + S20x1024.size a ≤ S20x4096.size a) (k : Fin 20) (c : Fin 1024) :
    ldHotF arg4 harg4 x4 off inb (ix2 k c) = if k = S.T (Q + c) then 1 else 0 := by
  rw [ldHotF_apply arg4 harg4 x4 off Q hQ ho inb k c, hB.h4]

/-- A row of a diagonal half block, with the one beside it for the upper half. -/
theorem rows_real (r : Fin 1024) :
    rowsOp i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) (ix2 r 0)
      = ((if r.val < 512 then (∑ c : Fin 512, (S.H (1024 * (i 0).val + 0 + r) (1024 * (i 0).val + 0 + c) + S.H (1024 * (i 0).val + 0 + c) (1024 * (i 0).val + 0 + r))) * (1 / 2)
            + ∑ c : Fin 512, S.H (1024 * (i 0).val + 0 + r) (1024 * (i 0).val + 0 + 512 + c)
          else (∑ c : Fin 512, (S.H (1024 * (i 0).val + 512 + (r.val - 512)) (1024 * (i 0).val + 512 + c) + S.H (1024 * (i 0).val + 512 + c) (1024 * (i 0).val + 512 + (r.val - 512)))) * (1 / 2) : ℝ) : EReal) := by
  have hi := coord_lt i
  have hib := ib_real arg10 harg10 hB
  rw [rowsOp, joinOp_apply]
  by_cases h : r.val < 512
  · rw [dif_pos h, if_pos h, EReal.coe_add]
    congr 1
    · refine diag_real S (1024 * (i 0).val + 0) (by omega) _ _ _ _ hib (fun r c => ?_) (fun r c => ?_) (fun r c => ?_) ⟨r.val, h⟩
      · exact s2H_real _ _ _ _ _ _ r c _ _ (rowH_real arg1 harg1 hB 0 (by omega) 0 _ r) (rowH_real arg1 harg1 hB 0 (by omega) 1 _ r) (rowH_real arg1 harg1 hB 0 (by omega) 2 _ r)
          (colH_real arg2 harg2 hB _ _ 0 (by omega) (off1_eq i) _ c) (colH_real arg2 harg2 hB _ _ 1 (by omega) (off2_eq i) _ c) (colH_real arg2 harg2 hB _ _ 2 (by omega) (off3_eq i) _ c)
      · refine (ccH_hot 0 _ (by omega) _ _ r c _ fun k => hotH_real arg4 harg4 hB _ _ (by omega) (off4_eq i) _ k c).trans ((v17_real arg3 harg3 arg6 harg6 hB _ _).trans ?_)
        simp only [Nat.zero_add, Nat.add_zero]
      · refine (ccH_hot 0 _ (by omega) _ _ r c _ fun k => hotH_real arg4 harg4 hB _ _ (by omega) (off4_eq i) _ k c).trans ((v22_real arg3 harg3 arg7 harg7 hB _ _).trans ?_)
        simp only [Nat.zero_add, Nat.add_zero]
    · refine cornerH_real S (1024 * (i 0).val + 0) (by omega) _ _ _ hib (fun r c => ?_) (fun r c => ?_) ⟨r.val, h⟩
      · exact s2H_real _ _ _ _ _ _ r c _ _ (rowH_real arg1 harg1 hB 0 (by omega) 0 _ r) (rowH_real arg1 harg1 hB 0 (by omega) 1 _ r) (rowH_real arg1 harg1 hB 0 (by omega) 2 _ r)
          (colH_real arg2 harg2 hB _ _ 0 (by omega) (off5_eq i) _ c) (colH_real arg2 harg2 hB _ _ 1 (by omega) (off6_eq i) _ c) (colH_real arg2 harg2 hB _ _ 2 (by omega) (off7_eq i) _ c)
      · refine (ccH_hot 0 _ (by omega) _ _ r c _ fun k => hotH_real arg4 harg4 hB _ _ (by omega) (off8_eq i) _ k c).trans ((v12_real arg3 harg3 arg5 harg5 hB _ _).trans ?_)
        simp only [Nat.zero_add, Nat.add_zero]
  · rw [dif_neg h, if_neg h]
    refine diag_real S (1024 * (i 0).val + 512) (by omega) _ _ _ _ hib (fun r c => ?_) (fun r c => ?_) (fun r c => ?_) ⟨r.val - 512, by omega⟩
    · exact s2H_real _ _ _ _ _ _ r c _ _ (rowH_real arg1 harg1 hB 512 (by omega) 0 _ r) (rowH_real arg1 harg1 hB 512 (by omega) 1 _ r) (rowH_real arg1 harg1 hB 512 (by omega) 2 _ r)
        (colH_real arg2 harg2 hB _ _ 0 (by omega) (off5_eq i) _ c) (colH_real arg2 harg2 hB _ _ 1 (by omega) (off6_eq i) _ c) (colH_real arg2 harg2 hB _ _ 2 (by omega) (off7_eq i) _ c)
    · refine (ccH_hot 512 _ (by omega) _ _ r c _ fun k => hotH_real arg4 harg4 hB _ _ (by omega) (off8_eq i) _ k c).trans ((v17_real arg3 harg3 arg6 harg6 hB _ _).trans ?_)
      simp only [Nat.add_assoc]
    · refine (ccH_hot 512 _ (by omega) _ _ r c _ fun k => hotH_real arg4 harg4 hB _ _ (by omega) (off8_eq i) _ k c).trans ((v22_real arg3 harg3 arg7 harg7 hB _ _).trans ?_)
      simp only [Nat.add_assoc]

theorem corner_real (h : k0_cond2 i = 1#1) (r : Fin 1024) :
    cornerOp i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) h (ix2 r 0)
      = ((∑ c : Fin 1024, S.H (1024 * (i 0).val + r) (1024 * (i 0).val + 1024 + c) : ℝ) : EReal) := by
  have hi := trips_eq i h
  refine cornerF_real S (1024 * (i 0).val) (by omega) _ _ _ (ib_real arg10 harg10 hB) (fun r c => ?_) (fun r c => ?_) r
  · exact s2F_real _ _ _ _ _ _ r c _ _ (rowF_real arg1 harg1 hB 0 _ r) (rowF_real arg1 harg1 hB 1 _ r) (rowF_real arg1 harg1 hB 2 _ r)
      (colF_real arg2 harg2 hB _ _ 0 (by omega) (off9_eq i) _ c) (colF_real arg2 harg2 hB _ _ 1 (by omega) (off10_eq i) _ c) (colF_real arg2 harg2 hB _ _ 2 (by omega) (off11_eq i) _ c)
  · exact (ccF_hot _ _ r c _ fun k => hotF_real arg4 harg4 hB _ _ (by omega) (off12_eq i) _ k c).trans (v12_real arg3 harg3 arg5 harg5 hB _ _)

theorem trip_real (h : k0_cond2 i = 1#1) (k : Fin (k0_t1_loop i).trips) (r : Fin 1024) :
    tripOp i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) h k (ix2 r 0)
      = ((∑ c : Fin 1024, S.H (1024 * (i 0).val + r) (1024 * ((i 0).val + k.val) + 2048 + c) : ℝ) : EReal) := by
  have hi := trips_eq i h
  have hk := k.isLt
  refine full_real S (1024 * (i 0).val) (1024 * ((i 0).val + k.val) + 2048) (by omega) (by omega) _ _ _ (ib_real arg10 harg10 hB) (fun r c => ?_) (fun r c => ?_) r
  · exact s2F_real _ _ _ _ _ _ r c _ _ (rowF_real arg1 harg1 hB 0 _ r) (rowF_real arg1 harg1 hB 1 _ r) (rowF_real arg1 harg1 hB 2 _ r)
      (colF_real arg2 harg2 hB _ _ 0 (by omega) (off13_eq i k) _ c) (colF_real arg2 harg2 hB _ _ 1 (by omega) (off14_eq i k) _ c) (colF_real arg2 harg2 hB _ _ 2 (by omega) (off15_eq i k) _ c)
  · exact (ccF_hot _ _ r c _ fun k' => hotF_real arg4 harg4 hB _ _ (by omega) (off16_eq i k) _ k' c).trans (v12_real arg3 harg3 arg5 harg5 hB _ _)

/-- The loop adds the columns its trips cover. -/
theorem loop_real (h : k0_cond2 i = 1#1) (init : FVec Ideal S1024x1 .f32) (z : Fin 1024 → ℝ) (hz : ∀ r : Fin 1024, init (ix2 r 0) = ((z r : ℝ) : EReal))
    (n : ℕ) (hn : n ≤ (k0_t1_loop i).trips) (r : Fin 1024) :
    loopOp i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) h init n (ix2 r 0)
      = ((z r + ∑ c ∈ Finset.range (1024 * n), S.H (1024 * (i 0).val + r) (1024 * (i 0).val + 2048 + c) : ℝ) : EReal) := by
  induction n with
  | zero => simp only [loopOp, hz, Nat.mul_zero, Finset.range_zero, Finset.sum_empty, add_zero]
  | succ n ih =>
    rw [loopOp, dif_pos (by omega : n < (k0_t1_loop i).trips)]
    show loopOp i arg1 harg1 arg2 harg2 arg4 harg4 x1 x2 x4 _ _ h init n (ix2 r 0) + tripOp i arg1 harg1 arg2 harg2 arg4 harg4 x1 x2 x4 _ _ h ⟨n, _⟩ (ix2 r 0) = _
    rw [ih (by omega), trip_real arg1 harg1 arg2 harg2 arg3 harg3 arg4 harg4 arg5 harg5 arg10 harg10 hB h ⟨n, by omega⟩ r, ← EReal.coe_add, Nat.mul_succ, Finset.sum_range_add, add_assoc]
    congr 3
    rw [Finset.sum_range]
    refine Finset.sum_congr rfl fun c _ => ?_
    congr 1
    show 1024 * ((i 0).val + n) + 2048 + c.val = 1024 * (i 0).val + 2048 + (1024 * n + c.val)
    omega

end

end Cert.Proof.Energy

end
-- ==== Proof.Blocks.lean ====
/-
  The blocks' sums put together: the four grid points' sums are the sum over all pairs.
-/
module

public import proofs.«01_k».proof.Proof.Rows

@[expose] public section

set_option maxRecDepth 16384

noncomputable section

namespace Cert.Proof.Energy

open Finset

variable (S : Sys)

theorem Sys.H_zero {r c : ℕ} (h : c < r + 2) : S.H r c = 0 := if_neg (by omega)

/-- What the diagonal half blocks and the one between them give row `r` of the block of rows from `R`. -/
def rowT (R r : ℕ) : ℝ :=
  if r < 512 then (∑ c : Fin 512, (S.H (R + 0 + r) (R + 0 + c) + S.H (R + 0 + c) (R + 0 + r))) * (1 / 2) + ∑ c : Fin 512, S.H (R + 0 + r) (R + 0 + 512 + c)
  else (∑ c : Fin 512, (S.H (R + 512 + (r - 512)) (R + 512 + c) + S.H (R + 512 + c) (R + 512 + (r - 512)))) * (1 / 2)

/-- The sum over the rows `a, …, a + n − 1` and columns `b, …, b + m − 1`. -/
def area (a n b m : ℕ) : ℝ := ∑ r ∈ range n, ∑ c ∈ range m, S.H (a + r) (b + c)

/-- Half the sum of a square block and its transpose is the block's sum. -/
theorem half_sum (R : ℕ) : ∑ r ∈ range 512, (∑ c : Fin 512, (S.H (R + r) (R + c) + S.H (R + c) (R + r))) * (1 / 2) = area S R 512 R 512 := by
  have e : ∀ r, (∑ c : Fin 512, (S.H (R + r) (R + c) + S.H (R + c) (R + r))) * (1 / 2)
      = (∑ c ∈ range 512, S.H (R + r) (R + c)) * (1 / 2) + (∑ c ∈ range 512, S.H (R + c) (R + r)) * (1 / 2) := fun r => by
    rw [sum_add_distrib, add_mul, Finset.sum_range (fun c => S.H (R + r) (R + c)), Finset.sum_range (fun c => S.H (R + c) (R + r))]
  simp only [e]
  rw [sum_add_distrib, ← sum_mul, ← sum_mul, sum_comm (f := fun r c => S.H (R + c) (R + r))]
  unfold area
  ring

theorem rowT_sum (R : ℕ) : ∑ r ∈ range 1024, rowT S R r = area S R 1024 R 1024 := by
  have a1 : ∑ r ∈ range 512, rowT S R r = area S R 512 R 512 + area S R 512 (R + 512) 512 := by
    rw [← half_sum]
    unfold area
    rw [← sum_add_distrib]
    refine sum_congr rfl fun r hr => ?_
    rw [rowT, if_pos (mem_range.mp hr), Finset.sum_range (fun c => S.H (R + r) (R + 512 + c))]
    rfl
  have a2 : ∑ r ∈ range 512, rowT S R (512 + r) = area S (R + 512) 512 (R + 512) 512 := by
    rw [← half_sum]
    refine sum_congr rfl fun r hr => ?_
    rw [rowT, if_neg (by omega)]
    simp only [Nat.add_sub_cancel_left]
  rw [show 1024 = 512 + 512 from rfl, sum_range_add, a1, a2]
  unfold area
  rw [sum_range_add, ← sum_add_distrib]
  congr 1
  · refine sum_congr rfl fun r _ => ?_
    rw [sum_range_add]
    simp only [Nat.add_assoc]
  · refine sum_congr rfl fun r _ => ?_
    rw [sum_range_add, sum_eq_zero (s := range 512) (f := fun c => S.H (R + (512 + r)) (R + c)) (fun c hc => S.H_zero (by have := mem_range.mp hc; omega)), zero_add]
    simp only [Nat.add_assoc]

/-- A point's rows, its blocks' columns and the loop's. -/
theorem point_sum (I n : ℕ) (hI : n + I = 2) :
    ∑ r ∈ range 1024, (rowT S (1024 * I) r + (∑ c : Fin 1024, S.H (1024 * I + r) (1024 * I + 1024 + c)) + ∑ c ∈ range (1024 * n), S.H (1024 * I + r) (1024 * I + 2048 + c))
      = area S (1024 * I) 1024 0 4096 := by
  rw [sum_add_distrib, sum_add_distrib, rowT_sum]
  unfold area
  rw [← sum_add_distrib, ← sum_add_distrib]
  refine sum_congr rfl fun r _ => ?_
  rw [show 4096 = 1024 * I + 1024 + 1024 + 1024 * n by omega, sum_range_add, sum_range_add, sum_range_add,
    sum_eq_zero (s := range (1024 * I)) (fun c hc => S.H_zero (by have := mem_range.mp hc; omega)), zero_add,
    ← Finset.sum_range (fun c => S.H (1024 * I + r) (1024 * I + 1024 + c))]
  congr 1
  · simp only [Nat.zero_add, Nat.add_assoc]
  · refine sum_congr rfl fun c _ => congrArg _ (by omega)

theorem last_sum : ∑ r ∈ range 1024, rowT S (1024 * 3) r = area S (1024 * 3) 1024 0 4096 := by
  rw [rowT_sum]
  unfold area
  refine sum_congr rfl fun r _ => ?_
  rw [show 4096 = 1024 * 3 + 1024 from rfl, sum_range_add, sum_eq_zero (s := range (1024 * 3)) (fun c hc => S.H_zero (by have := mem_range.mp hc; omega)), zero_add]
  simp only [Nat.zero_add]

/-- The sum over all pairs. -/
theorem total_sum : area S (1024 * 0) 1024 0 4096 + area S (1024 * 1) 1024 0 4096 + area S (1024 * 2) 1024 0 4096 + area S (1024 * 3) 1024 0 4096
    = ∑ r ∈ range 4096, ∑ c ∈ range 4096, S.H r c := by
  unfold area
  rw [show range 4096 = range (1024 + 1024 + 1024 + 1024) from rfl, sum_range_add _ (1024 + 1024 + 1024) 1024, sum_range_add _ (1024 + 1024) 1024, sum_range_add _ 1024 1024]
  simp only [Nat.zero_add, Nat.mul_zero, Nat.mul_one, Nat.reduceMul, Nat.reduceAdd]

end Cert.Proof.Energy

end
-- ==== Proof.Energy.lean ====
/-
  What each grid point leaves in the energy's running sum.
-/
module

public import proofs.«01_k».proof.Proof.Total
public import proofs.«01_k».proof.Proof.Blocks

@[expose] public section

set_option maxRecDepth 16384
set_option maxHeartbeats 1000000

noncomputable section

namespace Cert.Proof.Energy

open Cert.KernelIdeal Cert.KernelIdeal.Gen Cert.Proof.KernelIdeal
open Idealize.ShloMosaic Idealize.ShloMosaic.TcCoe

/-- The bonds' vectors. -/
def bvec (S : Sys) (L : ℝ) (j : ℕ) (k : Fin 3) : ℝ := wr (S.U j k - S.U (j + 1) k) * L

/-- The bonded energy, from the bonds' vectors and the parameters. -/
def bonded (v : ℕ → Fin 3 → ℝ) (x8 : Fin 2 → Fin 4095 → EReal) (x9 : Fin 3 → Fin 4093 → EReal) : EReal :=
  (∑ j : Fin 4095, bondE (v j) (x8 0 j) (x8 1 j)) + ∑ j : Fin 4093, dihE (v j) (v (j + 1)) (v (j + 2)) (x9 0 j) (x9 1 j) (x9 2 j)

section
variable {S : Sys} {L : ℝ} {i : grid0.Coords}
  {x1 : Vec Ideal S1024x3 .f32} {x2 : Vec Ideal S3x4096 .f32} {x3 : Vec Ideal S1024x20 .f32} {x4 : Vec Ideal S20x4096 .f32}
  {x5 x6 x7 : Vec Ideal S20x20 .f32} {x10 : Vec Ideal S1x3 .f32}

theorem sum_rows_real (p : FVec Ideal S1024x1 .f32) (z : ℕ → ℝ) (h : ∀ r : Fin 1024, p (ix2 r 0) = ((z r : ℝ) : EReal)) :
    (∑ r : Fin 1024, p (ix2 r 0)) = ((∑ r ∈ Finset.range 1024, z r : ℝ) : EReal) := by
  rw [Finset.sum_range, ← coe_sum]
  exact Finset.sum_congr rfl fun r _ => h r

/-- A row of the point's sums, once the loop is over. -/
theorem loopRows_real
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg10 : Memref sig .tc .vmem S1x3 .f32) (harg10 : arg10.IsWhole)
    (hB : Blocks S L (i 0).val x1 x2 x3 x4 x5 x6 x7 x10) (hc2 : k0_cond2 i = 1#1) (r : Fin 1024) :
    (loopOp i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 (addf (rowsOp i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0))) (cornerOp i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2)) (k0_t1_loop i).trips) (ix2 r 0)
      = ((rowT S (1024 * (i 0).val) r + (∑ c : Fin 1024, S.H (1024 * (i 0).val + r) (1024 * (i 0).val + 1024 + c))
        + ∑ c ∈ Finset.range (1024 * (k0_t1_loop i).trips), S.H (1024 * (i 0).val + r) (1024 * (i 0).val + 2048 + c) : ℝ) : EReal) := by
  refine loop_real arg1 harg1 arg2 harg2 arg3 harg3 arg4 harg4 arg5 harg5 arg10 harg10 hB hc2 _
    (fun r => rowT S (1024 * (i 0).val) r + ∑ c : Fin 1024, S.H (1024 * (i 0).val + r) (1024 * (i 0).val + 1024 + c)) (fun r => ?_) _ le_rfl r
  refine (congrArg₂ (· + ·) (rows_real arg1 harg1 arg2 harg2 arg3 harg3 arg4 harg4 arg5 harg5 arg6 harg6 arg7 harg7 arg10 harg10 hB r)
    (corner_real arg1 harg1 arg2 harg2 arg3 harg3 arg4 harg4 arg5 harg5 arg10 harg10 hB hc2 r)).trans ?_
  rw [← EReal.coe_add]
  exact congrArg _ (congrArg (· + _) (by rw [rowT]))

theorem middle_energy (c : Dev nD)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (hB : Blocks S L (i 0).val x1 x2 x3 x4 x5 x6 x7 x10) (x8 : Vec Ideal S2x4095 .f32) (x9 : Vec Ideal S3x4093 .f32) (x12 : Vec Ideal S3x4096 .f32) (x13 : Vec Ideal S1x1 .f32)
    (hc1 : ¬ k0_cond1 i = 1#1) (hc2 : k0_cond2 i = 1#1) (hc3 : ¬ k0_cond3 i = 1#1) :
    (runMiddle (F := Ideal) c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x12 x13 hc1 hc2 hc3).1.2.2 (ix2 0 0)
      = x13 (ix2 0 0) + ((area S (1024 * (i 0).val) 1024 0 4096 * (L * L) : ℝ) : EReal) := by
  have hbox : ldBox arg10 harg10 x10 ![0, 0] inb_S1x3_S1x1_0_0 (ix2 0 0) = (L : EReal) := (ldBox_apply arg10 harg10 x10 0 _).trans (hB.h10 0)
  have hz := fun r => loopRows_real arg1 harg1 arg2 harg2 arg3 harg3 arg4 harg4 arg5 harg5 arg6 harg6 arg7 harg7 arg10 harg10 hB hc2 r
  refine (middle_pot c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x12 x13 hc1 hc2 hc3).trans ?_
  rw [potOp_apply, sum_rows_real _ (fun r => rowT S (1024 * (i 0).val) r + (∑ c : Fin 1024, S.H (1024 * (i 0).val + r) (1024 * (i 0).val + 1024 + c)) + ∑ c ∈ Finset.range (1024 * (k0_t1_loop i).trips), S.H (1024 * (i 0).val + r) (1024 * (i 0).val + 2048 + c)) hz,
    point_sum S _ _ (trips_eq i hc2), hbox, ← EReal.coe_mul, ← EReal.coe_mul]
  exact congrArg (· + _) (ldSum_apply arg13 harg13 x13 _)

theorem last_energy (c : Dev nD)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (hB : Blocks S L (i 0).val x1 x2 x3 x4 x5 x6 x7 x10) (x8 : Vec Ideal S2x4095 .f32) (x9 : Vec Ideal S3x4093 .f32) (x12 : Vec Ideal S3x4096 .f32) (x13 : Vec Ideal S1x1 .f32)
    (hc1 : ¬ k0_cond1 i = 1#1) (hc2 : ¬ k0_cond2 i = 1#1) (hc3 : k0_cond3 i = 1#1) (hi : (i 0).val = 3) :
    (runLast (F := Ideal) c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x12 x13 hc1 hc2 hc3).1.2.2 (ix2 0 0)
      = x13 (ix2 0 0) + ((area S (1024 * (i 0).val) 1024 0 4096 * (L * L) : ℝ) : EReal) := by
  have hbox : ldBox arg10 harg10 x10 ![0, 0] inb_S1x3_S1x1_0_0 (ix2 0 0) = (L : EReal) := (ldBox_apply arg10 harg10 x10 0 _).trans (hB.h10 0)
  refine (last_pot c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x12 x13 hc1 hc2 hc3).trans ?_
  rw [potOp_apply, sum_rows_real _ (fun r => rowT S (1024 * (i 0).val) r) (fun r => rows_real arg1 harg1 arg2 harg2 arg3 harg3 arg4 harg4 arg5 harg5 arg6 harg6 arg7 harg7 arg10 harg10 hB r),
    hi, last_sum, hbox, ← EReal.coe_mul, ← EReal.coe_mul]
  exact congrArg (· + _) (ldSum_apply arg13 harg13 x13 _)

theorem first_energy (c : Dev nD)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (hB : Blocks S L (i 0).val x1 x2 x3 x4 x5 x6 x7 x10) (x8 : Vec Ideal S2x4095 .f32) (x9 : Vec Ideal S3x4093 .f32)
    (hc1 : k0_cond1 i = 1#1) (hc2 : k0_cond2 i = 1#1) (hc3 : ¬ k0_cond3 i = 1#1)
    (hv : ∀ j < 4094, dotR (crossR (bvec S L j) (bvec S L (j + 1))) (crossR (bvec S L j) (bvec S L (j + 1))) ≠ 0) :
    (runFirst (F := Ideal) c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 hc1 hc2 hc3).1.2.2 (ix2 0 0)
      = bonded (bvec S L) (fun a j => x8 (ix2 a j)) (fun a j => x9 (ix2 a j)) + ((area S (1024 * (i 0).val) 1024 0 4096 * (L * L) : ℝ) : EReal) := by
  have hbox : ldBox arg10 harg10 x10 ![0, 0] inb_S1x3_S1x1_0_0 (ix2 0 0) = (L : EReal) := (ldBox_apply arg10 harg10 x10 0 _).trans (hB.h10 0)
  have hz := fun r => loopRows_real arg1 harg1 arg2 harg2 arg3 harg3 arg4 harg4 arg5 harg5 arg6 harg6 arg7 harg7 arg10 harg10 hB hc2 r
  refine (first_pot c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 hc1 hc2 hc3).trans ?_
  rw [potOp_apply, sum_rows_real _ (fun r => rowT S (1024 * (i 0).val) r + (∑ c : Fin 1024, S.H (1024 * (i 0).val + r) (1024 * (i 0).val + 1024 + c)) + ∑ c ∈ Finset.range (1024 * (k0_t1_loop i).trips), S.H (1024 * (i 0).val + r) (1024 * (i 0).val + 2048 + c)) hz,
    point_sum S _ _ (trips_eq i hc2), hbox, ← EReal.coe_mul, ← EReal.coe_mul]
  rw [sumBack_apply]
  refine congrArg (· + _) ((bondedOp_apply _ _).trans ?_)
  have hb : ∀ (k : Fin 3) (i0 : ∀ a, (![k.val, 0] : Fin 2 → ℕ) a + S1x4095.size a ≤ S3x4096.size a) (i1 : ∀ a, (![k.val, 1] : Fin 2 → ℕ) a + S1x4095.size a ≤ S3x4096.size a)
      (ib : ∀ a, (![0, k.val] : Fin 2 → ℕ) a + S1x1.size a ≤ S1x3.size a) (j : Fin 4095),
      bvOp (ldLine arg2 harg2 x2 ![k.val, 0] i0) (ldLine arg2 harg2 x2 ![k.val, 1] i1) (ldBox arg10 harg10 x10 ![0, k.val] ib) (ix2 0 j) = ((bvec S L j k : ℝ) : EReal) := fun k i0 i1 ib j => by
    refine bvOp_real _ _ _ j _ _ L ((ldLine_apply arg2 harg2 x2 0 k (by omega) i0 j).trans ((hB.h2 _ _).trans ?_)) ((ldLine_apply arg2 harg2 x2 1 k (by omega) i1 j).trans ((hB.h2 _ _).trans ?_))
      ((ldBox_apply arg10 harg10 x10 k ib).trans (hB.h10 k))
    · show ((S.U (0 + j.val) k : ℝ) : EReal) = _
      rw [Nat.zero_add]
    · show ((S.U (1 + j.val) k : ℝ) : EReal) = _
      rw [Nat.add_comm]
  refine congrArg₂ (· + ·) (Finset.sum_congr rfl fun j _ => ?_) (Finset.sum_congr rfl fun j _ => ?_)
  · refine (bondOp_real _ _ _ _ _ j (bvec S L j) (hb 0 _ _ _ j) (hb 1 _ _ _ j) (hb 2 _ _ _ j)).trans ?_
    exact congrArg₂ (bondE _) (ldBond_apply arg8 harg8 x8 0 _ j) (ldBond_apply arg8 harg8 x8 1 _ j)
  · refine (dihOp_real _ _ _ _ _ _ j (bvec S L) (hb 0 _ _ _) (hb 1 _ _ _) (hb 2 _ _ _) (hv _ (by omega)) (hv _ (by omega))).trans ?_
    rw [show ldTor arg9 harg9 x9 ![0, 0] inb_S3x4093_S1x4093_0_0 (ix2 0 j) = x9 (ix2 0 j) from ldTor_apply arg9 harg9 x9 0 _ j,
      show ldTor arg9 harg9 x9 ![1, 0] inb_S3x4093_S1x4093_1_0 (ix2 0 j) = x9 (ix2 1 j) from ldTor_apply arg9 harg9 x9 1 _ j,
      show ldTor arg9 harg9 x9 ![2, 0] inb_S3x4093_S1x4093_2_0 (ix2 0 j) = x9 (ix2 2 j) from ldTor_apply arg9 harg9 x9 2 _ j]

end

end Cert.Proof.Energy

end
-- ==== Proof.Host.lean ====
/-
  The arrays that the kernel's windows name, as the host operations before the region leave them.
-/
module

public import proofs.«01_k».proof.Proof.Energy
public import Idealize.ShloMosaic.Lib.Claim
public import Idealize.ShloMosaic.Lib.Pipeline.ValueKit
public import Idealize.ShloMosaic.Lib.StableHlo.RunRead

@[expose] public section

set_option maxRecDepth 16384

noncomputable section

namespace Cert.Proof.Energy

open Cert.KernelIdeal Cert.KernelIdeal.Gen Cert.Proof.KernelIdeal
open Idealize.ShloMosaic Idealize.ShloMosaic.TcCoe

variable (m : (ℓ : Loc nD τ sig) → Buf (Elt Ideal) ℓ) (c : Dev nD)

/-- The arguments. -/
abbrev aX : FVec Ideal S4096x3 .f32 := m ((c : Thread nD τ).loc main_arg0)
abbrev aBond : FVec Ideal S4095x2 .f32 := m ((c : Thread nD τ).loc main_arg2)
abbrev aTor : FVec Ideal S4093x3 .f32 := m ((c : Thread nD τ).loc main_arg5)
abbrev aTypes : IVec S4096 32 := m ((c : Thread nD τ).loc main_arg6)
abbrev aB : FVec Ideal S20x20 .f32 := m ((c : Thread nD τ).loc main_arg7)
abbrev aBox : FVec Ideal S3 .f32 := m ((c : Thread nD τ).loc main_arg9)

theorem hot (a b : BitVec 32) : (FloatOps.uitofp (F := Ideal) .f32 (IntOp.cmpi CmpIPredicate.eq a b) : EReal) = if a = b then (1 : EReal) else (0 : EReal) := by
  by_cases h : a = b
  · subst h
    rw [if_pos rfl]
    simp [IntOp.cmpi, FloatOps.uitofp]
  · rw [if_neg h]
    simp [IntOp.cmpi, FloatOps.uitofp, h]

theorem V_v4 (r : Fin 4096) (k : Fin 3) : (V m c main_v4 : FVec Ideal S4096x3 .f32) (ix2 r k) = aX m c (ix2 r k) * Ideal.div 1 (aBox m c (ix1 k)) := by
  unfold_abbrev_sides
  after_reads_simp
  pointwise
  rfl

theorem V_v5 (k : Fin 3) (r : Fin 4096) : (V m c main_v5 : FVec Ideal S3x4096 .f32) (ix2 k r) = aX m c (ix2 r k) * Ideal.div 1 (aBox m c (ix1 k)) := by
  unfold_abbrev_sides
  after_reads_simp
  pointwise
  rfl

theorem V_v12 (r : Fin 4096) (l : Fin 20) : (V m c main_v12 : FVec Ideal S4096x20 .f32) (ix2 r l) = if aTypes m c (ix1 r) = BitVec.ofNat 32 l.val then (1 : EReal) else (0 : EReal) := by
  unfold_abbrev_sides
  after_reads_simp
  pointwise
  exact hot _ _

theorem V_v24 (l : Fin 20) (r : Fin 4096) : (V m c main_v24 : FVec Ideal S20x4096 .f32) (ix2 l r) = if aTypes m c (ix1 r) = BitVec.ofNat 32 l.val then (1 : EReal) else (0 : EReal) := by
  unfold_abbrev_sides
  after_reads_simp
  pointwise
  exact hot _ _

theorem V_v16 (a b : Fin 20) : (V m c main_v16 : FVec Ideal S20x20 .f32) (ix2 a b) = Ideal.ofBits .f32 0x3F000000#32 * (aB m c (ix2 a b) + aB m c (ix2 b a)) := by
  unfold_abbrev_sides
  after_reads_simp
  pointwise
  rfl

theorem V_v20 (a b : Fin 20) : (V m c main_v20 : FVec Ideal S20x20 .f32) (ix2 a b) = Ideal.ofBits .f32 0x3F000000#32 * (aB m c (ix2 a b) - aB m c (ix2 b a)) := by
  unfold_abbrev_sides
  after_reads_simp
  pointwise
  rfl

theorem V_v21 (k : Fin 2) (j : Fin 4095) : (V m c main_v21 : FVec Ideal S2x4095 .f32) (ix2 k j) = aBond m c (ix2 j k) := by
  unfold_abbrev_sides
  after_reads_simp
  pointwise

theorem V_v22 (k : Fin 3) (j : Fin 4093) : (V m c main_v22 : FVec Ideal S3x4093 .f32) (ix2 k j) = aTor m c (ix2 j k) := by
  unfold_abbrev_sides
  after_reads_simp
  pointwise

theorem V_v23 (k : Fin 3) : (V m c main_v23 : FVec Ideal S1x3 .f32) (ix2 0 k) = aBox m c (ix1 k) := by
  unfold_abbrev_sides
  after_reads_simp
  pointwise

/-! The windows' blocks. -/

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel
theorem idx7 : ∀ t : Fin cfg0.N, win0_7.index t 0 = 0 ∧ win0_7.index t 1 = 0 := by decide +kernel
theorem idx8 : ∀ t : Fin cfg0.N, win0_8.index t 0 = 0 ∧ win0_8.index t 1 = 0 := by decide +kernel
theorem idx9 : ∀ t : Fin cfg0.N, win0_9.index t 0 = 0 ∧ win0_9.index t 1 = 0 := by decide +kernel
theorem coords_val : ∀ t : Fin cfg0.N, ((grid0.coords t) 0).val = t.val := by decide +kernel

theorem i0 (t : Fin cfg0.N) (r : Fin 1024) (k : Fin 3) (h : 1024 * t.val + r.val < 4096) : (iblk m c 0 t : FVec Ideal S1024x3 .f32) (ix2 r k) = (V m c main_v4 : FVec Ideal S4096x3 .f32) (ix2 ⟨1024 * t.val + r.val, h⟩ k) := by
  blk_ext [iblk, (idx0 t).1, (idx0 t).2]

theorem i1 (t : Fin cfg0.N) (k : Fin 3) (r : Fin 4096) : (iblk m c 1 t : FVec Ideal S3x4096 .f32) (ix2 k r) = (V m c main_v5 : FVec Ideal S3x4096 .f32) (ix2 k r) := by
  blk_ext [iblk, (idx1 t).1, (idx1 t).2]

theorem i2 (t : Fin cfg0.N) (r : Fin 1024) (k : Fin 20) (h : 1024 * t.val + r.val < 4096) : (iblk m c 2 t : FVec Ideal S1024x20 .f32) (ix2 r k) = (V m c main_v12 : FVec Ideal S4096x20 .f32) (ix2 ⟨1024 * t.val + r.val, h⟩ k) := by
  blk_ext [iblk, (idx2 t).1, (idx2 t).2]

theorem i3 (t : Fin cfg0.N) (k : Fin 20) (r : Fin 4096) : (iblk m c 3 t : FVec Ideal S20x4096 .f32) (ix2 k r) = (V m c main_v24 : FVec Ideal S20x4096 .f32) (ix2 k r) := by
  blk_ext [iblk, (idx3 t).1, (idx3 t).2]

theorem i4 (t : Fin cfg0.N) (k r : Fin 20) : (iblk m c 4 t : FVec Ideal S20x20 .f32) (ix2 k r) = (V m c main_arg7 : FVec Ideal S20x20 .f32) (ix2 k r) := by
  blk_ext [iblk, (idx4 t).1, (idx4 t).2]

theorem i5 (t : Fin cfg0.N) (k r : Fin 20) : (iblk m c 5 t : FVec Ideal S20x20 .f32) (ix2 k r) = (V m c main_v16 : FVec Ideal S20x20 .f32) (ix2 k r) := by
  blk_ext [iblk, (idx5 t).1, (idx5 t).2]

theorem i6 (t : Fin cfg0.N) (k r : Fin 20) : (iblk m c 6 t : FVec Ideal S20x20 .f32) (ix2 k r) = (V m c main_v20 : FVec Ideal S20x20 .f32) (ix2 k r) := by
  blk_ext [iblk, (idx6 t).1, (idx6 t).2]

theorem i7 (t : Fin cfg0.N) (k : Fin 2) (r : Fin 4095) : (iblk m c 7 t : FVec Ideal S2x4095 .f32) (ix2 k r) = (V m c main_v21 : FVec Ideal S2x4095 .f32) (ix2 k r) := by
  blk_ext [iblk, (idx7 t).1, (idx7 t).2]

theorem i8 (t : Fin cfg0.N) (k : Fin 3) (r : Fin 4093) : (iblk m c 8 t : FVec Ideal S3x4093 .f32) (ix2 k r) = (V m c main_v22 : FVec Ideal S3x4093 .f32) (ix2 k r) := by
  blk_ext [iblk, (idx8 t).1, (idx8 t).2]

theorem i9 (t : Fin cfg0.N) (k : Fin 3) : (iblk m c 9 t : FVec Ideal S1x3 .f32) (ix2 0 k) = (V m c main_v23 : FVec Ideal S1x3 .f32) (ix2 0 k) := by
  blk_ext [iblk, (idx9 t).1, (idx9 t).2]

end Cert.Proof.Energy

end
-- ==== Proof.KernelValue.lean ====
/-
  The energy that the kernel's last grid point leaves, in terms of the launch's arguments.
-/
module

public import proofs.«01_k».proof.Proof.Host

@[expose] public section

set_option maxRecDepth 16384

noncomputable section

namespace Cert.Proof.Energy

open Cert.KernelIdeal Cert.KernelIdeal.Gen Cert.Proof.KernelIdeal
open Idealize.ShloMosaic Idealize.ShloMosaic.TcCoe

/-- The arguments are these reals, types and coefficients. -/
structure Args (S : Sys) (L : ℝ) (X : ℕ → Fin 3 → ℝ) (x : FVec Ideal S4096x3 .f32) (ty : IVec S4096 32) (B : FVec Ideal S20x20 .f32) (box : FVec Ideal S3 .f32) : Prop where
  hL : L ≠ 0
  hib : S.ib = 1 / (L * L)
  hU : ∀ r k, S.U r k = X r k * (1 / L)
  hx : ∀ (r : Fin 4096) (k : Fin 3), x (ix2 r k) = ((X r k : ℝ) : EReal)
  hT : ∀ r : Fin 4096, ty (ix1 r) = BitVec.ofNat 32 (S.T r).val
  hC : ∀ a b : Fin 20, B (ix2 a b) = ((S.C a b : ℝ) : EReal)
  hbox : ∀ k : Fin 3, box (ix1 k) = (L : EReal)
  bent : ∀ j < 4094, dotR (crossR (bvec S L j) (bvec S L (j + 1))) (crossR (bvec S L j) (bvec S L (j + 1))) ≠ 0

theorem hot_iff (a b : Fin 20) : (BitVec.ofNat 32 a.val = BitVec.ofNat 32 b.val) ↔ b = a := by
  constructor
  · intro h
    have e := congrArg BitVec.toNat h
    simp only [BitVec.toNat_ofNat] at e
    apply Fin.ext
    omega
  · rintro rfl
    rfl

theorem hot_if (a b : Fin 20) : (if BitVec.ofNat 32 a.val = BitVec.ofNat 32 b.val then (1 : EReal) else 0) = if b = a then 1 else 0 := by
  simp only [hot_iff]

variable (m : (ℓ : Loc nD τ sig) → Buf (Elt Ideal) ℓ) (c : Dev nD)

section
variable {S : Sys} {L : ℝ} {X : ℕ → Fin 3 → ℝ} (hA : Args S L X (aX m c) (aTypes m c) (aB m c) (aBox m c))
include hA

theorem u_real (r : Fin 4096) (k : Fin 3) : aX m c (ix2 r k) * Ideal.div 1 (aBox m c (ix1 k)) = ((S.U r k : ℝ) : EReal) := by
  rw [hA.hx, hA.hbox, Ideal.div_coe hA.hL, one_mul, ← EReal.coe_mul, hA.hU]

theorem blocks_of (t : Fin cfg0.N) : Blocks S L ((grid0.coords t) 0).val (iblk m c 0 t) (iblk m c 1 t) (iblk m c 2 t) (iblk m c 3 t) (iblk m c 4 t) (iblk m c 5 t) (iblk m c 6 t) (iblk m c 9 t) := by
  have ht : t.val < 4 := t.isLt
  have half : Ideal.ofBits .f32 0x3F000000#32 = ((1 / 2 : ℝ) : EReal) := ofBits_half
  rw [coords_val]
  refine ⟨hA.hL, hA.hib, fun r k => ?_, fun k r => ?_, fun r l => ?_, fun l r => ?_, fun a b => ?_, fun a b => ?_, fun a b => ?_, fun k => ?_⟩
  · exact (i0 m c t r k (by omega)).trans ((V_v4 m c _ k).trans (u_real m c hA _ k))
  · exact (i1 m c t k r).trans ((V_v5 m c k r).trans (u_real m c hA r k))
  · refine (i2 m c t r l (by omega)).trans ((V_v12 m c _ l).trans ?_)
    rw [hA.hT]
    exact hot_if _ _
  · refine (i3 m c t l r).trans ((V_v24 m c l r).trans ?_)
    rw [hA.hT]
    exact hot_if _ _
  · refine (i4 m c t a b).trans ?_
    rw [V_main_arg7]
    exact hA.hC a b
  · refine (i5 m c t a b).trans ((V_v16 m c a b).trans ?_)
    rw [hA.hC, hA.hC, half, ← EReal.coe_add, ← EReal.coe_mul]
  · refine (i6 m c t a b).trans ((V_v20 m c a b).trans ?_)
    rw [hA.hC, hA.hC, half, ← EReal.coe_sub, ← EReal.coe_mul]
  · exact (i9 m c t k).trans ((V_v23 m c k).trans (hA.hbox k))

/-- The bonded energy of the launch's arguments. -/
def bondedOf (S : Sys) (L : ℝ) (bp : FVec Ideal S4095x2 .f32) (tp : FVec Ideal S4093x3 .f32) : EReal :=
  bonded (bvec S L) (fun a j => bp (ix2 j a)) (fun a j => tp (ix2 j a))

/-- The energy before point `n + 1`. -/
def energyTo (S : Sys) (L : ℝ) (n : ℕ) : ℝ := ∑ t ∈ Finset.range (n + 1), area S (1024 * t) 1024 0 4096 * (L * L)

theorem outs_energy (n : ℕ) (hn : n < cfg0.N) :
    (outsN m c n hn).2.2 (ix2 0 0) = bondedOf S L (aBond m c) (aTor m c) + ((energyTo S L n : ℝ) : EReal) := by
  induction n with
  | zero =>
    have e := outs_first m c ⟨0, hn⟩ rfl
    have hb := coords_val ⟨0, hn⟩
    rw [show outsN m c 0 hn = outs m c ⟨0, hn⟩ from rfl, e]
    refine (first_energy c _ _ _ _ _ _ _ _ _ _ _ _ _ _ _ _ _ _ _ _ _ _ _ _ _ _ (blocks_of m c hA ⟨0, hn⟩) _ _ _ _ _ hA.bent).trans ?_
    rw [hb]
    have e7 : ∀ (a : Fin 2) (j : Fin 4095), (iblk m c 7 ⟨0, hn⟩ : FVec Ideal S2x4095 .f32) (ix2 a j) = aBond m c (ix2 j a) := fun a j => (i7 m c _ a j).trans (V_v21 m c a j)
    have e8 : ∀ (a : Fin 3) (j : Fin 4093), (iblk m c 8 ⟨0, hn⟩ : FVec Ideal S3x4093 .f32) (ix2 a j) = aTor m c (ix2 j a) := fun a j => (i8 m c _ a j).trans (V_v22 m c a j)
    refine congrArg₂ (· + ·) (congrArg₂ (bonded _) (funext fun a => funext fun j => e7 a j) (funext fun a => funext fun j => e8 a j)) ?_
    rw [energyTo, Finset.sum_range_one]
  | succ n ih =>
    have hN : cfg0.N = 4 := N_0
    have ih := ih (by omega)
    have hb := coords_val ⟨n + 1, hn⟩
    have st : ∀ z : EReal, z = bondedOf S L (aBond m c) (aTor m c) + ((energyTo S L n : ℝ) : EReal) →
        z + ((area S (1024 * (n + 1)) 1024 0 4096 * (L * L) : ℝ) : EReal) = bondedOf S L (aBond m c) (aTor m c) + ((energyTo S L (n + 1) : ℝ) : EReal) := fun z hz => by
      rw [hz, energyTo, energyTo, Finset.sum_range_succ _ (n + 1), EReal.coe_add, add_assoc]
    by_cases h : n + 1 < 3
    · have e := outs_middle m c ⟨n + 1, hn⟩ (Nat.succ_ne_zero n) h
      rw [show outsN m c (n + 1) hn = outs m c ⟨n + 1, hn⟩ from rfl, e]
      refine (middle_energy c _ _ _ _ _ _ _ _ _ _ _ _ _ _ _ _ _ _ _ _ _ _ _ _ _ _ (blocks_of m c hA ⟨n + 1, hn⟩) _ _ _ _ _ _ _).trans ?_
      rw [hb]
      exact st _ ih
    · have e := outs_last m c ⟨n + 1, hn⟩ (by show n + 1 = 3; omega)
      rw [show outsN m c (n + 1) hn = outs m c ⟨n + 1, hn⟩ from rfl, e]
      refine (last_energy c _ _ _ _ _ _ _ _ _ _ _ _ _ _ _ _ _ _ _ _ _ _ _ _ _ _ (blocks_of m c hA ⟨n + 1, hn⟩) _ _ _ _ _ _ _ (by rw [hb]; show n + 1 = 3; omega)).trans ?_
      rw [hb]
      exact st _ ih

/-- After the last point: the bonded energy and every pair's. -/
theorem outs_total (hn : 3 < cfg0.N) :
    (outsN m c 3 hn).2.2 (ix2 0 0)
      = bondedOf S L (aBond m c) (aTor m c) + (((∑ r ∈ Finset.range 4096, ∑ q ∈ Finset.range 4096, S.H r q) * (L * L) : ℝ) : EReal) := by
  rw [outs_energy m c hA 3 hn, ← total_sum, energyTo]
  simp only [Finset.sum_range_succ, Finset.sum_range_zero, zero_add, add_mul]

end

end Cert.Proof.Energy

end
-- ==== Proof.RefBonds.lean ====
/-
  The reference's bonds: which positions its indices name, the wrapped vector between them, and the bonds' energy.
-/
module

public import proofs.«01_k».proof.Proof.KernelValue
public import proofs.«01_k».proof.Proof.RefRun
public import proofs.«01_k».proof.Proof.Gen.ReferenceIdeal.Read
public import Idealize.ShloMosaic.Lib.Routing.OpsSet
public import Idealize.ShloMosaic.Lib.Routing.OpsPair

@[expose] public section

set_option maxRecDepth 16384

noncomputable section

namespace Cert.Proof.Energy

open Cert.ReferenceIdeal Cert.ReferenceIdeal.Gen Cert.ReferenceIdeal.Read
open Idealize.ShloMosaic Idealize.ShloMosaic.TcCoe

/-- The indices of the bonds, of the dihedrals, of the dihedrals' parameters and of the pairs. -/
structure Indices (bond : IVec S4095x2 32) (dih : IVec S4093x4 32) (map : IVec S4093 32) (ava : IVec S8382465x2 32) (P Q : ℕ → ℕ) : Prop where
  bond : ∀ (j : Fin 4095) (a : Fin 2), bond (ix2 j a) = BitVec.ofNat 32 (j.val + a.val)
  dih : ∀ (j : Fin 4093) (a : Fin 4), dih (ix2 j a) = BitVec.ofNat 32 (j.val + a.val)
  map : ∀ j : Fin 4093, map (ix1 j) = BitVec.ofNat 32 j.val
  left : ∀ p : Fin 8382465, ava (ix2 p 0) = BitVec.ofNat 32 (P p)
  right : ∀ p : Fin 8382465, ava (ix2 p 1) = BitVec.ofNat 32 (Q p)
  apart : ∀ p < 8382465, P p + 2 ≤ Q p
  below : ∀ p < 8382465, Q p < 4096
  rank : ∀ p < 8382465, P p * (8189 - P p) + 2 * (Q p - P p - 2) = 2 * p

/-- An index that is not negative is not wrapped. -/
theorem wrap_word (x a : BitVec 32) (n : ℕ) (h : x = BitVec.ofNat 32 n) (hn : n < 2 ^ 31) : Scalar.select (IntOp.cmpi .slt x 0#32) a x = BitVec.ofNat 32 n := by
  subst h
  refine Routing.wrap_of_lt _ _ ?_
  rw [BitVec.toNat_ofNat]
  omega

/-- The wrapped separation of two positions. -/
theorem wrap_real (x y L : ℝ) (hL : L ≠ 0) :
    ((x : EReal) - (y : EReal)) - (L : EReal) * Ideal.liftRound Ideal.roundHalfEven (Ideal.div ((x : EReal) - (y : EReal)) (L : EReal))
      = ((wr (x * (1 / L) - y * (1 / L)) * L : ℝ) : EReal) := by
  rw [← EReal.coe_sub, Ideal.div_coe hL, ← EReal.coe_mul, Ideal.liftRound_coe, ← EReal.coe_mul, ← EReal.coe_sub]
  congr 1
  unfold wr
  rw [← sub_mul]
  field_simp

section
variable {S : Sys} {L : ℝ} {X : ℕ → Fin 3 → ℝ} {x0 : FVec Ideal S4096x3 .f32} {x6 : IVec S4096 32} {x7 : FVec Ideal S20x20 .f32} {x9 : FVec Ideal S3 .f32}
  (hA : Args S L X x0 x6 x7 x9)
  {x1 : IVec S4095x2 32} {x3 : IVec S4093x4 32} {x4 : IVec S4093 32} {x8 : IVec S8382465x2 32} {P Q : ℕ → ℕ} (hI : Indices x1 x3 x4 x8 P Q)
include hA hI

theorem bond_left (j : Fin 4095) (k : Fin 3) : val_main_v9 (F := Ideal) x0 x1 (ix2 j k) = ((X j.val k : ℝ) : EReal) := by
  refine (Routing.gather_row (nb := 4096) (B := 3) (n := 4095) gather_S4096x3_S4095x1_S4095x3_1_0_n_n_0_1_13 rfl rfl rfl rfl rfl x0 (val_main_v8 (F := Ideal) x1) j k ⟨j.val, by omega⟩ ?_ (by norm_num)).trans (hA.hx _ _)
  have e : val_main_v8 (F := Ideal) x1 (ix2 j 0) = Scalar.select (IntOp.cmpi .slt (x1 (ix2 j 0)) 0#32) (IntOp.addi (x1 (ix2 j 0)) 4096#32) (x1 (ix2 j 0)) := by
    unfold val_main_v8 val_main_v7 val_main_v6 val_main_v5 val_main_v4 val_main_v3 val_main_v2 val_main_v1
    pointwise
    rfl
  exact e.trans (wrap_word _ _ _ (hI.bond j 0) (by simp; omega))

theorem bond_right (j : Fin 4095) (k : Fin 3) : val_main_v18 (F := Ideal) x0 x1 (ix2 j k) = ((X (j.val + 1) k : ℝ) : EReal) := by
  refine (Routing.gather_row (nb := 4096) (B := 3) (n := 4095) gather_S4096x3_S4095x1_S4095x3_1_0_n_n_0_1_13 rfl rfl rfl rfl rfl x0 (val_main_v17 (F := Ideal) x1) j k ⟨j.val + 1, by omega⟩ ?_ (by norm_num)).trans (hA.hx _ _)
  have e : val_main_v17 (F := Ideal) x1 (ix2 j 0) = Scalar.select (IntOp.cmpi .slt (x1 (ix2 j 1)) 0#32) (IntOp.addi (x1 (ix2 j 1)) 4096#32) (x1 (ix2 j 1)) := by
    unfold val_main_v17 val_main_v16 val_main_v15 val_main_v14 val_main_v13 val_main_v12 val_main_v11 val_main_v10
    pointwise
    rfl
  exact e.trans (wrap_word _ _ _ (hI.bond j 1) (by simp; omega))

theorem bond_vec (j : Fin 4095) (k : Fin 3) : val_main_v27 (F := Ideal) x0 x1 x9 (ix2 j k) = ((bvec S L j k : ℝ) : EReal) := by
  have e : val_main_v27 (F := Ideal) x0 x1 x9 (ix2 j k) = (val_main_v9 (F := Ideal) x0 x1 (ix2 j k) - val_main_v18 (F := Ideal) x0 x1 (ix2 j k))
      - x9 (ix1 k) * Ideal.liftRound Ideal.roundHalfEven (Ideal.div (val_main_v9 (F := Ideal) x0 x1 (ix2 j k) - val_main_v18 (F := Ideal) x0 x1 (ix2 j k)) (x9 (ix1 k))) := by
    unfold val_main_v27 val_main_v26 val_main_v25 val_main_v24 val_main_v23 val_main_v22 val_main_v21 val_main_v20 val_main_v19
    pointwise
  rw [e, bond_left hA hI, bond_right hA hI, hA.hbox, wrap_real _ _ _ hA.hL, bvec, hA.hU, hA.hU]

theorem bond_dist (j : Fin 4095) : val_main_v28 (F := Ideal) x0 x1 x9 (ix1 j) = ((√(dotR (bvec S L j) (bvec S L j)) : ℝ) : EReal) := by
  have e : val_main_v28 (F := Ideal) x0 x1 x9 (ix1 j) = Ideal.sqrt (∑ k : Fin 3, val_main_v27 (F := Ideal) x0 x1 x9 (ix2 j k) * val_main_v27 (F := Ideal) x0 x1 x9 (ix2 j k)) := by
    unfold val_main_v28 val_main_call1_v1 val_main_call1_v0 val_main_call1_cst
    pointwise
  rw [e]
  simp only [bond_vec hA hI, Fin.sum_univ_three, ← EReal.coe_mul, ← EReal.coe_add]
  exact sqrt_dot _

theorem bonds_sum (x2 : FVec Ideal S4095x2 .f32) : val_main_v39 (F := Ideal) x0 x1 x2 x9 ix0 = ∑ j : Fin 4095, bondE (bvec S L j) (x2 (ix2 j 0)) (x2 (ix2 j 1)) := by
  have e : val_main_v39 (F := Ideal) x0 x1 x2 x9 ix0 = ∑ j : Fin 4095, x2 (ix2 j 0) * ((val_main_v28 (F := Ideal) x0 x1 x9 (ix1 j) - x2 (ix2 j 1)) * (val_main_v28 (F := Ideal) x0 x1 x9 (ix1 j) - x2 (ix2 j 1))) := by
    unfold val_main_v39 val_main_cst_3 val_main_v38 val_main_v37 val_main_v36 val_main_v35 val_main_v34 val_main_v33 val_main_v32
    pointwise
  rw [e]
  simp only [bond_dist hA hI]
  rfl

end

end Cert.Proof.Energy
-- ==== Proof.RefPairs.lean ====
/-
  The reference's pairs: the distance of each, the coefficient of its two types, and the sum of their energies.
-/
module

public import proofs.«01_k».proof.Proof.RefBonds

@[expose] public section

set_option maxRecDepth 16384

noncomputable section

namespace Cert.Proof.Energy

open Cert.ReferenceIdeal Cert.ReferenceIdeal.Gen Cert.ReferenceIdeal.Read
open Idealize.ShloMosaic Idealize.ShloMosaic.TcCoe

/-- `table[i, j]`, where both indices are in range. -/
theorem gather_pair {α : Type} {M N n : ℕ} (d : GatherDims (Routing.shape2 M N) (Routing.shape2 n 2) (Routing.shape1 n)) (hoff : d.offsetDims = [])
    (hcoll : d.collapsedSliceDims = [0, 1]) (hob : d.operandBatchingDims = []) (hsim : d.startIndexMap = [0, 1]) (hivd : d.indexVectorDim = 1)
    (x : (Routing.shape2 M N).Idx → α) (idx : IVec (Routing.shape2 n 2) 32) (p : Fin n) (a : Fin M) (b : Fin N)
    (ha : idx (ix2 p (0 : Fin 2)) = BitVec.ofNat 32 a.val) (hb : idx (ix2 p (1 : Fin 2)) = BitVec.ofNat 32 b.val) (hM : M < 2 ^ 31) (hN : N < 2 ^ 31) :
    Host.gather d x idx (ix1 p) = x (ix2 a b) := by
  unfold Host.gather
  refine congrArg x (funext fun q => Fin.ext ?_)
  have hbN : ∀ a', a' ∉ d.operandBatchingDims := fun a' => by rw [hob]; exact List.not_mem_nil
  have e0 : ∀ Y : Fin 1, (ix1 p Y).val = p.val := fun Y => by obtain rfl : Y = 0 := Subsingleton.elim _ _; rfl
  have hc : ∀ q : Fin 2, q ∈ d.collapsedSliceDims := fun q => by rw [hcoll]; fin_cases q <;> simp
  have hm : ∀ q : Fin 2, q ∈ d.startIndexMap := fun q => by rw [hsim]; fin_cases q <;> simp
  have hk : ∀ q : Fin 2, q ∉ d.sKept := fun q h => ((d.mem_sKept q).1 h).1 (hc q)
  have hsi : ∀ q : Fin 2, d.siIdx (ix1 p) ⟨d.startIndexMap.idxOf q, List.idxOf_lt_length_iff.2 (hm q)⟩ = ix2 p q := by
    intro q
    funext b'
    apply Fin.ext
    match b' with
    | ⟨0, _⟩ =>
      unfold GatherDims.siIdx
      rw [dif_neg (by rw [hivd]; exact Nat.zero_ne_one)]
      unfold GatherDims.siCoord
      simp only [Fin.val_cast]
      exact e0 _
    | ⟨1, _⟩ =>
      unfold GatherDims.siIdx
      rw [dif_pos (by rw [hivd])]
      show List.idxOf q d.startIndexMap = q.val
      rw [hsim]; fin_cases q <;> simp
  have hst : ∀ q : Fin 2, d.start (ix1 p) idx q = min (idx (ix2 p q)).toInt.toNat ((Routing.shape2 M N).size q - 1) := by
    intro q
    unfold GatherDims.start
    rw [dif_pos (hm q), hsi, d.slice_collapsed q (hc q)]
  have hal := a.isLt
  have hbl := b.isLt
  match q with
  | ⟨0, _⟩ =>
    show d.start (ix1 p) idx 0 + d.batchCoord (ix1 p) 0 + d.offCoord (ix1 p) 0 = a.val
    rw [d.batchCoord_eq_zero _ _ (hbN 0), d.offCoord_eq_zero _ _ (hk 0), hst, ha, StableHlo.Predicate.toInt_ofNat_small _ (by omega)]
    show min ((a.val : Int)).toNat (M - 1) + 0 + 0 = a.val
    omega
  | ⟨1, _⟩ =>
    show d.start (ix1 p) idx 1 + d.batchCoord (ix1 p) 1 + d.offCoord (ix1 p) 1 = b.val
    rw [d.batchCoord_eq_zero _ _ (hbN 1), d.offCoord_eq_zero _ _ (hk 1), hst, hb, StableHlo.Predicate.toInt_ofNat_small _ (by omega)]
    show min ((b.val : Int)).toNat (N - 1) + 0 + 0 = b.val
    omega

/-- One pair's energy from its distance is the kernel's expression in units of the box. -/
theorem pair_real (L s c : ℝ) (hL : L ≠ 0) (hs : 0 < s) :
    (c : EReal) * (Ideal.div 1 ((√(L * L * s) : ℝ) : EReal) * Ideal.div 1 ((√(L * L * s) : ℝ) : EReal)
      * (Ideal.div 1 ((√(L * L * s) : ℝ) : EReal) * Ideal.div 1 ((√(L * L * s) : ℝ) : EReal) * (Ideal.div 1 ((√(L * L * s) : ℝ) : EReal) * Ideal.div 1 ((√(L * L * s) : ℝ) : EReal))))
      = ((pairR (1 / (L * L)) s c * (L * L) : ℝ) : EReal) := by
  have h : 0 < L * L * s := mul_pos (mul_self_pos.mpr hL) hs
  have hq : √(L * L * s) ≠ 0 := (Real.sqrt_pos.mpr h).ne'
  rw [Ideal.div_coe hq, one_mul]
  simp only [← EReal.coe_mul]
  congr 1
  have e : (1 / √(L * L * s)) * (1 / √(L * L * s)) = 1 / (L * L * s) := by
    rw [div_mul_div_comm, one_mul, Real.mul_self_sqrt h.le]
  rw [e]
  unfold pairR
  have := hs.ne'
  field_simp

theorem sq2_nonneg (p q : Fin 3 → ℝ) : 0 ≤ sq2 p q :=
  add_nonneg (add_nonneg (mul_self_nonneg _) (mul_self_nonneg _)) (mul_self_nonneg _)

/-- The square of a wrapped distance, from its three components. -/
theorem dist_sq (L : ℝ) (u v : Fin 3 → ℝ) :
    (∑ k : Fin 3, ((wr (u k - v k) * L : ℝ) : EReal) * ((wr (u k - v k) * L : ℝ) : EReal)) = ((L * L * sq2 u v : ℝ) : EReal) := by
  have h : L * L * sq2 u v = wr (u 0 - v 0) * L * (wr (u 0 - v 0) * L) + wr (u 1 - v 1) * L * (wr (u 1 - v 1) * L) + wr (u 2 - v 2) * L * (wr (u 2 - v 2) * L) := by
    unfold sq2
    ring
  simp only [h, Fin.sum_univ_three, ← EReal.coe_mul, ← EReal.coe_add]

theorem dist_sqrt (L : ℝ) (u v : Fin 3 → ℝ) : Ideal.sqrt ((L * L * sq2 u v : ℝ) : EReal) = ((√(L * L * sq2 u v) : ℝ) : EReal) := by
  rw [Ideal.sqrt_coe, if_neg (not_lt.mpr (mul_nonneg (mul_self_nonneg L) (sq2_nonneg u v)))]

section
variable {S : Sys} {L : ℝ} {X : ℕ → Fin 3 → ℝ} {x0 : FVec Ideal S4096x3 .f32} {x6 : IVec S4096 32} {x7 : FVec Ideal S20x20 .f32} {x9 : FVec Ideal S3 .f32}
  (hA : Args S L X x0 x6 x7 x9)
  {x1 : IVec S4095x2 32} {x3 : IVec S4093x4 32} {x4 : IVec S4093 32} {x8 : IVec S8382465x2 32} {P Q : ℕ → ℕ} (hI : Indices x1 x3 x4 x8 P Q)
include hA hI

theorem left_lt (p : Fin 8382465) : P p.val < 4096 := by
  have := hI.apart p.val p.isLt
  have := hI.below p.val p.isLt
  omega

theorem left_real (p : Fin 8382465) (k : Fin 3) : val_main_v403 (F := Ideal) x0 x8 (ix2 p k) = ((X (P p.val) k : ℝ) : EReal) := by
  refine (Routing.gather_row (nb := 4096) (B := 3) (n := 8382465) gather_S4096x3_S8382465x1_S8382465x3_1_0_n_n_0_1_13 rfl rfl rfl rfl rfl x0 (val_main_v402 (F := Ideal) x8) p k ⟨P p.val, left_lt hA hI p⟩ ?_ (by norm_num)).trans (hA.hx _ _)
  have e : val_main_v402 (F := Ideal) x8 (ix2 p 0) = Scalar.select (IntOp.cmpi .slt (x8 (ix2 p 0)) 0#32) (IntOp.addi (x8 (ix2 p 0)) 4096#32) (x8 (ix2 p 0)) := by
    unfold val_main_v402 val_main_v401 val_main_v400 val_main_v399 val_main_v398 val_main_v397 val_main_v396 val_main_v395
    pointwise
    rfl
  have := left_lt hA hI p
  exact e.trans (wrap_word _ _ _ (hI.left p) (by omega))

theorem right_real (p : Fin 8382465) (k : Fin 3) : val_main_v412 (F := Ideal) x0 x8 (ix2 p k) = ((X (Q p.val) k : ℝ) : EReal) := by
  refine (Routing.gather_row (nb := 4096) (B := 3) (n := 8382465) gather_S4096x3_S8382465x1_S8382465x3_1_0_n_n_0_1_13 rfl rfl rfl rfl rfl x0 (val_main_v411 (F := Ideal) x8) p k ⟨Q p.val, hI.below p.val p.isLt⟩ ?_ (by norm_num)).trans (hA.hx _ _)
  have e : val_main_v411 (F := Ideal) x8 (ix2 p 0) = Scalar.select (IntOp.cmpi .slt (x8 (ix2 p 1)) 0#32) (IntOp.addi (x8 (ix2 p 1)) 4096#32) (x8 (ix2 p 1)) := by
    unfold val_main_v411 val_main_v410 val_main_v409 val_main_v408 val_main_v407 val_main_v406 val_main_v405 val_main_v404
    pointwise
    rfl
  have := hI.below p.val p.isLt
  exact e.trans (wrap_word _ _ _ (hI.right p) (by omega))

theorem pair_vec (p : Fin 8382465) (k : Fin 3) : val_main_v421 (F := Ideal) x0 x8 x9 (ix2 p k) = ((wr (S.U (P p.val) k - S.U (Q p.val) k) * L : ℝ) : EReal) := by
  have e : val_main_v421 (F := Ideal) x0 x8 x9 (ix2 p k) = (val_main_v403 (F := Ideal) x0 x8 (ix2 p k) - val_main_v412 (F := Ideal) x0 x8 (ix2 p k))
      - x9 (ix1 k) * Ideal.liftRound Ideal.roundHalfEven (Ideal.div (val_main_v403 (F := Ideal) x0 x8 (ix2 p k) - val_main_v412 (F := Ideal) x0 x8 (ix2 p k)) (x9 (ix1 k))) := by
    unfold val_main_v421 val_main_v420 val_main_v419 val_main_v418 val_main_v417 val_main_v416 val_main_v415 val_main_v414 val_main_v413
    pointwise
  rw [e, left_real hA hI, right_real hA hI, hA.hbox, wrap_real _ _ _ hA.hL, hA.hU, hA.hU]

end

end Cert.Proof.Energy
-- ==== Proof.Decode.lean ====
/-
  What the precondition says of the floating-point arguments: positions, coefficients and box are real numbers, the box
  is cubic, and no pair at least two apart in the chain coincides; no angle of the chain is straight.
-/
module

public import proofs.«01_k».proof.Proof.RefPairs
public import proofs.«01_k».proof.Proof.Gen.Pre_regular

@[expose] public section

set_option maxRecDepth 16384

noncomputable section

namespace Cert.Proof.Energy

open Cert.Pre_regular Cert.Pre_regular.Gen
open Idealize.ShloMosaic Idealize.ShloMosaic.TcCoe

theorem ofBits_top : Ideal.ofBits FTy.f32 0x7F800000#32 = ⊤ := by
  simp [Ideal.ofBits, Ideal.ieee]

theorem bit_one (b : Bool) : BitVec.ofBool b = 1#1 ↔ b = true := by cases b <;> decide

theorem and_one (a b : BitVec 1) : IntOp.andi a b = 1#1 ↔ a = 1#1 ∧ b = 1#1 := by
  revert a b; decide

theorem or_one (a b : BitVec 1) : IntOp.ori a b = 1#1 ↔ a = 1#1 ∨ b = 1#1 := by
  revert a b; decide

/-- A number of finite absolute value is real. -/
theorem real_of (x : EReal) (h : Ideal.cmp .olt (max x (-x)) ⊤ = 1#1) : x = ((x.toReal : ℝ) : EReal) := by
  have h' : max x (-x) < ⊤ := of_decide_eq_true ((bit_one _).mp h)
  refine (EReal.coe_toReal (fun e => ?_) (fun e => ?_)).symm
  · rw [e] at h'; simp at h'
  · rw [e] at h'; simp at h'

variable (x0 : FVec Ideal S4096x3 .f32) (x1 : IVec S4095x2 32) (x2 : FVec Ideal S4095x2 .f32) (x3 : IVec S4093x4 32) (x4 : IVec S4093 32)
  (x5 : FVec Ideal S4093x3 .f32) (x6 : IVec S4096 32) (x7 : FVec Ideal S20x20 .f32) (x8 : IVec S8382465x2 32) (x9 : FVec Ideal S3 .f32)

theorem pos_real (h : (fn (F := Ideal) x0 x1 x2 x3 x4 x5 x6 x7 x8 x9).1 = fun _ => 1#1) (r : Fin 4096) (k : Fin 3) :
    x0 (ix2 r k) = (((x0 (ix2 r k)).toReal : ℝ) : EReal) := by
  have e : (fn (F := Ideal) x0 x1 x2 x3 x4 x5 x6 x7 x8 x9).1
      = cmpf .olt (Host.absf x0) (broadcastInDim S4096x3 ![] bcast_S_S4096x3 (constant (F := Ideal) S_ .f32 0x7F800000#32)) := rfl
  have a := congrFun (e.symm.trans h) (ix2 r k)
  refine real_of _ (Eq.trans ?_ a)
  pointwise
  rw [ofBits_top]
  rfl

theorem coef_real (h : (fn (F := Ideal) x0 x1 x2 x3 x4 x5 x6 x7 x8 x9).2.1 = fun _ => 1#1) (a b : Fin 20) :
    x7 (ix2 a b) = (((x7 (ix2 a b)).toReal : ℝ) : EReal) := by
  have e : (fn (F := Ideal) x0 x1 x2 x3 x4 x5 x6 x7 x8 x9).2.1
      = cmpf .olt (Host.absf x7) (broadcastInDim S20x20 ![] bcast_S_S20x20 (constant (F := Ideal) S_ .f32 0x7F800000#32)) := rfl
  have q := congrFun (e.symm.trans h) (ix2 a b)
  refine real_of _ (Eq.trans ?_ q)
  pointwise
  rw [ofBits_top]
  rfl

theorem box_real (h : (fn (F := Ideal) x0 x1 x2 x3 x4 x5 x6 x7 x8 x9).2.2.1 = fun _ => 1#1) :
    (x9 (ix1 0)).toReal ≠ 0 ∧ ∀ k : Fin 3, x9 (ix1 k) = (((x9 (ix1 0)).toReal : ℝ) : EReal) := by
  have e : (fn (F := Ideal) x0 x1 x2 x3 x4 x5 x6 x7 x8 x9).2.2.1
      = andi (andi (cmpf .olt (Host.absf x9) (broadcastInDim S3 ![] bcast_S_S3 (constant (F := Ideal) S_ .f32 0x7F800000#32)))
          (cmpf .une x9 (broadcastInDim S3 ![] bcast_S_S3 (constant (F := Ideal) S_ .f32 0x00000000#32))))
          (cmpf .oeq x9 (broadcastInDim S3 ![] bcast_S_S3 (shapeCast S_ (extractStridedSlice S1 ![0] x9 slices_S3_S1_0) shapeCasts_S1_S_))) := rfl
  have q : ∀ k : Fin 3, IntOp.andi (IntOp.andi (Ideal.cmp .olt (max (x9 (ix1 k)) (-x9 (ix1 k))) ⊤) (Ideal.cmp .une (x9 (ix1 k)) 0)) (Ideal.cmp .oeq (x9 (ix1 k)) (x9 (ix1 0))) = 1#1 := by
    intro k
    refine Eq.trans ?_ (congrFun (e.symm.trans h) (ix1 k))
    pointwise
    rw [ofBits_top]
    rfl
  have q0 := (and_one _ _).mp ((and_one _ _).mp (q 0)).1
  have r0 := real_of _ q0.1
  refine ⟨fun z => ?_, fun k => ?_⟩
  · have n : x9 (ix1 0) ≠ 0 := of_decide_eq_true ((bit_one _).mp q0.2)
    rw [z] at r0
    exact n r0
  · have n : x9 (ix1 k) = x9 (ix1 0) := of_decide_eq_true ((bit_one _).mp ((and_one _ _).mp (q k)).2)
    exact n.trans r0

end Cert.Proof.Energy
-- ==== Proof.DecodeShape.lean ====
/-
  What the precondition says of distances and angles, over the reals.
-/
module

public import proofs.«01_k».proof.Proof.Decode
public import proofs.«01_k».proof.Proof.RefBonds

@[expose] public section

set_option maxRecDepth 16384

noncomputable section

namespace Cert.Proof.Energy

open Cert.Pre_regular Cert.Pre_regular.Gen
open Idealize.ShloMosaic Idealize.ShloMosaic.TcCoe

/-- The precondition's wrapped separation. -/
def sepE (x y L : EReal) : EReal := (x - y) - L * Ideal.liftRound Ideal.roundHalfEven (Ideal.div (x - y) L)

theorem sepE_real (x y L : ℝ) (hL : L ≠ 0) : sepE x y L = ((wr (x * (1 / L) - y * (1 / L)) * L : ℝ) : EReal) := wrap_real x y L hL

variable (x0 : FVec Ideal S4096x3 .f32) (x1 : IVec S4095x2 32) (x2 : FVec Ideal S4095x2 .f32) (x3 : IVec S4093x4 32) (x4 : IVec S4093 32)
  (x5 : FVec Ideal S4093x3 .f32) (x6 : IVec S4096 32) (x7 : FVec Ideal S20x20 .f32) (x8 : IVec S8382465x2 32) (x9 : FVec Ideal S3 .f32)

/-- The separations of all pairs along one coordinate, as the precondition writes them. -/
def sepAll (v : FVec Ideal S4096 .f32) (L : FVec Ideal S_ .f32) : FVec Ideal S4096x4096 .f32 :=
  let d : FVec Ideal S4096x4096 .f32 := subf (broadcastInDim S4096x4096 ![0, 1] bcast_S4096x1_S4096x4096_0_1 (broadcastInDim S4096x1 ![0] bcast_S4096_S4096x1_0 v))
    (broadcastInDim S4096x4096 ![0, 1] bcast_S1x4096_S4096x4096_0_1 (broadcastInDim S1x4096 ![1] bcast_S4096_S1x4096_1 v))
  subf d (mulf (broadcastInDim S4096x4096 ![] bcast_S_S4096x4096 L) (Host.roundeven (Host.divf d (broadcastInDim S4096x4096 ![] bcast_S_S4096x4096 L))))

theorem sepAll_apply (v : FVec Ideal S4096 .f32) (L : FVec Ideal S_ .f32) (r c : Fin 4096) : sepAll v L (ix2 r c) = sepE (v (ix1 r)) (v (ix1 c)) (L ix0) := by
  unfold sepAll sepE
  pointwise

/-- The separations of consecutive positions along one coordinate. -/
def sepNext (v : FVec Ideal S4096 .f32) (L : FVec Ideal S_ .f32) : FVec Ideal S4095 .f32 :=
  let d : FVec Ideal S4095 .f32 := subf (extractStridedSlice S4095 ![0] v slices_S4096_S4095_0) (extractStridedSlice S4095 ![1] v slices_S4096_S4095_1)
  subf d (mulf (broadcastInDim S4095 ![] bcast_S_S4095 L) (Host.roundeven (Host.divf d (broadcastInDim S4095 ![] bcast_S_S4095 L))))

theorem sepNext_apply (v : FVec Ideal S4096 .f32) (L : FVec Ideal S_ .f32) (j : Fin 4095) :
    sepNext v L (ix1 j) = sepE (v (ix1 ⟨j.val, by omega⟩)) (v (ix1 ⟨j.val + 1, by omega⟩)) (L ix0) := by
  unfold sepNext sepE
  pointwise
  simp only [Nat.add_comm 1]

/-- The three coordinates, and the box's side. -/
def cx : FVec Ideal S4096 .f32 := shapeCast S4096 (extractStridedSlice S4096x1 ![0, 0] x0 slices_S4096x3_S4096x1_0_0) shapeCasts_S4096x1_S4096
def cy : FVec Ideal S4096 .f32 := shapeCast S4096 (extractStridedSlice S4096x1 ![0, 1] x0 slices_S4096x3_S4096x1_0_1) shapeCasts_S4096x1_S4096
def cz : FVec Ideal S4096 .f32 := shapeCast S4096 (extractStridedSlice S4096x1 ![0, 2] x0 slices_S4096x3_S4096x1_0_2) shapeCasts_S4096x1_S4096
def side : FVec Ideal S_ .f32 := shapeCast S_ (extractStridedSlice S1 ![0] x9 slices_S3_S1_0) shapeCasts_S1_S_

theorem cx_apply (r : Fin 4096) : cx x0 (ix1 r) = x0 (ix2 r 0) := by unfold cx; pointwise
theorem cy_apply (r : Fin 4096) : cy x0 (ix1 r) = x0 (ix2 r 1) := by unfold cy; pointwise
theorem cz_apply (r : Fin 4096) : cz x0 (ix1 r) = x0 (ix2 r 2) := by unfold cz; pointwise
theorem side_apply : side x9 ix0 = x9 (ix1 0) := by unfold side; pointwise

/-- Positions of the reals `X` in a cubic box of side `L`. -/
structure Real3 (X : ℕ → Fin 3 → ℝ) (L : ℝ) : Prop where
  hL : L ≠ 0
  hx : ∀ (r : Fin 4096) (k : Fin 3), x0 (ix2 r k) = ((X r k : ℝ) : EReal)
  hbox : x9 (ix1 0) = (L : EReal)

/-- A component of a separation, in the box's units times the side. -/
def dR (X : ℕ → Fin 3 → ℝ) (L : ℝ) (r c : ℕ) (k : Fin 3) : ℝ := wr (X r k * (1 / L) - X c k * (1 / L)) * L

variable {X : ℕ → Fin 3 → ℝ} {L : ℝ} (hR : Real3 x0 x9 X L)
include hR

theorem all0 (r c : Fin 4096) : sepAll (cx x0) (side x9) (ix2 r c) = ((dR X L r c 0 : ℝ) : EReal) := by
  rw [sepAll_apply, cx_apply, cx_apply, side_apply, hR.hx, hR.hx, hR.hbox, sepE_real _ _ _ hR.hL]; rfl
theorem all1 (r c : Fin 4096) : sepAll (cy x0) (side x9) (ix2 r c) = ((dR X L r c 1 : ℝ) : EReal) := by
  rw [sepAll_apply, cy_apply, cy_apply, side_apply, hR.hx, hR.hx, hR.hbox, sepE_real _ _ _ hR.hL]; rfl
theorem all2 (r c : Fin 4096) : sepAll (cz x0) (side x9) (ix2 r c) = ((dR X L r c 2 : ℝ) : EReal) := by
  rw [sepAll_apply, cz_apply, cz_apply, side_apply, hR.hx, hR.hx, hR.hbox, sepE_real _ _ _ hR.hL]; rfl

theorem next0 (j : Fin 4095) : sepNext (cx x0) (side x9) (ix1 j) = ((dR X L j (j + 1) 0 : ℝ) : EReal) := by
  rw [sepNext_apply, cx_apply, cx_apply, side_apply, hR.hx, hR.hx, hR.hbox, sepE_real _ _ _ hR.hL]; rfl
theorem next1 (j : Fin 4095) : sepNext (cy x0) (side x9) (ix1 j) = ((dR X L j (j + 1) 1 : ℝ) : EReal) := by
  rw [sepNext_apply, cy_apply, cy_apply, side_apply, hR.hx, hR.hx, hR.hbox, sepE_real _ _ _ hR.hL]; rfl
theorem next2 (j : Fin 4095) : sepNext (cz x0) (side x9) (ix1 j) = ((dR X L j (j + 1) 2 : ℝ) : EReal) := by
  rw [sepNext_apply, cz_apply, cz_apply, side_apply, hR.hx, hR.hx, hR.hbox, sepE_real _ _ _ hR.hL]; rfl

/-- Pairs at least two apart in the chain do not coincide. -/
theorem far (h : (fn (F := Ideal) x0 x1 x2 x3 x4 x5 x6 x7 x8 x9).2.2.2.2.2.2.2.2.2.1 = fun _ => 1#1) (r c : Fin 4096) (hrc : r.val + 2 ≤ c.val) :
    dR X L r c 0 * dR X L r c 0 + dR X L r c 1 * dR X L r c 1 + dR X L r c 2 * dR X L r c 2 ≠ 0 := by
  have e : (fn (F := Ideal) x0 x1 x2 x3 x4 x5 x6 x7 x8 x9).2.2.2.2.2.2.2.2.2.1
      = ori (cmpf .ogt (addf (addf (mulf (sepAll (cx x0) (side x9)) (sepAll (cx x0) (side x9))) (mulf (sepAll (cy x0) (side x9)) (sepAll (cy x0) (side x9))))
          (mulf (sepAll (cz x0) (side x9)) (sepAll (cz x0) (side x9)))) (broadcastInDim S4096x4096 ![] bcast_S_S4096x4096 (constant (F := Ideal) S_ .f32 0x00000000#32)))
        (cmpi .slt (iotaInDim S4096x4096 32 1) (addi (iotaInDim S4096x4096 32 0) (broadcastInDim S4096x4096 ![] bcast_S_S4096x4096 (constantI S_ 32 2#32)))) := rfl
  have q : IntOp.ori (Ideal.cmp .ogt (sepAll (cx x0) (side x9) (ix2 r c) * sepAll (cx x0) (side x9) (ix2 r c) + sepAll (cy x0) (side x9) (ix2 r c) * sepAll (cy x0) (side x9) (ix2 r c)
      + sepAll (cz x0) (side x9) (ix2 r c) * sepAll (cz x0) (side x9) (ix2 r c)) 0)
      (IntOp.cmpi .slt (BitVec.ofNat 32 c.val) (IntOp.addi (BitVec.ofNat 32 r.val) 2#32)) = 1#1 := by
    refine Eq.trans ?_ (congrFun (e.symm.trans h) (ix2 r c))
    pointwise
  rw [all0 x0 x9 hR, all1 x0 x9 hR, all2 x0 x9 hR] at q
  rcases (or_one _ _).mp q with q | q
  · have n : (0 : EReal) < _ := of_decide_eq_true ((bit_one _).mp q)
    simp only [← EReal.coe_mul, ← EReal.coe_add] at n
    exact (EReal.coe_pos.mp n).ne'
  · exfalso
    have q' : (BitVec.ofNat 32 c.val).slt (BitVec.ofNat 32 r.val + 2#32) = true := (bit_one _).mp q
    have hc := c.isLt
    have hs : BitVec.ofNat 32 r.val + 2#32 = BitVec.ofNat 32 (r.val + 2) := by rw [BitVec.ofNat_add]
    rw [hs, BitVec.slt, decide_eq_true_eq, StableHlo.Predicate.toInt_ofNat_small _ (by omega), StableHlo.Predicate.toInt_ofNat_small _ (by omega)] at q'
    omega

/-- No angle of the chain is straight. -/
theorem bent (h : (fn (F := Ideal) x0 x1 x2 x3 x4 x5 x6 x7 x8 x9).2.2.2.2.2.2.2.2.2.2 = fun _ => 1#1) (j : Fin 4094) :
    dotR (crossR (dR X L j (j + 1)) (dR X L (j + 1) (j + 2))) (crossR (dR X L j (j + 1)) (dR X L (j + 1) (j + 2))) ≠ 0 := by
  obtain ⟨a0, ha0⟩ : ∃ a, a = sepNext (cx x0) (side x9) := ⟨_, rfl⟩
  obtain ⟨a1, ha1⟩ : ∃ a, a = sepNext (cy x0) (side x9) := ⟨_, rfl⟩
  obtain ⟨a2, ha2⟩ : ∃ a, a = sepNext (cz x0) (side x9) := ⟨_, rfl⟩
  have e : (fn (F := Ideal) x0 x1 x2 x3 x4 x5 x6 x7 x8 x9).2.2.2.2.2.2.2.2.2.2
      = let lo (v : FVec Ideal S4095 .f32) : FVec Ideal S4094 .f32 := extractStridedSlice S4094 ![0] v slices_S4095_S4094_0
        let hi (v : FVec Ideal S4095 .f32) : FVec Ideal S4094 .f32 := extractStridedSlice S4094 ![1] v slices_S4095_S4094_1
        let p : FVec Ideal S4094 .f32 := subf (mulf (lo a1) (hi a2)) (mulf (lo a2) (hi a1))
        let q : FVec Ideal S4094 .f32 := subf (mulf (lo a2) (hi a0)) (mulf (lo a0) (hi a2))
        let r : FVec Ideal S4094 .f32 := subf (mulf (lo a0) (hi a1)) (mulf (lo a1) (hi a0))
        cmpf .ogt (addf (addf (mulf p p) (mulf q q)) (mulf r r)) (broadcastInDim S4094 ![] bcast_S_S4094 (constant (F := Ideal) S_ .f32 0x00000000#32)) := by
    rw [ha0, ha1, ha2]
    rfl
  have q := congrFun (e.symm.trans h) (ix1 j)
  dsimp only at q
  let s : Fin 4095 := ⟨j.val, by omega⟩
  let t : Fin 4095 := ⟨j.val + 1, by omega⟩
  have q' : Ideal.cmp .ogt ((a1 (ix1 s) * a2 (ix1 t) - a2 (ix1 s) * a1 (ix1 t)) * (a1 (ix1 s) * a2 (ix1 t) - a2 (ix1 s) * a1 (ix1 t))
      + (a2 (ix1 s) * a0 (ix1 t) - a0 (ix1 s) * a2 (ix1 t)) * (a2 (ix1 s) * a0 (ix1 t) - a0 (ix1 s) * a2 (ix1 t))
      + (a0 (ix1 s) * a1 (ix1 t) - a1 (ix1 s) * a0 (ix1 t)) * (a0 (ix1 s) * a1 (ix1 t) - a1 (ix1 s) * a0 (ix1 t))) 0 = 1#1 := by
    refine Eq.trans ?_ q
    pointwise
    simp only [Nat.add_comm 1, s, t]
  have n : (0 : EReal) < _ := of_decide_eq_true ((bit_one _).mp q')
  rw [ha0, ha1, ha2] at n
  simp only [next0 x0 x9 hR, next1 x0 x9 hR, next2 x0 x9 hR] at n
  simp only [← EReal.coe_mul, ← EReal.coe_add, ← EReal.coe_sub] at n
  exact (EReal.coe_pos.mp n).ne'

end Cert.Proof.Energy
-- ==== Proof.Triangle.lean ====
/-
  The pairs in the order of their numbers are all pairs at least two apart in the chain, each once: the sum over the
  list of pairs is the sum over the rows and columns.
-/
module

public import proofs.«01_k».proof.Proof.Rows

@[expose] public section

noncomputable section

namespace Cert.Proof.Energy

/-- Twice the number of a pair. -/
def rank2 (r c : ℕ) : ℕ := r * (8189 - r) + 2 * (c - r - 2)

theorem rank2_even (r c : ℕ) (hr : r < 8189) : 2 ∣ rank2 r c := by
  refine dvd_add ?_ (dvd_mul_right _ _)
  rcases Nat.even_or_odd' r with ⟨k, rfl | rfl⟩
  · exact Dvd.dvd.mul_right (dvd_mul_right _ _) _
  · refine Dvd.dvd.mul_left ⟨4094 - k, ?_⟩ _
    omega

theorem row_le {r c r' c' : ℕ} (h : r + 2 ≤ c) (hc : c < 4096) (h' : r' + 2 ≤ c') (hc' : c' < 4096) (e : rank2 r c = rank2 r' c') : r' ≤ r := by
  by_contra hlt
  obtain ⟨a, rfl⟩ : ∃ a, c = r + 2 + a := ⟨c - r - 2, by omega⟩
  obtain ⟨b, rfl⟩ : ∃ b, c' = r' + 2 + b := ⟨c' - r' - 2, by omega⟩
  obtain ⟨d, rfl⟩ : ∃ d, r' = r + 1 + d := ⟨r' - r - 1, by omega⟩
  obtain ⟨u, hu⟩ : ∃ u, 8189 - r = u := ⟨_, rfl⟩
  obtain ⟨w, hw⟩ : ∃ w, 8189 - (r + 1 + d) = w := ⟨_, rfl⟩
  have ea : r + 2 + a - r - 2 = a := by omega
  have eb : r + 1 + d + 2 + b - (r + 1 + d) - 2 = b := by omega
  unfold rank2 at e
  rw [ea, eb, hu, hw] at e
  have h1 : u = 1 + d + w := by omega
  have h2 : w = 8188 - r - d := by omega
  subst h1
  have h3 : d * (w - r) + (1 + d) * 0 ≥ 0 := Nat.zero_le _
  have h4 : r + a ≤ 4093 := by omega
  have h5 : r ≤ w := by omega
  obtain ⟨v, rfl⟩ : ∃ v, w = r + v := ⟨w - r, by omega⟩
  have h6 : v + 2 * r + d = 8188 := by omega
  have h7 : 0 ≤ d * v := Nat.zero_le _
  have h8 : 2 * a + 2 * r ≤ 8186 := by omega
  have h9 : r * (1 + d + (r + v)) + 2 * a = (r + 1 + d) * (r + v) + 2 * b := e
  have h10 : r * (1 + d) + 2 * a = (1 + d) * (r + v) + 2 * b := by nlinarith
  have h11 : 2 * a = (1 + d) * v + 2 * b := by nlinarith
  nlinarith

theorem rank2_inj {r c r' c' : ℕ} (h : r + 2 ≤ c) (hc : c < 4096) (h' : r' + 2 ≤ c') (hc' : c' < 4096) (e : rank2 r c = rank2 r' c') : r' = r ∧ c' = c := by
  have hr : r' = r := le_antisymm (row_le h hc h' hc' e) (row_le h' hc' h hc e.symm)
  subst hr
  unfold rank2 at e
  omega

theorem rank2_lt {r c : ℕ} (h : r + 2 ≤ c) (hc : c < 4096) : rank2 r c < 2 * 8382465 := by
  obtain ⟨d, hd⟩ : ∃ d, 4093 = r + d := ⟨4093 - r, by omega⟩
  have e1 : 8189 - r = 4096 + d := by omega
  have e2 : c - r - 2 ≤ d := by omega
  unfold rank2
  rw [e1]
  have e3 : r = 4093 - d := by omega
  have e4 : r * (4096 + d) + d * (d + 3) = 4093 * 4096 := by
    have : (r : ℤ) = 4093 - d := by omega
    zify
    rw [this]
    ring
  nlinarith [Nat.zero_le (d * d)]

theorem triangle_sum (P Q : ℕ → ℕ) (apart : ∀ p < 8382465, P p + 2 ≤ Q p) (below : ∀ p < 8382465, Q p < 4096)
    (rank : ∀ p < 8382465, rank2 (P p) (Q p) = 2 * p) (H : ℕ → ℕ → ℝ) (hz : ∀ r c, ¬ r + 2 ≤ c → H r c = 0) :
    ∑ p ∈ Finset.range 8382465, H (P p) (Q p) = ∑ r ∈ Finset.range 4096, ∑ c ∈ Finset.range 4096, H r c := by
  rw [← Finset.sum_product' (Finset.range 4096) (Finset.range 4096) H,
    ← Finset.sum_filter_of_ne (p := fun x : ℕ × ℕ => x.1 + 2 ≤ x.2) (fun x _ hx => by by_contra h; exact hx (hz _ _ h))]
  refine Finset.sum_nbij' (fun p => (P p, Q p)) (fun x => rank2 x.1 x.2 / 2) (fun p hp => ?_) (fun x hx => ?_) (fun p hp => ?_) (fun x hx => ?_) (fun p hp => rfl)
  · have hp := Finset.mem_range.mp hp
    have h1 := apart p hp
    have h2 := below p hp
    simp only [Finset.mem_filter, Finset.mem_product, Finset.mem_range]
    omega
  · simp only [Finset.mem_filter, Finset.mem_product, Finset.mem_range] at hx ⊢
    have := rank2_lt hx.2 hx.1.2
    omega
  · have hp := Finset.mem_range.mp hp
    simp only [rank p hp]
    omega
  · simp only [Finset.mem_filter, Finset.mem_product, Finset.mem_range] at hx
    have hlt := rank2_lt hx.2 hx.1.2
    have hp : rank2 x.1 x.2 / 2 < 8382465 := by omega
    have hev := rank2_even x.1 x.2 (by omega)
    have e : rank2 x.1 x.2 = rank2 (P (rank2 x.1 x.2 / 2)) (Q (rank2 x.1 x.2 / 2)) := by
      rw [rank _ hp]; omega
    have h := rank2_inj hx.2 hx.1.2 (apart _ hp) (below _ hp) e
    exact Prod.ext h.1 h.2

end Cert.Proof.Energy
-- ==== Proof.DecodeInts.lean ====
/-
  What the precondition says of the integer arguments: the types' range, the chain's indices, and the list of pairs.
-/
module

public import proofs.«01_k».proof.Proof.Decode
public import proofs.«01_k».proof.Proof.Triangle
public import proofs.«01_k».proof.Proof.RefBonds

@[expose] public section

set_option maxRecDepth 16384

noncomputable section

namespace Cert.Proof.Energy

open Cert.Pre_regular Cert.Pre_regular.Gen
open Idealize.ShloMosaic Idealize.ShloMosaic.TcCoe

/-- A word that is not negative and less than a bound, both read signed, is a small natural. -/
theorem word_range (x : BitVec 32) (n : ℕ) (hn : n < 2 ^ 31) (h0 : IntOp.cmpi .sge x 0#32 = 1#1) (h1 : IntOp.cmpi .slt x (BitVec.ofNat 32 n) = 1#1) : x.toNat < n := by
  have a : (0#32 : BitVec 32).sle x = true := (bit_one _).mp h0
  have b : x.slt (BitVec.ofNat 32 n) = true := (bit_one _).mp h1
  rw [BitVec.sle, decide_eq_true_eq] at a
  rw [BitVec.slt, decide_eq_true_eq, StableHlo.Predicate.toInt_ofNat_small _ hn] at b
  have e : (0#32 : BitVec 32).toInt = 0 := by decide
  rw [e] at a
  rw [BitVec.toInt_eq_toNat_cond] at a b
  have := x.isLt
  split at b <;> omega

theorem eq_one (x y : BitVec 32) (h : IntOp.cmpi .eq x y = 1#1) : x = y :=
  of_decide_eq_true ((bit_one _).mp h)

/-- Two entries of the list of pairs, from their ranges, their distance and their number. -/
theorem pair_word (x y : BitVec 32) (p : ℕ) (hp : p < 8382465) (hx : x.toNat < 4096) (hy : y.toNat < 4096)
    (hle : IntOp.cmpi .sle (IntOp.addi x 2#32) y = 1#1)
    (hr : x * (8189#32 - x) + 2#32 * (y - x - 2#32) = 2#32 * BitVec.ofNat 32 p) :
    x.toNat + 2 ≤ y.toNat ∧ rank2 x.toNat y.toNat = 2 * p := by
  obtain ⟨a, ha, rfl⟩ : ∃ a, a < 4096 ∧ x = BitVec.ofNat 32 a := ⟨x.toNat, hx, by simp⟩
  obtain ⟨b, hb, rfl⟩ : ∃ b, b < 4096 ∧ y = BitVec.ofNat 32 b := ⟨y.toNat, hy, by simp⟩
  have ea : (BitVec.ofNat 32 a).toNat = a := by rw [BitVec.toNat_ofNat]; omega
  have eb : (BitVec.ofNat 32 b).toNat = b := by rw [BitVec.toNat_ofNat]; omega
  rw [ea, eb]
  have hs : IntOp.addi (BitVec.ofNat 32 a) 2#32 = BitVec.ofNat 32 (a + 2) := (BitVec.ofNat_add a 2).symm
  have hl : (BitVec.ofNat 32 (a + 2)).sle (BitVec.ofNat 32 b) = true := (bit_one _).mp (hs ▸ hle)
  rw [BitVec.sle, decide_eq_true_eq, StableHlo.Predicate.toInt_ofNat_small _ (by omega), StableHlo.Predicate.toInt_ofNat_small _ (by omega)] at hl
  have hab : a + 2 ≤ b := by omega
  refine ⟨hab, ?_⟩
  obtain ⟨d, rfl⟩ : ∃ d, b = a + 2 + d := ⟨b - a - 2, by omega⟩
  obtain ⟨u, hu⟩ : ∃ u, 8189 = a + u := ⟨8189 - a, by omega⟩
  have e1 : 8189#32 - BitVec.ofNat 32 a = BitVec.ofNat 32 u := by
    rw [hu, BitVec.ofNat_add, add_sub_cancel_left]
  have e2 : BitVec.ofNat 32 (a + 2 + d) - BitVec.ofNat 32 a - 2#32 = BitVec.ofNat 32 d := by
    rw [Nat.add_assoc, BitVec.ofNat_add, add_sub_cancel_left, BitVec.ofNat_add, add_sub_cancel_left]
  have e3 : BitVec.ofNat 32 (a * u + 2 * d) = BitVec.ofNat 32 (2 * p) := by
    rw [BitVec.ofNat_add, BitVec.ofNat_mul, BitVec.ofNat_mul, BitVec.ofNat_mul, ← e1, ← e2]
    exact hr
  have hau : a * u ≤ 4096 * 8189 := Nat.mul_le_mul (by omega) (by omega)
  have e4 := congrArg BitVec.toNat e3
  rw [BitVec.toNat_ofNat, BitVec.toNat_ofNat, Nat.mod_eq_of_lt (by omega), Nat.mod_eq_of_lt (by omega)] at e4
  have e5 : 8189 - a = u := by omega
  have e6 : a + 2 + d - a - 2 = d := by omega
  rw [rank2, e5, e6]
  exact e4

variable (x0 : FVec Ideal S4096x3 .f32) (x1 : IVec S4095x2 32) (x2 : FVec Ideal S4095x2 .f32) (x3 : IVec S4093x4 32) (x4 : IVec S4093 32)
  (x5 : FVec Ideal S4093x3 .f32) (x6 : IVec S4096 32) (x7 : FVec Ideal S20x20 .f32) (x8 : IVec S8382465x2 32) (x9 : FVec Ideal S3 .f32)

/-- Types are below 20. -/
theorem types_range (h : (fn (F := Ideal) x0 x1 x2 x3 x4 x5 x6 x7 x8 x9).2.2.2.1 = fun _ => 1#1) (r : Fin 4096) : (x6 (ix1 r)).toNat < 20 := by
  have e : (fn (F := Ideal) x0 x1 x2 x3 x4 x5 x6 x7 x8 x9).2.2.2.1
      = andi (cmpi .sge x6 (broadcastInDim S4096 ![] bcast_S_S4096 (constantI S_ 32 0#32))) (cmpi .slt x6 (broadcastInDim S4096 ![] bcast_S_S4096 (constantI S_ 32 20#32))) := rfl
  have q : IntOp.andi (IntOp.cmpi .sge (x6 (ix1 r)) 0#32) (IntOp.cmpi .slt (x6 (ix1 r)) 20#32) = 1#1 := by
    refine Eq.trans ?_ (congrFun (e.symm.trans h) (ix1 r))
    pointwise
  have q := (and_one _ _).mp q
  exact word_range _ 20 (by norm_num) q.1 q.2

/-- The bonds are the chain's. -/
theorem bond_word (h : (fn (F := Ideal) x0 x1 x2 x3 x4 x5 x6 x7 x8 x9).2.2.2.2.1 = fun _ => 1#1) (j : Fin 4095) (a : Fin 2) :
    x1 (ix2 j a) = BitVec.ofNat 32 (j.val + a.val) := by
  have e : (fn (F := Ideal) x0 x1 x2 x3 x4 x5 x6 x7 x8 x9).2.2.2.2.1 = cmpi .eq x1 (addi (iotaInDim S4095x2 32 0) (iotaInDim S4095x2 32 1)) := rfl
  have q : IntOp.cmpi .eq (x1 (ix2 j a)) (IntOp.addi (BitVec.ofNat 32 j.val) (BitVec.ofNat 32 a.val)) = 1#1 := by
    refine Eq.trans ?_ (congrFun (e.symm.trans h) (ix2 j a))
    pointwise
  exact (eq_one _ _ q).trans (BitVec.ofNat_add j.val a.val).symm

/-- The dihedrals are the chain's. -/
theorem dih_word (h : (fn (F := Ideal) x0 x1 x2 x3 x4 x5 x6 x7 x8 x9).2.2.2.2.2.1 = fun _ => 1#1) (j : Fin 4093) (a : Fin 4) :
    x3 (ix2 j a) = BitVec.ofNat 32 (j.val + a.val) := by
  have e : (fn (F := Ideal) x0 x1 x2 x3 x4 x5 x6 x7 x8 x9).2.2.2.2.2.1 = cmpi .eq x3 (addi (iotaInDim S4093x4 32 0) (iotaInDim S4093x4 32 1)) := rfl
  have q : IntOp.cmpi .eq (x3 (ix2 j a)) (IntOp.addi (BitVec.ofNat 32 j.val) (BitVec.ofNat 32 a.val)) = 1#1 := by
    refine Eq.trans ?_ (congrFun (e.symm.trans h) (ix2 j a))
    pointwise
  exact (eq_one _ _ q).trans (BitVec.ofNat_add j.val a.val).symm

/-- The map of the dihedrals is the identity. -/
theorem dihmap_word (h : (fn (F := Ideal) x0 x1 x2 x3 x4 x5 x6 x7 x8 x9).2.2.2.2.2.2.1 = fun _ => 1#1) (j : Fin 4093) :
    x4 (ix1 j) = BitVec.ofNat 32 j.val := by
  have e : (fn (F := Ideal) x0 x1 x2 x3 x4 x5 x6 x7 x8 x9).2.2.2.2.2.2.1 = cmpi .eq x4 (iotaInDim S4093 32 0) := rfl
  have q : IntOp.cmpi .eq (x4 (ix1 j)) (BitVec.ofNat 32 j.val) = 1#1 := by
    refine Eq.trans ?_ (congrFun (e.symm.trans h) (ix1 j))
    pointwise
  exact eq_one _ _ q

/-- The two columns of the list of pairs. -/
def colL : IVec S8382465 32 := shapeCast S8382465 (extractStridedSlice S8382465x1 ![0, 0] x8 slices_S8382465x2_S8382465x1_0_0) shapeCasts_S8382465x1_S8382465
def colR : IVec S8382465 32 := shapeCast S8382465 (extractStridedSlice S8382465x1 ![0, 1] x8 slices_S8382465x2_S8382465x1_0_1) shapeCasts_S8382465x1_S8382465
theorem colL_apply (p : Fin 8382465) : colL x8 (ix1 p) = x8 (ix2 p 0) := by unfold colL; pointwise
theorem colR_apply (p : Fin 8382465) : colR x8 (ix1 p) = x8 (ix2 p 1) := by unfold colR; pointwise

/-- Both ends of a listed pair are in range, the second at least two after the first. -/
theorem list_range (h : (fn (F := Ideal) x0 x1 x2 x3 x4 x5 x6 x7 x8 x9).2.2.2.2.2.2.2.1 = fun _ => 1#1) (p : Fin 8382465) :
    (x8 (ix2 p 0)).toNat < 4096 ∧ (x8 (ix2 p 1)).toNat < 4096 ∧ IntOp.cmpi .sle (IntOp.addi (x8 (ix2 p 0)) 2#32) (x8 (ix2 p 1)) = 1#1 := by
  have e : (fn (F := Ideal) x0 x1 x2 x3 x4 x5 x6 x7 x8 x9).2.2.2.2.2.2.2.1
      = let k (w : BitVec 32) : IVec S8382465 32 := broadcastInDim S8382465 ![] bcast_S_S8382465 (constantI S_ 32 w)
        andi (andi (andi (andi (cmpi .sge (colL x8) (k 0#32)) (cmpi .slt (colL x8) (k 4096#32))) (cmpi .sge (colR x8) (k 0#32))) (cmpi .slt (colR x8) (k 4096#32)))
          (cmpi .sle (addi (colL x8) (k 2#32)) (colR x8)) := rfl
  have q := congrFun (e.symm.trans h) (ix1 p)
  have q' : IntOp.andi (IntOp.andi (IntOp.andi (IntOp.andi (IntOp.cmpi .sge (colL x8 (ix1 p)) 0#32) (IntOp.cmpi .slt (colL x8 (ix1 p)) 4096#32)) (IntOp.cmpi .sge (colR x8 (ix1 p)) 0#32))
      (IntOp.cmpi .slt (colR x8 (ix1 p)) 4096#32)) (IntOp.cmpi .sle (IntOp.addi (colL x8 (ix1 p)) 2#32) (colR x8 (ix1 p))) = 1#1 := q
  rw [colL_apply, colR_apply] at q'
  simp only [and_one] at q'
  exact ⟨word_range _ 4096 (by norm_num) q'.1.1.1.1 q'.1.1.1.2, word_range _ 4096 (by norm_num) q'.1.1.2 q'.1.2, q'.2⟩

/-- A pair's rank is its position in the list, as words. -/
theorem list_rank (h : (fn (F := Ideal) x0 x1 x2 x3 x4 x5 x6 x7 x8 x9).2.2.2.2.2.2.2.2.1 = fun _ => 1#1) (p : Fin 8382465) :
    x8 (ix2 p 0) * (8189#32 - x8 (ix2 p 0)) + 2#32 * (x8 (ix2 p 1) - x8 (ix2 p 0) - 2#32) = 2#32 * BitVec.ofNat 32 p.val := by
  have e : (fn (F := Ideal) x0 x1 x2 x3 x4 x5 x6 x7 x8 x9).2.2.2.2.2.2.2.2.1
      = let k (w : BitVec 32) : IVec S8382465 32 := broadcastInDim S8382465 ![] bcast_S_S8382465 (constantI S_ 32 w)
        cmpi .eq (addi (muli (colL x8) (subi (k 8189#32) (colL x8))) (muli (k 2#32) (subi (subi (colR x8) (colL x8)) (k 2#32)))) (muli (k 2#32) (iotaInDim S8382465 32 0)) := rfl
  have q := congrFun (e.symm.trans h) (ix1 p)
  have q' : IntOp.cmpi .eq (colL x8 (ix1 p) * (8189#32 - colL x8 (ix1 p)) + 2#32 * (colR x8 (ix1 p) - colL x8 (ix1 p) - 2#32)) (2#32 * BitVec.ofNat 32 p.val) = 1#1 := q
  rw [colL_apply, colR_apply] at q'
  exact eq_one _ _ q'

end Cert.Proof.Energy
-- ==== Proof.RefTorsion.lean ====
/-
  The reference's dihedrals: the three bond vectors of each, their cross products, and the angle.
-/
module

public import proofs.«01_k».proof.Proof.RefBonds

@[expose] public section

set_option maxRecDepth 16384

noncomputable section

namespace Cert.Proof.Energy

open Cert.ReferenceIdeal Cert.ReferenceIdeal.Gen Cert.ReferenceIdeal.Read
open Idealize.ShloMosaic Idealize.ShloMosaic.TcCoe

/-- A difference of two products of reals. -/
theorem cross_coe (x y z w : ℝ) : (x : EReal) * (y : EReal) - (z : EReal) * (w : EReal) = ((x * y - z * w : ℝ) : EReal) := by
  simp only [← EReal.coe_mul, ← EReal.coe_sub]

/-- A sum of products by a scaled vector, divided by a length. -/
theorem ratio_real (a b : Fin 3 → ℝ) (nb na : ℝ) (hb : nb ≠ 0) (ha : na ≠ 0) :
    Ideal.div (∑ k : Fin 3, ((a k : ℝ) : EReal) * Ideal.div ((b k : ℝ) : EReal) (nb : EReal)) (na : EReal) = ((dotR a b * (1 / nb) * (1 / na) : ℝ) : EReal) := by
  simp only [Ideal.div_coe hb, Ideal.div_coe ha, Fin.sum_univ_three, ← EReal.coe_mul, ← EReal.coe_add]
  congr 1
  unfold dotR
  ring

section
variable {S : Sys} {L : ℝ} {X : ℕ → Fin 3 → ℝ} {x0 : FVec Ideal S4096x3 .f32} {x6 : IVec S4096 32} {x7 : FVec Ideal S20x20 .f32} {x9 : FVec Ideal S3 .f32}
  (hA : Args S L X x0 x6 x7 x9)
  {x1 : IVec S4095x2 32} {x3 : IVec S4093x4 32} {x4 : IVec S4093 32} {x8 : IVec S8382465x2 32} {P Q : ℕ → ℕ} (hI : Indices x1 x3 x4 x8 P Q)
include hA hI

/-- A row of positions, where the index is the dihedral's number and an offset. -/
theorem row_real (idx : IVec S4093x1 32) (a : Fin 4) (j : Fin 4093) (k : Fin 3)
    (e : idx (ix2 j 0) = Scalar.select (IntOp.cmpi .slt (x3 (ix2 j a)) 0#32) (IntOp.addi (x3 (ix2 j a)) 4096#32) (x3 (ix2 j a))) :
    Host.gather gather_S4096x3_S4093x1_S4093x3_1_0_n_n_0_1_13 x0 idx (ix2 j k) = ((X (j.val + a.val) k : ℝ) : EReal) :=
  (Routing.gather_row (nb := 4096) (B := 3) (n := 4093) gather_S4096x3_S4093x1_S4093x3_1_0_n_n_0_1_13 rfl rfl rfl rfl rfl x0 idx j k ⟨j.val + a.val, by omega⟩
    (e.trans (wrap_word _ _ _ (hI.dih j a) (by omega))) (by norm_num)).trans (hA.hx _ _)

theorem v74_real (j : Fin 4093) (k : Fin 3) : val_main_v74 (F := Ideal) x0 x3 (ix2 j k) = ((X j.val k : ℝ) : EReal) := by
  refine row_real hA hI (val_main_v73 (F := Ideal) x3) 0 j k ?_
  unfold val_main_v73 val_main_v72 val_main_v71 val_main_v70 val_main_v69 val_main_v68 val_main_v67 val_main_v66 val_main_v65
  pointwise
  rfl

theorem v83_real (j : Fin 4093) (k : Fin 3) : val_main_v83 (F := Ideal) x0 x3 (ix2 j k) = ((X (j.val + 1) k : ℝ) : EReal) := by
  refine row_real hA hI (val_main_v82 (F := Ideal) x3) 1 j k ?_
  unfold val_main_v82 val_main_v81 val_main_v80 val_main_v79 val_main_v78 val_main_v77 val_main_v76 val_main_v75 val_main_v65
  pointwise
  rfl

theorem v106_real (j : Fin 4093) (k : Fin 3) : val_main_v106 (F := Ideal) x0 x3 (ix2 j k) = ((X (j.val + 1) k : ℝ) : EReal) := by
  refine row_real hA hI (val_main_v105 (F := Ideal) x3) 1 j k ?_
  unfold val_main_v105 val_main_v104 val_main_v103 val_main_v102 val_main_v101 val_main_v100 val_main_v99 val_main_v98 val_main_v97
  pointwise
  rfl

theorem v115_real (j : Fin 4093) (k : Fin 3) : val_main_v115 (F := Ideal) x0 x3 (ix2 j k) = ((X (j.val + 2) k : ℝ) : EReal) := by
  refine row_real hA hI (val_main_v114 (F := Ideal) x3) 2 j k ?_
  unfold val_main_v114 val_main_v113 val_main_v112 val_main_v111 val_main_v110 val_main_v109 val_main_v108 val_main_v107 val_main_v97
  pointwise
  rfl

theorem v138_real (j : Fin 4093) (k : Fin 3) : val_main_v138 (F := Ideal) x0 x3 (ix2 j k) = ((X (j.val + 2) k : ℝ) : EReal) := by
  refine row_real hA hI (val_main_v137 (F := Ideal) x3) 2 j k ?_
  unfold val_main_v137 val_main_v136 val_main_v135 val_main_v134 val_main_v133 val_main_v132 val_main_v131 val_main_v130 val_main_v129
  pointwise
  rfl

theorem v147_real (j : Fin 4093) (k : Fin 3) : val_main_v147 (F := Ideal) x0 x3 (ix2 j k) = ((X (j.val + 3) k : ℝ) : EReal) := by
  refine row_real hA hI (val_main_v146 (F := Ideal) x3) 3 j k ?_
  unfold val_main_v146 val_main_v145 val_main_v144 val_main_v143 val_main_v142 val_main_v141 val_main_v140 val_main_v139 val_main_v129
  pointwise
  rfl

theorem r12_real (j : Fin 4093) (k : Fin 3) : val_main_v92 (F := Ideal) x0 x3 x9 (ix2 j k) = ((bvec S L j k : ℝ) : EReal) := by
  have e : val_main_v92 (F := Ideal) x0 x3 x9 (ix2 j k) = (val_main_v74 (F := Ideal) x0 x3 (ix2 j k) - val_main_v83 (F := Ideal) x0 x3 (ix2 j k))
      - x9 (ix1 k) * Ideal.liftRound Ideal.roundHalfEven (Ideal.div (val_main_v74 (F := Ideal) x0 x3 (ix2 j k) - val_main_v83 (F := Ideal) x0 x3 (ix2 j k)) (x9 (ix1 k))) := by
    unfold val_main_v92 val_main_v91 val_main_v90 val_main_v89 val_main_v88 val_main_v87 val_main_v86 val_main_v85 val_main_v84
    pointwise
  rw [e, v74_real hA hI, v83_real hA hI, hA.hbox, wrap_real _ _ _ hA.hL, bvec, hA.hU, hA.hU]

theorem r23_real (j : Fin 4093) (k : Fin 3) : val_main_v124 (F := Ideal) x0 x3 x9 (ix2 j k) = ((bvec S L (j + 1) k : ℝ) : EReal) := by
  have e : val_main_v124 (F := Ideal) x0 x3 x9 (ix2 j k) = (val_main_v106 (F := Ideal) x0 x3 (ix2 j k) - val_main_v115 (F := Ideal) x0 x3 (ix2 j k))
      - x9 (ix1 k) * Ideal.liftRound Ideal.roundHalfEven (Ideal.div (val_main_v106 (F := Ideal) x0 x3 (ix2 j k) - val_main_v115 (F := Ideal) x0 x3 (ix2 j k)) (x9 (ix1 k))) := by
    unfold val_main_v124 val_main_v123 val_main_v122 val_main_v121 val_main_v120 val_main_v119 val_main_v118 val_main_v117 val_main_v116
    pointwise
  rw [e, v106_real hA hI, v115_real hA hI, hA.hbox, wrap_real _ _ _ hA.hL, bvec, hA.hU, hA.hU]

theorem r34_real (j : Fin 4093) (k : Fin 3) : val_main_v156 (F := Ideal) x0 x3 x9 (ix2 j k) = ((bvec S L (j + 2) k : ℝ) : EReal) := by
  have e : val_main_v156 (F := Ideal) x0 x3 x9 (ix2 j k) = (val_main_v138 (F := Ideal) x0 x3 (ix2 j k) - val_main_v147 (F := Ideal) x0 x3 (ix2 j k))
      - x9 (ix1 k) * Ideal.liftRound Ideal.roundHalfEven (Ideal.div (val_main_v138 (F := Ideal) x0 x3 (ix2 j k) - val_main_v147 (F := Ideal) x0 x3 (ix2 j k)) (x9 (ix1 k))) := by
    unfold val_main_v156 val_main_v155 val_main_v154 val_main_v153 val_main_v152 val_main_v151 val_main_v150 val_main_v149 val_main_v148
    pointwise
  rw [e, v138_real hA hI, v147_real hA hI, hA.hbox, wrap_real _ _ _ hA.hL, bvec, hA.hU, hA.hU]

theorem crossA_real (j : Fin 4093) (k : Fin 3) : val_main_v197 (F := Ideal) x0 x3 x9 (ix2 j k) = ((crossR (bvec S L j) (bvec S L (j + 1)) k : ℝ) : EReal) := by
  have e0 : val_main_v197 (F := Ideal) x0 x3 x9 (ix2 j 0) = val_main_v92 (F := Ideal) x0 x3 x9 (ix2 j 1) * val_main_v124 (F := Ideal) x0 x3 x9 (ix2 j 2) - val_main_v92 (F := Ideal) x0 x3 x9 (ix2 j 2) * val_main_v124 (F := Ideal) x0 x3 x9 (ix2 j 1) := by
    unfold val_main_v197 val_main_v194 val_main_v171 val_main_v170 val_main_v169 val_main_v168 val_main_v167 val_main_v166 val_main_v165 val_main_v164 val_main_v163 val_main_v162 val_main_v161
    pointwise
  have e1 : val_main_v197 (F := Ideal) x0 x3 x9 (ix2 j 1) = val_main_v92 (F := Ideal) x0 x3 x9 (ix2 j 2) * val_main_v124 (F := Ideal) x0 x3 x9 (ix2 j 0) - val_main_v92 (F := Ideal) x0 x3 x9 (ix2 j 0) * val_main_v124 (F := Ideal) x0 x3 x9 (ix2 j 2) := by
    unfold val_main_v197 val_main_v195 val_main_v182 val_main_v181 val_main_v180 val_main_v179 val_main_v178 val_main_v177 val_main_v176 val_main_v175 val_main_v174 val_main_v173 val_main_v172
    pointwise
  have e2 : val_main_v197 (F := Ideal) x0 x3 x9 (ix2 j 2) = val_main_v92 (F := Ideal) x0 x3 x9 (ix2 j 0) * val_main_v124 (F := Ideal) x0 x3 x9 (ix2 j 1) - val_main_v92 (F := Ideal) x0 x3 x9 (ix2 j 1) * val_main_v124 (F := Ideal) x0 x3 x9 (ix2 j 0) := by
    unfold val_main_v197 val_main_v196 val_main_v193 val_main_v192 val_main_v191 val_main_v190 val_main_v189 val_main_v188 val_main_v187 val_main_v186 val_main_v185 val_main_v184 val_main_v183
    pointwise
  fin_cases k
  · exact e0.trans (by simp only [r12_real hA hI, r23_real hA hI, cross_coe]; rfl)
  · exact e1.trans (by simp only [r12_real hA hI, r23_real hA hI, cross_coe]; rfl)
  · exact e2.trans (by simp only [r12_real hA hI, r23_real hA hI, cross_coe]; rfl)

theorem crossB_real (j : Fin 4093) (k : Fin 3) : val_main_v234 (F := Ideal) x0 x3 x9 (ix2 j k) = ((crossR (bvec S L (j + 1)) (bvec S L (j + 2)) k : ℝ) : EReal) := by
  have e0 : val_main_v234 (F := Ideal) x0 x3 x9 (ix2 j 0) = val_main_v124 (F := Ideal) x0 x3 x9 (ix2 j 1) * val_main_v156 (F := Ideal) x0 x3 x9 (ix2 j 2) - val_main_v124 (F := Ideal) x0 x3 x9 (ix2 j 2) * val_main_v156 (F := Ideal) x0 x3 x9 (ix2 j 1) := by
    unfold val_main_v234 val_main_v231 val_main_v208 val_main_v207 val_main_v206 val_main_v205 val_main_v204 val_main_v203 val_main_v202 val_main_v201 val_main_v200 val_main_v199 val_main_v198
    pointwise
  have e1 : val_main_v234 (F := Ideal) x0 x3 x9 (ix2 j 1) = val_main_v124 (F := Ideal) x0 x3 x9 (ix2 j 2) * val_main_v156 (F := Ideal) x0 x3 x9 (ix2 j 0) - val_main_v124 (F := Ideal) x0 x3 x9 (ix2 j 0) * val_main_v156 (F := Ideal) x0 x3 x9 (ix2 j 2) := by
    unfold val_main_v234 val_main_v232 val_main_v219 val_main_v218 val_main_v217 val_main_v216 val_main_v215 val_main_v214 val_main_v213 val_main_v212 val_main_v211 val_main_v210 val_main_v209
    pointwise
  have e2 : val_main_v234 (F := Ideal) x0 x3 x9 (ix2 j 2) = val_main_v124 (F := Ideal) x0 x3 x9 (ix2 j 0) * val_main_v156 (F := Ideal) x0 x3 x9 (ix2 j 1) - val_main_v124 (F := Ideal) x0 x3 x9 (ix2 j 1) * val_main_v156 (F := Ideal) x0 x3 x9 (ix2 j 0) := by
    unfold val_main_v234 val_main_v233 val_main_v230 val_main_v229 val_main_v228 val_main_v227 val_main_v226 val_main_v225 val_main_v224 val_main_v223 val_main_v222 val_main_v221 val_main_v220
    pointwise
  fin_cases k
  · exact e0.trans (by simp only [r23_real hA hI, r34_real hA hI, cross_coe]; rfl)
  · exact e1.trans (by simp only [r23_real hA hI, r34_real hA hI, cross_coe]; rfl)
  · exact e2.trans (by simp only [r23_real hA hI, r34_real hA hI, cross_coe]; rfl)

theorem crossC_real (j : Fin 4093) (k : Fin 3) : val_main_v271 (F := Ideal) x0 x3 x9 (ix2 j k) = ((crossR (bvec S L (j + 1)) (crossR (bvec S L j) (bvec S L (j + 1))) k : ℝ) : EReal) := by
  have e0 : val_main_v271 (F := Ideal) x0 x3 x9 (ix2 j 0) = val_main_v124 (F := Ideal) x0 x3 x9 (ix2 j 1) * val_main_v197 (F := Ideal) x0 x3 x9 (ix2 j 2) - val_main_v124 (F := Ideal) x0 x3 x9 (ix2 j 2) * val_main_v197 (F := Ideal) x0 x3 x9 (ix2 j 1) := by
    unfold val_main_v271 val_main_v268 val_main_v245 val_main_v244 val_main_v243 val_main_v242 val_main_v241 val_main_v240 val_main_v239 val_main_v238 val_main_v237 val_main_v236 val_main_v235
    pointwise
  have e1 : val_main_v271 (F := Ideal) x0 x3 x9 (ix2 j 1) = val_main_v124 (F := Ideal) x0 x3 x9 (ix2 j 2) * val_main_v197 (F := Ideal) x0 x3 x9 (ix2 j 0) - val_main_v124 (F := Ideal) x0 x3 x9 (ix2 j 0) * val_main_v197 (F := Ideal) x0 x3 x9 (ix2 j 2) := by
    unfold val_main_v271 val_main_v269 val_main_v256 val_main_v255 val_main_v254 val_main_v253 val_main_v252 val_main_v251 val_main_v250 val_main_v249 val_main_v248 val_main_v247 val_main_v246
    pointwise
  have e2 : val_main_v271 (F := Ideal) x0 x3 x9 (ix2 j 2) = val_main_v124 (F := Ideal) x0 x3 x9 (ix2 j 0) * val_main_v197 (F := Ideal) x0 x3 x9 (ix2 j 1) - val_main_v124 (F := Ideal) x0 x3 x9 (ix2 j 1) * val_main_v197 (F := Ideal) x0 x3 x9 (ix2 j 0) := by
    unfold val_main_v271 val_main_v270 val_main_v267 val_main_v266 val_main_v265 val_main_v264 val_main_v263 val_main_v262 val_main_v261 val_main_v260 val_main_v259 val_main_v258 val_main_v257
    pointwise
  fin_cases k
  · exact e0.trans (by simp only [r23_real hA hI, crossA_real hA hI, cross_coe]; rfl)
  · exact e1.trans (by simp only [r23_real hA hI, crossA_real hA hI, cross_coe]; rfl)
  · exact e2.trans (by simp only [r23_real hA hI, crossA_real hA hI, cross_coe]; rfl)

theorem normA_real (j : Fin 4093) : val_main_v272 (F := Ideal) x0 x3 x9 (ix1 j) = ((√(dotR (crossR (bvec S L j) (bvec S L (j + 1))) (crossR (bvec S L j) (bvec S L (j + 1)))) : ℝ) : EReal) := by
  have e : val_main_v272 (F := Ideal) x0 x3 x9 (ix1 j) = Ideal.sqrt (∑ k : Fin 3, val_main_v197 (F := Ideal) x0 x3 x9 (ix2 j k) * val_main_v197 (F := Ideal) x0 x3 x9 (ix2 j k)) := by
    unfold val_main_v272 val_main_call8_v1 val_main_call8_v0 val_main_call8_cst
    pointwise
  rw [e]
  simp only [crossA_real hA hI, Fin.sum_univ_three, ← EReal.coe_mul, ← EReal.coe_add]
  exact sqrt_dot _

theorem normB_real (j : Fin 4093) : val_main_v273 (F := Ideal) x0 x3 x9 (ix1 j) = ((√(dotR (crossR (bvec S L (j + 1)) (bvec S L (j + 2))) (crossR (bvec S L (j + 1)) (bvec S L (j + 2)))) : ℝ) : EReal) := by
  have e : val_main_v273 (F := Ideal) x0 x3 x9 (ix1 j) = Ideal.sqrt (∑ k : Fin 3, val_main_v234 (F := Ideal) x0 x3 x9 (ix2 j k) * val_main_v234 (F := Ideal) x0 x3 x9 (ix2 j k)) := by
    unfold val_main_v273 val_main_call9_v1 val_main_call9_v0 val_main_call9_cst
    pointwise
  rw [e]
  simp only [crossB_real hA hI, Fin.sum_univ_three, ← EReal.coe_mul, ← EReal.coe_add]
  exact sqrt_dot _

theorem normC_real (j : Fin 4093) : val_main_v274 (F := Ideal) x0 x3 x9 (ix1 j) = ((√(dotR (crossR (bvec S L (j + 1)) (crossR (bvec S L j) (bvec S L (j + 1)))) (crossR (bvec S L (j + 1)) (crossR (bvec S L j) (bvec S L (j + 1))))) : ℝ) : EReal) := by
  have e : val_main_v274 (F := Ideal) x0 x3 x9 (ix1 j) = Ideal.sqrt (∑ k : Fin 3, val_main_v271 (F := Ideal) x0 x3 x9 (ix2 j k) * val_main_v271 (F := Ideal) x0 x3 x9 (ix2 j k)) := by
    unfold val_main_v274 val_main_call10_v1 val_main_call10_v0 val_main_call10_cst
    pointwise
  rw [e]
  simp only [crossC_real hA hI, Fin.sum_univ_three, ← EReal.coe_mul, ← EReal.coe_add]
  exact sqrt_dot _

theorem bentA (j : Fin 4093) : dotR (crossR (bvec S L j) (bvec S L (j + 1))) (crossR (bvec S L j) (bvec S L (j + 1))) ≠ 0 := hA.bent _ (by omega)
theorem bentB (j : Fin 4093) : dotR (crossR (bvec S L (j + 1)) (bvec S L (j + 2))) (crossR (bvec S L (j + 1)) (bvec S L (j + 2))) ≠ 0 := hA.bent _ (by omega)

theorem cos_real (j : Fin 4093) : val_main_v280 (F := Ideal) x0 x3 x9 (ix1 j) = ((cosR (bvec S L j) (bvec S L (j + 1)) (bvec S L (j + 2)) : ℝ) : EReal) := by
  have e : val_main_v280 (F := Ideal) x0 x3 x9 (ix1 j) = Ideal.div (∑ k : Fin 3, val_main_v197 (F := Ideal) x0 x3 x9 (ix2 j k) * Ideal.div (val_main_v234 (F := Ideal) x0 x3 x9 (ix2 j k)) (val_main_v273 (F := Ideal) x0 x3 x9 (ix1 j))) (val_main_v272 (F := Ideal) x0 x3 x9 (ix1 j)) := by
    unfold val_main_v280 val_main_v279 val_main_cst_21 val_main_v278 val_main_v277 val_main_v276 val_main_v275
    pointwise
  rw [e]
  simp only [crossA_real hA hI, crossB_real hA hI, normB_real hA hI, normA_real hA hI]
  exact ratio_real _ _ _ _ (sqrt_ne (dotR_self_nonneg _) (bentB hA hI j)) (sqrt_ne (dotR_self_nonneg _) (bentA hA hI j))

theorem sin_real (j : Fin 4093) : val_main_v283 (F := Ideal) x0 x3 x9 (ix1 j) = ((sinR (bvec S L j) (bvec S L (j + 1)) (bvec S L (j + 2)) : ℝ) : EReal) := by
  have e : val_main_v283 (F := Ideal) x0 x3 x9 (ix1 j) = Ideal.div (∑ k : Fin 3, val_main_v271 (F := Ideal) x0 x3 x9 (ix2 j k) * Ideal.div (val_main_v234 (F := Ideal) x0 x3 x9 (ix2 j k)) (val_main_v273 (F := Ideal) x0 x3 x9 (ix1 j))) (val_main_v274 (F := Ideal) x0 x3 x9 (ix1 j)) := by
    unfold val_main_v283 val_main_v282 val_main_cst_22 val_main_v281 val_main_v277 val_main_v276 val_main_v275
    pointwise
  rw [e]
  simp only [crossC_real hA hI, crossB_real hA hI, normB_real hA hI, normC_real hA hI]
  exact ratio_real _ _ _ _ (sqrt_ne (dotR_self_nonneg _) (bentB hA hI j)) (sqrt_ne (dotR_self_nonneg _) (dotC_ne _ _ (bentA hA hI j)))

theorem phi_real (j : Fin 4093) : val_main_v285 (F := Ideal) x0 x3 x9 (ix1 j)
    = -Ideal.atan2 ((sinR (bvec S L j) (bvec S L (j + 1)) (bvec S L (j + 2)) : ℝ) : EReal) ((cosR (bvec S L j) (bvec S L (j + 1)) (bvec S L (j + 2)) : ℝ) : EReal) := by
  have e : val_main_v285 (F := Ideal) x0 x3 x9 (ix1 j) = -Ideal.atan2 (val_main_v283 (F := Ideal) x0 x3 x9 (ix1 j)) (val_main_v280 (F := Ideal) x0 x3 x9 (ix1 j)) := by
    unfold val_main_v285 val_main_v284
    pointwise
  rw [e, sin_real hA hI, cos_real hA hI]

/-- The dihedral's number, unwrapped. -/
theorem map_word (j : Fin 4093) : val_main_v297 (F := Ideal) x4 (ix2 j 0) = BitVec.ofNat 32 j.val := by
  have e : val_main_v297 (F := Ideal) x4 (ix2 j 0) = Scalar.select (IntOp.cmpi .slt (x4 (ix1 j)) 0#32) (IntOp.addi (x4 (ix1 j)) 4093#32) (x4 (ix1 j)) := by
    unfold val_main_v297 val_main_v296 val_main_v295 val_main_v294 val_main_v293 val_main_v292
    pointwise
    rfl
  exact e.trans (wrap_word _ _ _ (hI.map j) (by omega))

theorem map_word' (j : Fin 4093) : val_main_v311 (F := Ideal) x4 (ix2 j 0) = BitVec.ofNat 32 j.val := map_word hA hI j

theorem tor_real (x5 : FVec Ideal S4093x3 .f32) (j : Fin 4093) : val_main_v305 (F := Ideal) x0 x3 x4 x5 x9 (ix1 j)
    = dihE (bvec S L j) (bvec S L (j + 1)) (bvec S L (j + 2)) (x5 (ix2 j 0)) (x5 (ix2 j 1)) (x5 (ix2 j 2)) := by
  have hm : val_main_v298 (F := Ideal) x0 x3 x4 x9 (ix1 j) = val_main_v285 (F := Ideal) x0 x3 x9 (ix1 j) :=
    Routing.gather_take1 (N := 4093) (n := 4093) gather_S4093_S4093x1_S4093_n_0_n_n_0_1_1 rfl rfl rfl rfl (val_main_v285 (F := Ideal) x0 x3 x9) (val_main_v297 (F := Ideal) x4) j j (map_word hA hI j) (by norm_num)
  have e : val_main_v305 (F := Ideal) x0 x3 x4 x5 x9 (ix1 j)
      = x5 (ix2 j 0) * ((1 : EReal) + Ideal.cos (x5 (ix2 j 2) * val_main_v298 (F := Ideal) x0 x3 x4 x9 (ix1 j) - x5 (ix2 j 1))) := by
    unfold val_main_v305 val_main_v304 val_main_v303 val_main_cst_26 val_main_v302 val_main_v300 val_main_v299 val_main_v291 val_main_v290 val_main_v289 val_main_v288 val_main_v287 val_main_v286
    pointwise
  rw [e, hm, phi_real hA hI]
  rfl

/-- Each dihedral's energy is added to its own entry. -/
theorem tor_at (x5 : FVec Ideal S4093x3 .f32) (j : Fin 4093) : val_main_v312 (F := Ideal) x0 x3 x4 x5 x9 (ix1 j) = val_main_v305 (F := Ideal) x0 x3 x4 x5 x9 (ix1 j) := by
  have hz : val_main_v301 (F := Ideal) (ix1 j) = 0 := by
    unfold val_main_v301 val_main_cst_25
    pointwise
  have h : ∀ i : S4093.Idx, scatter_S4093_S4093x1_S4093_n_0_0_1.resultIdx? i (val_main_v311 (F := Ideal) x4) = some (ix1 j) ↔ i = ix1 j := by
    intro i
    obtain ⟨i, rfl⟩ : ∃ r : Fin 4093, i = ix1 r := ⟨i 0, by funext a; fin_cases a; rfl⟩
    refine (Routing.scatter_lands (N := 4093) scatter_S4093_S4093x1_S4093_n_0_0_1 rfl rfl rfl (val_main_v311 (F := Ideal) x4) id (fun i => map_word' hA hI i) (fun i => by simp; omega) i j).trans ?_
    constructor
    · intro e
      rw [Fin.ext e]
    · intro e
      exact congrArg (fun f : S4093.Idx => (f 0).val) e
  show val_main_v301 (F := Ideal) (ix1 j) + ∑ i ∈ Finset.univ.filter (fun i => scatter_S4093_S4093x1_S4093_n_0_0_1.resultIdx? i (val_main_v311 (F := Ideal) x4) = some (ix1 j)), val_main_v305 (F := Ideal) x0 x3 x4 x5 x9 i = _
  rw [hz, zero_add]
  simp only [h]
  rw [Finset.filter_eq' Finset.univ (ix1 j : S4093.Idx), if_pos (Finset.mem_univ _), Finset.sum_singleton]

theorem torsion_sum (x5 : FVec Ideal S4093x3 .f32) : val_main_v325 (F := Ideal) x0 x3 x4 x5 x9 ix0
    = ∑ j : Fin 4093, dihE (bvec S L j) (bvec S L (j + 1)) (bvec S L (j + 2)) (x5 (ix2 j 0)) (x5 (ix2 j 1)) (x5 (ix2 j 2)) := by
  have e : val_main_v325 (F := Ideal) x0 x3 x4 x5 x9 ix0 = ∑ j : Fin 4093, val_main_v312 (F := Ideal) x0 x3 x4 x5 x9 (ix1 j) := by
    unfold val_main_v325 val_main_cst_32
    pointwise
  rw [e]
  exact Finset.sum_congr rfl fun j _ => (tor_at hA hI x5 j).trans (tor_real hA hI x5 j)

end

end Cert.Proof.Energy
-- ==== Proof.RefTypes.lean ====
/-
  The types of a pair of the reference, and its coefficient.
-/
module

public import proofs.«01_k».proof.Proof.RefPairs

@[expose] public section

set_option maxRecDepth 16384

noncomputable section

namespace Cert.Proof.Energy

open Cert.ReferenceIdeal Cert.ReferenceIdeal.Gen Cert.ReferenceIdeal.Read
open Idealize.ShloMosaic Idealize.ShloMosaic.TcCoe

section
variable {S : Sys} {L : ℝ} {X : ℕ → Fin 3 → ℝ} {x0 : FVec Ideal S4096x3 .f32} {x6 : IVec S4096 32} {x7 : FVec Ideal S20x20 .f32} {x9 : FVec Ideal S3 .f32}
  (hA : Args S L X x0 x6 x7 x9)
  {x1 : IVec S4095x2 32} {x3 : IVec S4093x4 32} {x4 : IVec S4093 32} {x8 : IVec S8382465x2 32} {P Q : ℕ → ℕ} (hI : Indices x1 x3 x4 x8 P Q)
include hA hI

theorem type_left (p : Fin 8382465) : val_main_v434 (F := Ideal) x6 x8 (ix1 p) = BitVec.ofNat 32 (S.T (P p.val)).val := by
  have e : val_main_v433 (F := Ideal) x8 (ix2 p 0) = Scalar.select (IntOp.cmpi .slt (x8 (ix2 p 0)) 0#32) (IntOp.addi (x8 (ix2 p 0)) 4096#32) (x8 (ix2 p 0)) := by
    unfold val_main_v433 val_main_v432 val_main_v431 val_main_v430 val_main_v429 val_main_v428 val_main_v427 val_main_v426
    pointwise
    rfl
  have h := left_lt hA hI p
  exact (Routing.gather_take1 (N := 4096) (n := 8382465) gather_S4096_S8382465x1_S8382465_n_0_n_n_0_1_1 rfl rfl rfl rfl x6 (val_main_v433 (F := Ideal) x8) p ⟨P p.val, h⟩
    (e.trans (wrap_word _ _ _ (hI.left p) (by omega))) (by norm_num)).trans (hA.hT ⟨P p.val, h⟩)

theorem type_right (p : Fin 8382465) : val_main_v443 (F := Ideal) x6 x8 (ix1 p) = BitVec.ofNat 32 (S.T (Q p.val)).val := by
  have e : val_main_v442 (F := Ideal) x8 (ix2 p 0) = Scalar.select (IntOp.cmpi .slt (x8 (ix2 p 1)) 0#32) (IntOp.addi (x8 (ix2 p 1)) 4096#32) (x8 (ix2 p 1)) := by
    unfold val_main_v442 val_main_v441 val_main_v440 val_main_v439 val_main_v438 val_main_v437 val_main_v436 val_main_v435
    pointwise
    rfl
  have h := hI.below p.val p.isLt
  exact (Routing.gather_take1 (N := 4096) (n := 8382465) gather_S4096_S8382465x1_S8382465_n_0_n_n_0_1_1 rfl rfl rfl rfl x6 (val_main_v442 (F := Ideal) x8) p ⟨Q p.val, h⟩
    (e.trans (wrap_word _ _ _ (hI.right p) (by omega))) (by norm_num)).trans (hA.hT ⟨Q p.val, h⟩)

theorem pair_coef (p : Fin 8382465) : val_main_v457 (F := Ideal) x6 x7 x8 (ix1 p) = ((S.C (S.T (P p.val)) (S.T (Q p.val)) : ℝ) : EReal) := by
  have e0 : val_main_v456 (F := Ideal) x6 x8 (ix2 p 0) = Scalar.select (IntOp.cmpi .slt (val_main_v434 (F := Ideal) x6 x8 (ix1 p)) 0#32) (IntOp.addi (val_main_v434 (F := Ideal) x6 x8 (ix1 p)) 20#32) (val_main_v434 (F := Ideal) x6 x8 (ix1 p)) := by
    unfold val_main_v456 val_main_v454 val_main_v448 val_main_v447 val_main_v446 val_main_v445 val_main_v444
    pointwise
    rfl
  have e1 : val_main_v456 (F := Ideal) x6 x8 (ix2 p 1) = Scalar.select (IntOp.cmpi .slt (val_main_v443 (F := Ideal) x6 x8 (ix1 p)) 0#32) (IntOp.addi (val_main_v443 (F := Ideal) x6 x8 (ix1 p)) 20#32) (val_main_v443 (F := Ideal) x6 x8 (ix1 p)) := by
    unfold val_main_v456 val_main_v455 val_main_v453 val_main_v452 val_main_v451 val_main_v450 val_main_v449
    pointwise
    rfl
  exact (gather_pair (M := 20) (N := 20) (n := 8382465) gather_S20x20_S8382465x2_S8382465_n_01_n_n_01_1_11 rfl rfl rfl rfl rfl x7 (val_main_v456 (F := Ideal) x6 x8) p (S.T (P p.val)) (S.T (Q p.val))
    (e0.trans (wrap_word _ _ _ (type_left hA hI p) (by have := (S.T (P p.val)).isLt; omega)))
    (e1.trans (wrap_word _ _ _ (type_right hA hI p) (by have := (S.T (Q p.val)).isLt; omega))) (by norm_num) (by norm_num)).trans (hA.hC _ _)

end

end Cert.Proof.Energy
-- ==== Proof.RefPairSum.lean ====
/-
  The energy of each pair of the reference, and their sum.
-/
module

public import proofs.«01_k».proof.Proof.RefTypes

@[expose] public section

set_option maxRecDepth 16384

noncomputable section

namespace Cert.Proof.Energy

open Cert.ReferenceIdeal Cert.ReferenceIdeal.Gen Cert.ReferenceIdeal.Read
open Idealize.ShloMosaic Idealize.ShloMosaic.TcCoe

/-- The sum of a row, at any number of rows. -/
theorem row_sum {n c : ℕ} (h : (⟨2, ![n, c]⟩ : Shape).ReducesTo [1] ⟨1, ![n]⟩) (v : (⟨2, ![n, c]⟩ : Shape).Idx → EReal) (init : EReal) (p : Fin n) :
    Ideal.hostReduceAdd h v init (ix1 p) = init + ∑ k : Fin c, v (ix2 p k) :=
  Ideal.hostReduceAdd_r2_a1 h v init (ix1 p)

/-- The sum of a vector, at any length. -/
theorem all_sum {n : ℕ} (h : (⟨1, ![n]⟩ : Shape).ReducesTo [0] ⟨0, ![]⟩) (v : (⟨1, ![n]⟩ : Shape).Idx → EReal) (init : EReal) :
    Ideal.hostReduceAdd h v init ix0 = init + ∑ k : Fin n, v (ix1 k) :=
  Ideal.hostReduceAdd_r1_a0 h v init ix0

section
variable {S : Sys} {L : ℝ} {X : ℕ → Fin 3 → ℝ} {x0 : FVec Ideal S4096x3 .f32} {x6 : IVec S4096 32} {x7 : FVec Ideal S20x20 .f32} {x9 : FVec Ideal S3 .f32}
  (hA : Args S L X x0 x6 x7 x9)
  {x1 : IVec S4095x2 32} {x3 : IVec S4093x4 32} {x4 : IVec S4093 32} {x8 : IVec S8382465x2 32} {P Q : ℕ → ℕ} (hI : Indices x1 x3 x4 x8 P Q)
include hA hI

theorem pair_row (p : Fin 8382465) : val_main_call13_v1 (F := Ideal) x0 x8 x9 (ix1 p) = Ideal.ofBits .f32 0x00000000#32 + ∑ k : Fin 3, val_main_call13_v0 (F := Ideal) x0 x8 x9 (ix2 p k) :=
  row_sum (n := 8382465) (c := 3) reducesTo_S8382465x3_S8382465_d1 (val_main_call13_v0 (F := Ideal) x0 x8 x9) (Ideal.ofBits .f32 0x00000000#32) p

theorem pair_sq (p : Fin 8382465) (k : Fin 3) : val_main_call13_v0 (F := Ideal) x0 x8 x9 (ix2 p k)
    = ((wr (S.U (P p.val) k - S.U (Q p.val) k) * L : ℝ) : EReal) * ((wr (S.U (P p.val) k - S.U (Q p.val) k) * L : ℝ) : EReal) :=
  congrArg₂ (· * ·) (pair_vec hA hI p k) (pair_vec hA hI p k)

theorem pair_dist (p : Fin 8382465) : val_main_v422 (F := Ideal) x0 x8 x9 (ix1 p) = ((√(L * L * sq2 (S.U (P p.val)) (S.U (Q p.val))) : ℝ) : EReal) := by
  have s : (∑ k : Fin 3, val_main_call13_v0 (F := Ideal) x0 x8 x9 (ix2 p k)) = ((L * L * sq2 (S.U (P p.val)) (S.U (Q p.val)) : ℝ) : EReal) :=
    (Finset.sum_congr rfl fun k _ => pair_sq hA hI p k).trans (dist_sq L (S.U (P p.val)) (S.U (Q p.val)))
  rw [val_main_v422_apply, pair_row hA hI p, s, Ideal.ofBits_zero_f32, zero_add]
  exact dist_sqrt L (S.U (P p.val)) (S.U (Q p.val))

theorem pair_inv (p : Fin 8382465) : val_main_v459 (F := Ideal) x0 x8 x9 (ix1 p) = Ideal.div 1 ((√(L * L * sq2 (S.U (P p.val)) (S.U (Q p.val))) : ℝ) : EReal) := by
  rw [val_main_v459_apply, val_main_v458_apply, val_main_cst_55_apply, pair_dist hA hI p]
  exact congrArg (Ideal.div · _) Ideal.ofBits_one_f32

theorem pair_energy (p : Fin 8382465) : val_main_v463 (F := Ideal) x0 x6 x7 x8 x9 (ix1 p) = ((S.H (P p.val) (Q p.val) * (L * L) : ℝ) : EReal) := by
  have ha := hI.apart p.val p.isLt
  have hs : 0 < sq2 (S.U (P p.val)) (S.U (Q p.val)) := lt_of_le_of_ne (sq2_nonneg _ _) (Ne.symm (S.sep _ _ ha (hI.below p.val p.isLt)))
  have hH : S.H (P p.val) (Q p.val) = pairR (1 / (L * L)) (sq2 (S.U (P p.val)) (S.U (Q p.val))) (S.C (S.T (P p.val)) (S.T (Q p.val))) := by
    rw [Sys.H, if_pos ha, hA.hib]
  rw [val_main_v463_apply, val_main_v462_apply, val_main_v461_apply, val_main_v460_apply, pair_inv hA hI p, pair_coef hA hI p, hH]
  exact pair_real L _ _ hA.hL hs

theorem pairs_sum : val_main_v464 (F := Ideal) x0 x6 x7 x8 x9 ix0 = ∑ p : Fin 8382465, ((S.H (P p.val) (Q p.val) * (L * L) : ℝ) : EReal) := by
  have e : val_main_v464 (F := Ideal) x0 x6 x7 x8 x9 ix0 = Ideal.ofBits .f32 0x00000000#32 + ∑ p : Fin 8382465, val_main_v463 (F := Ideal) x0 x6 x7 x8 x9 (ix1 p) :=
    all_sum (n := 8382465) reducesTo_S8382465_S_d0 (val_main_v463 (F := Ideal) x0 x6 x7 x8 x9) (Ideal.ofBits .f32 0x00000000#32)
  rw [e, Ideal.ofBits_zero_f32, zero_add]
  exact Finset.sum_congr rfl fun p _ => pair_energy hA hI p

end

end Cert.Proof.Energy
-- ==== Proof.RefEnergy.lean ====
/-
  The reference's energy: the bonds, the dihedrals, and the pairs summed by rows and columns.
-/
module

public import proofs.«01_k».proof.Proof.RefTorsion
public import proofs.«01_k».proof.Proof.RefPairSum
public import proofs.«01_k».proof.Proof.Triangle

@[expose] public section

set_option maxRecDepth 16384

noncomputable section

namespace Cert.Proof.Energy

open Cert.ReferenceIdeal Cert.ReferenceIdeal.Gen Cert.ReferenceIdeal.Read
open Idealize.ShloMosaic Idealize.ShloMosaic.TcCoe

section
variable {S : Sys} {L : ℝ} {X : ℕ → Fin 3 → ℝ} {x0 : FVec Ideal S4096x3 .f32} {x6 : IVec S4096 32} {x7 : FVec Ideal S20x20 .f32} {x9 : FVec Ideal S3 .f32}
  (hA : Args S L X x0 x6 x7 x9)
  {x1 : IVec S4095x2 32} {x3 : IVec S4093x4 32} {x4 : IVec S4093 32} {x8 : IVec S8382465x2 32} {P Q : ℕ → ℕ} (hI : Indices x1 x3 x4 x8 P Q)
include hA hI

theorem pairs_total : val_main_v464 (F := Ideal) x0 x6 x7 x8 x9 ix0 = (((∑ r ∈ Finset.range 4096, ∑ q ∈ Finset.range 4096, S.H r q) * (L * L) : ℝ) : EReal) := by
  have hz : ∀ r c, ¬ r + 2 ≤ c → S.H r c = 0 := fun r c h => by rw [Sys.H, if_neg h]
  rw [pairs_sum hA hI, coe_sum, ← triangle_sum P Q hI.apart hI.below hI.rank S.H hz, Finset.sum_mul,
    Finset.sum_range (fun p => S.H (P p) (Q p) * (L * L))]

theorem ref_total (x2 : FVec Ideal S4095x2 .f32) (x5 : FVec Ideal S4093x3 .f32) : val_main_v465 (F := Ideal) x0 x1 x2 x3 x4 x5 x6 x7 x8 x9 ix0
    = bondedOf S L x2 x5 + (((∑ r ∈ Finset.range 4096, ∑ q ∈ Finset.range 4096, S.H r q) * (L * L) : ℝ) : EReal) := by
  rw [val_main_v465_apply, val_main_v326_apply, bonds_sum hA hI, torsion_sum hA hI, pairs_total hA hI]
  rfl

end

end Cert.Proof.Energy
-- ==== Proof.Setup.lean ====
/-
  From the precondition to the reals: the chain's positions, types and coefficients, and the list of pairs.
-/
module

public import proofs.«01_k».proof.Proof.DecodeShape
public import proofs.«01_k».proof.Proof.DecodeInts
public import proofs.«01_k».proof.Proof.RefEnergy

@[expose] public section

set_option maxRecDepth 16384

noncomputable section

namespace Cert.Proof.Energy

open Cert.Pre_regular Cert.Pre_regular.Gen
open Idealize.ShloMosaic Idealize.ShloMosaic.TcCoe

/-- A component of the list of pairs, at the pair of a natural number. -/
def atPair (x8 : IVec S8382465x2 32) (a : Fin 2) (p : ℕ) : ℕ := if h : p < 8382465 then (x8 (ix2 ⟨p, h⟩ a)).toNat else 0

theorem atPair_word (x8 : IVec S8382465x2 32) (a : Fin 2) (p : Fin 8382465) : x8 (ix2 p a) = BitVec.ofNat 32 (atPair x8 a p) := by
  rw [atPair, dif_pos p.isLt]
  simp

/-- The positions, as reals. -/
def posR (x0 : FVec Ideal S4096x3 .f32) (r : ℕ) (k : Fin 3) : ℝ := if h : r < 4096 then (x0 (ix2 ⟨r, h⟩ k)).toReal else 0

/-- The types, as numbers below 20. -/
def typN (x6 : IVec S4096 32) (r : ℕ) : Fin 20 := ⟨(if h : r < 4096 then (x6 (ix1 ⟨r, h⟩)).toNat else 0) % 20, Nat.mod_lt _ (by norm_num)⟩

/-- A squared separation in the box's units, times the side's square. -/
theorem dR_sq (X : ℕ → Fin 3 → ℝ) (L : ℝ) (r c : ℕ) :
    dR X L r c 0 * dR X L r c 0 + dR X L r c 1 * dR X L r c 1 + dR X L r c 2 * dR X L r c 2
      = sq2 (fun k => X r k * (1 / L)) (fun k => X c k * (1 / L)) * (L * L) := by
  unfold dR sq2
  ring

variable (x0 : FVec Ideal S4096x3 .f32) (x1 : IVec S4095x2 32) (x2 : FVec Ideal S4095x2 .f32) (x3 : IVec S4093x4 32) (x4 : IVec S4093 32)
  (x5 : FVec Ideal S4093x3 .f32) (x6 : IVec S4096 32) (x7 : FVec Ideal S20x20 .f32) (x8 : IVec S8382465x2 32) (x9 : FVec Ideal S3 .f32)

theorem real3 (h0 : (fn (F := Ideal) x0 x1 x2 x3 x4 x5 x6 x7 x8 x9).1 = fun _ => 1#1) (h2 : (fn (F := Ideal) x0 x1 x2 x3 x4 x5 x6 x7 x8 x9).2.2.1 = fun _ => 1#1) :
    Real3 x0 x9 (posR x0) (x9 (ix1 0)).toReal where
  hL := (box_real x0 x1 x2 x3 x4 x5 x6 x7 x8 x9 h2).1
  hx r k := by
    rw [posR, dif_pos r.isLt]
    exact pos_real x0 x1 x2 x3 x4 x5 x6 x7 x8 x9 h0 r k
  hbox := (box_real x0 x1 x2 x3 x4 x5 x6 x7 x8 x9 h2).2 0

/-- The list of pairs holds every pair at least two apart, in order; the bonds and dihedrals are the chain's. -/
theorem indices (h4 : (fn (F := Ideal) x0 x1 x2 x3 x4 x5 x6 x7 x8 x9).2.2.2.2.1 = fun _ => 1#1) (h5 : (fn (F := Ideal) x0 x1 x2 x3 x4 x5 x6 x7 x8 x9).2.2.2.2.2.1 = fun _ => 1#1)
    (h6 : (fn (F := Ideal) x0 x1 x2 x3 x4 x5 x6 x7 x8 x9).2.2.2.2.2.2.1 = fun _ => 1#1) (h7 : (fn (F := Ideal) x0 x1 x2 x3 x4 x5 x6 x7 x8 x9).2.2.2.2.2.2.2.1 = fun _ => 1#1)
    (h8 : (fn (F := Ideal) x0 x1 x2 x3 x4 x5 x6 x7 x8 x9).2.2.2.2.2.2.2.2.1 = fun _ => 1#1) :
    Indices x1 x3 x4 x8 (atPair x8 0) (atPair x8 1) := by
  have k (p : ℕ) (hp : p < 8382465) : atPair x8 1 p < 4096 ∧ atPair x8 0 p + 2 ≤ atPair x8 1 p ∧ rank2 (atPair x8 0 p) (atPair x8 1 p) = 2 * p := by
    have r := list_range x0 x1 x2 x3 x4 x5 x6 x7 x8 x9 h7 ⟨p, hp⟩
    have q := pair_word _ _ p hp r.1 r.2.1 r.2.2 (list_rank x0 x1 x2 x3 x4 x5 x6 x7 x8 x9 h8 ⟨p, hp⟩)
    rw [atPair, atPair, dif_pos hp, dif_pos hp]
    exact ⟨r.2.1, q⟩
  exact {
    bond := bond_word x0 x1 x2 x3 x4 x5 x6 x7 x8 x9 h4
    dih := dih_word x0 x1 x2 x3 x4 x5 x6 x7 x8 x9 h5
    map := dihmap_word x0 x1 x2 x3 x4 x5 x6 x7 x8 x9 h6
    left := atPair_word x8 0
    right := atPair_word x8 1
    apart := fun p hp => (k p hp).2.1
    below := fun p hp => (k p hp).1
    rank := fun p hp => (k p hp).2.2 }

/-- The precondition gives a chain of reals for both programs. -/
theorem setup (h0 : (fn (F := Ideal) x0 x1 x2 x3 x4 x5 x6 x7 x8 x9).1 = fun _ => 1#1) (h1 : (fn (F := Ideal) x0 x1 x2 x3 x4 x5 x6 x7 x8 x9).2.1 = fun _ => 1#1)
    (h2 : (fn (F := Ideal) x0 x1 x2 x3 x4 x5 x6 x7 x8 x9).2.2.1 = fun _ => 1#1) (h3 : (fn (F := Ideal) x0 x1 x2 x3 x4 x5 x6 x7 x8 x9).2.2.2.1 = fun _ => 1#1)
    (h9 : (fn (F := Ideal) x0 x1 x2 x3 x4 x5 x6 x7 x8 x9).2.2.2.2.2.2.2.2.2.1 = fun _ => 1#1)
    (h10 : (fn (F := Ideal) x0 x1 x2 x3 x4 x5 x6 x7 x8 x9).2.2.2.2.2.2.2.2.2.2 = fun _ => 1#1) :
    ∃ S L X, Args S L X x0 x6 x7 x9 := by
  have hR := real3 x0 x1 x2 x3 x4 x5 x6 x7 x8 x9 h0 h2
  obtain ⟨L, hL⟩ : ∃ L, L = (x9 (ix1 0)).toReal := ⟨_, rfl⟩
  have hb := (box_real x0 x1 x2 x3 x4 x5 x6 x7 x8 x9 h2).2
  rw [← hL] at hR hb
  refine ⟨{ U := fun r k => posR x0 r k * (1 / L), T := typN x6, C := fun a b => (x7 (ix2 a b)).toReal, ib := 1 / (L * L), sep := ?_ }, L, posR x0, ?_⟩
  · intro r c hrc hc h
    refine far x0 x1 x2 x3 x4 x5 x6 x7 x8 x9 hR h9 ⟨r, by omega⟩ ⟨c, hc⟩ hrc ?_
    rw [dR_sq, h, zero_mul]
  · exact {
      hL := hR.hL
      hib := rfl
      hU := fun _ _ => rfl
      hx := hR.hx
      hT := fun r => by
        have t := types_range x0 x1 x2 x3 x4 x5 x6 x7 x8 x9 h3 r
        have e : (typN x6 r).val = (x6 (ix1 r)).toNat := by
          rw [typN]
          simp only [dif_pos r.isLt, Fin.eta, Nat.mod_eq_of_lt t]
        rw [e]
        simp
      hC := coef_real x0 x1 x2 x3 x4 x5 x6 x7 x8 x9 h1
      hbox := hb
      bent := fun j hj => bent x0 x1 x2 x3 x4 x5 x6 x7 x8 x9 hR h10 ⟨j, hj⟩ }

end Cert.Proof.Energy

end
-- ==== Proof.BondForce.lean ====
/-
  The bonded forces: what they are, and the kernel's operations for them read at an index.
-/
module

public import proofs.«01_k».proof.Proof.Energy

@[expose] public section

set_option maxRecDepth 16384

noncomputable section

namespace Cert.Proof.Energy

open Cert.KernelIdeal Cert.KernelIdeal.Gen
open Idealize.ShloMosaic

/-- A bond's force along its vector `v`. -/
def bondF (v : Fin 3 → ℝ) (k0 d0 : EReal) (k : Fin 3) : EReal :=
  ((v k : ℝ) : EReal) * (Ideal.ofBits .f32 0x40000000#32 * k0 * (((√(dotR v v) : ℝ) : EReal) - d0) * ((1 / √(dotR v v) : ℝ) : EReal))

/-- The derivative of a dihedral's energy by its angle. -/
def torC (p q r : Fin 3 → ℝ) (k0 phi0 per : EReal) : EReal :=
  -per * k0 * Ideal.sin (per * -Ideal.atan2 ((sinR p q r : ℝ) : EReal) ((cosR p q r : ℝ) : EReal) - phi0)

/-- A force on an end of a dihedral: `c` times the length of the middle vector `q`, along the plane's normal `a`. -/
def endF (c : EReal) (q a : Fin 3 → ℝ) (k : Fin 3) : EReal :=
  c * ((√(dotR q q) : ℝ) : EReal) * ((1 / dotR a a : ℝ) : EReal) * ((a k : ℝ) : EReal)

/-- The forces on a dihedral's two ends, and what the two inner atoms share. -/
def torF0 (p q r : Fin 3 → ℝ) (k0 phi0 per : EReal) (k : Fin 3) : EReal := endF (-torC p q r k0 phi0 per) q (crossR p q) k
def torF3 (p q r : Fin 3 → ℝ) (k0 phi0 per : EReal) (k : Fin 3) : EReal := endF (torC p q r k0 phi0 per) q (crossR q r) k
def torS (p q r : Fin 3 → ℝ) (k0 phi0 per : EReal) (k : Fin 3) : EReal :=
  ((dotR p q : ℝ) : EReal) * ((1 / dotR q q : ℝ) : EReal) * torF0 p q r k0 phi0 per k - ((dotR r q : ℝ) : EReal) * ((1 / dotR q q : ℝ) : EReal) * torF3 p q r k0 phi0 per k

theorem left_ne (p q : Fin 3 → ℝ) (h : dotR (crossR p q) (crossR p q) ≠ 0) : dotR p p ≠ 0 := by
  refine fun hq => h ?_
  unfold dotR at hq
  have h0 : p 0 = 0 := by nlinarith [mul_self_nonneg (p 0), mul_self_nonneg (p 1), mul_self_nonneg (p 2)]
  have h1 : p 1 = 0 := by nlinarith [mul_self_nonneg (p 0), mul_self_nonneg (p 1), mul_self_nonneg (p 2)]
  have h2 : p 2 = 0 := by nlinarith [mul_self_nonneg (p 0), mul_self_nonneg (p 1), mul_self_nonneg (p 2)]
  simp [dotR, crossR, h0, h1, h2]

theorem right_ne (p q : Fin 3 → ℝ) (h : dotR (crossR p q) (crossR p q) ≠ 0) : dotR q q ≠ 0 := by
  have e := dotC_ne p q h
  rw [dotC] at e
  exact left_ne_zero_of_mul e

/-! The kernel's operations. -/

def lenOp (b0 b1 b2 : FVec Ideal S1x4095 .f32) : FVec Ideal S1x4095 .f32 := sqrt (addf (addf (mulf b0 b0) (mulf b1 b1)) (mulf b2 b2))
def frcOp (b b0 b1 b2 k0 d0 : FVec Ideal S1x4095 .f32) : FVec Ideal S1x4095 .f32 :=
  mulf b (divf (mulf (mulf (broadcast S1x4095 (Scalar.ofBits (F := Ideal) .f32 0x40000000#32)) k0) (subf (lenOp b0 b1 b2) d0)) (lenOp b0 b1 b2))

abbrev V95 := FVec Ideal S1x4095 .f32
def sl0 (b : V95) : V93 := extractStridedSlice S1x4093 ![0, 0] b slices_S1x4095_o0_0_S1x4093
def sl1 (b : V95) : V93 := extractStridedSlice S1x4093 ![0, 1] b slices_S1x4095_o0_1_S1x4093
def sl2 (b : V95) : V93 := extractStridedSlice S1x4093 ![0, 2] b slices_S1x4095_o0_2_S1x4093
def norA0 (b0 b1 b2 : V95) : V93 := crs (sl0 b1) (sl1 b2) (sl0 b2) (sl1 b1)
def norA1 (b0 b1 b2 : V95) : V93 := crs (sl0 b2) (sl1 b0) (sl0 b0) (sl1 b2)
def norA2 (b0 b1 b2 : V95) : V93 := crs (sl0 b0) (sl1 b1) (sl0 b1) (sl1 b0)
def norB0 (b0 b1 b2 : V95) : V93 := crs (sl1 b1) (sl2 b2) (sl1 b2) (sl2 b1)
def norB1 (b0 b1 b2 : V95) : V93 := crs (sl1 b2) (sl2 b0) (sl1 b0) (sl2 b2)
def norB2 (b0 b1 b2 : V95) : V93 := crs (sl1 b0) (sl2 b1) (sl1 b1) (sl2 b0)

def coefOp (b0 b1 b2 : V95) (k0 phi0 per : V93) : V93 :=
  mulf (mulf (subf (broadcast S1x4093 (Scalar.ofBits (F := Ideal) .f32 0x00000000#32)) per) k0)
    (sin (subf (mulf per (phiOp (sl0 b0) (sl0 b1) (sl0 b2) (sl1 b0) (sl1 b1) (sl1 b2) (sl2 b0) (sl2 b1) (sl2 b2))) phi0))
def endOp (c : V93) (b0 b1 b2 : V95) (a0 a1 a2 a : V93) : V93 :=
  mulf (divf (mulf c (sqrt (dt3 (sl1 b0) (sl1 b1) (sl1 b2) (sl1 b0) (sl1 b1) (sl1 b2)))) (dt3 a0 a1 a2 a0 a1 a2)) a
def f0Op (b0 b1 b2 : V95) (k0 phi0 per a : V93) : V93 :=
  endOp (subf (broadcast S1x4093 (Scalar.ofBits (F := Ideal) .f32 0x00000000#32)) (coefOp b0 b1 b2 k0 phi0 per)) b0 b1 b2 (norA0 b0 b1 b2) (norA1 b0 b1 b2) (norA2 b0 b1 b2) a
def f3Op (b0 b1 b2 : V95) (k0 phi0 per a : V93) : V93 :=
  endOp (coefOp b0 b1 b2 k0 phi0 per) b0 b1 b2 (norB0 b0 b1 b2) (norB1 b0 b1 b2) (norB2 b0 b1 b2) a
def sOp (b0 b1 b2 : V95) (f0 f3 : V93) : V93 :=
  subf (mulf (divf (dt3 (sl0 b0) (sl0 b1) (sl0 b2) (sl1 b0) (sl1 b1) (sl1 b2)) (dt3 (sl1 b0) (sl1 b1) (sl1 b2) (sl1 b0) (sl1 b1) (sl1 b2))) f0)
    (mulf (divf (dt3 (sl2 b0) (sl2 b1) (sl2 b2) (sl1 b0) (sl1 b1) (sl1 b2)) (dt3 (sl1 b0) (sl1 b1) (sl1 b2) (sl1 b0) (sl1 b1) (sl1 b2))) f3)

theorem frcOp_real (b b0 b1 b2 k0 d0 : V95) (j : Fin 4095) (v : Fin 3 → ℝ) (k : Fin 3) (hb : b (ix2 0 j) = (v k : ℝ))
    (h0 : b0 (ix2 0 j) = (v 0 : ℝ)) (h1 : b1 (ix2 0 j) = (v 1 : ℝ)) (h2 : b2 (ix2 0 j) = (v 2 : ℝ)) (hv : dotR v v ≠ 0) :
    frcOp b b0 b1 b2 k0 d0 (ix2 0 j) = bondF v (k0 (ix2 0 j)) (d0 (ix2 0 j)) k := by
  have e : lenOp b0 b1 b2 (ix2 0 j) = ((√(dotR v v) : ℝ) : EReal) := by
    show Ideal.sqrt (b0 (ix2 0 j) * b0 (ix2 0 j) + b1 (ix2 0 j) * b1 (ix2 0 j) + b2 (ix2 0 j) * b2 (ix2 0 j)) = _
    rw [h0, h1, h2]
    simp only [← EReal.coe_mul, ← EReal.coe_add]
    exact sqrt_dot v
  show b (ix2 0 j) * Ideal.div (Ideal.ofBits .f32 0x40000000#32 * k0 (ix2 0 j) * (lenOp b0 b1 b2 (ix2 0 j) - d0 (ix2 0 j))) (lenOp b0 b1 b2 (ix2 0 j)) = _
  rw [e, hb, Ideal.div_coe (sqrt_ne (dotR_self_nonneg v) hv)]
  rfl

theorem sl0_apply (b : V95) (j : Fin 4093) : sl0 b (ix2 0 j) = b (ix2 0 ⟨j, by omega⟩) := by
  unfold sl0
  pointwise
theorem sl1_apply (b : V95) (j : Fin 4093) : sl1 b (ix2 0 j) = b (ix2 0 ⟨j + 1, by omega⟩) := by
  unfold sl1
  pointwise
  congr 2; apply Fin.ext; show 1 + j.val = j.val + 1; omega
theorem sl2_apply (b : V95) (j : Fin 4093) : sl2 b (ix2 0 j) = b (ix2 0 ⟨j + 2, by omega⟩) := by
  unfold sl2
  pointwise
  congr 2; apply Fin.ext; show 2 + j.val = j.val + 2; omega

section
variable (b0 b1 b2 : V95) (k0 phi0 per : V93) (j : Fin 4093) (v : ℕ → Fin 3 → ℝ)
  (h0 : ∀ j : Fin 4095, b0 (ix2 0 j) = ((v j 0 : ℝ) : EReal)) (h1 : ∀ j : Fin 4095, b1 (ix2 0 j) = ((v j 1 : ℝ) : EReal)) (h2 : ∀ j : Fin 4095, b2 (ix2 0 j) = ((v j 2 : ℝ) : EReal))
  (na : dotR (crossR (v j) (v (j + 1))) (crossR (v j) (v (j + 1))) ≠ 0) (nb : dotR (crossR (v (j + 1)) (v (j + 2))) (crossR (v (j + 1)) (v (j + 2))) ≠ 0)
include h0 h1 h2

theorem norA0_real : norA0 b0 b1 b2 (ix2 0 j) = ((crossR (v j) (v (j + 1)) 0 : ℝ) : EReal) :=
  crs_real _ _ _ _ j _ _ _ _ ((sl0_apply b1 j).trans (h1 _)) ((sl1_apply b2 j).trans (h2 _)) ((sl0_apply b2 j).trans (h2 _)) ((sl1_apply b1 j).trans (h1 _))
theorem norA1_real : norA1 b0 b1 b2 (ix2 0 j) = ((crossR (v j) (v (j + 1)) 1 : ℝ) : EReal) :=
  crs_real _ _ _ _ j _ _ _ _ ((sl0_apply b2 j).trans (h2 _)) ((sl1_apply b0 j).trans (h0 _)) ((sl0_apply b0 j).trans (h0 _)) ((sl1_apply b2 j).trans (h2 _))
theorem norA2_real : norA2 b0 b1 b2 (ix2 0 j) = ((crossR (v j) (v (j + 1)) 2 : ℝ) : EReal) :=
  crs_real _ _ _ _ j _ _ _ _ ((sl0_apply b0 j).trans (h0 _)) ((sl1_apply b1 j).trans (h1 _)) ((sl0_apply b1 j).trans (h1 _)) ((sl1_apply b0 j).trans (h0 _))
theorem norB0_real : norB0 b0 b1 b2 (ix2 0 j) = ((crossR (v (j + 1)) (v (j + 2)) 0 : ℝ) : EReal) :=
  crs_real _ _ _ _ j _ _ _ _ ((sl1_apply b1 j).trans (h1 _)) ((sl2_apply b2 j).trans (h2 _)) ((sl1_apply b2 j).trans (h2 _)) ((sl2_apply b1 j).trans (h1 _))
theorem norB1_real : norB1 b0 b1 b2 (ix2 0 j) = ((crossR (v (j + 1)) (v (j + 2)) 1 : ℝ) : EReal) :=
  crs_real _ _ _ _ j _ _ _ _ ((sl1_apply b2 j).trans (h2 _)) ((sl2_apply b0 j).trans (h0 _)) ((sl1_apply b0 j).trans (h0 _)) ((sl2_apply b2 j).trans (h2 _))
theorem norB2_real : norB2 b0 b1 b2 (ix2 0 j) = ((crossR (v (j + 1)) (v (j + 2)) 2 : ℝ) : EReal) :=
  crs_real _ _ _ _ j _ _ _ _ ((sl1_apply b0 j).trans (h0 _)) ((sl2_apply b1 j).trans (h1 _)) ((sl1_apply b1 j).trans (h1 _)) ((sl2_apply b0 j).trans (h0 _))

theorem mid_real : dt3 (sl1 b0) (sl1 b1) (sl1 b2) (sl1 b0) (sl1 b1) (sl1 b2) (ix2 0 j) = ((dotR (v (j + 1)) (v (j + 1)) : ℝ) : EReal) :=
  dt3_real _ _ _ _ _ _ j _ _ ((sl1_apply b0 j).trans (h0 _)) ((sl1_apply b1 j).trans (h1 _)) ((sl1_apply b2 j).trans (h2 _)) ((sl1_apply b0 j).trans (h0 _)) ((sl1_apply b1 j).trans (h1 _)) ((sl1_apply b2 j).trans (h2 _))

include na in
theorem endOp_real (c a0 a1 a2 a : V93) (n : Fin 3 → ℝ) (k : Fin 3) (e0 : a0 (ix2 0 j) = (n 0 : ℝ)) (e1 : a1 (ix2 0 j) = (n 1 : ℝ)) (e2 : a2 (ix2 0 j) = (n 2 : ℝ)) (e : a (ix2 0 j) = (n k : ℝ)) (hn : dotR n n ≠ 0) :
    endOp c b0 b1 b2 a0 a1 a2 a (ix2 0 j) = endF (c (ix2 0 j)) (v (j + 1)) n k := by
  show Ideal.div (c (ix2 0 j) * Ideal.sqrt (dt3 (sl1 b0) (sl1 b1) (sl1 b2) (sl1 b0) (sl1 b1) (sl1 b2) (ix2 0 j))) (dt3 a0 a1 a2 a0 a1 a2 (ix2 0 j)) * a (ix2 0 j) = _
  rw [mid_real b0 b1 b2 j v h0 h1 h2, dt3_real a0 a1 a2 a0 a1 a2 j n n e0 e1 e2 e0 e1 e2, sqrt_dot, e, Ideal.div_coe hn]
  rfl

include na nb in
theorem coefOp_real : coefOp b0 b1 b2 k0 phi0 per (ix2 0 j) = torC (v j) (v (j + 1)) (v (j + 2)) (k0 (ix2 0 j)) (phi0 (ix2 0 j)) (per (ix2 0 j)) := by
  have A0 := norA0_real b0 b1 b2 j v h0 h1 h2
  have A1 := norA1_real b0 b1 b2 j v h0 h1 h2
  have A2 := norA2_real b0 b1 b2 j v h0 h1 h2
  have q0 := (sl1_apply b0 j).trans (h0 _)
  have q1 := (sl1_apply b1 j).trans (h1 _)
  have q2 := (sl1_apply b2 j).trans (h2 _)
  have e := angOp_real _ _ _ _ _ _ _ _ _ j (crossR (v j) (v (j + 1))) (crossR (v (j + 1)) (v (j + 2))) (crossR (v (j + 1)) (crossR (v j) (v (j + 1))))
    A0 A1 A2 (norB0_real b0 b1 b2 j v h0 h1 h2) (norB1_real b0 b1 b2 j v h0 h1 h2) (norB2_real b0 b1 b2 j v h0 h1 h2)
    (crs_real _ _ _ _ j _ _ _ _ q1 A2 q2 A1) (crs_real _ _ _ _ j _ _ _ _ q2 A0 q0 A2) (crs_real _ _ _ _ j _ _ _ _ q0 A1 q1 A0) na nb (dotC_ne _ _ na)
  show (Ideal.ofBits .f32 0x00000000#32 - per (ix2 0 j)) * k0 (ix2 0 j) * Ideal.sin (per (ix2 0 j) * angOp _ _ _ _ _ _ _ _ _ (ix2 0 j) - phi0 (ix2 0 j)) = _
  refine (congrArg (fun z => (Ideal.ofBits .f32 0x00000000#32 - per (ix2 0 j)) * k0 (ix2 0 j) * Ideal.sin (per (ix2 0 j) * z - phi0 (ix2 0 j))) e).trans ?_
  show (Ideal.ofBits .f32 0x00000000#32 - per (ix2 0 j)) * k0 (ix2 0 j) * Ideal.sin _ = _
  rw [Ideal.ofBits_zero_f32, zero_sub]
  rfl

include na nb in
theorem f0Op_real (a : V93) (k : Fin 3) (ha : a (ix2 0 j) = ((crossR (v j) (v (j + 1)) k : ℝ) : EReal)) :
    f0Op b0 b1 b2 k0 phi0 per a (ix2 0 j) = torF0 (v j) (v (j + 1)) (v (j + 2)) (k0 (ix2 0 j)) (phi0 (ix2 0 j)) (per (ix2 0 j)) k := by
  unfold f0Op
  rw [endOp_real b0 b1 b2 j v h0 h1 h2 na _ _ _ _ a _ k (norA0_real b0 b1 b2 j v h0 h1 h2) (norA1_real b0 b1 b2 j v h0 h1 h2) (norA2_real b0 b1 b2 j v h0 h1 h2) ha na]
  show endF (Ideal.ofBits .f32 0x00000000#32 - coefOp b0 b1 b2 k0 phi0 per (ix2 0 j)) _ _ _ = _
  rw [coefOp_real b0 b1 b2 k0 phi0 per j v h0 h1 h2 na nb, Ideal.ofBits_zero_f32, zero_sub]
  rfl

include na nb in
theorem f3Op_real (a : V93) (k : Fin 3) (ha : a (ix2 0 j) = ((crossR (v (j + 1)) (v (j + 2)) k : ℝ) : EReal)) :
    f3Op b0 b1 b2 k0 phi0 per a (ix2 0 j) = torF3 (v j) (v (j + 1)) (v (j + 2)) (k0 (ix2 0 j)) (phi0 (ix2 0 j)) (per (ix2 0 j)) k := by
  unfold f3Op
  rw [endOp_real b0 b1 b2 j v h0 h1 h2 na _ _ _ _ a _ k (norB0_real b0 b1 b2 j v h0 h1 h2) (norB1_real b0 b1 b2 j v h0 h1 h2) (norB2_real b0 b1 b2 j v h0 h1 h2) ha nb,
    coefOp_real b0 b1 b2 k0 phi0 per j v h0 h1 h2 na nb]
  rfl

include na in
theorem sOp_real (f0 f3 : V93) (k : Fin 3) (hf0 : f0 (ix2 0 j) = torF0 (v j) (v (j + 1)) (v (j + 2)) (k0 (ix2 0 j)) (phi0 (ix2 0 j)) (per (ix2 0 j)) k)
    (hf3 : f3 (ix2 0 j) = torF3 (v j) (v (j + 1)) (v (j + 2)) (k0 (ix2 0 j)) (phi0 (ix2 0 j)) (per (ix2 0 j)) k) :
    sOp b0 b1 b2 f0 f3 (ix2 0 j) = torS (v j) (v (j + 1)) (v (j + 2)) (k0 (ix2 0 j)) (phi0 (ix2 0 j)) (per (ix2 0 j)) k := by
  have q0 := (sl1_apply b0 j).trans (h0 _)
  have q1 := (sl1_apply b1 j).trans (h1 _)
  have q2 := (sl1_apply b2 j).trans (h2 _)
  show Ideal.div (dt3 (sl0 b0) (sl0 b1) (sl0 b2) (sl1 b0) (sl1 b1) (sl1 b2) (ix2 0 j)) (dt3 (sl1 b0) (sl1 b1) (sl1 b2) (sl1 b0) (sl1 b1) (sl1 b2) (ix2 0 j)) * f0 (ix2 0 j)
    - Ideal.div (dt3 (sl2 b0) (sl2 b1) (sl2 b2) (sl1 b0) (sl1 b1) (sl1 b2) (ix2 0 j)) (dt3 (sl1 b0) (sl1 b1) (sl1 b2) (sl1 b0) (sl1 b1) (sl1 b2) (ix2 0 j)) * f3 (ix2 0 j) = _
  rw [mid_real b0 b1 b2 j v h0 h1 h2, hf0, hf3,
    dt3_real (sl0 b0) (sl0 b1) (sl0 b2) (sl1 b0) (sl1 b1) (sl1 b2) j (v j) (v (j + 1)) ((sl0_apply b0 j).trans (h0 _)) ((sl0_apply b1 j).trans (h1 _)) ((sl0_apply b2 j).trans (h2 _)) q0 q1 q2,
    dt3_real (sl2 b0) (sl2 b1) (sl2 b2) (sl1 b0) (sl1 b1) (sl1 b2) j (v (j + 2)) (v (j + 1)) ((sl2_apply b0 j).trans (h0 _)) ((sl2_apply b1 j).trans (h1 _)) ((sl2_apply b2 j).trans (h2 _)) q0 q1 q2,
    Ideal.div_coe (right_ne _ _ na), Ideal.div_coe (right_ne _ _ na)]
  rfl

end

end Cert.Proof.Energy

end
-- ==== Proof.PairForce.lean ====
/-
  The force of one pair, and the blocks of pair forces over the reals. `G k r c` is component `k` of what the pair
  `r`, `c` contributes, up to a factor, for a pair at least two apart in the chain, and zero for any other.
-/
module

public import proofs.«01_k».proof.Proof.Rows

@[expose] public section

set_option maxRecDepth 16384

noncomputable section

namespace Cert.Proof.Energy

open Cert.KernelIdeal Cert.KernelIdeal.Gen
open Idealize.ShloMosaic

/-- The kernel's expression for one pair's force, from `1 / b²`, the squared distance, the coefficient and one component. -/
def pairT (ib s cc w : EReal) : EReal :=
  cc * (Ideal.div ib s * Ideal.div ib s * (Ideal.div ib s * Ideal.div ib s)) * w

/-- The same over the reals. -/
def pairTR (ib s cc w : ℝ) : ℝ := cc * (ib * (1 / s) * (ib * (1 / s)) * (ib * (1 / s) * (ib * (1 / s)))) * w

theorem pairT_real (ib cc s w : ℝ) (hs : s ≠ 0) : pairT (ib : EReal) (s : EReal) (cc : EReal) (w : EReal) = ((pairTR ib s cc w : ℝ) : EReal) := by
  unfold pairT pairTR
  rw [Ideal.div_coe hs]
  simp only [← EReal.coe_mul]

/-- A masked pair contributes nothing. -/
theorem pairT_masked (ib cc s w : ℝ) : pairT (ib : EReal) ((s : EReal) + ⊤) (cc : EReal) (w : EReal) = 0 := by
  have h : Ideal.div (ib : EReal) ⊤ = 0 := by
    unfold Ideal.div
    rw [if_neg (by simp)]
    simp
  unfold pairT
  rw [EReal.coe_add_top, h]
  simp

/-! The kernel's operations on a half block and on a whole block. -/

def tH (ib : FVec Ideal S1x1 .f32) (s cc w : FVec Ideal S512x512 .f32) : FVec Ideal S512x512 .f32 :=
  mulf (mulf cc (mulf (mulf (divf (broadcastTo S512x512 ib broadcasts_S1x1_S512x512) s) (divf (broadcastTo S512x512 ib broadcasts_S1x1_S512x512) s))
      (mulf (divf (broadcastTo S512x512 ib broadcasts_S1x1_S512x512) s) (divf (broadcastTo S512x512 ib broadcasts_S1x1_S512x512) s)))) w

def tF (ib : FVec Ideal S1x1 .f32) (s cc w : FVec Ideal S1024x1024 .f32) : FVec Ideal S1024x1024 .f32 :=
  mulf (mulf cc (mulf (mulf (divf (broadcastTo S1024x1024 ib broadcasts_S1x1_S1024x1024) s) (divf (broadcastTo S1024x1024 ib broadcasts_S1x1_S1024x1024) s))
      (mulf (divf (broadcastTo S1024x1024 ib broadcasts_S1x1_S1024x1024) s) (divf (broadcastTo S1024x1024 ib broadcasts_S1x1_S1024x1024) s)))) w

/-- The rows' sums. -/
def rsH (t : FVec Ideal S512x512 .f32) : FVec Ideal S512x1 .f32 :=
  shapeCast S512x1 (multiReduction .add [1] S512 t 0x00000000#32 reduces_S512x512_S512 (.inl rfl) rfl) shapeCasts_S512_S512x1

def rsF (t : FVec Ideal S1024x1024 .f32) : FVec Ideal S1024x1 .f32 :=
  shapeCast S1024x1 (multiReduction .add [1] S1024 t 0x00000000#32 reduces_S1024x1024_S1024 (.inl rfl) rfl) shapeCasts_S1024_S1024x1

/-- The columns' sums, scaled and added to what was there. -/
def csH (v : FVec Ideal S1x1 .f32) (t : FVec Ideal S512x512 .f32) (old : FVec Ideal S1x512 .f32) : FVec Ideal S1x512 .f32 :=
  addf (shapeCast S1x512 old shapeCasts_S1x512_S1x512) (mulf (broadcastTo S1x512 v broadcasts_S1x1_S1x512)
    (shapeCast S1x512 (multiReduction .add [0] S512 t 0x00000000#32 reduces_S512x512_S512_2 (.inl rfl) rfl) shapeCasts_S512_S1x512))

def csF (v : FVec Ideal S1x1 .f32) (t : FVec Ideal S1024x1024 .f32) (old : FVec Ideal S1x1024 .f32) : FVec Ideal S1x1024 .f32 :=
  addf (shapeCast S1x1024 old shapeCasts_S1x1024_S1x1024) (mulf (broadcastTo S1x1024 v broadcasts_S1x1_S1x1024)
    (shapeCast S1x1024 (multiReduction .add [0] S1024 t 0x00000000#32 reduces_S1024x1024_S1024_2 (.inl rfl) rfl) shapeCasts_S1024_S1x1024))

theorem tH_apply (ib : FVec Ideal S1x1 .f32) (s cc w : FVec Ideal S512x512 .f32) (r c : Fin 512) :
    tH ib s cc w (ix2 r c) = pairT (ib (ix2 0 0)) (s (ix2 r c)) (cc (ix2 r c)) (w (ix2 r c)) := by
  unfold tH
  pointwise
  rfl

theorem tF_apply (ib : FVec Ideal S1x1 .f32) (s cc w : FVec Ideal S1024x1024 .f32) (r c : Fin 1024) :
    tF ib s cc w (ix2 r c) = pairT (ib (ix2 0 0)) (s (ix2 r c)) (cc (ix2 r c)) (w (ix2 r c)) := by
  unfold tF
  pointwise
  rfl

theorem rsH_apply (t : FVec Ideal S512x512 .f32) (r : Fin 512) : rsH t (ix2 r 0) = ∑ c : Fin 512, t (ix2 r c) := by
  unfold rsH
  pointwise

theorem rsF_apply (t : FVec Ideal S1024x1024 .f32) (r : Fin 1024) : rsF t (ix2 r 0) = ∑ c : Fin 1024, t (ix2 r c) := by
  unfold rsF
  pointwise

theorem csH_apply (v : FVec Ideal S1x1 .f32) (t : FVec Ideal S512x512 .f32) (old : FVec Ideal S1x512 .f32) (c : Fin 512) :
    csH v t old (ix2 0 c) = old (ix2 0 c) + v (ix2 0 0) * ∑ r : Fin 512, t (ix2 r c) := by
  unfold csH
  pointwise

theorem csF_apply (v : FVec Ideal S1x1 .f32) (t : FVec Ideal S1024x1024 .f32) (old : FVec Ideal S1x1024 .f32) (c : Fin 1024) :
    csF v t old (ix2 0 c) = old (ix2 0 c) + v (ix2 0 0) * ∑ r : Fin 1024, t (ix2 r c) := by
  unfold csF
  pointwise

theorem wH_real (a : FVec Ideal S512x1 .f32) (b : FVec Ideal S1x512 .f32) (r c : Fin 512) (x y : ℝ)
    (ha : a (ix2 r 0) = (x : EReal)) (hb : b (ix2 0 c) = (y : EReal)) : wH a b (ix2 r c) = ((wr (x - y) : ℝ) : EReal) := by
  rw [wH_apply, ha, hb]
  simp only [← EReal.coe_sub, Ideal.liftRound_coe]
  rfl

theorem wF_real (a : FVec Ideal S1024x1 .f32) (b : FVec Ideal S1x1024 .f32) (r c : Fin 1024) (x y : ℝ)
    (ha : a (ix2 r 0) = (x : EReal)) (hb : b (ix2 0 c) = (y : EReal)) : wF a b (ix2 r c) = ((wr (x - y) : ℝ) : EReal) := by
  rw [wF_apply, ha, hb]
  simp only [← EReal.coe_sub, Ideal.liftRound_coe]
  rfl

variable (S : Sys)

/-- Component `k` of the force of the pair `r`, `c` on `r`, up to the factor `6 b`. -/
def Sys.G (k : Fin 3) (r c : ℕ) : ℝ :=
  if r + 2 ≤ c then pairTR S.ib (sq2 (S.U r) (S.U c)) (S.C (S.T r) (S.T c)) (wr (S.U r k - S.U c k)) else 0

theorem Sys.G_zero {k : Fin 3} {r c : ℕ} (h : c < r + 2) : S.G k r c = 0 := if_neg (by omega)

/-- A half block on the diagonal, rows and columns from `R`. -/
theorem diagT_real (k : Fin 3) (R : ℕ) (hR : R + 512 ≤ 4096) (ib : FVec Ideal S1x1 .f32) (s cs ca w : FVec Ideal S512x512 .f32)
    (hib : ib (ix2 0 0) = (S.ib : ℝ))
    (hs : ∀ r c : Fin 512, s (ix2 r c) = ((sq2 (S.U (R + r)) (S.U (R + c)) : ℝ) : EReal))
    (hcs : ∀ r c : Fin 512, cs (ix2 r c) = (((1 / 2) * (S.C (S.T (R + r)) (S.T (R + c)) + S.C (S.T (R + c)) (S.T (R + r))) : ℝ) : EReal))
    (hca : ∀ r c : Fin 512, ca (ix2 r c) = (((1 / 2) * (S.C (S.T (R + r)) (S.T (R + c)) - S.C (S.T (R + c)) (S.T (R + r))) : ℝ) : EReal))
    (hw : ∀ r c : Fin 512, w (ix2 r c) = ((wr (S.U (R + r) k - S.U (R + c) k) : ℝ) : EReal))
    (r c : Fin 512) :
    tH ib (addf s (k0_pay140 (F := Ideal))) (addf cs (mulf (k0_pay141 (F := Ideal)) ca)) w (ix2 r c)
      = ((S.G k (R + r) (R + c) - S.G k (R + c) (R + r) : ℝ) : EReal) := by
  rw [tH_apply]
  show pairT (ib (ix2 0 0)) (s (ix2 r c) + k0_pay140 (F := Ideal) (ix2 r c)) (cs (ix2 r c) + k0_pay141 (F := Ideal) (ix2 r c) * ca (ix2 r c)) _ = _
  rw [hib, hs, hcs, hca, hw, diag_mask, sign_mask]
  by_cases h1 : c.val ≤ r.val + 1 ∧ r.val ≤ c.val + 1
  · rw [if_pos h1]
    have e : ∃ x : ℝ, ((((1 / 2) * (S.C (S.T (R + r)) (S.T (R + c)) + S.C (S.T (R + c)) (S.T (R + r))) : ℝ) : EReal)
        + (if r.val < c.val then 1 else -1) * (((1 / 2) * (S.C (S.T (R + r)) (S.T (R + c)) - S.C (S.T (R + c)) (S.T (R + r))) : ℝ) : EReal)) = (x : EReal) := by
      split
      · rw [one_mul, ← EReal.coe_add]; exact ⟨_, rfl⟩
      · rw [← EReal.coe_one, ← EReal.coe_neg, ← EReal.coe_mul, ← EReal.coe_add]; exact ⟨_, rfl⟩
    obtain ⟨x, hx⟩ := e
    rw [hx, pairT_masked, S.G_zero (by omega), S.G_zero (by omega), sub_zero, EReal.coe_zero]
  · rw [if_neg h1, add_zero]
    by_cases h2 : r.val < c.val
    · rw [if_pos h2, one_mul, ← EReal.coe_add, pairT_real _ _ _ _ (S.sep _ _ (by omega) (by omega)), S.G_zero (r := R + c) (by omega), sub_zero]
      unfold Sys.G
      rw [if_pos (by omega)]
      congr 2; ring
    · rw [if_neg h2, ← EReal.coe_one, ← EReal.coe_neg, ← EReal.coe_mul, ← EReal.coe_add, sq2_comm,
        pairT_real _ _ _ _ (S.sep _ _ (by omega) (by omega)), S.G_zero (r := R + r) (by omega), zero_sub]
      unfold Sys.G
      rw [if_pos (by omega), ← neg_sub (S.U (R + c) k), wr_neg]
      unfold pairTR
      congr 1; ring

/-- The half block to the right of the diagonal, rows from `R`. -/
theorem cornerTH_real (k : Fin 3) (R : ℕ) (hR : R + 1024 ≤ 4096) (ib : FVec Ideal S1x1 .f32) (s cc w : FVec Ideal S512x512 .f32)
    (hib : ib (ix2 0 0) = (S.ib : ℝ))
    (hs : ∀ r c : Fin 512, s (ix2 r c) = ((sq2 (S.U (R + r)) (S.U (R + 512 + c)) : ℝ) : EReal))
    (hcc : ∀ r c : Fin 512, cc (ix2 r c) = ((S.C (S.T (R + r)) (S.T (R + 512 + c)) : ℝ) : EReal))
    (hw : ∀ r c : Fin 512, w (ix2 r c) = ((wr (S.U (R + r) k - S.U (R + 512 + c) k) : ℝ) : EReal))
    (r c : Fin 512) :
    tH ib (addf s (k0_pay142 (F := Ideal))) cc w (ix2 r c) = ((S.G k (R + r) (R + 512 + c) : ℝ) : EReal) := by
  rw [tH_apply]
  show pairT (ib (ix2 0 0)) (s (ix2 r c) + k0_pay142 (F := Ideal) (ix2 r c)) (cc (ix2 r c)) _ = _
  rw [hib, hs, hcc, hw, corner_maskH]
  by_cases h1 : c.val + 511 = r.val
  · rw [if_pos h1, pairT_masked, S.G_zero (by omega), EReal.coe_zero]
  · rw [if_neg h1, add_zero, pairT_real _ _ _ _ (S.sep _ _ (by omega) (by omega))]
    unfold Sys.G
    rw [if_pos (by omega)]

/-- The block to the right of the diagonal's, rows from `R`. -/
theorem cornerTF_real (k : Fin 3) (R : ℕ) (hR : R + 2048 ≤ 4096) (ib : FVec Ideal S1x1 .f32) (s cc w : FVec Ideal S1024x1024 .f32)
    (hib : ib (ix2 0 0) = (S.ib : ℝ))
    (hs : ∀ r c : Fin 1024, s (ix2 r c) = ((sq2 (S.U (R + r)) (S.U (R + 1024 + c)) : ℝ) : EReal))
    (hcc : ∀ r c : Fin 1024, cc (ix2 r c) = ((S.C (S.T (R + r)) (S.T (R + 1024 + c)) : ℝ) : EReal))
    (hw : ∀ r c : Fin 1024, w (ix2 r c) = ((wr (S.U (R + r) k - S.U (R + 1024 + c) k) : ℝ) : EReal))
    (r c : Fin 1024) :
    tF ib (addf s (k0_pay143 (F := Ideal))) cc w (ix2 r c) = ((S.G k (R + r) (R + 1024 + c) : ℝ) : EReal) := by
  rw [tF_apply]
  show pairT (ib (ix2 0 0)) (s (ix2 r c) + k0_pay143 (F := Ideal) (ix2 r c)) (cc (ix2 r c)) _ = _
  rw [hib, hs, hcc, hw, corner_maskF]
  by_cases h1 : c.val + 1023 = r.val
  · rw [if_pos h1, pairT_masked, S.G_zero (by omega), EReal.coe_zero]
  · rw [if_neg h1, add_zero, pairT_real _ _ _ _ (S.sep _ _ (by omega) (by omega))]
    unfold Sys.G
    rw [if_pos (by omega)]

/-- A block further to the right, rows from `R`, columns from `Q`. -/
theorem fullT_real (k : Fin 3) (R Q : ℕ) (hR : R + 2048 ≤ Q) (hQ : Q + 1024 ≤ 4096) (ib : FVec Ideal S1x1 .f32) (s cc w : FVec Ideal S1024x1024 .f32)
    (hib : ib (ix2 0 0) = (S.ib : ℝ))
    (hs : ∀ r c : Fin 1024, s (ix2 r c) = ((sq2 (S.U (R + r)) (S.U (Q + c)) : ℝ) : EReal))
    (hcc : ∀ r c : Fin 1024, cc (ix2 r c) = ((S.C (S.T (R + r)) (S.T (Q + c)) : ℝ) : EReal))
    (hw : ∀ r c : Fin 1024, w (ix2 r c) = ((wr (S.U (R + r) k - S.U (Q + c) k) : ℝ) : EReal))
    (r c : Fin 1024) :
    tF ib s cc w (ix2 r c) = ((S.G k (R + r) (Q + c) : ℝ) : EReal) := by
  rw [tF_apply, hib, hs, hcc, hw, pairT_real _ _ _ _ (S.sep _ _ (by omega) (by omega))]
  unfold Sys.G
  rw [if_pos (by omega)]

end Cert.Proof.Energy

end
-- ==== Proof.Stores.lean ====
/-
  The forces' second buffer: stores that add to part of one row, read at an index.
-/
module

public import proofs.«01_k».proof.Proof.PairForce
public import proofs.«01_k».proof.Proof.Pot

@[expose] public section

set_option maxRecDepth 16384

noncomputable section

namespace Cert.Proof.Energy

open Cert.KernelIdeal Cert.KernelIdeal.Gen Cert.Proof.KernelIdeal
open Idealize.ShloMosaic Idealize.ShloMosaic.TcCoe

/-- The buffer's entry. -/
def rd (M : Memref sig .tc .vmem S3x4096 .f32) (f : M.view.ty.Contents (Elt Ideal)) (k : Fin 3) (c : Fin 4096) : EReal :=
  (M.view.read (Elt Ideal) f : FVec Ideal S3x4096 .f32) (ix2 k c)

/-- What is added to row `k0` of the columns `q, …, q + n − 1`. -/
def into (k0 : Fin 3) (q n : ℕ) (d : ℕ → EReal) (k : Fin 3) (c : ℕ) : EReal :=
  if k = k0 ∧ q ≤ c ∧ c < q + n then d (c - q) else 0

/-- A load of part of a row. -/
theorem readAt_rd (M : Memref sig .tc .vmem S3x4096 .f32) (f : M.view.ty.Contents (Elt Ideal)) (k0 : Fin 3) (q n : ℕ) (hq : q + n ≤ 4096) (off : Fin 2 → ℕ)
    (ho : off = ![k0.val, q]) (inb : ∀ a, off a + (⟨2, ![1, n]⟩ : Shape).size a ≤ S3x4096.size a) (j : Fin n) :
    (View.readAt (Elt Ideal) M.view (Rect.unit (s := S3x4096) off (⟨2, ![1, n]⟩ : Shape).size inb).toLoadRect f : FVec Ideal (⟨2, ![1, n]⟩ : Shape) .f32) (ix2 0 j)
      = rd M f k0 ⟨q + j.val, by omega⟩ := by
  subst ho
  rw [View.readAt_apply]
  refine congrArg (M.view.read (Elt Ideal) f) (funext fun a => Fin.ext ?_)
  fin_cases a
  · show k0.val + 1 * 0 = k0.val
    omega
  · show q + 1 * j.val = q + j.val
    omega

/-- A store that adds `d` to part of row `k0`. -/
theorem rd_step (M : Memref sig .tc .vmem S3x4096 .f32) (f : M.view.ty.Contents (Elt Ideal)) (L : Stores Ideal) (k0 : Fin 3) (q n : ℕ) (hq : q + n ≤ 4096) (off : Fin 2 → ℕ)
    (ho : off = ![k0.val, q]) (inb : ∀ a, off a + (⟨2, ![1, n]⟩ : Shape).size a ≤ S3x4096.size a) (w : FVec Ideal (⟨2, ![1, n]⟩ : Shape) .f32) (d : ℕ → EReal)
    (hw : ∀ j : Fin n, w (ix2 0 j) = rd M (M.view.writes (Elt Ideal) f L) k0 ⟨q + j.val, by omega⟩ + d j.val) (k : Fin 3) (c : Fin 4096) :
    rd M (M.view.writes (Elt Ideal) f (⟨Rect.unit (s := S3x4096) off (⟨2, ![1, n]⟩ : Shape).size inb, w⟩ :: L)) k c
      = rd M (M.view.writes (Elt Ideal) f L) k c + into k0 q n d k c.val := by
  unfold into
  by_cases h : k = k0 ∧ q ≤ c.val ∧ c.val < q + n
  · obtain ⟨rfl, h1, h2⟩ := h
    rw [if_pos ⟨rfl, h1, h2⟩]
    have e := hw ⟨c.val - q, by omega⟩
    rw [show (⟨q + (⟨c.val - q, by omega⟩ : Fin n).val, by show q + (c.val - q) < 4096; omega⟩ : Fin 4096) = c from Fin.ext (by show q + (c.val - q) = c.val; omega)] at e
    rw [← e]
    refine View.read_writes_cons_unit_of_mem M.view f inb w L (ix2 k c) (ix2 0 ⟨c.val - q, by omega⟩) ho (fun a => ?_)
    fin_cases a
    · rfl
    · show c.val = q + (c.val - q)
      omega
  · rw [if_neg h, add_zero]
    by_cases hk : k = k0
    · refine View.read_writes_cons_unit_of_not_mem M.view f inb w L (ix2 k c) ho 1 ?_
      show c.val < q ∨ q + n ≤ c.val
      omega
    · refine View.read_writes_cons_unit_of_not_mem M.view f inb w L (ix2 k c) ho 0 ?_
      have : k.val ≠ k0.val := fun h => hk (Fin.ext h)
      show k.val < k0.val ∨ k0.val + 1 ≤ k.val
      omega

/-- A store of a whole row of zeros. -/
theorem rd_zero (M : Memref sig .tc .vmem S3x4096 .f32) (f : M.view.ty.Contents (Elt Ideal)) (L : Stores Ideal) (k0 : Fin 3)
    (inb : ∀ a, (![k0.val, 0] : Fin 2 → ℕ) a + S1x4096.size a ≤ S3x4096.size a) (w : FVec Ideal S1x4096 .f32)
    (hw : ∀ j : Fin 4096, w (ix2 0 j) = 0) (k : Fin 3) (c : Fin 4096) :
    rd M (M.view.writes (Elt Ideal) f (⟨Rect.unit (s := S3x4096) ![k0.val, 0] S1x4096.size inb, w⟩ :: L)) k c
      = if k = k0 then 0 else rd M (M.view.writes (Elt Ideal) f L) k c := by
  by_cases hk : k = k0
  · subst hk
    rw [if_pos rfl, ← hw c]
    refine View.read_writes_cons_unit_of_mem M.view f inb w L (ix2 k c) (ix2 0 c) rfl (fun a => ?_)
    fin_cases a
    · rfl
    · show c.val = 0 + c.val
      omega
  · rw [if_neg hk]
    refine View.read_writes_cons_unit_of_not_mem M.view f inb w L (ix2 k c) rfl 0 ?_
    have : k.val ≠ k0.val := fun h => hk (Fin.ext h)
    show k.val < k0.val ∨ k0.val + 1 ≤ k.val
    omega

/-- Three additions, one to each row. -/
theorem into_three (q n : ℕ) (d : Fin 3 → ℕ → EReal) (k : Fin 3) (c : ℕ) (z : EReal) :
    z + into 0 q n (d 0) k c + into 1 q n (d 1) k c + into 2 q n (d 2) k c = z + into k q n (d k) k c := by
  unfold into
  fin_cases k <;> simp

/-- A store to another row. -/
theorem rd_other (M : Memref sig .tc .vmem S3x4096 .f32) (f : M.view.ty.Contents (Elt Ideal)) (L : Stores Ideal) (k0 : Fin 3) (off : Fin 2 → ℕ) (q : ℕ)
    (ho : off = ![k0.val, q]) (n : ℕ) (inb : ∀ a, off a + (⟨2, ![1, n]⟩ : Shape).size a ≤ S3x4096.size a) (w : FVec Ideal (⟨2, ![1, n]⟩ : Shape) .f32) (k : Fin 3) (c : Fin 4096) (hk : k ≠ k0) :
    rd M (M.view.writes (Elt Ideal) f (⟨Rect.unit (s := S3x4096) off (⟨2, ![1, n]⟩ : Shape).size inb, w⟩ :: L)) k c = rd M (M.view.writes (Elt Ideal) f L) k c := by
  refine View.read_writes_cons_unit_of_not_mem M.view f inb w L (ix2 k c) ho 0 ?_
  have : k.val ≠ k0.val := fun h => hk (Fin.ext h)
  show k.val < k0.val ∨ k0.val + 1 ≤ k.val
  omega

/-- A store that adds column sums to what a load of `g` gave. -/
theorem rd_csH (M : Memref sig .tc .vmem S3x4096 .f32) (f g : M.view.ty.Contents (Elt Ideal)) (L : Stores Ideal) (k0 : Fin 3) (q : ℕ) (hq : q + 512 ≤ 4096) (off : Fin 2 → ℕ)
    (ho : off = ![k0.val, q]) (inb : ∀ a, off a + S1x512.size a ≤ S3x4096.size a) (v : FVec Ideal S1x1 .f32) (t : FVec Ideal S512x512 .f32)
    (hg : ∀ j : Fin 512, rd M g k0 ⟨q + j.val, by omega⟩ = rd M (M.view.writes (Elt Ideal) f L) k0 ⟨q + j.val, by omega⟩) (d : ℕ → EReal)
    (hd : ∀ j : Fin 512, v (ix2 0 0) * ∑ r : Fin 512, t (ix2 r j) = d j.val) (k : Fin 3) (c : Fin 4096) :
    rd M (M.view.writes (Elt Ideal) f (⟨Rect.unit (s := S3x4096) off S1x512.size inb,
        csH v t (View.readAt (Elt Ideal) M.view (Rect.unit (s := S3x4096) off S1x512.size inb).toLoadRect g)⟩ :: L)) k c
      = rd M (M.view.writes (Elt Ideal) f L) k c + into k0 q 512 d k c.val :=
  rd_step M f L k0 q 512 hq off ho inb _ d (fun j => by
    rw [csH_apply, hd]
    exact congrArg (· + d j.val) ((readAt_rd M g k0 q 512 hq off ho inb j).trans (hg j))) k c

/-- Three stores, one per row, that add column sums to what loads of `g` gave. -/
def threeH (M : Memref sig .tc .vmem S3x4096 .f32) (L : Stores Ideal) (off0 off1 off2 : Fin 2 → ℕ) (inb0 : ∀ a, off0 a + S1x512.size a ≤ S3x4096.size a) (inb1 : ∀ a, off1 a + S1x512.size a ≤ S3x4096.size a) (inb2 : ∀ a, off2 a + S1x512.size a ≤ S3x4096.size a)
    (v : FVec Ideal S1x1 .f32) (t : Fin 3 → FVec Ideal S512x512 .f32) (g0 g1 g2 : M.view.ty.Contents (Elt Ideal)) : Stores Ideal :=
  ⟨Rect.unit (s := S3x4096) off2 S1x512.size inb2, csH v (t 2) (View.readAt (Elt Ideal) M.view (Rect.unit (s := S3x4096) off2 S1x512.size inb2).toLoadRect g2)⟩
    :: ⟨Rect.unit (s := S3x4096) off1 S1x512.size inb1, csH v (t 1) (View.readAt (Elt Ideal) M.view (Rect.unit (s := S3x4096) off1 S1x512.size inb1).toLoadRect g1)⟩
    :: ⟨Rect.unit (s := S3x4096) off0 S1x512.size inb0, csH v (t 0) (View.readAt (Elt Ideal) M.view (Rect.unit (s := S3x4096) off0 S1x512.size inb0).toLoadRect g0)⟩
    :: L

theorem rd_threeH (M : Memref sig .tc .vmem S3x4096 .f32) (f : M.view.ty.Contents (Elt Ideal)) (L : Stores Ideal) (q : ℕ) (hq : q + 512 ≤ 4096) (off0 off1 off2 : Fin 2 → ℕ)
    (ho0 : off0 = ![0, q]) (ho1 : off1 = ![1, q]) (ho2 : off2 = ![2, q]) (inb0 : ∀ a, off0 a + S1x512.size a ≤ S3x4096.size a) (inb1 : ∀ a, off1 a + S1x512.size a ≤ S3x4096.size a) (inb2 : ∀ a, off2 a + S1x512.size a ≤ S3x4096.size a) (v : FVec Ideal S1x1 .f32) (t : Fin 3 → FVec Ideal S512x512 .f32)
    (g0 g1 g2 : M.view.ty.Contents (Elt Ideal)) (hg0 : ∀ j : Fin 512, rd M g0 0 ⟨q + j.val, by omega⟩ = rd M (M.view.writes (Elt Ideal) f L) 0 ⟨q + j.val, by omega⟩)
    (hg1 : ∀ j : Fin 512, rd M g1 1 ⟨q + j.val, by omega⟩ = rd M (M.view.writes (Elt Ideal) f L) 1 ⟨q + j.val, by omega⟩)
    (hg2 : ∀ j : Fin 512, rd M g2 2 ⟨q + j.val, by omega⟩ = rd M (M.view.writes (Elt Ideal) f L) 2 ⟨q + j.val, by omega⟩)
    (d : Fin 3 → ℕ → EReal) (hd : ∀ (k : Fin 3) (j : Fin 512), v (ix2 0 0) * ∑ r : Fin 512, t k (ix2 r j) = d k j.val) (k : Fin 3) (c : Fin 4096) :
    rd M (M.view.writes (Elt Ideal) f (threeH M L off0 off1 off2 inb0 inb1 inb2 v t g0 g1 g2)) k c = rd M (M.view.writes (Elt Ideal) f L) k c + into k q 512 (d k) k c.val := by
  rw [← into_three]
  unfold threeH
  have h0 := fun w k c => rd_other M f L 0 off0 q ho0 512 inb0 w k c
  refine (rd_csH M f g2 _ 2 q hq off2 ho2 inb2 v (t 2)
    (fun j => (hg2 j).trans ((rd_other M f _ 1 off1 q ho1 512 inb1 _ 2 _ (by decide)).trans (h0 _ 2 _ (by decide))).symm) (d 2) (hd 2) k c).trans (congrArg (· + _) ?_)
  refine (rd_csH M f g1 _ 1 q hq off1 ho1 inb1 v (t 1) (fun j => (hg1 j).trans (h0 _ 1 _ (by decide)).symm) (d 1) (hd 1) k c).trans (congrArg (· + _) ?_)
  exact rd_csH M f g0 L 0 q hq off0 ho0 inb0 v (t 0) hg0 (d 0) (hd 0) k c

/-- A store that adds column sums to what a load of `g` gave. -/
theorem rd_csF (M : Memref sig .tc .vmem S3x4096 .f32) (f g : M.view.ty.Contents (Elt Ideal)) (L : Stores Ideal) (k0 : Fin 3) (q : ℕ) (hq : q + 1024 ≤ 4096) (off : Fin 2 → ℕ)
    (ho : off = ![k0.val, q]) (inb : ∀ a, off a + S1x1024.size a ≤ S3x4096.size a) (v : FVec Ideal S1x1 .f32) (t : FVec Ideal S1024x1024 .f32)
    (hg : ∀ j : Fin 1024, rd M g k0 ⟨q + j.val, by omega⟩ = rd M (M.view.writes (Elt Ideal) f L) k0 ⟨q + j.val, by omega⟩) (d : ℕ → EReal)
    (hd : ∀ j : Fin 1024, v (ix2 0 0) * ∑ r : Fin 1024, t (ix2 r j) = d j.val) (k : Fin 3) (c : Fin 4096) :
    rd M (M.view.writes (Elt Ideal) f (⟨Rect.unit (s := S3x4096) off S1x1024.size inb,
        csF v t (View.readAt (Elt Ideal) M.view (Rect.unit (s := S3x4096) off S1x1024.size inb).toLoadRect g)⟩ :: L)) k c
      = rd M (M.view.writes (Elt Ideal) f L) k c + into k0 q 1024 d k c.val :=
  rd_step M f L k0 q 1024 hq off ho inb _ d (fun j => by
    rw [csF_apply, hd]
    exact congrArg (· + d j.val) ((readAt_rd M g k0 q 1024 hq off ho inb j).trans (hg j))) k c

/-- Three stores, one per row, that add column sums to what loads of `g` gave. -/
def threeF (M : Memref sig .tc .vmem S3x4096 .f32) (L : Stores Ideal) (off0 off1 off2 : Fin 2 → ℕ) (inb0 : ∀ a, off0 a + S1x1024.size a ≤ S3x4096.size a) (inb1 : ∀ a, off1 a + S1x1024.size a ≤ S3x4096.size a) (inb2 : ∀ a, off2 a + S1x1024.size a ≤ S3x4096.size a)
    (v : FVec Ideal S1x1 .f32) (t : Fin 3 → FVec Ideal S1024x1024 .f32) (g0 g1 g2 : M.view.ty.Contents (Elt Ideal)) : Stores Ideal :=
  ⟨Rect.unit (s := S3x4096) off2 S1x1024.size inb2, csF v (t 2) (View.readAt (Elt Ideal) M.view (Rect.unit (s := S3x4096) off2 S1x1024.size inb2).toLoadRect g2)⟩
    :: ⟨Rect.unit (s := S3x4096) off1 S1x1024.size inb1, csF v (t 1) (View.readAt (Elt Ideal) M.view (Rect.unit (s := S3x4096) off1 S1x1024.size inb1).toLoadRect g1)⟩
    :: ⟨Rect.unit (s := S3x4096) off0 S1x1024.size inb0, csF v (t 0) (View.readAt (Elt Ideal) M.view (Rect.unit (s := S3x4096) off0 S1x1024.size inb0).toLoadRect g0)⟩
    :: L

theorem rd_threeF (M : Memref sig .tc .vmem S3x4096 .f32) (f : M.view.ty.Contents (Elt Ideal)) (L : Stores Ideal) (q : ℕ) (hq : q + 1024 ≤ 4096) (off0 off1 off2 : Fin 2 → ℕ)
    (ho0 : off0 = ![0, q]) (ho1 : off1 = ![1, q]) (ho2 : off2 = ![2, q]) (inb0 : ∀ a, off0 a + S1x1024.size a ≤ S3x4096.size a) (inb1 : ∀ a, off1 a + S1x1024.size a ≤ S3x4096.size a) (inb2 : ∀ a, off2 a + S1x1024.size a ≤ S3x4096.size a) (v : FVec Ideal S1x1 .f32) (t : Fin 3 → FVec Ideal S1024x1024 .f32)
    (g0 g1 g2 : M.view.ty.Contents (Elt Ideal)) (hg0 : ∀ j : Fin 1024, rd M g0 0 ⟨q + j.val, by omega⟩ = rd M (M.view.writes (Elt Ideal) f L) 0 ⟨q + j.val, by omega⟩)
    (hg1 : ∀ j : Fin 1024, rd M g1 1 ⟨q + j.val, by omega⟩ = rd M (M.view.writes (Elt Ideal) f L) 1 ⟨q + j.val, by omega⟩)
    (hg2 : ∀ j : Fin 1024, rd M g2 2 ⟨q + j.val, by omega⟩ = rd M (M.view.writes (Elt Ideal) f L) 2 ⟨q + j.val, by omega⟩)
    (d : Fin 3 → ℕ → EReal) (hd : ∀ (k : Fin 3) (j : Fin 1024), v (ix2 0 0) * ∑ r : Fin 1024, t k (ix2 r j) = d k j.val) (k : Fin 3) (c : Fin 4096) :
    rd M (M.view.writes (Elt Ideal) f (threeF M L off0 off1 off2 inb0 inb1 inb2 v t g0 g1 g2)) k c = rd M (M.view.writes (Elt Ideal) f L) k c + into k q 1024 (d k) k c.val := by
  rw [← into_three]
  unfold threeF
  have h0 := fun w k c => rd_other M f L 0 off0 q ho0 1024 inb0 w k c
  refine (rd_csF M f g2 _ 2 q hq off2 ho2 inb2 v (t 2)
    (fun j => (hg2 j).trans ((rd_other M f _ 1 off1 q ho1 1024 inb1 _ 2 _ (by decide)).trans (h0 _ 2 _ (by decide))).symm) (d 2) (hd 2) k c).trans (congrArg (· + _) ?_)
  refine (rd_csF M f g1 _ 1 q hq off1 ho1 inb1 v (t 1) (fun j => (hg1 j).trans (h0 _ 1 _ (by decide)).symm) (d 1) (hd 1) k c).trans (congrArg (· + _) ?_)
  exact rd_csF M f g0 L 0 q hq off0 ho0 inb0 v (t 0) hg0 (d 0) (hd 0) k c

end Cert.Proof.Energy

end
-- ==== Proof.PointForce.lean ====
/-
  The blocks of pair forces at one grid point, as the kernel computes them and over the reals.
-/
module

public import proofs.«01_k».proof.Proof.Total
public import proofs.«01_k».proof.Proof.Stores

@[expose] public section

set_option maxRecDepth 16384
set_option maxHeartbeats 1000000

noncomputable section

namespace Cert.Proof.Energy

open Cert.KernelIdeal Cert.KernelIdeal.Gen Cert.Proof.KernelIdeal
open Idealize.ShloMosaic Idealize.ShloMosaic.TcCoe

section
variable (i : grid0.Coords) (arg1 : Memref sig .tc .vmem S1024x3 .f32) (harg1 : arg1.IsWhole) (arg2 : Memref sig .tc .vmem S3x4096 .f32) (harg2 : arg2.IsWhole)
  (arg4 : Memref sig .tc .vmem S20x4096 .f32) (harg4 : arg4.IsWhole) (x1 : Vec Ideal S1024x3 .f32) (x2 : Vec Ideal S3x4096 .f32) (x4 : Vec Ideal S20x4096 .f32)
  (v12 v17 v22 : FVec Ideal S1024x20 .f32) (ib : FVec Ideal S1x1 .f32)

/-- The first diagonal half block. -/
def tDA (k : Fin 3) : FVec Ideal S512x512 .f32 :=
  tH ib (addf (s2H (ldRowH arg1 harg1 x1 ![0, 0] inb_S1024x3_S512x1_0_0) (ldRowH arg1 harg1 x1 ![0, 1] inb_S1024x3_S512x1_0_1) (ldRowH arg1 harg1 x1 ![0, 2] inb_S1024x3_S512x1_0_2)
      (ldColH arg2 harg2 x2 (k0_off1 i) (k0_off1_inb i)) (ldColH arg2 harg2 x2 (k0_off2 i) (k0_off2_inb i)) (ldColH arg2 harg2 x2 (k0_off3 i) (k0_off3_inb i))) (k0_pay140 (F := Ideal)))
    (addf (ccH 0 slices_S1024x20_o0_0_S512x20 v17 (ldHotH arg4 harg4 x4 (k0_off4 i) (k0_off4_inb i)))
      (mulf (k0_pay141 (F := Ideal)) (ccH 0 slices_S1024x20_o0_0_S512x20 v22 (ldHotH arg4 harg4 x4 (k0_off4 i) (k0_off4_inb i)))))
    (![wH (ldRowH arg1 harg1 x1 ![0, 0] inb_S1024x3_S512x1_0_0) (ldColH arg2 harg2 x2 (k0_off1 i) (k0_off1_inb i)),
      wH (ldRowH arg1 harg1 x1 ![0, 1] inb_S1024x3_S512x1_0_1) (ldColH arg2 harg2 x2 (k0_off2 i) (k0_off2_inb i)),
      wH (ldRowH arg1 harg1 x1 ![0, 2] inb_S1024x3_S512x1_0_2) (ldColH arg2 harg2 x2 (k0_off3 i) (k0_off3_inb i))] k)

/-- The half block between the diagonal ones. -/
def tDC (k : Fin 3) : FVec Ideal S512x512 .f32 :=
  tH ib (addf (s2H (ldRowH arg1 harg1 x1 ![0, 0] inb_S1024x3_S512x1_0_0) (ldRowH arg1 harg1 x1 ![0, 1] inb_S1024x3_S512x1_0_1) (ldRowH arg1 harg1 x1 ![0, 2] inb_S1024x3_S512x1_0_2)
      (ldColH arg2 harg2 x2 (k0_off5 i) (k0_off5_inb i)) (ldColH arg2 harg2 x2 (k0_off6 i) (k0_off6_inb i)) (ldColH arg2 harg2 x2 (k0_off7 i) (k0_off7_inb i))) (k0_pay142 (F := Ideal)))
    (ccH 0 slices_S1024x20_o0_0_S512x20 v12 (ldHotH arg4 harg4 x4 (k0_off8 i) (k0_off8_inb i)))
    (![wH (ldRowH arg1 harg1 x1 ![0, 0] inb_S1024x3_S512x1_0_0) (ldColH arg2 harg2 x2 (k0_off5 i) (k0_off5_inb i)),
      wH (ldRowH arg1 harg1 x1 ![0, 1] inb_S1024x3_S512x1_0_1) (ldColH arg2 harg2 x2 (k0_off6 i) (k0_off6_inb i)),
      wH (ldRowH arg1 harg1 x1 ![0, 2] inb_S1024x3_S512x1_0_2) (ldColH arg2 harg2 x2 (k0_off7 i) (k0_off7_inb i))] k)

/-- The second diagonal half block. -/
def tDB (k : Fin 3) : FVec Ideal S512x512 .f32 :=
  tH ib (addf (s2H (ldRowH arg1 harg1 x1 ![512, 0] inb_S1024x3_S512x1_512_0) (ldRowH arg1 harg1 x1 ![512, 1] inb_S1024x3_S512x1_512_1) (ldRowH arg1 harg1 x1 ![512, 2] inb_S1024x3_S512x1_512_2)
      (ldColH arg2 harg2 x2 (k0_off5 i) (k0_off5_inb i)) (ldColH arg2 harg2 x2 (k0_off6 i) (k0_off6_inb i)) (ldColH arg2 harg2 x2 (k0_off7 i) (k0_off7_inb i))) (k0_pay140 (F := Ideal)))
    (addf (ccH 512 slices_S1024x20_o512_0_S512x20 v17 (ldHotH arg4 harg4 x4 (k0_off8 i) (k0_off8_inb i)))
      (mulf (k0_pay141 (F := Ideal)) (ccH 512 slices_S1024x20_o512_0_S512x20 v22 (ldHotH arg4 harg4 x4 (k0_off8 i) (k0_off8_inb i)))))
    (![wH (ldRowH arg1 harg1 x1 ![512, 0] inb_S1024x3_S512x1_512_0) (ldColH arg2 harg2 x2 (k0_off5 i) (k0_off5_inb i)),
      wH (ldRowH arg1 harg1 x1 ![512, 1] inb_S1024x3_S512x1_512_1) (ldColH arg2 harg2 x2 (k0_off6 i) (k0_off6_inb i)),
      wH (ldRowH arg1 harg1 x1 ![512, 2] inb_S1024x3_S512x1_512_2) (ldColH arg2 harg2 x2 (k0_off7 i) (k0_off7_inb i))] k)

/-- The block next to the diagonal's. -/
def tCF (h : k0_cond2 i = 1#1) (k : Fin 3) : FVec Ideal S1024x1024 .f32 :=
  tF ib (addf (s2F (ldRowF arg1 harg1 x1 ![0, 0] inb_S1024x3_S1024x1_0_0) (ldRowF arg1 harg1 x1 ![0, 1] inb_S1024x3_S1024x1_0_1) (ldRowF arg1 harg1 x1 ![0, 2] inb_S1024x3_S1024x1_0_2)
      (ldColF arg2 harg2 x2 (k0_off9 i) (k0_off9_inb i h)) (ldColF arg2 harg2 x2 (k0_off10 i) (k0_off10_inb i h)) (ldColF arg2 harg2 x2 (k0_off11 i) (k0_off11_inb i h))) (k0_pay143 (F := Ideal)))
    (ccF v12 (ldHotF arg4 harg4 x4 (k0_off12 i) (k0_off12_inb i h)))
    (![wF (ldRowF arg1 harg1 x1 ![0, 0] inb_S1024x3_S1024x1_0_0) (ldColF arg2 harg2 x2 (k0_off9 i) (k0_off9_inb i h)),
      wF (ldRowF arg1 harg1 x1 ![0, 1] inb_S1024x3_S1024x1_0_1) (ldColF arg2 harg2 x2 (k0_off10 i) (k0_off10_inb i h)),
      wF (ldRowF arg1 harg1 x1 ![0, 2] inb_S1024x3_S1024x1_0_2) (ldColF arg2 harg2 x2 (k0_off11 i) (k0_off11_inb i h))] k)

/-- One block of the loop. -/
def tTrip (h : k0_cond2 i = 1#1) (m : Fin (k0_t1_loop i).trips) (k : Fin 3) : FVec Ideal S1024x1024 .f32 :=
  tF ib (s2F (ldRowF arg1 harg1 x1 ![0, 0] inb_S1024x3_S1024x1_0_0) (ldRowF arg1 harg1 x1 ![0, 1] inb_S1024x3_S1024x1_0_1) (ldRowF arg1 harg1 x1 ![0, 2] inb_S1024x3_S1024x1_0_2)
      (ldColF arg2 harg2 x2 (k0_off13 i m) (k0_off13_inb i m h)) (ldColF arg2 harg2 x2 (k0_off14 i m) (k0_off14_inb i m h)) (ldColF arg2 harg2 x2 (k0_off15 i m) (k0_off15_inb i m h)))
    (ccF v12 (ldHotF arg4 harg4 x4 (k0_off16 i m) (k0_off16_inb i m h)))
    (![wF (ldRowF arg1 harg1 x1 ![0, 0] inb_S1024x3_S1024x1_0_0) (ldColF arg2 harg2 x2 (k0_off13 i m) (k0_off13_inb i m h)),
      wF (ldRowF arg1 harg1 x1 ![0, 1] inb_S1024x3_S1024x1_0_1) (ldColF arg2 harg2 x2 (k0_off14 i m) (k0_off14_inb i m h)),
      wF (ldRowF arg1 harg1 x1 ![0, 2] inb_S1024x3_S1024x1_0_2) (ldColF arg2 harg2 x2 (k0_off15 i m) (k0_off15_inb i m h))] k)

/-- The rows' sums of the half blocks. -/
def rowsT (k : Fin 3) : FVec Ideal S1024x1 .f32 :=
  joinOp (rsH (tDA i arg1 harg1 arg2 harg2 arg4 harg4 x1 x2 x4 v17 v22 ib k)) (rsH (tDC i arg1 harg1 arg2 harg2 arg4 harg4 x1 x2 x4 v12 ib k))
    (rsH (tDB i arg1 harg1 arg2 harg2 arg4 harg4 x1 x2 x4 v17 v22 ib k))

/-- The loop's column of forces before trip `n`. -/
def loopT (h : k0_cond2 i = 1#1) (k : Fin 3) (init : FVec Ideal S1024x1 .f32) : ℕ → FVec Ideal S1024x1 .f32
  | 0 => init
  | n + 1 => if hn : n < (k0_t1_loop i).trips then addf (loopT h k init n) (rsF (tTrip i arg1 harg1 arg2 harg2 arg4 harg4 x1 x2 x4 v12 ib h ⟨n, hn⟩ k)) else loopT h k init n

end

/-- `± 6 b`. -/
def rowScale (b : FVec Ideal S1x1 .f32) : FVec Ideal S1x1 .f32 := mulf (broadcast S1x1 (Scalar.ofBits (F := Ideal) .f32 0x40C00000#32)) b
def colScale (b : FVec Ideal S1x1 .f32) : FVec Ideal S1x1 .f32 := mulf (broadcast S1x1 (Scalar.ofBits (F := Ideal) .f32 0xC0C00000#32)) b

theorem rowScale_real (b : FVec Ideal S1x1 .f32) (L : ℝ) (hb : b (ix2 0 0) = (L : EReal)) : rowScale b (ix2 0 0) = ((6 * L : ℝ) : EReal) := by
  have h : Ideal.ofBits FTy.f32 0x40C00000#32 = ((6 : ℝ) : EReal) := by
    simp [Ideal.ofBits, Ideal.ieee, -EReal.coe_mul, -EReal.coe_neg]; norm_num
  show Ideal.ofBits FTy.f32 0x40C00000#32 * b (ix2 0 0) = _
  rw [h, hb, ← EReal.coe_mul]

theorem colScale_real (b : FVec Ideal S1x1 .f32) (L : ℝ) (hb : b (ix2 0 0) = (L : EReal)) : colScale b (ix2 0 0) = ((-6 * L : ℝ) : EReal) := by
  have h : Ideal.ofBits FTy.f32 0xC0C00000#32 = ((-6 : ℝ) : EReal) := by
    simp [Ideal.ofBits, Ideal.ieee, -EReal.coe_mul, -EReal.coe_neg]; norm_num
  show Ideal.ofBits FTy.f32 0xC0C00000#32 * b (ix2 0 0) = _
  rw [h, hb, ← EReal.coe_mul]

section
variable {S : Sys} {L : ℝ} {i : grid0.Coords}
  (arg1 : Memref sig .tc .vmem S1024x3 .f32) (harg1 : arg1.IsWhole) (arg2 : Memref sig .tc .vmem S3x4096 .f32) (harg2 : arg2.IsWhole)
  (arg3 : Memref sig .tc .vmem S1024x20 .f32) (harg3 : arg3.IsWhole) (arg4 : Memref sig .tc .vmem S20x4096 .f32) (harg4 : arg4.IsWhole)
  (arg5 : Memref sig .tc .vmem S20x20 .f32) (harg5 : arg5.IsWhole) (arg6 : Memref sig .tc .vmem S20x20 .f32) (harg6 : arg6.IsWhole)
  (arg7 : Memref sig .tc .vmem S20x20 .f32) (harg7 : arg7.IsWhole) (arg10 : Memref sig .tc .vmem S1x3 .f32) (harg10 : arg10.IsWhole)
  {x1 : Vec Ideal S1024x3 .f32} {x2 : Vec Ideal S3x4096 .f32} {x3 : Vec Ideal S1024x20 .f32} {x4 : Vec Ideal S20x4096 .f32}
  {x5 x6 x7 : Vec Ideal S20x20 .f32} {x10 : Vec Ideal S1x3 .f32}

variable (hB : Blocks S L (i 0).val x1 x2 x3 x4 x5 x6 x7 x10)
include hB

theorem tDA_real (k : Fin 3) (r c : Fin 512) :
    tDA i arg1 harg1 arg2 harg2 arg4 harg4 x1 x2 x4 (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) k (ix2 r c)
      = ((S.G k (1024 * (i 0).val + 0 + r) (1024 * (i 0).val + 0 + c) - S.G k (1024 * (i 0).val + 0 + c) (1024 * (i 0).val + 0 + r) : ℝ) : EReal) := by
  have hi := coord_lt i
  refine diagT_real S k (1024 * (i 0).val + 0) (by omega) _ _ _ _ _ (ib_real arg10 harg10 hB) (fun r c => ?_) (fun r c => ?_) (fun r c => ?_) (fun r c => ?_) r c
  · exact s2H_real _ _ _ _ _ _ r c _ _ (rowH_real arg1 harg1 hB 0 (by omega) 0 _ r) (rowH_real arg1 harg1 hB 0 (by omega) 1 _ r) (rowH_real arg1 harg1 hB 0 (by omega) 2 _ r)
      (colH_real arg2 harg2 hB _ _ 0 (by omega) (off1_eq i) _ c) (colH_real arg2 harg2 hB _ _ 1 (by omega) (off2_eq i) _ c) (colH_real arg2 harg2 hB _ _ 2 (by omega) (off3_eq i) _ c)
  · refine (ccH_hot 0 _ (by omega) _ _ r c _ fun k => hotH_real arg4 harg4 hB _ _ (by omega) (off4_eq i) _ k c).trans ((v17_real arg3 harg3 arg6 harg6 hB _ _).trans ?_)
    simp only [Nat.zero_add, Nat.add_zero]
  · refine (ccH_hot 0 _ (by omega) _ _ r c _ fun k => hotH_real arg4 harg4 hB _ _ (by omega) (off4_eq i) _ k c).trans ((v22_real arg3 harg3 arg7 harg7 hB _ _).trans ?_)
    simp only [Nat.zero_add, Nat.add_zero]
  · fin_cases k
    · exact wH_real _ _ r c _ _ (rowH_real arg1 harg1 hB 0 (by omega) 0 _ r) (colH_real arg2 harg2 hB _ _ 0 (by omega) (off1_eq i) _ c)
    · exact wH_real _ _ r c _ _ (rowH_real arg1 harg1 hB 0 (by omega) 1 _ r) (colH_real arg2 harg2 hB _ _ 1 (by omega) (off2_eq i) _ c)
    · exact wH_real _ _ r c _ _ (rowH_real arg1 harg1 hB 0 (by omega) 2 _ r) (colH_real arg2 harg2 hB _ _ 2 (by omega) (off3_eq i) _ c)

theorem tDB_real (k : Fin 3) (r c : Fin 512) :
    tDB i arg1 harg1 arg2 harg2 arg4 harg4 x1 x2 x4 (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) k (ix2 r c)
      = ((S.G k (1024 * (i 0).val + 512 + r) (1024 * (i 0).val + 512 + c) - S.G k (1024 * (i 0).val + 512 + c) (1024 * (i 0).val + 512 + r) : ℝ) : EReal) := by
  have hi := coord_lt i
  refine diagT_real S k (1024 * (i 0).val + 512) (by omega) _ _ _ _ _ (ib_real arg10 harg10 hB) (fun r c => ?_) (fun r c => ?_) (fun r c => ?_) (fun r c => ?_) r c
  · exact s2H_real _ _ _ _ _ _ r c _ _ (rowH_real arg1 harg1 hB 512 (by omega) 0 _ r) (rowH_real arg1 harg1 hB 512 (by omega) 1 _ r) (rowH_real arg1 harg1 hB 512 (by omega) 2 _ r)
      (colH_real arg2 harg2 hB _ _ 0 (by omega) (off5_eq i) _ c) (colH_real arg2 harg2 hB _ _ 1 (by omega) (off6_eq i) _ c) (colH_real arg2 harg2 hB _ _ 2 (by omega) (off7_eq i) _ c)
  · refine (ccH_hot 512 _ (by omega) _ _ r c _ fun k => hotH_real arg4 harg4 hB _ _ (by omega) (off8_eq i) _ k c).trans ((v17_real arg3 harg3 arg6 harg6 hB _ _).trans ?_)
    simp only [Nat.add_assoc]
  · refine (ccH_hot 512 _ (by omega) _ _ r c _ fun k => hotH_real arg4 harg4 hB _ _ (by omega) (off8_eq i) _ k c).trans ((v22_real arg3 harg3 arg7 harg7 hB _ _).trans ?_)
    simp only [Nat.add_assoc]
  · fin_cases k
    · exact wH_real _ _ r c _ _ (rowH_real arg1 harg1 hB 512 (by omega) 0 _ r) (colH_real arg2 harg2 hB _ _ 0 (by omega) (off5_eq i) _ c)
    · exact wH_real _ _ r c _ _ (rowH_real arg1 harg1 hB 512 (by omega) 1 _ r) (colH_real arg2 harg2 hB _ _ 1 (by omega) (off6_eq i) _ c)
    · exact wH_real _ _ r c _ _ (rowH_real arg1 harg1 hB 512 (by omega) 2 _ r) (colH_real arg2 harg2 hB _ _ 2 (by omega) (off7_eq i) _ c)

theorem tDC_real (k : Fin 3) (r c : Fin 512) :
    tDC i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) k (ix2 r c) = ((S.G k (1024 * (i 0).val + 0 + r) (1024 * (i 0).val + 0 + 512 + c) : ℝ) : EReal) := by
  have hi := coord_lt i
  refine cornerTH_real S k (1024 * (i 0).val + 0) (by omega) _ _ _ _ (ib_real arg10 harg10 hB) (fun r c => ?_) (fun r c => ?_) (fun r c => ?_) r c
  · exact s2H_real _ _ _ _ _ _ r c _ _ (rowH_real arg1 harg1 hB 0 (by omega) 0 _ r) (rowH_real arg1 harg1 hB 0 (by omega) 1 _ r) (rowH_real arg1 harg1 hB 0 (by omega) 2 _ r)
      (colH_real arg2 harg2 hB _ _ 0 (by omega) (off5_eq i) _ c) (colH_real arg2 harg2 hB _ _ 1 (by omega) (off6_eq i) _ c) (colH_real arg2 harg2 hB _ _ 2 (by omega) (off7_eq i) _ c)
  · refine (ccH_hot 0 _ (by omega) _ _ r c _ fun k => hotH_real arg4 harg4 hB _ _ (by omega) (off8_eq i) _ k c).trans ((v12_real arg3 harg3 arg5 harg5 hB _ _).trans ?_)
    simp only [Nat.zero_add, Nat.add_zero]
  · fin_cases k
    · exact wH_real _ _ r c _ _ (rowH_real arg1 harg1 hB 0 (by omega) 0 _ r) (colH_real arg2 harg2 hB _ _ 0 (by omega) (off5_eq i) _ c)
    · exact wH_real _ _ r c _ _ (rowH_real arg1 harg1 hB 0 (by omega) 1 _ r) (colH_real arg2 harg2 hB _ _ 1 (by omega) (off6_eq i) _ c)
    · exact wH_real _ _ r c _ _ (rowH_real arg1 harg1 hB 0 (by omega) 2 _ r) (colH_real arg2 harg2 hB _ _ 2 (by omega) (off7_eq i) _ c)

theorem tCF_real (h : k0_cond2 i = 1#1) (k : Fin 3) (r c : Fin 1024) :
    tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) h k (ix2 r c) = ((S.G k (1024 * (i 0).val + r) (1024 * (i 0).val + 1024 + c) : ℝ) : EReal) := by
  have hi := trips_eq i h
  refine cornerTF_real S k (1024 * (i 0).val) (by omega) _ _ _ _ (ib_real arg10 harg10 hB) (fun r c => ?_) (fun r c => ?_) (fun r c => ?_) r c
  · exact s2F_real _ _ _ _ _ _ r c _ _ (rowF_real arg1 harg1 hB 0 _ r) (rowF_real arg1 harg1 hB 1 _ r) (rowF_real arg1 harg1 hB 2 _ r)
      (colF_real arg2 harg2 hB _ _ 0 (by omega) (off9_eq i) _ c) (colF_real arg2 harg2 hB _ _ 1 (by omega) (off10_eq i) _ c) (colF_real arg2 harg2 hB _ _ 2 (by omega) (off11_eq i) _ c)
  · exact (ccF_hot _ _ r c _ fun k' => hotF_real arg4 harg4 hB _ _ (by omega) (off12_eq i) _ k' c).trans (v12_real arg3 harg3 arg5 harg5 hB _ _)
  · fin_cases k
    · exact wF_real _ _ r c _ _ (rowF_real arg1 harg1 hB 0 _ r) (colF_real arg2 harg2 hB _ _ 0 (by omega) (off9_eq i) _ c)
    · exact wF_real _ _ r c _ _ (rowF_real arg1 harg1 hB 1 _ r) (colF_real arg2 harg2 hB _ _ 1 (by omega) (off10_eq i) _ c)
    · exact wF_real _ _ r c _ _ (rowF_real arg1 harg1 hB 2 _ r) (colF_real arg2 harg2 hB _ _ 2 (by omega) (off11_eq i) _ c)

theorem tTrip_real (h : k0_cond2 i = 1#1) (m : Fin (k0_t1_loop i).trips) (k : Fin 3) (r c : Fin 1024) :
    tTrip i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) h m k (ix2 r c) = ((S.G k (1024 * (i 0).val + r) (1024 * ((i 0).val + m.val) + 2048 + c) : ℝ) : EReal) := by
  have hi := trips_eq i h
  have hm := m.isLt
  refine fullT_real S k (1024 * (i 0).val) (1024 * ((i 0).val + m.val) + 2048) (by omega) (by omega) _ _ _ _ (ib_real arg10 harg10 hB) (fun r c => ?_) (fun r c => ?_) (fun r c => ?_) r c
  · exact s2F_real _ _ _ _ _ _ r c _ _ (rowF_real arg1 harg1 hB 0 _ r) (rowF_real arg1 harg1 hB 1 _ r) (rowF_real arg1 harg1 hB 2 _ r)
      (colF_real arg2 harg2 hB _ _ 0 (by omega) (off13_eq i m) _ c) (colF_real arg2 harg2 hB _ _ 1 (by omega) (off14_eq i m) _ c) (colF_real arg2 harg2 hB _ _ 2 (by omega) (off15_eq i m) _ c)
  · exact (ccF_hot _ _ r c _ fun k' => hotF_real arg4 harg4 hB _ _ (by omega) (off16_eq i m) _ k' c).trans (v12_real arg3 harg3 arg5 harg5 hB _ _)
  · fin_cases k
    · exact wF_real _ _ r c _ _ (rowF_real arg1 harg1 hB 0 _ r) (colF_real arg2 harg2 hB _ _ 0 (by omega) (off13_eq i m) _ c)
    · exact wF_real _ _ r c _ _ (rowF_real arg1 harg1 hB 1 _ r) (colF_real arg2 harg2 hB _ _ 1 (by omega) (off14_eq i m) _ c)
    · exact wF_real _ _ r c _ _ (rowF_real arg1 harg1 hB 2 _ r) (colF_real arg2 harg2 hB _ _ 2 (by omega) (off15_eq i m) _ c)

/-- What row `r` of the point's half blocks holds. -/
theorem rowsT_real (k : Fin 3) (r : Fin 1024) :
    rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) k (ix2 r 0)
      = ((if r.val < 512 then (∑ c : Fin 512, (S.G k (1024 * (i 0).val + 0 + r) (1024 * (i 0).val + 0 + c) - S.G k (1024 * (i 0).val + 0 + c) (1024 * (i 0).val + 0 + r)))
            + ∑ c : Fin 512, S.G k (1024 * (i 0).val + 0 + r) (1024 * (i 0).val + 0 + 512 + c)
          else ∑ c : Fin 512, (S.G k (1024 * (i 0).val + 512 + (r.val - 512)) (1024 * (i 0).val + 512 + c) - S.G k (1024 * (i 0).val + 512 + c) (1024 * (i 0).val + 512 + (r.val - 512))) : ℝ) : EReal) := by
  rw [rowsT, joinOp_apply]
  by_cases h : r.val < 512
  · rw [dif_pos h, if_pos h, EReal.coe_add, rsH_apply, rsH_apply, ← coe_sum, ← coe_sum]
    exact congrArg₂ (· + ·) (Finset.sum_congr rfl fun c _ => tDA_real arg1 harg1 arg2 harg2 arg3 harg3 arg4 harg4 arg6 harg6 arg7 harg7 arg10 harg10 hB k ⟨r.val, h⟩ c)
      (Finset.sum_congr rfl fun c _ => tDC_real arg1 harg1 arg2 harg2 arg3 harg3 arg4 harg4 arg5 harg5 arg10 harg10 hB k ⟨r.val, h⟩ c)
  · rw [dif_neg h, if_neg h, rsH_apply, ← coe_sum]
    exact Finset.sum_congr rfl fun c _ => tDB_real arg1 harg1 arg2 harg2 arg3 harg3 arg4 harg4 arg6 harg6 arg7 harg7 arg10 harg10 hB k ⟨r.val - 512, by omega⟩ c

/-- The loop adds the columns its trips cover. -/
theorem loopT_real (h : k0_cond2 i = 1#1) (k : Fin 3) (init : FVec Ideal S1024x1 .f32) (z : Fin 1024 → ℝ) (hz : ∀ r : Fin 1024, init (ix2 r 0) = ((z r : ℝ) : EReal))
    (n : ℕ) (hn : n ≤ (k0_t1_loop i).trips) (r : Fin 1024) :
    loopT i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) h k init n (ix2 r 0)
      = ((z r + ∑ c ∈ Finset.range (1024 * n), S.G k (1024 * (i 0).val + r) (1024 * (i 0).val + 2048 + c) : ℝ) : EReal) := by
  induction n with
  | zero => simp only [loopT, hz, Nat.mul_zero, Finset.range_zero, Finset.sum_empty, add_zero]
  | succ n ih =>
    rw [loopT, dif_pos (by omega : n < (k0_t1_loop i).trips)]
    show loopT i arg1 harg1 arg2 harg2 arg4 harg4 x1 x2 x4 _ _ h k init n (ix2 r 0) + rsF (tTrip i arg1 harg1 arg2 harg2 arg4 harg4 x1 x2 x4 _ _ h ⟨n, _⟩ k) (ix2 r 0) = _
    rw [ih (by omega), rsF_apply, Finset.sum_congr rfl fun c _ => tTrip_real arg1 harg1 arg2 harg2 arg3 harg3 arg4 harg4 arg5 harg5 arg10 harg10 hB h ⟨n, by omega⟩ k r c,
      coe_sum, ← EReal.coe_add, Nat.mul_succ, Finset.sum_range_add, add_assoc]
    congr 3
    rw [Finset.sum_range]
    refine Finset.sum_congr rfl fun c _ => ?_
    congr 1
    show 1024 * ((i 0).val + n) + 2048 + c.val = 1024 * (i 0).val + 2048 + (1024 * n + c.val)
    omega

end

end Cert.Proof.Energy

end
-- ==== Proof.LoopForce.lean ====
/-
  The forces the loop carries and the stores of its trips.
-/
module

public import proofs.«01_k».proof.Proof.PointForce

@[expose] public section

set_option maxRecDepth 16384
set_option maxHeartbeats 2000000

noncomputable section

namespace Cert.Proof.Energy

open Cert.KernelIdeal Cert.KernelIdeal.Gen Cert.Proof.KernelIdeal
open Idealize.ShloMosaic Idealize.ShloMosaic.TcCoe

/-- The loop's three columns of forces. -/
theorem st_rows (c : Dev nD) (i : grid0.Coords)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (v12 : FVec Ideal S1024x20 .f32) (v27 v31 : FVec Ideal S1x1 .f32) (h : k0_cond2 i = 1#1) (v393 : BitVec 32)
    (x1 : Vec Ideal S1024x3 .f32) (x2 : Vec Ideal S3x4096 .f32) (x4 : Vec Ideal S20x4096 .f32) (init : Acc Ideal) (g : Bf (F := Ideal) c arg12) (n : ℕ) :
    (st (F := Ideal) c i arg1 harg1 arg2 harg2 arg3 harg3 arg4 harg4 arg5 harg5 arg6 harg6 arg7 harg7 arg8 harg8 arg9 harg9 arg10 harg10 arg11 harg11 arg12 harg12 arg13 harg13 v12 v27 v31 h v393 (harg1.unread x1) (harg2.unread x2) (harg4.unread x4) init g n).1.1 = loopT i arg1 harg1 arg2 harg2 arg4 harg4 x1 x2 x4 v12 v27 h 0 init.1 n
    ∧ (st (F := Ideal) c i arg1 harg1 arg2 harg2 arg3 harg3 arg4 harg4 arg5 harg5 arg6 harg6 arg7 harg7 arg8 harg8 arg9 harg9 arg10 harg10 arg11 harg11 arg12 harg12 arg13 harg13 v12 v27 v31 h v393 (harg1.unread x1) (harg2.unread x2) (harg4.unread x4) init g n).1.2.1 = loopT i arg1 harg1 arg2 harg2 arg4 harg4 x1 x2 x4 v12 v27 h 1 init.2.1 n
    ∧ (st (F := Ideal) c i arg1 harg1 arg2 harg2 arg3 harg3 arg4 harg4 arg5 harg5 arg6 harg6 arg7 harg7 arg8 harg8 arg9 harg9 arg10 harg10 arg11 harg11 arg12 harg12 arg13 harg13 v12 v27 v31 h v393 (harg1.unread x1) (harg2.unread x2) (harg4.unread x4) init g n).1.2.2.1 = loopT i arg1 harg1 arg2 harg2 arg4 harg4 x1 x2 x4 v12 v27 h 2 init.2.2.1 n := by
  induction n with
  | zero => exact ⟨rfl, rfl, rfl⟩
  | succ n ih =>
    rw [st, loopT, loopT, loopT]
    by_cases hn : n < (k0_t1_loop i).trips
    · rw [dif_pos hn, dif_pos hn, dif_pos hn, dif_pos hn, ← ih.1, ← ih.2.1, ← ih.2.2]
      exact ⟨rfl, rfl, rfl⟩
    · rw [dif_neg hn, dif_neg hn, dif_neg hn, dif_neg hn]
      exact ih

/-- One trip adds to the columns of its block. -/
theorem trip_cols (c : Dev nD) (i : grid0.Coords)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (v12 : FVec Ideal S1024x20 .f32) (v27 v31 : FVec Ideal S1x1 .f32) (h : k0_cond2 i = 1#1) (v393 : BitVec 32)
    (x1 : Vec Ideal S1024x3 .f32) (x2 : Vec Ideal S3x4096 .f32) (x4 : Vec Ideal S20x4096 .f32) (m : Fin (k0_t1_loop i).trips) (acc : Acc Ideal) (g : Bf (F := Ideal) c arg12)
    (d : Fin 3 → ℕ → EReal) (hd : ∀ (k : Fin 3) (j : Fin 1024), v31 (ix2 0 0) * ∑ r : Fin 1024, tTrip i arg1 harg1 arg2 harg2 arg4 harg4 x1 x2 x4 v12 v27 h m k (ix2 r j) = d k j.val) (k : Fin 3) (q : Fin 4096) :
    rd arg12 (arg12.view.writes (Elt Ideal) g (trip (F := Ideal) c i arg1 harg1 arg2 harg2 arg3 harg3 arg4 harg4 arg5 harg5 arg6 harg6 arg7 harg7 arg8 harg8 arg9 harg9 arg10 harg10 arg11 harg11 arg12 harg12 arg13 harg13 v12 v27 v31 h v393 (harg1.unread x1) (harg2.unread x2) (harg4.unread x4) m acc g).1.2) k q
      = rd arg12 g k q + into k (1024 * ((i 0).val + m.val) + 2048) 1024 (d k) k q.val := by
  have hi := trips_eq i h
  have hm := m.isLt
  show rd arg12 (arg12.view.writes (Elt Ideal) g (threeF arg12 [] (k0_off13 i m) (k0_off14 i m) (k0_off15 i m) (k0_off13_inb i m h) (k0_off14_inb i m h) (k0_off15_inb i m h)
    v31 (tTrip i arg1 harg1 arg2 harg2 arg4 harg4 x1 x2 x4 v12 v27 h m) g g g)) k q = _
  exact rd_threeF arg12 _ _ (1024 * ((i 0).val + m.val) + 2048) (by omega) _ _ _ (off13_eq i m) (off14_eq i m) (off15_eq i m) _ _ _ _ _ _ _ _ (fun _ => rfl) (fun _ => rfl) (fun _ => rfl) d hd k q

/-- The loop adds to the columns of the blocks its trips cover. -/
theorem st_cols (c : Dev nD) (i : grid0.Coords)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (v12 : FVec Ideal S1024x20 .f32) (v27 v31 : FVec Ideal S1x1 .f32) (h : k0_cond2 i = 1#1) (v393 : BitVec 32)
    (x1 : Vec Ideal S1024x3 .f32) (x2 : Vec Ideal S3x4096 .f32) (x4 : Vec Ideal S20x4096 .f32) (init : Acc Ideal) (g : Bf (F := Ideal) c arg12)
    (d : ℕ → Fin 3 → ℕ → EReal) (hd : ∀ (m : Fin (k0_t1_loop i).trips) (k : Fin 3) (j : Fin 1024), v31 (ix2 0 0) * ∑ r : Fin 1024, tTrip i arg1 harg1 arg2 harg2 arg4 harg4 x1 x2 x4 v12 v27 h m k (ix2 r j) = d m.val k j.val)
    (n : ℕ) (hn : n ≤ (k0_t1_loop i).trips) (k : Fin 3) (q : Fin 4096) :
    rd arg12 (arg12.view.writes (Elt Ideal) g (st (F := Ideal) c i arg1 harg1 arg2 harg2 arg3 harg3 arg4 harg4 arg5 harg5 arg6 harg6 arg7 harg7 arg8 harg8 arg9 harg9 arg10 harg10 arg11 harg11 arg12 harg12 arg13 harg13 v12 v27 v31 h v393 (harg1.unread x1) (harg2.unread x2) (harg4.unread x4) init g n).2) k q
      = rd arg12 g k q + ∑ m ∈ Finset.range n, into k (1024 * ((i 0).val + m) + 2048) 1024 (d m k) k q.val := by
  induction n with
  | zero => exact (add_zero _).symm
  | succ n ih =>
    rw [st]
    dsimp only
    rw [dif_pos (by omega : n < (k0_t1_loop i).trips), writes_append, Finset.sum_range_succ, ← add_assoc, ← ih (by omega)]
    exact trip_cols c i arg1 harg1 arg2 harg2 arg3 harg3 arg4 harg4 arg5 harg5 arg6 harg6 arg7 harg7 arg8 harg8 arg9 harg9 arg10 harg10 arg11 harg11 arg12 harg12 arg13 harg13 v12 v27 v31 h v393 x1 x2 x4 ⟨n, by omega⟩ _ _ (d n) (hd ⟨n, by omega⟩) k q

end Cert.Proof.Energy

end
-- ==== Proof.PointStores.lean ====
/-
  The forces one grid point stores: its rows of pair forces, and what it adds to the columns.
-/
module

public import proofs.«01_k».proof.Proof.LoopForce

@[expose] public section

set_option maxRecDepth 16384
set_option maxHeartbeats 2000000

noncomputable section

namespace Cert.Proof.Energy

open Cert.KernelIdeal Cert.KernelIdeal.Gen Cert.Proof.KernelIdeal
open Idealize.ShloMosaic Idealize.ShloMosaic.TcCoe

/-- Three columns side by side, scaled. -/
theorem pay191_apply (v : FVec Ideal S1x1 .f32) (f0 f1 f2 : FVec Ideal S1024x1 .f32) (r : Fin 1024) (k : Fin 3) :
    k0_pay191 (F := Ideal) v f0 f1 f2 (ix2 r k) = v (ix2 0 0) * (![f0, f1, f2] k) (ix2 r 0) := by
  fin_cases k
  all_goals
    unfold k0_pay191
    pointwise

variable {S : Sys} {L : ℝ}

theorem pick_three {α : Type} (f : Fin 3 → α) (k : Fin 3) : (![f 0, f 1, f 2] : Fin 3 → α) k = f k := by
  fin_cases k <;> rfl

/-- What a point adds to the columns of its upper half block. -/
def colHalf (S : Sys) (L : ℝ) (i : grid0.Coords) (k : Fin 3) (j : ℕ) : EReal :=
  ((-6 * L * ∑ r : Fin 512, S.G k (1024 * (i 0).val + 0 + r) (1024 * (i 0).val + 0 + 512 + j) : ℝ) : EReal)

/-- What a point adds to the columns `q, …`. -/
def colFull (S : Sys) (L : ℝ) (i : grid0.Coords) (q : ℕ) (k : Fin 3) (j : ℕ) : EReal :=
  ((-6 * L * ∑ r : Fin 1024, S.G k (1024 * (i 0).val + r) (q + j) : ℝ) : EReal)

section
variable {i : grid0.Coords} (arg1 : Memref sig .tc .vmem S1024x3 .f32) (harg1 : arg1.IsWhole) (arg2 : Memref sig .tc .vmem S3x4096 .f32) (harg2 : arg2.IsWhole)
  (arg3 : Memref sig .tc .vmem S1024x20 .f32) (harg3 : arg3.IsWhole) (arg4 : Memref sig .tc .vmem S20x4096 .f32) (harg4 : arg4.IsWhole)
  (arg5 : Memref sig .tc .vmem S20x20 .f32) (harg5 : arg5.IsWhole) (arg6 : Memref sig .tc .vmem S20x20 .f32) (harg6 : arg6.IsWhole)
  (arg7 : Memref sig .tc .vmem S20x20 .f32) (harg7 : arg7.IsWhole) (arg10 : Memref sig .tc .vmem S1x3 .f32) (harg10 : arg10.IsWhole)
  {x1 : Vec Ideal S1024x3 .f32} {x2 : Vec Ideal S3x4096 .f32} {x3 : Vec Ideal S1024x20 .f32} {x4 : Vec Ideal S20x4096 .f32}
  {x5 x6 x7 : Vec Ideal S20x20 .f32} {x10 : Vec Ideal S1x3 .f32}

variable (hB : Blocks S L (i 0).val x1 x2 x3 x4 x5 x6 x7 x10)
include hB

theorem hd_half (k : Fin 3) (j : Fin 512) : colScale (ldBox arg10 harg10 x10 ![0, 0] inb_S1x3_S1x1_0_0) (ix2 0 0) * ∑ r : Fin 512, tDC i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) k (ix2 r j) = colHalf S L i k j.val := by
  rw [colScale_real (ldBox arg10 harg10 x10 ![0, 0] inb_S1x3_S1x1_0_0) L ((ldBox_apply arg10 harg10 x10 0 _).trans (hB.h10 0)), Finset.sum_congr rfl fun r _ => tDC_real arg1 harg1 arg2 harg2 arg3 harg3 arg4 harg4 arg5 harg5 arg10 harg10 hB k r j, coe_sum, ← EReal.coe_mul]
  rfl

theorem hd_corner (h : k0_cond2 i = 1#1) (k : Fin 3) (j : Fin 1024) : colScale (ldBox arg10 harg10 x10 ![0, 0] inb_S1x3_S1x1_0_0) (ix2 0 0) * ∑ r : Fin 1024, tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) h k (ix2 r j) = colFull S L i (1024 * (i 0).val + 1024) k j.val := by
  rw [colScale_real (ldBox arg10 harg10 x10 ![0, 0] inb_S1x3_S1x1_0_0) L ((ldBox_apply arg10 harg10 x10 0 _).trans (hB.h10 0)), Finset.sum_congr rfl fun r _ => tCF_real arg1 harg1 arg2 harg2 arg3 harg3 arg4 harg4 arg5 harg5 arg10 harg10 hB h k r j, coe_sum, ← EReal.coe_mul]
  rfl

theorem hd_trip (h : k0_cond2 i = 1#1) (m : Fin (k0_t1_loop i).trips) (k : Fin 3) (j : Fin 1024) :
    colScale (ldBox arg10 harg10 x10 ![0, 0] inb_S1x3_S1x1_0_0) (ix2 0 0) * ∑ r : Fin 1024, tTrip i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) h m k (ix2 r j) = colFull S L i (1024 * ((i 0).val + m.val) + 2048) k j.val := by
  rw [colScale_real (ldBox arg10 harg10 x10 ![0, 0] inb_S1x3_S1x1_0_0) L ((ldBox_apply arg10 harg10 x10 0 _).trans (hB.h10 0)), Finset.sum_congr rfl fun r _ => tTrip_real arg1 harg1 arg2 harg2 arg3 harg3 arg4 harg4 arg5 harg5 arg10 harg10 hB h m k r j, coe_sum, ← EReal.coe_mul]
  rfl

end

theorem last_rows (c : Dev nD) (i : grid0.Coords)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (x1 : Vec Ideal S1024x3 .f32) (x2 : Vec Ideal S3x4096 .f32) (x3 : Vec Ideal S1024x20 .f32) (x4 : Vec Ideal S20x4096 .f32) (x5 x6 x7 : Vec Ideal S20x20 .f32) (x8 : Vec Ideal S2x4095 .f32) (x9 : Vec Ideal S3x4093 .f32) (x10 : Vec Ideal S1x3 .f32) (x12 : Vec Ideal S3x4096 .f32) (x13 : Vec Ideal S1x1 .f32)
    (hc1 : ¬ k0_cond1 i = 1#1) (hc2 : ¬ k0_cond2 i = 1#1) (hc3 : k0_cond3 i = 1#1) (r : Fin 1024) (k : Fin 3) :
    (runLast (F := Ideal) c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x12 x13 hc1 hc2 hc3).1.1 (ix2 r k)
      = rowScale (ldBox arg10 harg10 x10 ![0, 0] inb_S1x3_S1x1_0_0) (ix2 0 0) * rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) k (ix2 r 0) := by
  refine Eq.trans ?_ ((pay191_apply (rowScale (ldBox arg10 harg10 x10 ![0, 0] inb_S1x3_S1x1_0_0)) (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 0) (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 1) (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 2) r k).trans ?_)
  · refine (View.read_writes_cons_unit_of_mem _ _ _ _ _ (ix2 r k) (ix2 r k) rfl (fun a => by fin_cases a <;> exact (Nat.zero_add _).symm)).trans ?_
    rfl
  · fin_cases k <;> rfl

theorem last_cols (c : Dev nD) (i : grid0.Coords)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (x1 : Vec Ideal S1024x3 .f32) (x2 : Vec Ideal S3x4096 .f32) (x3 : Vec Ideal S1024x20 .f32) (x4 : Vec Ideal S20x4096 .f32) (x5 x6 x7 : Vec Ideal S20x20 .f32) (x8 : Vec Ideal S2x4095 .f32) (x9 : Vec Ideal S3x4093 .f32) (x10 : Vec Ideal S1x3 .f32) (x12 : Vec Ideal S3x4096 .f32) (x13 : Vec Ideal S1x1 .f32) (hB : Blocks S L (i 0).val x1 x2 x3 x4 x5 x6 x7 x10)
    (hc1 : ¬ k0_cond1 i = 1#1) (hc2 : ¬ k0_cond2 i = 1#1) (hc3 : k0_cond3 i = 1#1) (k : Fin 3) (q : Fin 4096) :
    (runLast (F := Ideal) c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x12 x13 hc1 hc2 hc3).1.2.1 (ix2 k q)
      = x12 (ix2 k q) + into k (1024 * (i 0).val + 512) 512 (colHalf S L i k) k q.val := by
  have hi := coord_lt i
  have hd := hd_half arg1 harg1 arg2 harg2 arg3 harg3 arg4 harg4 arg5 harg5 arg10 harg10 hB
  show rd arg12 (arg12.view.writes (Elt Ideal) (harg12.unread x12) (threeH arg12 [] (k0_off5 i) (k0_off6 i) (k0_off7 i) (k0_off5_inb i) (k0_off6_inb i) (k0_off7_inb i)
    (colScale (ldBox arg10 harg10 x10 ![0, 0] inb_S1x3_S1x1_0_0)) (tDC i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0))) (harg12.unread x12) (harg12.unread x12) (harg12.unread x12))) k q = _
  refine (rd_threeH arg12 _ _ (1024 * (i 0).val + 512) (by omega) _ _ _ (off5_eq i) (off6_eq i) (off7_eq i) _ _ _ _ _ _ _ _ (fun _ => rfl) (fun _ => rfl) (fun _ => rfl) (colHalf S L i) hd k q).trans (congrArg (· + _) ?_)
  exact congrFun (harg12.read_unread (Val := Elt Ideal) x12) _

theorem middle_rows (c : Dev nD) (i : grid0.Coords)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (x1 : Vec Ideal S1024x3 .f32) (x2 : Vec Ideal S3x4096 .f32) (x3 : Vec Ideal S1024x20 .f32) (x4 : Vec Ideal S20x4096 .f32) (x5 x6 x7 : Vec Ideal S20x20 .f32) (x8 : Vec Ideal S2x4095 .f32) (x9 : Vec Ideal S3x4093 .f32) (x10 : Vec Ideal S1x3 .f32) (x12 : Vec Ideal S3x4096 .f32) (x13 : Vec Ideal S1x1 .f32)
    (hc1 : ¬ k0_cond1 i = 1#1) (hc2 : k0_cond2 i = 1#1) (hc3 : ¬ k0_cond3 i = 1#1) (r : Fin 1024) (k : Fin 3) :
    (runMiddle (F := Ideal) c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x12 x13 hc1 hc2 hc3).1.1 (ix2 r k)
      = rowScale (ldBox arg10 harg10 x10 ![0, 0] inb_S1x3_S1x1_0_0) (ix2 0 0) * (loopT i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 k (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) k) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 k))) (k0_t1_loop i).trips) (ix2 r 0) := by
  refine Eq.trans ?_ ((pay191_apply (rowScale (ldBox arg10 harg10 x10 ![0, 0] inb_S1x3_S1x1_0_0)) (loopT i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 0 (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 0) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 0))) (k0_t1_loop i).trips) (loopT i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 1 (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 1) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 1))) (k0_t1_loop i).trips) (loopT i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 2 (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 2) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 2))) (k0_t1_loop i).trips) r k).trans ?_)
  · refine (View.read_writes_cons_unit_of_mem _ _ _ _ _ (ix2 r k) (ix2 r k) rfl (fun a => by fin_cases a <;> exact (Nat.zero_add _).symm)).trans ?_
    rw [← (st_rows c i arg1 harg1 arg2 harg2 arg3 harg3 arg4 harg4 arg5 harg5 arg6 harg6 arg7 harg7 arg8 harg8 arg9 harg9 arg10 harg10 arg11 harg11 arg12 harg12 arg13 harg13 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) _ hc2 _ x1 x2 x4 ((addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 0) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 0))), (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 1) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 1))), (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 2) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 2))), _) _ _).1, ← (st_rows c i arg1 harg1 arg2 harg2 arg3 harg3 arg4 harg4 arg5 harg5 arg6 harg6 arg7 harg7 arg8 harg8 arg9 harg9 arg10 harg10 arg11 harg11 arg12 harg12 arg13 harg13 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) _ hc2 _ x1 x2 x4 ((addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 0) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 0))), (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 1) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 1))), (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 2) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 2))), _) _ _).2.1,
      ← (st_rows c i arg1 harg1 arg2 harg2 arg3 harg3 arg4 harg4 arg5 harg5 arg6 harg6 arg7 harg7 arg8 harg8 arg9 harg9 arg10 harg10 arg11 harg11 arg12 harg12 arg13 harg13 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) _ hc2 _ x1 x2 x4 ((addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 0) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 0))), (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 1) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 1))), (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 2) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 2))), _) _ _).2.2]
    rfl
  · exact congrArg (fun g => rowScale (ldBox arg10 harg10 x10 ![0, 0] inb_S1x3_S1x1_0_0) (ix2 0 0) * (g : FVec Ideal S1024x1 .f32) (ix2 r 0)) (pick_three (fun k => (loopT i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 k (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) k) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 k))) (k0_t1_loop i).trips)) k)

theorem first_rows (c : Dev nD) (i : grid0.Coords)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (x1 : Vec Ideal S1024x3 .f32) (x2 : Vec Ideal S3x4096 .f32) (x3 : Vec Ideal S1024x20 .f32) (x4 : Vec Ideal S20x4096 .f32) (x5 x6 x7 : Vec Ideal S20x20 .f32) (x8 : Vec Ideal S2x4095 .f32) (x9 : Vec Ideal S3x4093 .f32) (x10 : Vec Ideal S1x3 .f32)
    (hc1 : k0_cond1 i = 1#1) (hc2 : k0_cond2 i = 1#1) (hc3 : ¬ k0_cond3 i = 1#1) (r : Fin 1024) (k : Fin 3) :
    (runFirst (F := Ideal) c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 hc1 hc2 hc3).1.1 (ix2 r k)
      = rowScale (ldBox arg10 harg10 x10 ![0, 0] inb_S1x3_S1x1_0_0) (ix2 0 0) * (loopT i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 k (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) k) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 k))) (k0_t1_loop i).trips) (ix2 r 0) := by
  refine Eq.trans ?_ ((pay191_apply (rowScale (ldBox arg10 harg10 x10 ![0, 0] inb_S1x3_S1x1_0_0)) (loopT i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 0 (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 0) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 0))) (k0_t1_loop i).trips) (loopT i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 1 (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 1) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 1))) (k0_t1_loop i).trips) (loopT i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 2 (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 2) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 2))) (k0_t1_loop i).trips) r k).trans ?_)
  · refine (View.read_writes_cons_unit_of_mem _ _ _ _ _ (ix2 r k) (ix2 r k) rfl (fun a => by fin_cases a <;> exact (Nat.zero_add _).symm)).trans ?_
    rw [← (st_rows c i arg1 harg1 arg2 harg2 arg3 harg3 arg4 harg4 arg5 harg5 arg6 harg6 arg7 harg7 arg8 harg8 arg9 harg9 arg10 harg10 arg11 harg11 arg12 harg12 arg13 harg13 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) _ hc2 _ x1 x2 x4 ((addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 0) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 0))), (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 1) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 1))), (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 2) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 2))), _) _ _).1, ← (st_rows c i arg1 harg1 arg2 harg2 arg3 harg3 arg4 harg4 arg5 harg5 arg6 harg6 arg7 harg7 arg8 harg8 arg9 harg9 arg10 harg10 arg11 harg11 arg12 harg12 arg13 harg13 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) _ hc2 _ x1 x2 x4 ((addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 0) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 0))), (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 1) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 1))), (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 2) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 2))), _) _ _).2.1,
      ← (st_rows c i arg1 harg1 arg2 harg2 arg3 harg3 arg4 harg4 arg5 harg5 arg6 harg6 arg7 harg7 arg8 harg8 arg9 harg9 arg10 harg10 arg11 harg11 arg12 harg12 arg13 harg13 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) _ hc2 _ x1 x2 x4 ((addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 0) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 0))), (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 1) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 1))), (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) 2) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 2))), _) _ _).2.2]
    rfl
  · exact congrArg (fun g => rowScale (ldBox arg10 harg10 x10 ![0, 0] inb_S1x3_S1x1_0_0) (ix2 0 0) * (g : FVec Ideal S1024x1 .f32) (ix2 r 0)) (pick_three (fun k => (loopT i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 k (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) k) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2 k))) (k0_t1_loop i).trips)) k)

theorem middle_cols (c : Dev nD) (i : grid0.Coords)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (x1 : Vec Ideal S1024x3 .f32) (x2 : Vec Ideal S3x4096 .f32) (x3 : Vec Ideal S1024x20 .f32) (x4 : Vec Ideal S20x4096 .f32) (x5 x6 x7 : Vec Ideal S20x20 .f32) (x8 : Vec Ideal S2x4095 .f32) (x9 : Vec Ideal S3x4093 .f32) (x10 : Vec Ideal S1x3 .f32) (x12 : Vec Ideal S3x4096 .f32) (x13 : Vec Ideal S1x1 .f32) (hB : Blocks S L (i 0).val x1 x2 x3 x4 x5 x6 x7 x10)
    (hc1 : ¬ k0_cond1 i = 1#1) (hc2 : k0_cond2 i = 1#1) (hc3 : ¬ k0_cond3 i = 1#1) (k : Fin 3) (q : Fin 4096) :
    (runMiddle (F := Ideal) c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 x12 x13 hc1 hc2 hc3).1.2.1 (ix2 k q)
      = x12 (ix2 k q) + into k (1024 * (i 0).val + 512) 512 (colHalf S L i k) k q.val
        + into k (1024 * (i 0).val + 1024) 1024 (colFull S L i (1024 * (i 0).val + 1024) k) k q.val
        + ∑ m ∈ Finset.range (k0_t1_loop i).trips, into k (1024 * ((i 0).val + m) + 2048) 1024 (colFull S L i (1024 * ((i 0).val + m) + 2048) k) k q.val := by
  have hi := coord_lt i
  have hi' := trips_eq i hc2
  have hh := hd_half arg1 harg1 arg2 harg2 arg3 harg3 arg4 harg4 arg5 harg5 arg10 harg10 hB
  have hf := hd_corner arg1 harg1 arg2 harg2 arg3 harg3 arg4 harg4 arg5 harg5 arg10 harg10 hB hc2
  have ht := hd_trip arg1 harg1 arg2 harg2 arg3 harg3 arg4 harg4 arg5 harg5 arg10 harg10 hB hc2
  show rd arg12 (arg12.view.writes (Elt Ideal) (harg12.unread x12) (_ ++ _)) k q = _
  refine (congrArg (fun f => rd arg12 f k q) (writes_append arg12 _ _ _)).trans ?_
  refine (st_cols c i arg1 harg1 arg2 harg2 arg3 harg3 arg4 harg4 arg5 harg5 arg6 harg6 arg7 harg7 arg8 harg8 arg9 harg9 arg10 harg10 arg11 harg11 arg12 harg12 arg13 harg13 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) (colScale (ldBox arg10 harg10 x10 ![0, 0] inb_S1x3_S1x1_0_0)) hc2 _ x1 x2 x4 _ _ _ ht (k0_t1_loop i).trips le_rfl k q).trans (congrArg (· + _) ?_)
  show rd arg12 (arg12.view.writes (Elt Ideal) (harg12.unread x12) (threeF arg12 (threeH arg12 [] (k0_off5 i) (k0_off6 i) (k0_off7 i) (k0_off5_inb i) (k0_off6_inb i) (k0_off7_inb i)
    (colScale (ldBox arg10 harg10 x10 ![0, 0] inb_S1x3_S1x1_0_0)) (tDC i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0))) (harg12.unread x12) (harg12.unread x12) (harg12.unread x12)) (k0_off9 i) (k0_off10 i) (k0_off11 i) (k0_off9_inb i hc2) (k0_off10_inb i hc2) (k0_off11_inb i hc2)
    (colScale (ldBox arg10 harg10 x10 ![0, 0] inb_S1x3_S1x1_0_0)) (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2) (harg12.unread x12) (harg12.unread x12) (harg12.unread x12))) k q = _
  have e := fun k q => rd_threeH arg12 (harg12.unread x12) [] (1024 * (i 0).val + 512) (by omega) _ _ _ (off5_eq i) (off6_eq i) (off7_eq i) (k0_off5_inb i) (k0_off6_inb i) (k0_off7_inb i) (colScale (ldBox arg10 harg10 x10 ![0, 0] inb_S1x3_S1x1_0_0)) (tDC i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0))) (harg12.unread x12) (harg12.unread x12) (harg12.unread x12)
    (fun _ => rfl) (fun _ => rfl) (fun _ => rfl) (colHalf S L i) hh k q
  have e0 : ∀ (k : Fin 3) (j : Fin 1024) (hq : 1024 * (i 0).val + 1024 + j.val < 4096), rd arg12 (harg12.unread x12) k ⟨1024 * (i 0).val + 1024 + j.val, hq⟩ = rd arg12 (arg12.view.writes (Elt Ideal) (harg12.unread x12) _) k ⟨1024 * (i 0).val + 1024 + j.val, hq⟩ := fun k j hq =>
    ((e k ⟨1024 * (i 0).val + 1024 + j.val, hq⟩).trans ((congrArg (_ + ·) (if_neg (by show ¬ (k = k ∧ 1024 * (i 0).val + 512 ≤ 1024 * (i 0).val + 1024 + j.val ∧ 1024 * (i 0).val + 1024 + j.val < 1024 * (i 0).val + 512 + 512); omega))).trans (add_zero _))).symm
  refine (rd_threeF arg12 _ _ (1024 * (i 0).val + 1024) (by omega) _ _ _ (off9_eq i) (off10_eq i) (off11_eq i) _ _ _ _ _ _ _ _ (fun j => e0 0 j _) (fun j => e0 1 j _) (fun j => e0 2 j _) _ hf k q).trans (congrArg (· + _) ?_)
  refine (e k q).trans (congrArg (· + _) ?_)
  exact congrFun (harg12.read_unread (Val := Elt Ideal) x12) _

end Cert.Proof.Energy

end
-- ==== Proof.BondStores.lean ====
/-
  The first grid point's stores of the bonded forces, read at an index.
-/
module

public import proofs.«01_k».proof.Proof.BondForce
public import proofs.«01_k».proof.Proof.PointStores

@[expose] public section

set_option maxRecDepth 16384

noncomputable section

namespace Cert.Proof.Energy

open Cert.KernelIdeal Cert.KernelIdeal.Gen Cert.Proof.KernelIdeal
open Idealize.ShloMosaic Idealize.ShloMosaic.TcCoe

theorem inb95 (k : Fin 3) (q : ℕ) (hq : q + 4095 ≤ 4096) : ∀ a, (![k.val, q] : Fin 2 → ℕ) a + S1x4095.size a ≤ S3x4096.size a := fun a => by
  fin_cases a
  · show k.val + 1 ≤ 3
    omega
  · exact hq

theorem inb93 (k : Fin 3) (q : ℕ) (hq : q + 4093 ≤ 4096) : ∀ a, (![k.val, q] : Fin 2 → ℕ) a + S1x4093.size a ≤ S3x4096.size a := fun a => by
  fin_cases a
  · show k.val + 1 ≤ 3
    omega
  · exact hq

/-- A store that adds `x` to what the stores so far left in row `k`, from column `q` on. -/
def one95 (M : Memref sig .tc .vmem S3x4096 .f32) (L : Stores Ideal) (k : Fin 3) (q : ℕ) (hq : q + 4095 ≤ 4096) (x : V95) : Stores Ideal :=
  ⟨Rect.unit (s := S3x4096) ![k.val, q] S1x4095.size (inb95 k q hq), addf (shapeCast S1x4095 (M.view.readCov (Val := Elt Ideal) L (Rect.unit (s := S3x4096) ![k.val, q] S1x4095.size (inb95 k q hq)).toLoadRect) shapeCasts_S1x4095_S1x4095) x⟩ :: L
def one93 (M : Memref sig .tc .vmem S3x4096 .f32) (L : Stores Ideal) (k : Fin 3) (q : ℕ) (hq : q + 4093 ≤ 4096) (x : V93) : Stores Ideal :=
  ⟨Rect.unit (s := S3x4096) ![k.val, q] S1x4093.size (inb93 k q hq), addf (shapeCast S1x4093 (M.view.readCov (Val := Elt Ideal) L (Rect.unit (s := S3x4096) ![k.val, q] S1x4093.size (inb93 k q hq)).toLoadRect) shapeCasts_S1x4093_S1x4093) x⟩ :: L

theorem rd_one95 (M : Memref sig .tc .vmem S3x4096 .f32) (L : Stores Ideal) (k0 : Fin 3) (q : ℕ) (hq : q + 4095 ≤ 4096) (x : V95) (d : ℕ → EReal)
    (hx : ∀ j : Fin 4095, x (ix2 0 j) = d j.val) (k : Fin 3) (c : Fin 4096) :
    rd M (M.view.writes (Elt Ideal) M.view.junk (one95 M L k0 q hq x)) k c = rd M (M.view.writes (Elt Ideal) M.view.junk L) k c + into k0 q 4095 d k c.val := by
  refine rd_step M _ L k0 q 4095 hq _ rfl (inb95 k0 q hq) _ d (fun j => ?_) k c
  have e : ∀ u : V95, addf (shapeCast S1x4095 u shapeCasts_S1x4095_S1x4095) x (ix2 0 j) = u (ix2 0 j) + x (ix2 0 j) := fun u => by pointwise
  rw [e, hx]
  exact congrArg (· + d j.val) (readAt_rd M _ k0 q 4095 hq _ rfl (inb95 k0 q hq) j)

theorem rd_one93 (M : Memref sig .tc .vmem S3x4096 .f32) (L : Stores Ideal) (k0 : Fin 3) (q : ℕ) (hq : q + 4093 ≤ 4096) (x : V93) (d : ℕ → EReal)
    (hx : ∀ j : Fin 4093, x (ix2 0 j) = d j.val) (k : Fin 3) (c : Fin 4096) :
    rd M (M.view.writes (Elt Ideal) M.view.junk (one93 M L k0 q hq x)) k c = rd M (M.view.writes (Elt Ideal) M.view.junk L) k c + into k0 q 4093 d k c.val := by
  refine rd_step M _ L k0 q 4093 hq _ rfl (inb93 k0 q hq) _ d (fun j => ?_) k c
  have e : ∀ u : V93, addf (shapeCast S1x4093 u shapeCasts_S1x4093_S1x4093) x (ix2 0 j) = u (ix2 0 j) + x (ix2 0 j) := fun u => by pointwise
  rw [e, hx]
  exact congrArg (· + d j.val) (readAt_rd M _ k0 q 4093 hq _ rfl (inb93 k0 q hq) j)

def z95 : V95 := broadcast S1x4095 (Scalar.ofBits (F := Ideal) .f32 0x00000000#32)
def z93 : V93 := broadcast S1x4093 (Scalar.ofBits (F := Ideal) .f32 0x00000000#32)

/-- A component of the bonds' forces, added at both atoms. -/
def twoB (M : Memref sig .tc .vmem S3x4096 .f32) (L : Stores Ideal) (k : Fin 3) (f : V95) : Stores Ideal :=
  one95 M (one95 M L k 0 (by omega) (subf z95 f)) k 1 (by omega) f
/-- A component of the dihedrals' forces, added at the four atoms. -/
def fourD (M : Memref sig .tc .vmem S3x4096 .f32) (L : Stores Ideal) (k : Fin 3) (f0 f3 s : V93) : Stores Ideal :=
  one93 M (one93 M (one93 M (one93 M L k 0 (by omega) (subf z93 f0)) k 1 (by omega) (addf f0 s)) k 2 (by omega) (subf f3 s)) k 3 (by omega) (subf z93 f3)

/-- What the bonds, and the dihedrals, add to a component at a column. -/
def bondCol (k0 : Fin 3) (d : ℕ → EReal) (z : EReal) (k : Fin 3) (c : ℕ) : EReal :=
  z + into k0 0 4095 (fun j => -d j) k c + into k0 1 4095 d k c
def dihCol (k0 : Fin 3) (d0 d3 s : ℕ → EReal) (z : EReal) (k : Fin 3) (c : ℕ) : EReal :=
  z + into k0 0 4093 (fun j => -d0 j) k c + into k0 1 4093 (fun j => d0 j + s j) k c + into k0 2 4093 (fun j => d3 j - s j) k c + into k0 3 4093 (fun j => -d3 j) k c

theorem rd_twoB (M : Memref sig .tc .vmem S3x4096 .f32) (L : Stores Ideal) (k0 : Fin 3) (f : V95) (d : ℕ → EReal) (hf : ∀ j : Fin 4095, f (ix2 0 j) = d j.val) (k : Fin 3) (c : Fin 4096) :
    rd M (M.view.writes (Elt Ideal) M.view.junk (twoB M L k0 f)) k c = bondCol k0 d (rd M (M.view.writes (Elt Ideal) M.view.junk L) k c) k c.val := by
  unfold twoB bondCol
  rw [rd_one95 M _ k0 1 (by omega) f d hf, rd_one95 M _ k0 0 (by omega) _ (fun j => -d j) (fun j => by
    show Ideal.ofBits .f32 0x00000000#32 - f (ix2 0 j) = _
    rw [Ideal.ofBits_zero_f32, zero_sub, hf])]

theorem rd_fourD (M : Memref sig .tc .vmem S3x4096 .f32) (L : Stores Ideal) (k0 : Fin 3) (f0 f3 s : V93) (d0 d3 e : ℕ → EReal) (h0 : ∀ j : Fin 4093, f0 (ix2 0 j) = d0 j.val)
    (h3 : ∀ j : Fin 4093, f3 (ix2 0 j) = d3 j.val) (hs : ∀ j : Fin 4093, s (ix2 0 j) = e j.val) (k : Fin 3) (c : Fin 4096) :
    rd M (M.view.writes (Elt Ideal) M.view.junk (fourD M L k0 f0 f3 s)) k c = dihCol k0 d0 d3 e (rd M (M.view.writes (Elt Ideal) M.view.junk L) k c) k c.val := by
  unfold fourD dihCol
  have hn : ∀ (f : V93) (d : ℕ → EReal) (_ : ∀ j : Fin 4093, f (ix2 0 j) = d j.val) (j : Fin 4093), subf z93 f (ix2 0 j) = -d j.val := fun f d hf j => by
    show Ideal.ofBits .f32 0x00000000#32 - f (ix2 0 j) = _
    rw [Ideal.ofBits_zero_f32, zero_sub, hf]
  rw [rd_one93 M _ k0 3 (by omega) _ (fun j => -d3 j) (hn f3 d3 h3), rd_one93 M _ k0 2 (by omega) _ (fun j => d3 j - e j) (fun j => by
      show f3 (ix2 0 j) - s (ix2 0 j) = _
      rw [h3, hs]),
    rd_one93 M _ k0 1 (by omega) _ (fun j => d0 j + e j) (fun j => by
      show f0 (ix2 0 j) + s (ix2 0 j) = _
      rw [h0, hs]),
    rd_one93 M _ k0 0 (by omega) _ (fun j => -d0 j) (hn f0 d0 h0)]

/-- The zeros the first point writes. -/
def zeroRows : Stores Ideal :=
  [⟨Rect.unit (s := S3x4096) ![2, 0] S1x4096.size inb_S3x4096_S1x4096_2_0, broadcast S1x4096 (Scalar.ofBits (F := Ideal) .f32 0x00000000#32)⟩,
   ⟨Rect.unit (s := S3x4096) ![1, 0] S1x4096.size inb_S3x4096_S1x4096_1_0, broadcast S1x4096 (Scalar.ofBits (F := Ideal) .f32 0x00000000#32)⟩,
   ⟨Rect.unit (s := S3x4096) ![0, 0] S1x4096.size inb_S3x4096_S1x4096_0_0, broadcast S1x4096 (Scalar.ofBits (F := Ideal) .f32 0x00000000#32)⟩]

theorem rd_zeroRows (M : Memref sig .tc .vmem S3x4096 .f32) (k : Fin 3) (c : Fin 4096) : rd M (M.view.writes (Elt Ideal) M.view.junk zeroRows) k c = 0 := by
  have hz : ∀ j : Fin 4096, (broadcast S1x4096 (Scalar.ofBits (F := Ideal) .f32 0x00000000#32) : FVec Ideal S1x4096 .f32) (ix2 0 j) = 0 := fun _ => Ideal.ofBits_zero_f32
  unfold zeroRows
  refine (rd_zero M _ _ 2 inb_S3x4096_S1x4096_2_0 _ hz k c).trans ?_
  split
  · rfl
  refine (rd_zero M _ _ 1 inb_S3x4096_S1x4096_1_0 _ hz k c).trans ?_
  split
  · rfl
  refine (rd_zero M _ _ 0 inb_S3x4096_S1x4096_0_0 _ hz k c).trans ?_
  split
  · rfl
  · omega

/-- The bonded forces' stores. -/
def bondedStores (M : Memref sig .tc .vmem S3x4096 .f32) (b0 b1 b2 k0 d0 : V95) (t0 phi0 per : V93) : Stores Ideal :=
  fourD M (fourD M (fourD M (twoB M (twoB M (twoB M zeroRows 0 (frcOp b0 b0 b1 b2 k0 d0)) 1 (frcOp b1 b0 b1 b2 k0 d0)) 2 (frcOp b2 b0 b1 b2 k0 d0))
    0 (f0Op b0 b1 b2 t0 phi0 per (norA0 b0 b1 b2)) (f3Op b0 b1 b2 t0 phi0 per (norB0 b0 b1 b2)) (sOp b0 b1 b2 (f0Op b0 b1 b2 t0 phi0 per (norA0 b0 b1 b2)) (f3Op b0 b1 b2 t0 phi0 per (norB0 b0 b1 b2))))
    1 (f0Op b0 b1 b2 t0 phi0 per (norA1 b0 b1 b2)) (f3Op b0 b1 b2 t0 phi0 per (norB1 b0 b1 b2)) (sOp b0 b1 b2 (f0Op b0 b1 b2 t0 phi0 per (norA1 b0 b1 b2)) (f3Op b0 b1 b2 t0 phi0 per (norB1 b0 b1 b2))))
    2 (f0Op b0 b1 b2 t0 phi0 per (norA2 b0 b1 b2)) (f3Op b0 b1 b2 t0 phi0 per (norB2 b0 b1 b2)) (sOp b0 b1 b2 (f0Op b0 b1 b2 t0 phi0 per (norA2 b0 b1 b2)) (f3Op b0 b1 b2 t0 phi0 per (norB2 b0 b1 b2)))

theorem rd_bonded (M : Memref sig .tc .vmem S3x4096 .f32) (b0 b1 b2 k0 d0 : V95) (t0 phi0 per : V93) (v : ℕ → Fin 3 → ℝ) (K0 D0 : Fin 4095 → EReal) (T0 H0 N0 : Fin 4093 → EReal)
    (h0 : ∀ j : Fin 4095, b0 (ix2 0 j) = ((v j 0 : ℝ) : EReal)) (h1 : ∀ j : Fin 4095, b1 (ix2 0 j) = ((v j 1 : ℝ) : EReal)) (h2 : ∀ j : Fin 4095, b2 (ix2 0 j) = ((v j 2 : ℝ) : EReal))
    (hk : ∀ j, k0 (ix2 0 j) = K0 j) (hd : ∀ j, d0 (ix2 0 j) = D0 j) (ht : ∀ j, t0 (ix2 0 j) = T0 j) (hp : ∀ j, phi0 (ix2 0 j) = H0 j) (hn : ∀ j, per (ix2 0 j) = N0 j)
    (hv : ∀ j < 4094, dotR (crossR (v j) (v (j + 1))) (crossR (v j) (v (j + 1))) ≠ 0)
    (B F0 F3 T : Fin 3 → ℕ → EReal) (hB : ∀ (k : Fin 3) (j : Fin 4095), bondF (v j) (K0 j) (D0 j) k = B k j.val)
    (hF0 : ∀ (k : Fin 3) (j : Fin 4093), torF0 (v j) (v (j + 1)) (v (j + 2)) (T0 j) (H0 j) (N0 j) k = F0 k j.val)
    (hF3 : ∀ (k : Fin 3) (j : Fin 4093), torF3 (v j) (v (j + 1)) (v (j + 2)) (T0 j) (H0 j) (N0 j) k = F3 k j.val)
    (hT : ∀ (k : Fin 3) (j : Fin 4093), torS (v j) (v (j + 1)) (v (j + 2)) (T0 j) (H0 j) (N0 j) k = T k j.val) (k : Fin 3) (c : Fin 4096) :
    rd M (M.view.writes (Elt Ideal) M.view.junk (bondedStores M b0 b1 b2 k0 d0 t0 phi0 per)) k c = dihCol k (F0 k) (F3 k) (T k) (bondCol k (B k) 0 k c.val) k c.val := by
  have hl : ∀ j : Fin 4095, dotR (v j) (v j) ≠ 0 := fun j => by
    by_cases h : j.val < 4094
    · exact left_ne _ _ (hv _ h)
    · have e : j.val = 4093 + 1 := by omega
      rw [e]
      exact right_ne _ _ (hv 4093 (by omega))
  have hb : ∀ (b : V95) (k : Fin 3), (∀ j : Fin 4095, b (ix2 0 j) = ((v j k : ℝ) : EReal)) → ∀ j : Fin 4095, frcOp b b0 b1 b2 k0 d0 (ix2 0 j) = B k j.val := fun b k e j => by
    rw [frcOp_real b b0 b1 b2 k0 d0 j (v j) k (e j) (h0 j) (h1 j) (h2 j) (hl j), hk, hd, hB]
  have ha : ∀ (a : V93) (k : Fin 3), (∀ j : Fin 4093, a (ix2 0 j) = ((crossR (v j) (v (j + 1)) k : ℝ) : EReal)) → ∀ j : Fin 4093, f0Op b0 b1 b2 t0 phi0 per a (ix2 0 j) = F0 k j.val := fun a k e j => by
    rw [f0Op_real b0 b1 b2 t0 phi0 per j v h0 h1 h2 (hv _ (by omega)) (hv _ (by omega)) a k (e j), ht, hp, hn, hF0]
  have hc : ∀ (a : V93) (k : Fin 3), (∀ j : Fin 4093, a (ix2 0 j) = ((crossR (v (j + 1)) (v (j + 2)) k : ℝ) : EReal)) → ∀ j : Fin 4093, f3Op b0 b1 b2 t0 phi0 per a (ix2 0 j) = F3 k j.val := fun a k e j => by
    rw [f3Op_real b0 b1 b2 t0 phi0 per j v h0 h1 h2 (hv _ (by omega)) (hv _ (by omega)) a k (e j), ht, hp, hn, hF3]
  have hs : ∀ (f0 f3 : V93) (k : Fin 3), (∀ j : Fin 4093, f0 (ix2 0 j) = F0 k j.val) → (∀ j : Fin 4093, f3 (ix2 0 j) = F3 k j.val) → ∀ j : Fin 4093, sOp b0 b1 b2 f0 f3 (ix2 0 j) = T k j.val := fun f0 f3 k e0 e3 j => by
    rw [sOp_real b0 b1 b2 t0 phi0 per j v h0 h1 h2 (hv _ (by omega)) f0 f3 k ((e0 j).trans (by rw [ht, hp, hn, hF0])) ((e3 j).trans (by rw [ht, hp, hn, hF3])), ht, hp, hn, hT]
  have a0 := ha _ 0 fun j => norA0_real b0 b1 b2 j v h0 h1 h2
  have a1 := ha _ 1 fun j => norA1_real b0 b1 b2 j v h0 h1 h2
  have a2 := ha _ 2 fun j => norA2_real b0 b1 b2 j v h0 h1 h2
  have c0 := hc _ 0 fun j => norB0_real b0 b1 b2 j v h0 h1 h2
  have c1 := hc _ 1 fun j => norB1_real b0 b1 b2 j v h0 h1 h2
  have c2 := hc _ 2 fun j => norB2_real b0 b1 b2 j v h0 h1 h2
  unfold bondedStores
  rw [rd_fourD M _ 2 _ _ _ (F0 2) (F3 2) (T 2) a2 c2 (hs _ _ 2 a2 c2), rd_fourD M _ 1 _ _ _ (F0 1) (F3 1) (T 1) a1 c1 (hs _ _ 1 a1 c1), rd_fourD M _ 0 _ _ _ (F0 0) (F3 0) (T 0) a0 c0 (hs _ _ 0 a0 c0),
    rd_twoB M _ 2 _ (B 2) (hb b2 2 h2), rd_twoB M _ 1 _ (B 1) (hb b1 1 h1), rd_twoB M _ 0 _ (B 0) (hb b0 0 h0), rd_zeroRows]
  fin_cases k <;> simp [dihCol, bondCol, into]

end Cert.Proof.Energy

end
-- ==== Proof.BondLists.lean ====
/-
  The first grid point's stores of the bonded forces are the stores that `bondedStores` lists.
-/
module

public import proofs.«01_k».proof.Proof.BondStores

@[expose] public section

set_option maxRecDepth 16384

noncomputable section

namespace Cert.Proof.Energy

open Cert.KernelIdeal Cert.KernelIdeal.Gen Cert.Proof.KernelIdeal
open Idealize.ShloMosaic Idealize.ShloMosaic.TcCoe

section
variable (c : Dev nD)
    (arg2 : Memref sig .tc .vmem S3x4096 .f32) (harg2 : arg2.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg12 : Memref sig .tc .vmem S3x4096 .f32)
    (x2 : Vec Ideal S3x4096 .f32) (x8 : Vec Ideal S2x4095 .f32) (x9 : Vec Ideal S3x4093 .f32) (x10 : Vec Ideal S1x3 .f32)

theorem list_zero : runFirst.sl.H12_3 (F := Ideal) = zeroRows := rfl
theorem list_bond0 : runFirst.sl.H12_5 (F := Ideal) c arg2 harg2 arg8 harg8 arg10 harg10 arg12 x2 x8 x10 = twoB arg12 (runFirst.sl.H12_3 (F := Ideal)) 0 (frcOp (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldBond arg8 harg8 x8 ![0, 0] inb_S2x4095_S1x4095_0_0) (ldBond arg8 harg8 x8 ![1, 0] inb_S2x4095_S1x4095_1_0)) := rfl
theorem list_bond1 : runFirst.sl.H12_7 (F := Ideal) c arg2 harg2 arg8 harg8 arg10 harg10 arg12 x2 x8 x10 = twoB arg12 (runFirst.sl.H12_5 (F := Ideal) c arg2 harg2 arg8 harg8 arg10 harg10 arg12 x2 x8 x10) 1 (frcOp (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldBond arg8 harg8 x8 ![0, 0] inb_S2x4095_S1x4095_0_0) (ldBond arg8 harg8 x8 ![1, 0] inb_S2x4095_S1x4095_1_0)) := rfl
theorem list_bond2 : runFirst.sl.H12_9 (F := Ideal) c arg2 harg2 arg8 harg8 arg10 harg10 arg12 x2 x8 x10 = twoB arg12 (runFirst.sl.H12_7 (F := Ideal) c arg2 harg2 arg8 harg8 arg10 harg10 arg12 x2 x8 x10) 2 (frcOp (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldBond arg8 harg8 x8 ![0, 0] inb_S2x4095_S1x4095_0_0) (ldBond arg8 harg8 x8 ![1, 0] inb_S2x4095_S1x4095_1_0)) := rfl
theorem list_dih0 : runFirst.sl.H12_13 (F := Ideal) c arg2 harg2 arg8 harg8 arg9 harg9 arg10 harg10 arg12 x2 x8 x9 x10 = fourD arg12 (runFirst.sl.H12_9 (F := Ideal) c arg2 harg2 arg8 harg8 arg10 harg10 arg12 x2 x8 x10) 0 (f0Op (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldTor arg9 harg9 x9 ![0, 0] inb_S3x4093_S1x4093_0_0) (ldTor arg9 harg9 x9 ![1, 0] inb_S3x4093_S1x4093_1_0) (ldTor arg9 harg9 x9 ![2, 0] inb_S3x4093_S1x4093_2_0) (norA0 (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)))) (f3Op (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldTor arg9 harg9 x9 ![0, 0] inb_S3x4093_S1x4093_0_0) (ldTor arg9 harg9 x9 ![1, 0] inb_S3x4093_S1x4093_1_0) (ldTor arg9 harg9 x9 ![2, 0] inb_S3x4093_S1x4093_2_0) (norB0 (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)))) (sOp (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (f0Op (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldTor arg9 harg9 x9 ![0, 0] inb_S3x4093_S1x4093_0_0) (ldTor arg9 harg9 x9 ![1, 0] inb_S3x4093_S1x4093_1_0) (ldTor arg9 harg9 x9 ![2, 0] inb_S3x4093_S1x4093_2_0) (norA0 (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)))) (f3Op (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldTor arg9 harg9 x9 ![0, 0] inb_S3x4093_S1x4093_0_0) (ldTor arg9 harg9 x9 ![1, 0] inb_S3x4093_S1x4093_1_0) (ldTor arg9 harg9 x9 ![2, 0] inb_S3x4093_S1x4093_2_0) (norB0 (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2))))) := rfl
theorem list_dih1 : runFirst.sl.H12_17 (F := Ideal) c arg2 harg2 arg8 harg8 arg9 harg9 arg10 harg10 arg12 x2 x8 x9 x10 = fourD arg12 (runFirst.sl.H12_13 (F := Ideal) c arg2 harg2 arg8 harg8 arg9 harg9 arg10 harg10 arg12 x2 x8 x9 x10) 1 (f0Op (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldTor arg9 harg9 x9 ![0, 0] inb_S3x4093_S1x4093_0_0) (ldTor arg9 harg9 x9 ![1, 0] inb_S3x4093_S1x4093_1_0) (ldTor arg9 harg9 x9 ![2, 0] inb_S3x4093_S1x4093_2_0) (norA1 (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)))) (f3Op (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldTor arg9 harg9 x9 ![0, 0] inb_S3x4093_S1x4093_0_0) (ldTor arg9 harg9 x9 ![1, 0] inb_S3x4093_S1x4093_1_0) (ldTor arg9 harg9 x9 ![2, 0] inb_S3x4093_S1x4093_2_0) (norB1 (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)))) (sOp (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (f0Op (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldTor arg9 harg9 x9 ![0, 0] inb_S3x4093_S1x4093_0_0) (ldTor arg9 harg9 x9 ![1, 0] inb_S3x4093_S1x4093_1_0) (ldTor arg9 harg9 x9 ![2, 0] inb_S3x4093_S1x4093_2_0) (norA1 (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)))) (f3Op (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldTor arg9 harg9 x9 ![0, 0] inb_S3x4093_S1x4093_0_0) (ldTor arg9 harg9 x9 ![1, 0] inb_S3x4093_S1x4093_1_0) (ldTor arg9 harg9 x9 ![2, 0] inb_S3x4093_S1x4093_2_0) (norB1 (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2))))) := rfl
theorem list_dih2 : runFirst.sl.H12_21 (F := Ideal) c arg2 harg2 arg8 harg8 arg9 harg9 arg10 harg10 arg12 x2 x8 x9 x10 = fourD arg12 (runFirst.sl.H12_17 (F := Ideal) c arg2 harg2 arg8 harg8 arg9 harg9 arg10 harg10 arg12 x2 x8 x9 x10) 2 (f0Op (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldTor arg9 harg9 x9 ![0, 0] inb_S3x4093_S1x4093_0_0) (ldTor arg9 harg9 x9 ![1, 0] inb_S3x4093_S1x4093_1_0) (ldTor arg9 harg9 x9 ![2, 0] inb_S3x4093_S1x4093_2_0) (norA2 (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)))) (f3Op (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldTor arg9 harg9 x9 ![0, 0] inb_S3x4093_S1x4093_0_0) (ldTor arg9 harg9 x9 ![1, 0] inb_S3x4093_S1x4093_1_0) (ldTor arg9 harg9 x9 ![2, 0] inb_S3x4093_S1x4093_2_0) (norB2 (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)))) (sOp (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (f0Op (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldTor arg9 harg9 x9 ![0, 0] inb_S3x4093_S1x4093_0_0) (ldTor arg9 harg9 x9 ![1, 0] inb_S3x4093_S1x4093_1_0) (ldTor arg9 harg9 x9 ![2, 0] inb_S3x4093_S1x4093_2_0) (norA2 (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)))) (f3Op (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldTor arg9 harg9 x9 ![0, 0] inb_S3x4093_S1x4093_0_0) (ldTor arg9 harg9 x9 ![1, 0] inb_S3x4093_S1x4093_1_0) (ldTor arg9 harg9 x9 ![2, 0] inb_S3x4093_S1x4093_2_0) (norB2 (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2))))) := rfl

theorem list_bonded : runFirst.sl.H12_21 (F := Ideal) c arg2 harg2 arg8 harg8 arg9 harg9 arg10 harg10 arg12 x2 x8 x9 x10 = (bondedStores arg12 (bvOp (ldLine arg2 harg2 x2 ![0, 0] inb_S3x4096_S1x4095_0_0) (ldLine arg2 harg2 x2 ![0, 1] inb_S3x4096_S1x4095_0_1) (ldBox arg10 harg10 x10 ![0, 0] inb_S1x3_S1x1_0_0)) (bvOp (ldLine arg2 harg2 x2 ![1, 0] inb_S3x4096_S1x4095_1_0) (ldLine arg2 harg2 x2 ![1, 1] inb_S3x4096_S1x4095_1_1) (ldBox arg10 harg10 x10 ![0, 1] inb_S1x3_S1x1_0_1)) (bvOp (ldLine arg2 harg2 x2 ![2, 0] inb_S3x4096_S1x4095_2_0) (ldLine arg2 harg2 x2 ![2, 1] inb_S3x4096_S1x4095_2_1) (ldBox arg10 harg10 x10 ![0, 2] inb_S1x3_S1x1_0_2)) (ldBond arg8 harg8 x8 ![0, 0] inb_S2x4095_S1x4095_0_0) (ldBond arg8 harg8 x8 ![1, 0] inb_S2x4095_S1x4095_1_0) (ldTor arg9 harg9 x9 ![0, 0] inb_S3x4093_S1x4093_0_0) (ldTor arg9 harg9 x9 ![1, 0] inb_S3x4093_S1x4093_1_0) (ldTor arg9 harg9 x9 ![2, 0] inb_S3x4093_S1x4093_2_0)) := by
  rw [list_dih2, list_dih1, list_dih0, list_bond2, list_bond1, list_bond0, list_zero]
  rfl

end

end Cert.Proof.Energy

end
-- ==== Proof.FirstStores.lean ====
/-
  What the first grid point leaves in the forces' second buffer.
-/
module

public import proofs.«01_k».proof.Proof.BondLists

@[expose] public section

set_option maxRecDepth 16384

noncomputable section

namespace Cert.Proof.Energy

open Cert.KernelIdeal Cert.KernelIdeal.Gen Cert.Proof.KernelIdeal
open Idealize.ShloMosaic Idealize.ShloMosaic.TcCoe

/-- Three stores, one per row, each adding column sums to what the stores before it left. -/
def stepH (M : Memref sig .tc .vmem S3x4096 .f32) (L : Stores Ideal) (off : Fin 2 → ℕ) (inb : ∀ a, off a + S1x512.size a ≤ S3x4096.size a) (v : FVec Ideal S1x1 .f32) (t : FVec Ideal S512x512 .f32) : Stores Ideal :=
  ⟨Rect.unit (s := S3x4096) off S1x512.size inb, csH v t (View.readAt (Elt Ideal) M.view (Rect.unit (s := S3x4096) off S1x512.size inb).toLoadRect (M.view.writes (Elt Ideal) M.view.junk L))⟩ :: L

def threeHn (M : Memref sig .tc .vmem S3x4096 .f32) (L : Stores Ideal) (off0 off1 off2 : Fin 2 → ℕ) (inb0 : ∀ a, off0 a + S1x512.size a ≤ S3x4096.size a) (inb1 : ∀ a, off1 a + S1x512.size a ≤ S3x4096.size a) (inb2 : ∀ a, off2 a + S1x512.size a ≤ S3x4096.size a)
    (v : FVec Ideal S1x1 .f32) (t : Fin 3 → FVec Ideal S512x512 .f32) : Stores Ideal :=
  stepH M (stepH M (stepH M L off0 inb0 v (t 0)) off1 inb1 v (t 1)) off2 inb2 v (t 2)

theorem rd_threeHn (M : Memref sig .tc .vmem S3x4096 .f32) (L : Stores Ideal) (q : ℕ) (hq : q + 512 ≤ 4096) (off0 off1 off2 : Fin 2 → ℕ)
    (ho0 : off0 = ![0, q]) (ho1 : off1 = ![1, q]) (ho2 : off2 = ![2, q]) (inb0 : ∀ a, off0 a + S1x512.size a ≤ S3x4096.size a) (inb1 : ∀ a, off1 a + S1x512.size a ≤ S3x4096.size a) (inb2 : ∀ a, off2 a + S1x512.size a ≤ S3x4096.size a) (v : FVec Ideal S1x1 .f32) (t : Fin 3 → FVec Ideal S512x512 .f32)
    (d : Fin 3 → ℕ → EReal) (hd : ∀ (k : Fin 3) (j : Fin 512), v (ix2 0 0) * ∑ r : Fin 512, t k (ix2 r j) = d k j.val) (k : Fin 3) (c : Fin 4096) :
    rd M (M.view.writes (Elt Ideal) M.view.junk (threeHn M L off0 off1 off2 inb0 inb1 inb2 v t)) k c = rd M (M.view.writes (Elt Ideal) M.view.junk L) k c + into k q 512 (d k) k c.val := by
  rw [← into_three]
  refine (rd_csH M _ _ _ 2 q hq off2 ho2 inb2 v (t 2) (fun _ => rfl) (d 2) (hd 2) k c).trans (congrArg (· + _) ?_)
  refine (rd_csH M _ _ _ 1 q hq off1 ho1 inb1 v (t 1) (fun _ => rfl) (d 1) (hd 1) k c).trans (congrArg (· + _) ?_)
  exact rd_csH M _ _ _ 0 q hq off0 ho0 inb0 v (t 0) (fun _ => rfl) (d 0) (hd 0) k c

/-- Three stores, one per row, each adding column sums to what the stores before it left. -/
def stepF (M : Memref sig .tc .vmem S3x4096 .f32) (L : Stores Ideal) (off : Fin 2 → ℕ) (inb : ∀ a, off a + S1x1024.size a ≤ S3x4096.size a) (v : FVec Ideal S1x1 .f32) (t : FVec Ideal S1024x1024 .f32) : Stores Ideal :=
  ⟨Rect.unit (s := S3x4096) off S1x1024.size inb, csF v t (View.readAt (Elt Ideal) M.view (Rect.unit (s := S3x4096) off S1x1024.size inb).toLoadRect (M.view.writes (Elt Ideal) M.view.junk L))⟩ :: L

def threeFn (M : Memref sig .tc .vmem S3x4096 .f32) (L : Stores Ideal) (off0 off1 off2 : Fin 2 → ℕ) (inb0 : ∀ a, off0 a + S1x1024.size a ≤ S3x4096.size a) (inb1 : ∀ a, off1 a + S1x1024.size a ≤ S3x4096.size a) (inb2 : ∀ a, off2 a + S1x1024.size a ≤ S3x4096.size a)
    (v : FVec Ideal S1x1 .f32) (t : Fin 3 → FVec Ideal S1024x1024 .f32) : Stores Ideal :=
  stepF M (stepF M (stepF M L off0 inb0 v (t 0)) off1 inb1 v (t 1)) off2 inb2 v (t 2)

theorem rd_threeFn (M : Memref sig .tc .vmem S3x4096 .f32) (L : Stores Ideal) (q : ℕ) (hq : q + 1024 ≤ 4096) (off0 off1 off2 : Fin 2 → ℕ)
    (ho0 : off0 = ![0, q]) (ho1 : off1 = ![1, q]) (ho2 : off2 = ![2, q]) (inb0 : ∀ a, off0 a + S1x1024.size a ≤ S3x4096.size a) (inb1 : ∀ a, off1 a + S1x1024.size a ≤ S3x4096.size a) (inb2 : ∀ a, off2 a + S1x1024.size a ≤ S3x4096.size a) (v : FVec Ideal S1x1 .f32) (t : Fin 3 → FVec Ideal S1024x1024 .f32)
    (d : Fin 3 → ℕ → EReal) (hd : ∀ (k : Fin 3) (j : Fin 1024), v (ix2 0 0) * ∑ r : Fin 1024, t k (ix2 r j) = d k j.val) (k : Fin 3) (c : Fin 4096) :
    rd M (M.view.writes (Elt Ideal) M.view.junk (threeFn M L off0 off1 off2 inb0 inb1 inb2 v t)) k c = rd M (M.view.writes (Elt Ideal) M.view.junk L) k c + into k q 1024 (d k) k c.val := by
  rw [← into_three]
  refine (rd_csF M _ _ _ 2 q hq off2 ho2 inb2 v (t 2) (fun _ => rfl) (d 2) (hd 2) k c).trans (congrArg (· + _) ?_)
  refine (rd_csF M _ _ _ 1 q hq off1 ho1 inb1 v (t 1) (fun _ => rfl) (d 1) (hd 1) k c).trans (congrArg (· + _) ?_)
  exact rd_csF M _ _ _ 0 q hq off0 ho0 inb0 v (t 0) (fun _ => rfl) (d 0) (hd 0) k c

section
variable {S : Sys} {L : ℝ}
variable {i : grid0.Coords} (arg1 : Memref sig .tc .vmem S1024x3 .f32) (harg1 : arg1.IsWhole) (arg2 : Memref sig .tc .vmem S3x4096 .f32) (harg2 : arg2.IsWhole)
  (arg3 : Memref sig .tc .vmem S1024x20 .f32) (harg3 : arg3.IsWhole) (arg4 : Memref sig .tc .vmem S20x4096 .f32) (harg4 : arg4.IsWhole)
  (arg5 : Memref sig .tc .vmem S20x20 .f32) (harg5 : arg5.IsWhole) (arg6 : Memref sig .tc .vmem S20x20 .f32) (harg6 : arg6.IsWhole)
  (arg7 : Memref sig .tc .vmem S20x20 .f32) (harg7 : arg7.IsWhole) (arg10 : Memref sig .tc .vmem S1x3 .f32) (harg10 : arg10.IsWhole)
  {x1 : Vec Ideal S1024x3 .f32} {x2 : Vec Ideal S3x4096 .f32} {x3 : Vec Ideal S1024x20 .f32} {x4 : Vec Ideal S20x4096 .f32}
  {x5 x6 x7 : Vec Ideal S20x20 .f32} {x10 : Vec Ideal S1x3 .f32}
variable (hB : Blocks S L (i 0).val x1 x2 x3 x4 x5 x6 x7 x10)

/-- The second buffer: the bonded forces, and the columns of the blocks beside and beyond the diagonal. -/
theorem first_cols (c : Dev nD) (i : grid0.Coords)
    (arg1 : Memref sig .tc .vmem S1024x3 .f32) (harg1 : arg1.IsWhole)
    (arg2 : Memref sig .tc .vmem S3x4096 .f32) (harg2 : arg2.IsWhole)
    (arg3 : Memref sig .tc .vmem S1024x20 .f32) (harg3 : arg3.IsWhole)
    (arg4 : Memref sig .tc .vmem S20x4096 .f32) (harg4 : arg4.IsWhole)
    (arg5 : Memref sig .tc .vmem S20x20 .f32) (harg5 : arg5.IsWhole)
    (arg6 : Memref sig .tc .vmem S20x20 .f32) (harg6 : arg6.IsWhole)
    (arg7 : Memref sig .tc .vmem S20x20 .f32) (harg7 : arg7.IsWhole)
    (arg8 : Memref sig .tc .vmem S2x4095 .f32) (harg8 : arg8.IsWhole)
    (arg9 : Memref sig .tc .vmem S3x4093 .f32) (harg9 : arg9.IsWhole)
    (arg10 : Memref sig .tc .vmem S1x3 .f32) (harg10 : arg10.IsWhole)
    (arg11 : Memref sig .tc .vmem S1024x3 .f32) (harg11 : arg11.IsWhole)
    (arg12 : Memref sig .tc .vmem S3x4096 .f32) (harg12 : arg12.IsWhole)
    (arg13 : Memref sig .tc .vmem S1x1 .f32) (harg13 : arg13.IsWhole)
    (x1 : Vec Ideal S1024x3 .f32) (x2 : Vec Ideal S3x4096 .f32) (x3 : Vec Ideal S1024x20 .f32) (x4 : Vec Ideal S20x4096 .f32) (x5 x6 x7 : Vec Ideal S20x20 .f32) (x8 : Vec Ideal S2x4095 .f32) (x9 : Vec Ideal S3x4093 .f32) (x10 : Vec Ideal S1x3 .f32) (hB : Blocks S L (i 0).val x1 x2 x3 x4 x5 x6 x7 x10)
    (hc1 : k0_cond1 i = 1#1) (hc2 : k0_cond2 i = 1#1) (hc3 : ¬ k0_cond3 i = 1#1)
    (hv : ∀ j < 4094, dotR (crossR (bvec S L j) (bvec S L (j + 1))) (crossR (bvec S L j) (bvec S L (j + 1))) ≠ 0)
    (B F0 F3 T : Fin 3 → ℕ → EReal) (hBd : ∀ (k : Fin 3) (j : Fin 4095), bondF (bvec S L j) (x8 (ix2 0 j)) (x8 (ix2 1 j)) k = B k j.val)
    (hF0 : ∀ (k : Fin 3) (j : Fin 4093), torF0 (bvec S L j) (bvec S L (j + 1)) (bvec S L (j + 2)) (x9 (ix2 0 j)) (x9 (ix2 1 j)) (x9 (ix2 2 j)) k = F0 k j.val)
    (hF3 : ∀ (k : Fin 3) (j : Fin 4093), torF3 (bvec S L j) (bvec S L (j + 1)) (bvec S L (j + 2)) (x9 (ix2 0 j)) (x9 (ix2 1 j)) (x9 (ix2 2 j)) k = F3 k j.val)
    (hT : ∀ (k : Fin 3) (j : Fin 4093), torS (bvec S L j) (bvec S L (j + 1)) (bvec S L (j + 2)) (x9 (ix2 0 j)) (x9 (ix2 1 j)) (x9 (ix2 2 j)) k = T k j.val) (k : Fin 3) (q : Fin 4096) :
    (runFirst (F := Ideal) c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 x9 x10 hc1 hc2 hc3).1.2.1 (ix2 k q)
      = dihCol k (F0 k) (F3 k) (T k) (bondCol k (B k) 0 k q.val) k q.val + into k (1024 * (i 0).val + 512) 512 (colHalf S L i k) k q.val
        + into k (1024 * (i 0).val + 1024) 1024 (colFull S L i (1024 * (i 0).val + 1024) k) k q.val
        + ∑ m ∈ Finset.range (k0_t1_loop i).trips, into k (1024 * ((i 0).val + m) + 2048) 1024 (colFull S L i (1024 * ((i 0).val + m) + 2048) k) k q.val := by
  have hi := coord_lt i
  have hi' := trips_eq i hc2
  have hh := hd_half arg1 harg1 arg2 harg2 arg3 harg3 arg4 harg4 arg5 harg5 arg10 harg10 hB
  have hf := hd_corner arg1 harg1 arg2 harg2 arg3 harg3 arg4 harg4 arg5 harg5 arg10 harg10 hB hc2
  have ht := hd_trip arg1 harg1 arg2 harg2 arg3 harg3 arg4 harg4 arg5 harg5 arg10 harg10 hB hc2
  show rd arg12 (arg12.view.writes (Elt Ideal) arg12.view.junk (_ ++ _)) k q = _
  refine (congrArg (fun f => rd arg12 f k q) (writes_append arg12 _ _ _)).trans ?_
  refine (st_cols c i arg1 harg1 arg2 harg2 arg3 harg3 arg4 harg4 arg5 harg5 arg6 harg6 arg7 harg7 arg8 harg8 arg9 harg9 arg10 harg10 arg11 harg11 arg12 harg12 arg13 harg13 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) (colScale (ldBox arg10 harg10 x10 ![0, 0] inb_S1x3_S1x1_0_0)) hc2 _ x1 x2 x4 _ _ _ ht (k0_t1_loop i).trips le_rfl k q).trans (congrArg (· + _) ?_)
  show rd arg12 (arg12.view.writes (Elt Ideal) arg12.view.junk (threeFn arg12 (threeHn arg12 (runFirst.sl.H12_21 (F := Ideal) c arg2 harg2 arg8 harg8 arg9 harg9 arg10 harg10 arg12 x2 x8 x9 x10) (k0_off5 i) (k0_off6 i) (k0_off7 i) (k0_off5_inb i) (k0_off6_inb i) (k0_off7_inb i)
    (colScale (ldBox arg10 harg10 x10 ![0, 0] inb_S1x3_S1x1_0_0)) (tDC i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)))) (k0_off9 i) (k0_off10 i) (k0_off11 i) (k0_off9_inb i hc2) (k0_off10_inb i hc2) (k0_off11_inb i hc2)
    (colScale (ldBox arg10 harg10 x10 ![0, 0] inb_S1x3_S1x1_0_0)) (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) hc2))) k q = _
  rw [rd_threeFn arg12 _ (1024 * (i 0).val + 1024) (by omega) _ _ _ (off9_eq i) (off10_eq i) (off11_eq i) _ _ _ _ _ (colFull S L i (1024 * (i 0).val + 1024)) hf,
    rd_threeHn arg12 _ (1024 * (i 0).val + 512) (by omega) _ _ _ (off5_eq i) (off6_eq i) (off7_eq i) _ _ _ _ _ (colHalf S L i) hh, list_bonded]
  have hb : ∀ (k : Fin 3) (i0 i1 ib) (j : Fin 4095), bvOp (ldLine arg2 harg2 x2 ![k, 0] i0) (ldLine arg2 harg2 x2 ![k, 1] i1) (ldBox arg10 harg10 x10 ![0, k] ib) (ix2 0 j) = ((bvec S L j k : ℝ) : EReal) := by
    intro k i0 i1 ib j
    refine bvOp_real _ _ _ j _ _ L ((ldLine_apply arg2 harg2 x2 0 k (by omega) i0 j).trans ((hB.h2 _ _).trans ?_)) ((ldLine_apply arg2 harg2 x2 1 k (by omega) i1 j).trans ((hB.h2 _ _).trans ?_))
      ((ldBox_apply arg10 harg10 x10 k ib).trans (hB.h10 k))
    · show ((S.U (0 + j.val) k : ℝ) : EReal) = _
      rw [Nat.zero_add]
    · show ((S.U (1 + j.val) k : ℝ) : EReal) = _
      rw [Nat.add_comm]
  exact congrArg (· + _ + _) (rd_bonded arg12 _ _ _ _ _ _ _ _ (bvec S L) (fun j => x8 (ix2 0 j)) (fun j => x8 (ix2 1 j)) (fun j => x9 (ix2 0 j)) (fun j => x9 (ix2 1 j)) (fun j => x9 (ix2 2 j))
    (hb 0 _ _ _) (hb 1 _ _ _) (hb 2 _ _ _) (fun j => ldBond_apply arg8 harg8 x8 0 _ j) (fun j => ldBond_apply arg8 harg8 x8 1 _ j)
    (fun j => ldTor_apply arg9 harg9 x9 0 _ j) (fun j => ldTor_apply arg9 harg9 x9 1 _ j) (fun j => ldTor_apply arg9 harg9 x9 2 _ j) hv B F0 F3 T hBd hF0 hF3 hT k q)

end

end Cert.Proof.Energy

end
-- ==== Proof.ForceSums.lean ====
/-
  The rows' sums and the columns' sums over the grid points: together every pair once.
-/
module

public import proofs.«01_k».proof.Proof.FirstStores

@[expose] public section

noncomputable section

namespace Cert.Proof.Energy

open Cert.KernelIdeal Cert.KernelIdeal.Gen
open Idealize.ShloMosaic Finset

variable (S : Sys) (L : ℝ)

/-- What the half block on the diagonal gives column `q`. -/
def halfCol (k : Fin 3) (q : ℕ) : ℝ := ∑ r ∈ range 512, S.G k (512 * (q / 512) + r) q

/-- What the rows of the block from `1024 * t` give column `q`, without the half blocks on the diagonal. -/
def colT (k : Fin 3) (t q : ℕ) : ℝ := (∑ r ∈ range 1024, S.G k (1024 * t + r) q) - if q / 1024 = t then halfCol S k q else 0

/-- The bonds' and the dihedrals' forces, by number. -/
def bondAt (x2 : FVec Ideal ⟨2, ![4095, 2]⟩ .f32) (k : Fin 3) (j : ℕ) : EReal :=
  if h : j < 4095 then bondF (bvec S L j) (x2 (ix2 ⟨j, h⟩ 0)) (x2 (ix2 ⟨j, h⟩ 1)) k else 0
def dihAt (f : (Fin 3 → ℝ) → (Fin 3 → ℝ) → (Fin 3 → ℝ) → EReal → EReal → EReal → Fin 3 → EReal) (x5 : FVec Ideal ⟨2, ![4093, 3]⟩ .f32) (k : Fin 3) (j : ℕ) : EReal :=
  if h : j < 4093 then f (bvec S L j) (bvec S L (j + 1)) (bvec S L (j + 2)) (x5 (ix2 ⟨j, h⟩ 0)) (x5 (ix2 ⟨j, h⟩ 1)) (x5 (ix2 ⟨j, h⟩ 2)) k else 0

theorem bondAt_eq (x2 : FVec Ideal ⟨2, ![4095, 2]⟩ .f32) (k : Fin 3) (j : Fin 4095) : bondAt S L x2 k j.val = bondF (bvec S L j) (x2 (ix2 j 0)) (x2 (ix2 j 1)) k := dif_pos j.isLt
theorem dihAt_eq (f : (Fin 3 → ℝ) → (Fin 3 → ℝ) → (Fin 3 → ℝ) → EReal → EReal → EReal → Fin 3 → EReal) (x5 : FVec Ideal ⟨2, ![4093, 3]⟩ .f32) (k : Fin 3) (j : Fin 4093) :
    dihAt S L f x5 k j.val = f (bvec S L j) (bvec S L (j + 1)) (bvec S L (j + 2)) (x5 (ix2 j 0)) (x5 (ix2 j 1)) (x5 (ix2 j 2)) k := dif_pos j.isLt

/-- What the bonds and the dihedrals together give component `k` of atom `q`. -/
def bondedFrc (x2 : FVec Ideal ⟨2, ![4095, 2]⟩ .f32) (x5 : FVec Ideal ⟨2, ![4093, 3]⟩ .f32) (k : Fin 3) (q : ℕ) : EReal :=
  dihCol k (dihAt S L torF0 x5 k) (dihAt S L torF3 x5 k) (dihAt S L torS x5 k) (bondCol k (bondAt S L x2 k) 0 k q) k q

theorem row_total (k : Fin 3) (I r : ℕ) (hr : r < 1024) :
    (if r < 512 then (∑ c : Fin 512, (S.G k (1024 * I + 0 + r) (1024 * I + 0 + c) - S.G k (1024 * I + 0 + c) (1024 * I + 0 + r)))
            + ∑ c : Fin 512, S.G k (1024 * I + 0 + r) (1024 * I + 0 + 512 + c)
          else ∑ c : Fin 512, (S.G k (1024 * I + 512 + (r - 512)) (1024 * I + 512 + c) - S.G k (1024 * I + 512 + c) (1024 * I + 512 + (r - 512))))
      = (∑ c ∈ range (1024 * I + 1024), S.G k (1024 * I + r) c) - halfCol S k (1024 * I + r) := by
  unfold halfCol
  by_cases h : r < 512
  · rw [if_pos h, show 512 * ((1024 * I + r) / 512) = 1024 * I by omega, show 1024 * I + 1024 = 1024 * I + 512 + 512 by omega, sum_range_add, sum_range_add,
      sum_eq_zero (s := range (1024 * I)) (fun c hc => S.G_zero (by have := mem_range.mp hc; omega)), zero_add, sum_sub_distrib,
      Finset.sum_range (fun c => S.G k (1024 * I + r) (1024 * I + c)), Finset.sum_range (fun c => S.G k (1024 * I + r) (1024 * I + 512 + c)),
      Finset.sum_range (fun c => S.G k (1024 * I + c) (1024 * I + r))]
    simp only [Nat.add_zero]
    ring
  · rw [if_neg h, show 512 * ((1024 * I + r) / 512) = 1024 * I + 512 by omega, show 1024 * I + 1024 = 1024 * I + 512 + 512 by omega, sum_range_add,
      sum_eq_zero (s := range (1024 * I + 512)) (fun c hc => S.G_zero (by have := mem_range.mp hc; omega)), zero_add, sum_sub_distrib,
      Finset.sum_range (fun c => S.G k (1024 * I + r) (1024 * I + 512 + c)), Finset.sum_range (fun c => S.G k (1024 * I + 512 + c) (1024 * I + r)),
      show 1024 * I + 512 + (r - 512) = 1024 * I + r by omega]

theorem row_rest (k : Fin 3) (I n r : ℕ) (hI : n + I = 2) :
    (∑ c ∈ range (1024 * I + 1024), S.G k (1024 * I + r) c) - halfCol S k (1024 * I + r) + (∑ c : Fin 1024, S.G k (1024 * I + r) (1024 * I + 1024 + c))
      + ∑ c ∈ range (1024 * n), S.G k (1024 * I + r) (1024 * I + 2048 + c)
      = (∑ c ∈ range 4096, S.G k (1024 * I + r) c) - halfCol S k (1024 * I + r) := by
  rw [show range 4096 = range (1024 * I + 1024 + 1024 + 1024 * n) by congr 1; omega, sum_range_add _ (1024 * I + 1024 + 1024) (1024 * n), sum_range_add _ (1024 * I + 1024) 1024,
    Finset.sum_range (fun c => S.G k (1024 * I + r) (1024 * I + 1024 + c))]
  simp only [Nat.add_assoc, Nat.reduceAdd]
  ring

theorem into_full (i : grid0.Coords) (k : Fin 3) (q0 q : ℕ) : into k q0 1024 (colFull S L i q0 k) k q
    = if q0 ≤ q ∧ q < q0 + 1024 then ((-6 * L * ∑ r ∈ range 1024, S.G k (1024 * (i 0).val + r) q : ℝ) : EReal) else 0 := by
  unfold into
  by_cases h : q0 ≤ q ∧ q < q0 + 1024
  · rw [if_pos ⟨rfl, h⟩, if_pos h, colFull, show q0 + (q - q0) = q by omega, Finset.sum_range (fun r => S.G k (1024 * (i 0).val + r) q)]
  · rw [if_neg h, if_neg fun h' => h h'.2]

theorem into_half (i : grid0.Coords) (k : Fin 3) (q : ℕ) : into k (1024 * (i 0).val + 512) 512 (colHalf S L i k) k q
    = if 1024 * (i 0).val + 512 ≤ q ∧ q < 1024 * (i 0).val + 1024 then ((-6 * L * ∑ r ∈ range 512, S.G k (1024 * (i 0).val + r) q : ℝ) : EReal) else 0 := by
  unfold into
  by_cases h : 1024 * (i 0).val + 512 ≤ q ∧ q < 1024 * (i 0).val + 1024
  · rw [if_pos ⟨rfl, by omega⟩, if_pos h, colHalf, Finset.sum_range (fun r => S.G k (1024 * (i 0).val + r) q),
      show 1024 * (i 0).val + 0 + 512 + (q - (1024 * (i 0).val + 512)) = q by omega]
    rfl
  · rw [if_neg h, if_neg fun h' => h ⟨h'.2.1, by omega⟩]

theorem trips_full (I n q : ℕ) (z : EReal) : ∑ m ∈ range n, (if 1024 * (I + m) + 2048 ≤ q ∧ q < 1024 * (I + m) + 2048 + 1024 then z else 0)
    = if 1024 * I + 2048 ≤ q ∧ q < 1024 * I + 2048 + 1024 * n then z else 0 := by
  induction n with
  | zero => rw [sum_range_zero, if_neg (by omega)]
  | succ n ih =>
    rw [sum_range_succ, ih]
    split_ifs <;> first | omega | simp

/-- The blocks beside the diagonal. -/
theorem colT_diag (k : Fin 3) (I q : ℕ) (hq : q < 1024 * I + 1024) :
    colT S k I q = if 1024 * I + 512 ≤ q then ∑ r ∈ range 512, S.G k (1024 * I + r) q else 0 := by
  unfold colT
  rw [show range 1024 = range (512 + 512) from rfl, sum_range_add]
  by_cases h : 1024 * I + 512 ≤ q
  · rw [if_pos h, if_pos (by omega), halfCol, show 512 * (q / 512) = 1024 * I + 512 by omega]
    simp only [Nat.add_assoc]
    ring
  · rw [if_neg h, sum_eq_zero (f := fun r => S.G k (1024 * I + (512 + r)) q) (fun r _ => S.G_zero (by omega)), add_zero]
    by_cases h' : 1024 * I ≤ q
    · rw [if_pos (by omega), halfCol, show 512 * (q / 512) = 1024 * I by omega, sub_self]
    · rw [if_neg (by omega), sum_eq_zero (f := fun r => S.G k (1024 * I + r) q) (fun r _ => S.G_zero (by omega)), sub_zero]

theorem point_cols (i : grid0.Coords) (n : ℕ) (hn : n + (i 0).val = 2) (k : Fin 3) (q : ℕ) (hq : q < 4096) :
    into k (1024 * (i 0).val + 512) 512 (colHalf S L i k) k q + into k (1024 * (i 0).val + 1024) 1024 (colFull S L i (1024 * (i 0).val + 1024) k) k q
      + ∑ m ∈ range n, into k (1024 * ((i 0).val + m) + 2048) 1024 (colFull S L i (1024 * ((i 0).val + m) + 2048) k) k q
      = ((-6 * L * colT S k (i 0).val q : ℝ) : EReal) := by
  simp only [into_full, into_half, trips_full]
  by_cases h : q < 1024 * (i 0).val + 1024
  · rw [colT_diag S k _ q h, if_neg (c := 1024 * (i 0).val + 1024 ≤ q ∧ q < 1024 * (i 0).val + 1024 + 1024) (by omega),
      if_neg (c := 1024 * (i 0).val + 2048 ≤ q ∧ q < 1024 * (i 0).val + 2048 + 1024 * n) (by omega), add_zero, add_zero]
    by_cases h' : 1024 * (i 0).val + 512 ≤ q
    · rw [if_pos ⟨h', h⟩, if_pos h']
    · rw [if_neg (by omega), if_neg h', mul_zero]
      rfl
  · rw [if_neg (c := 1024 * (i 0).val + 512 ≤ q ∧ q < 1024 * (i 0).val + 1024) (by omega), zero_add, colT, if_neg (c := q / 1024 = (i 0).val) (by omega), sub_zero]
    by_cases h' : q < 1024 * (i 0).val + 2048
    · rw [if_pos (by omega), if_neg (by omega), add_zero]
    · rw [if_neg (by omega), if_pos (by omega), zero_add]

theorem last_point_cols (i : grid0.Coords) (hi : (i 0).val = 3) (k : Fin 3) (q : ℕ) (hq : q < 4096) :
    into k (1024 * (i 0).val + 512) 512 (colHalf S L i k) k q = ((-6 * L * colT S k (i 0).val q : ℝ) : EReal) := by
  rw [into_half, colT_diag S k _ q (by omega)]
  by_cases h' : 1024 * (i 0).val + 512 ≤ q
  · rw [if_pos ⟨h', by omega⟩, if_pos h']
  · rw [if_neg (by omega), if_neg h', mul_zero]
    rfl

theorem cols_total (k : Fin 3) (q : ℕ) (hq : q < 4096) : ∑ t ∈ range 4, colT S k t q = (∑ r ∈ range 4096, S.G k r q) - halfCol S k q := by
  unfold colT
  rw [sum_sub_distrib, sum_ite_eq, if_pos (mem_range.mpr (by omega)), show range 4096 = range (1024 + 1024 + 1024 + 1024) from rfl,
    sum_range_add _ (1024 + 1024 + 1024) 1024, sum_range_add _ (1024 + 1024) 1024, sum_range_add _ 1024 1024]
  simp only [sum_range_succ _ 3, sum_range_succ _ 2, sum_range_succ _ 1, sum_range_succ _ 0, sum_range_zero, Nat.mul_zero, Nat.zero_add, Nat.mul_one, Nat.reduceMul, Nat.reduceAdd, zero_add]

end Cert.Proof.Energy

end
-- ==== Proof.PointRows.lean ====
/-
  Each grid point's rows of forces as one expression in the positions.
-/
module

public import proofs.«01_k».proof.Proof.ForceSums
public import proofs.«01_k».proof.Proof.KernelValue

@[expose] public section

set_option maxRecDepth 16384

noncomputable section

namespace Cert.Proof.Energy

open Cert.KernelIdeal Cert.KernelIdeal.Gen Cert.Proof.KernelIdeal
open Idealize.ShloMosaic Idealize.ShloMosaic.TcCoe

/-- Atom `a`'s row of pairs, less the half block on the diagonal. -/
def rowValue (S : Sys) (L : ℝ) (k : Fin 3) (a : ℕ) : EReal := ((6 * L * ((∑ c ∈ Finset.range 4096, S.G k a c) - halfCol S k a) : ℝ) : EReal)

section
variable {S : Sys} {L : ℝ} {i : grid0.Coords}
  (arg1 : Memref sig .tc .vmem S1024x3 .f32) (harg1 : arg1.IsWhole) (arg2 : Memref sig .tc .vmem S3x4096 .f32) (harg2 : arg2.IsWhole)
  (arg3 : Memref sig .tc .vmem S1024x20 .f32) (harg3 : arg3.IsWhole) (arg4 : Memref sig .tc .vmem S20x4096 .f32) (harg4 : arg4.IsWhole)
  (arg5 : Memref sig .tc .vmem S20x20 .f32) (harg5 : arg5.IsWhole) (arg6 : Memref sig .tc .vmem S20x20 .f32) (harg6 : arg6.IsWhole)
  (arg7 : Memref sig .tc .vmem S20x20 .f32) (harg7 : arg7.IsWhole) (arg10 : Memref sig .tc .vmem S1x3 .f32) (harg10 : arg10.IsWhole)
  {x1 : Vec Ideal S1024x3 .f32} {x2 : Vec Ideal S3x4096 .f32} {x3 : Vec Ideal S1024x20 .f32} {x4 : Vec Ideal S20x4096 .f32}
  {x5 x6 x7 : Vec Ideal S20x20 .f32} {x10 : Vec Ideal S1x3 .f32}
variable (hB : Blocks S L (i 0).val x1 x2 x3 x4 x5 x6 x7 x10)
include hB

theorem loop_rows (h : k0_cond2 i = 1#1) (k : Fin 3) (r : Fin 1024) :
    rowScale (ldBox arg10 harg10 x10 ![0, 0] inb_S1x3_S1x1_0_0) (ix2 0 0) * (loopT i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) h k (addf (rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) k) (rsF (tCF i arg1 harg1 arg2 harg2 arg4 harg4 x1 x2 x4 (pB (ldHot arg3 harg3 x3 ![0, 0] inb_S1024x20_S1024x20_0_0) (ldC0 arg5 harg5 x5 ![0, 0] inb_S20x20_S20x20_0_0)) (ibOp (ldBox arg10 harg10 x10 ![0, 0] inb_S1x3_S1x1_0_0)) h k))) (k0_t1_loop i).trips) (ix2 r 0)
      = rowValue S L k (1024 * (i 0).val + r) := by
  have hbox : ldBox arg10 harg10 x10 ![0, 0] inb_S1x3_S1x1_0_0 (ix2 0 0) = (L : EReal) := (ldBox_apply arg10 harg10 x10 0 _).trans (hB.h10 0)
  rw [rowScale_real _ L hbox, loopT_real arg1 harg1 arg2 harg2 arg3 harg3 arg4 harg4 arg5 harg5 arg10 harg10 hB h k _
    (fun r => ((∑ c ∈ Finset.range (1024 * (i 0).val + 1024), S.G k (1024 * (i 0).val + r) c) - halfCol S k (1024 * (i 0).val + r)) + ∑ c : Fin 1024, S.G k (1024 * (i 0).val + r) (1024 * (i 0).val + 1024 + c))
    (fun r => ?_) _ le_rfl r, row_rest S k _ _ r.val (trips_eq i h), ← EReal.coe_mul]
  · rfl
  · refine (congrArg₂ (· + ·) ((rowsT_real arg1 harg1 arg2 harg2 arg3 harg3 arg4 harg4 arg5 harg5 arg6 harg6 arg7 harg7 arg10 harg10 hB k r).trans (congrArg _ (row_total S k _ r.val r.isLt)))
      ((rsF_apply _ r).trans ((Finset.sum_congr rfl fun c _ => tCF_real arg1 harg1 arg2 harg2 arg3 harg3 arg4 harg4 arg5 harg5 arg10 harg10 hB h k r c).trans (coe_sum _)))).trans ?_
    rw [← EReal.coe_add]

theorem end_rows (h : (i 0).val = 3) (k : Fin 3) (r : Fin 1024) :
    rowScale (ldBox arg10 harg10 x10 ![0, 0] inb_S1x3_S1x1_0_0) (ix2 0 0) * rowsT i arg1 harg1 arg2 harg2 arg4 harg4 x1 x2 x4 (pB (ldHot arg3 harg3 x3 ![0, 0] inb_S1024x20_S1024x20_0_0) (ldC0 arg5 harg5 x5 ![0, 0] inb_S20x20_S20x20_0_0)) (pB (ldHot arg3 harg3 x3 ![0, 0] inb_S1024x20_S1024x20_0_0) (ldC arg6 harg6 x6 ![0, 0] inb_S20x20_S20x20_0_0)) (pB (ldHot arg3 harg3 x3 ![0, 0] inb_S1024x20_S1024x20_0_0) (ldC arg7 harg7 x7 ![0, 0] inb_S20x20_S20x20_0_0)) (ibOp (ldBox arg10 harg10 x10 ![0, 0] inb_S1x3_S1x1_0_0)) k (ix2 r 0)
      = rowValue S L k (1024 * (i 0).val + r) := by
  have hbox : ldBox arg10 harg10 x10 ![0, 0] inb_S1x3_S1x1_0_0 (ix2 0 0) = (L : EReal) := (ldBox_apply arg10 harg10 x10 0 _).trans (hB.h10 0)
  rw [rowScale_real _ L hbox, rowsT_real arg1 harg1 arg2 harg2 arg3 harg3 arg4 harg4 arg5 harg5 arg6 harg6 arg7 harg7 arg10 harg10 hB k r, row_total S k _ r.val r.isLt, ← EReal.coe_mul]
  unfold rowValue
  rw [show 1024 * (i 0).val + 1024 = 4096 by omega]

end

end Cert.Proof.Energy

end
-- ==== Proof.KernelRun.lean ====
/-
  The run of the kernel, at the energy.
-/
module

public import proofs.«01_k».proof.Proof.KernelValue

@[expose] public section

set_option maxRecDepth 16384

noncomputable section

namespace Cert.Proof.Energy

open Cert.KernelIdeal Cert.KernelIdeal.Gen Cert.Proof.KernelIdeal
open Idealize.ShloMosaic Idealize.ShloMosaic.TcCoe Idealize.SL.Sem

variable (m : (ℓ : Loc nD τ sig) → Buf (Elt Ideal) ℓ) (g : Dev nD → PrngReg)

theorem one (i : S1x1.Idx) : i = ix2 0 0 := by
  funext a
  fin_cases a <;> exact Subsingleton.elim (α := Fin 1) _ _

theorem out_pot (c : Dev nD) (hn : 3 < cfg0.N) : ((dats m 0 c).arrAt 12 (cfgs 0).N : FVec Ideal S1x1 .f32) = (outsN m c 3 hn).2.2 := by
  refine (dats m 0 c).arrAt_eq_of_covers 12 _ (by decide +kernel) fun t hf y => ?_
  have h3 : t.val = 3 := by
    have h := (flush0_12 t).mp hf
    have h4 : t.val < 4 := t.isLt
    omega
  blk_simp
  rw [after0_12]
  obtain ⟨n, hn'⟩ := t
  obtain rfl : n = 3 := h3
  exact congrArg (outsN m c 3 hn).2.2 ((one y).trans (one _).symm)

theorem kernel_run : θ_run (defs (F := Ideal)) (onTc (τ := τ) (main (F := Ideal))) ⟨m, fun _ => 0, g⟩ (fun r => ∀ c : Dev nD,
    (∀ i, (r.2.mem ((c : Thread nD τ).loc main_v28) : FVec Ideal S_ .f32) i = (outsN m c 3 (by have : cfg0.N = 4 := N_0; omega)).2.2 (ix2 0 0))
) := by
  run_from θ_run_mono (KernelIdeal.run_main (F := Ideal) m g) fun _ h => h.1
  intro i
  unfold Pipeline.afterTail₀
  after_reads_simp
  refine (congrArg (Pipeline.withArrays (cfgs 0).spec c (V0 m c) (fun w => (dats m 0 c).arrAt w (cfgs 0).N) (Proc.tc.devRef main_v25_2) : FVec Ideal S1x1 .f32) (one _)).trans ?_
  refine (congrFun (Pipeline.withArrays_arr (cfgs 0).spec (by decide +kernel) c (V0 m c) (fun w => (dats m 0 c).arrAt w (cfgs 0).N) 12) _).trans ?_
  exact congrFun (out_pot m c _) _

end Cert.Proof.Energy

end
-- ==== Proof.ForceValue.lean ====
/-
  The forces the kernel leaves after each grid point.
-/
module

public import proofs.«01_k».proof.Proof.PointRows
public import proofs.«01_k».proof.Proof.KernelRun

@[expose] public section

set_option maxRecDepth 16384

noncomputable section

namespace Cert.Proof.Energy

open Cert.KernelIdeal Cert.KernelIdeal.Gen Cert.Proof.KernelIdeal
open Idealize.ShloMosaic Idealize.ShloMosaic.TcCoe Idealize.SL.Sem

variable (m : (ℓ : Loc nD τ sig) → Buf (Elt Ideal) ℓ) (c : Dev nD)

section
variable {S : Sys} {L : ℝ} {X : ℕ → Fin 3 → ℝ} (hA : Args S L X (aX m c) (aTypes m c) (aB m c) (aBox m c))
include hA

/-- The rows of point `n`. -/
theorem outs_rows (n : ℕ) (hn : n < cfg0.N) (r : Fin 1024) (k : Fin 3) : (outsN m c n hn).1 (ix2 r k) = rowValue S L k (1024 * n + r) := by
  have hb := coords_val ⟨n, hn⟩
  have hN : cfg0.N = 4 := N_0
  have st : ∀ z : EReal, z = rowValue S L k (1024 * ((grid0.coords ⟨n, hn⟩) 0).val + r) → z = rowValue S L k (1024 * n + r) := fun z hz => by rw [hz, hb]
  refine st _ ?_
  rw [show outsN m c n hn = outs m c ⟨n, hn⟩ from rfl]
  by_cases h0 : n = 0
  · rw [outs_first m c ⟨n, hn⟩ h0]
    refine (first_rows c _ _ _ _ _ _ _ _ _ _ _ _ _ _ _ _ _ _ _ _ _ _ _ _ _ _ _ _ _ _ _ _ _ _ _ _ _ _ _ _ r k).trans ?_
    exact loop_rows _ _ _ _ _ _ _ _ _ _ _ _ _ _ _ _ (blocks_of m c hA ⟨n, hn⟩) _ k r
  · by_cases h : n < 3
    · rw [outs_middle m c ⟨n, hn⟩ h0 h]
      refine (middle_rows c _ _ _ _ _ _ _ _ _ _ _ _ _ _ _ _ _ _ _ _ _ _ _ _ _ _ _ _ _ _ _ _ _ _ _ _ _ _ _ _ _ _ r k).trans ?_
      exact loop_rows _ _ _ _ _ _ _ _ _ _ _ _ _ _ _ _ (blocks_of m c hA ⟨n, hn⟩) _ k r
    · rw [outs_last m c ⟨n, hn⟩ (by show n = 3; omega)]
      refine (last_rows c _ _ _ _ _ _ _ _ _ _ _ _ _ _ _ _ _ _ _ _ _ _ _ _ _ _ _ _ _ _ _ _ _ _ _ _ _ _ _ _ _ _ r k).trans ?_
      exact end_rows _ _ _ _ _ _ _ _ _ _ _ _ _ _ _ _ (blocks_of m c hA ⟨n, hn⟩) (by rw [hb]; show n = 3; omega) k r

/-- The columns after point `n`. -/
theorem outs_cols (n : ℕ) (hn : n < cfg0.N) (k : Fin 3) (q : Fin 4096) :
    (outsN m c n hn).2.1 (ix2 k q) = bondedFrc S L (aBond m c) (aTor m c) k q.val + ((-6 * L * ∑ t ∈ Finset.range (n + 1), colT S k t q.val : ℝ) : EReal) := by
  induction n with
  | zero =>
    have e := outs_first m c ⟨0, hn⟩ rfl
    have hb := coords_val ⟨0, hn⟩
    have e7 : ∀ (a : Fin 2) (j : Fin 4095), (iblk m c 7 ⟨0, hn⟩ : FVec Ideal S2x4095 .f32) (ix2 a j) = aBond m c (ix2 j a) := fun a j => (i7 m c _ a j).trans (V_v21 m c a j)
    have e8 : ∀ (a : Fin 3) (j : Fin 4093), (iblk m c 8 ⟨0, hn⟩ : FVec Ideal S3x4093 .f32) (ix2 a j) = aTor m c (ix2 j a) := fun a j => (i8 m c _ a j).trans (V_v22 m c a j)
    rw [show outsN m c 0 hn = outs m c ⟨0, hn⟩ from rfl, e]
    refine (first_cols c _ _ _ _ _ _ _ _ _ _ _ _ _ _ _ _ _ _ _ _ _ _ _ _ _ _ _ _ _ _ _ _ _ _ _ _ _ (blocks_of m c hA ⟨0, hn⟩) _ _ _ hA.bent
      (bondAt S L (aBond m c)) (dihAt S L torF0 (aTor m c)) (dihAt S L torF3 (aTor m c)) (dihAt S L torS (aTor m c)) (fun k j => ?_) (fun k j => ?_) (fun k j => ?_) (fun k j => ?_) k q).trans ?_
    · rw [e7, e7, bondAt_eq]
    · rw [e8, e8, e8, dihAt_eq]
    · rw [e8, e8, e8, dihAt_eq]
    · rw [e8, e8, e8, dihAt_eq]
    · rw [add_assoc, add_assoc, ← add_assoc (into _ _ _ _ _ _), point_cols S L _ _ (trips_eq _ ((cond2_iff ⟨0, hn⟩).mpr (show (0 : ℕ) < 3 by omega))) k q.val q.isLt, hb, Finset.sum_range_one]
      rfl
  | succ n ih =>
    have hN : cfg0.N = 4 := N_0
    have ih := ih (by omega)
    have hb := coords_val ⟨n + 1, hn⟩
    have st : ∀ z : EReal, z = bondedFrc S L (aBond m c) (aTor m c) k q.val + ((-6 * L * ∑ t ∈ Finset.range (n + 1), colT S k t q.val : ℝ) : EReal) →
        z + ((-6 * L * colT S k (n + 1) q.val : ℝ) : EReal) = bondedFrc S L (aBond m c) (aTor m c) k q.val + ((-6 * L * ∑ t ∈ Finset.range (n + 1 + 1), colT S k t q.val : ℝ) : EReal) := fun z hz => by
      rw [hz, Finset.sum_range_succ _ (n + 1), mul_add, EReal.coe_add, add_assoc]
    by_cases h : n + 1 < 3
    · have e := outs_middle m c ⟨n + 1, hn⟩ (Nat.succ_ne_zero n) h
      rw [show outsN m c (n + 1) hn = outs m c ⟨n + 1, hn⟩ from rfl, e]
      refine (middle_cols c _ _ _ _ _ _ _ _ _ _ _ _ _ _ _ _ _ _ _ _ _ _ _ _ _ _ _ _ _ _ _ _ _ _ _ _ _ _ _ (blocks_of m c hA ⟨n + 1, hn⟩) _ _ _ k q).trans ?_
      rw [add_assoc, add_assoc, ← add_assoc (into _ _ _ _ _ _), point_cols S L _ _ (trips_eq _ ((cond2_iff ⟨n + 1, hn⟩).mpr h)) k q.val q.isLt, hb]
      exact st _ ih
    · have e := outs_last m c ⟨n + 1, hn⟩ (by show n + 1 = 3; omega)
      rw [show outsN m c (n + 1) hn = outs m c ⟨n + 1, hn⟩ from rfl, e]
      refine (last_cols c _ _ _ _ _ _ _ _ _ _ _ _ _ _ _ _ _ _ _ _ _ _ _ _ _ _ _ _ _ _ _ _ _ _ _ _ _ _ _ (blocks_of m c hA ⟨n + 1, hn⟩) _ _ _ k q).trans ?_
      rw [last_point_cols S L _ (by rw [hb]; show n + 1 = 3; omega) k q.val q.isLt, hb]
      exact st _ ih

end

end Cert.Proof.Energy

end
-- ==== Proof.ForceRun.lean ====
/-
  The kernel's run: the energy and the forces it leaves.
-/
module

public import proofs.«01_k».proof.Proof.ForceValue

@[expose] public section

set_option maxRecDepth 16384

noncomputable section

namespace Cert.Proof.Energy

open Cert.KernelIdeal Cert.KernelIdeal.Gen Cert.Proof.KernelIdeal
open Idealize.ShloMosaic Idealize.ShloMosaic.TcCoe Idealize.SL.Sem

variable (m : (ℓ : Loc nD τ sig) → Buf (Elt Ideal) ℓ) (g : Dev nD → PrngReg)

theorem out_cols (c : Dev nD) (hn : 3 < cfg0.N) : ((dats m 0 c).arrAt 11 (cfgs 0).N : FVec Ideal S3x4096 .f32) = (outsN m c 3 hn).2.1 := by
  refine (dats m 0 c).arrAt_eq_of_covers 11 _ (by decide +kernel) fun t hf y => ?_
  have h3 : t.val = 3 := by
    have h := (flush0_11 t).mp hf
    have h4 : t.val < 4 := t.isLt
    omega
  blk_simp
  rw [after0_11]
  obtain ⟨n, hn'⟩ := t
  obtain rfl : n = 3 := h3
  refine congrArg (outsN m c 3 hn).2.1 ?_
  funext a
  fin_cases a <;> exact Fin.ext (by simp; rfl)

section
variable (c : Dev nD) {S : Sys} {L : ℝ} {X : ℕ → Fin 3 → ℝ} (hA : Args S L X (aX m c) (aTypes m c) (aB m c) (aBox m c))
include hA

theorem out_rows : ((dats m 0 c).arrAt 10 (cfgs 0).N : FVec Ideal S4096x3 .f32) = fun i : S4096x3.Idx => rowValue S L (i 1) (i 0).val := by
  refine (dats m 0 c).arrAt_eq_of_covers 10 _ (by decide +kernel) fun t hf y => ?_
  blk_simp
  rw [after0_10]
  have e0 : win0_10.index t 0 = t.val := (by decide +kernel : ∀ t : Fin cfg0.grid.N, win0_10.index t 0 = t.val) t
  have e1 : win0_10.index t 1 = 0 := (by decide +kernel : ∀ t : Fin cfg0.grid.N, win0_10.index t 1 = 0) t
  have ek : (win0_10.blk t).view.emb y 1 = (y 1 : Fin 3) := by
    refine Fin.ext ?_
    simp [e1]
  rw [e0, Nat.mul_comm t.val]
  refine (congrArg (outs m c t).1 (eq_ix2 (n0 := 1024) (n1 := 3) y)).trans ((outs_rows m c hA t.val t.isLt (y 0) (y 1)).trans ?_)
  exact congrArg (fun k => rowValue S L k (1024 * t.val + (y 0).val)) ek.symm

end

/-- The row totals at the end of the run. -/
def rowsOf (c : Dev nD) : FVec Ideal S4096x3 .f32 := (dats m 0 c).arrAt 10 (cfgs 0).N

/-- The column totals at the end of the run. -/
def colsOf (c : Dev nD) : FVec Ideal S3x4096 .f32 := (dats m 0 c).arrAt 11 (cfgs 0).N

theorem forces_run : θ_run (defs (F := Ideal)) (onTc (τ := τ) (main (F := Ideal))) ⟨m, fun _ => 0, g⟩ (fun r => ∀ c : Dev nD,
    ∀ (i : Fin 4096) (k : Fin 3), (r.2.mem ((c : Thread nD τ).loc main_v27) : FVec Ideal S4096x3 .f32) (ix2 i k)
      = rowsOf m c (ix2 i k) + colsOf m c (ix2 k i)) := by
  run_from θ_run_mono (KernelIdeal.run_main (F := Ideal) m g) fun _ h => h.1
  intro i k
  unfold Pipeline.afterTail₀
  after_reads_simp
  have e0 := congrFun (Pipeline.withArrays_arr (cfgs 0).spec (by decide +kernel) c (V0 m c) (fun w => (dats m 0 c).arrAt w (cfgs 0).N) 10) (ix2 i k)
  have e1 := congrFun (Pipeline.withArrays_arr (cfgs 0).spec (by decide +kernel) c (V0 m c) (fun w => (dats m 0 c).arrAt w (cfgs 0).N) 11) (ix2 k i)
  refine congrArg₂ (fun a b : EReal => a + b) e0 (Eq.trans ?_ e1)
  refine congrArg (Pipeline.withArrays (cfgs 0).spec c (V0 m c) (fun w => (dats m 0 c).arrAt w (cfgs 0).N) (Proc.tc.devRef main_v25_1) : FVec Ideal S3x4096 .f32) ?_
  funext a
  fin_cases a <;> rfl

/-- A row's total with its column's: what the first has of the column is what the second lacks. -/
theorem out_forces (c : Dev nD) {S : Sys} {L : ℝ} {X : ℕ → Fin 3 → ℝ} (hA : Args S L X (aX m c) (aTypes m c) (aB m c) (aBox m c)) (i : Fin 4096) (k : Fin 3) :
    rowsOf m c (ix2 i k) + colsOf m c (ix2 k i)
      = bondedFrc S L (aBond m c) (aTor m c) k i.val + ((6 * L * ((∑ q ∈ Finset.range 4096, S.G k i.val q) - ∑ r ∈ Finset.range 4096, S.G k r i.val) : ℝ) : EReal) := by
  have hn : 3 < cfg0.N := by decide +kernel
  have e0 : rowsOf m c (ix2 i k) = rowValue S L k i.val := congrFun (out_rows m c hA) (ix2 i k)
  have e1 : colsOf m c (ix2 k i) = (outsN m c 3 hn).2.1 (ix2 k i) := congrFun (out_cols m c hn) (ix2 k i)
  rw [e0, e1, outs_cols m c hA 3 hn k i, cols_total S k _ i.isLt, rowValue, add_left_comm, ← EReal.coe_add]
  congr 2
  ring

end Cert.Proof.Energy

end
-- ==== Proof.RefScatter.lean ====
/-
  The reference's scatters: rows of updates are added at the rows their words name.
-/
module

public import proofs.«01_k».proof.Proof.RefEnergy
public import proofs.«01_k».proof.Proof.ForceSums

@[expose] public section

noncomputable section

namespace Cert.Proof.Energy

open Idealize.ShloMosaic hiding ix2
open Idealize.ShloMosaic.ValueIdx Idealize.ShloMosaic.Routing Finset

/-- Row `p` of the updates lands at row `x` exactly when its word is `x`. -/
theorem rows_land {R C N : ℕ} (d : ScatterDims (shape2 R C) (shape2 N 1) (shape2 N C)) (huw : d.updateWindowDims = [1]) (hiw : d.insertedWindowDims = [0])
    (hsd : d.scatterDimsToOperandDims = [0]) (hivd : d.indexVectorDim = 1) (idx : IVec (shape2 N 1) 32) (p : Fin N) (k' : Fin C) (x : Fin R) (k : Fin C) :
    d.resultIdx? (ix2 p k') idx = some (ix2 x k) ↔ (idx (ix2 p 0)).toInt = x.val ∧ k' = k := by
  have hkept : d.sKept = [1] := by
    show (shape2 R C).kept d.insertedWindowDims = _
    rw [hiw]
    rfl
  have hwin0 : d.window (ix2 p k') 0 = 0 := by
    unfold ScatterDims.window
    have h : (0 : Fin 2) ∉ ([1] : List (Fin 2)) := by decide
    rw [dif_neg (by rw [hkept]; exact h)]
  have hwin1 : d.window (ix2 p k') 1 = k'.val := by
    unfold ScatterDims.window
    rw [dif_pos (by rw [hkept]; exact List.mem_singleton.2 rfl)]
    have q : ∀ X : Fin 2, X = 1 → (ix2 p k' X).val = k'.val := fun X hX => by
      subst hX
      rfl
    refine q _ ?_
    simp only [huw, List.getElem_singleton]
  have hstart1 : d.start (ix2 p k') idx 1 = 0 := by
    unfold ScatterDims.start
    have h : (1 : Fin 2) ∉ ([0] : List (Fin 2)) := by decide
    rw [dif_neg (by rw [hsd]; exact h)]
  have hm : (0 : Fin 2) ∈ d.scatterDimsToOperandDims := by rw [hsd]; exact List.mem_singleton.2 rfl
  have hstart0 : d.start (ix2 p k') idx 0 = (idx (ix2 p 0)).toInt := by
    unfold ScatterDims.start
    rw [dif_pos hm]
    have husc : d.uScatter = [0] := by
      show (shape2 N C).kept d.updateWindowDims = _
      rw [huw]
      rfl
    have hsi : d.siIdx (ix2 p k') ⟨d.scatterDimsToOperandDims.idxOf 0, List.idxOf_lt_length_iff.2 hm⟩ = ix2 p 0 := by
      funext b
      match b with
      | ⟨0, _⟩ =>
        unfold ScatterDims.siIdx
        rw [dif_neg (by rw [hivd]; exact Nat.zero_ne_one)]
        unfold ScatterDims.siCoord
        have q : ∀ X : Fin 2, X = 0 → (ix2 p k' X).val = p.val := fun X hX => by
          subst hX
          rfl
        refine Fin.ext ?_
        refine q _ ?_
        simp only [husc, List.getElem_singleton]
      | ⟨1, _⟩ => exact Subsingleton.elim (α := Fin 1) _ _
    rw [hsi]
  rw [resultIdx?_ix2, hstart0, hstart1, hwin0, hwin1]
  constructor
  · rintro ⟨h0, h1⟩
    exact ⟨by omega, Fin.ext (by omega)⟩
  · rintro ⟨h0, h1⟩
    subst h1
    exact ⟨by omega, by omega⟩

/-- Rows added at the rows their words name, read at one entry. -/
theorem rows_add {R C N : ℕ} (d : ScatterDims (shape2 R C) (shape2 N 1) (shape2 N C)) (huw : d.updateWindowDims = [1]) (hiw : d.insertedWindowDims = [0])
    (hsd : d.scatterDimsToOperandDims = [0]) (hivd : d.indexVectorDim = 1) (idx : IVec (shape2 N 1) 32) (upd : (shape2 N C).Idx → EReal) (x : Fin R) (k : Fin C) :
    ∑ j ∈ Finset.univ.filter (fun j => d.resultIdx? j idx = some (ix2 x k)), upd j
      = ∑ p : Fin N, if (idx (ix2 p 0)).toInt = x.val then upd (ix2 p k) else 0 := by
  rw [← sum_filter]
  symm
  refine sum_bij (fun p _ => ix2 p k) ?_ ?_ ?_ fun _ _ => rfl
  · intro p hp
    exact mem_filter.mpr ⟨mem_univ _, (rows_land d huw hiw hsd hivd idx p k x k).mpr ⟨(mem_filter.mp hp).2, rfl⟩⟩
  · intro p _ p' _ h
    exact congrFun h (0 : Fin 2)
  · intro j hj
    obtain ⟨p, k', rfl⟩ : ∃ (p : Fin N) (k' : Fin C), j = ix2 p k' := ⟨j 0, j 1, by funext q; match q with | ⟨0, _⟩ => rfl | ⟨1, _⟩ => rfl⟩
    have h := (rows_land d huw hiw hsd hivd idx p k' x k).mp (mem_filter.mp hj).2
    exact ⟨p, mem_filter.mpr ⟨mem_univ _, h.1⟩, by rw [h.2]⟩

/-- Words that count on from `a`: the updates are laid over rows `a` and on. -/
theorem rows_into {n R : ℕ} (w : Fin n → BitVec 32) (u : Fin n → EReal) (a : ℕ) (k : Fin 3) (x : Fin R) (d : ℕ → EReal)
    (hw : ∀ p, (w p).toInt = p.val + a) (hu : ∀ p, u p = d p.val) :
    (∑ p, if (w p).toInt = x.val then u p else 0) = into k a n d k x.val := by
  unfold into
  by_cases h : a ≤ x.val ∧ x.val < a + n
  · rw [if_pos ⟨rfl, h⟩, sum_eq_single ⟨x.val - a, by omega⟩]
    · rw [if_pos (by rw [hw]; show ((x.val - a : ℕ) : ℤ) + a = _; omega), hu]
    · intro p _ hp
      rw [if_neg]
      intro h'
      rw [hw] at h'
      exact hp (Fin.ext (by show p.val = x.val - a; omega))
    · intro h'
      exact absurd (mem_univ _) h'
  · rw [if_neg fun h' => h h'.2, sum_eq_zero]
    intro p _
    rw [if_neg]
    rw [hw]
    omega

end Cert.Proof.Energy

end
-- ==== Proof.RefBonded.lean ====
/-
  The reference's bond and dihedral forces, and where they are added.
-/
module

public import proofs.«01_k».proof.Proof.RefScatter

@[expose] public section

set_option maxRecDepth 16384

noncomputable section

namespace Cert.Proof.Energy

open Cert.ReferenceIdeal Cert.ReferenceIdeal.Gen Cert.ReferenceIdeal.Read
open Idealize.ShloMosaic Idealize.ShloMosaic.TcCoe

/-- A word read signed. -/
theorem word_int (x : BitVec 32) (n a m : ℕ) (h : x = BitVec.ofNat 32 m) (hm : m = n + a) (hb : m < 2 ^ 31) : x.toInt = (n : ℤ) + a := by
  rw [h, BitVec.toInt_eq_toNat_of_lt (by rw [BitVec.toNat_ofNat]; omega), BitVec.toNat_ofNat, Nat.mod_eq_of_lt (by omega)]
  omega

theorem dot_nonneg (v : Fin 3 → ℝ) : 0 ≤ dotR v v := add_nonneg (add_nonneg (mul_self_nonneg _) (mul_self_nonneg _)) (mul_self_nonneg _)

section
variable {S : Sys} {L : ℝ} {X : ℕ → Fin 3 → ℝ} {x0 : FVec Ideal S4096x3 .f32} {x6 : IVec S4096 32} {x7 : FVec Ideal S20x20 .f32} {x9 : FVec Ideal S3 .f32}
  (hA : Args S L X x0 x6 x7 x9)
  {x1 : IVec S4095x2 32} {x3 : IVec S4093x4 32} {x4 : IVec S4093 32} {x8 : IVec S8382465x2 32} {P Q : ℕ → ℕ} (hI : Indices x1 x3 x4 x8 P Q)
include hA hI

theorem bond_ne (j : Fin 4095) : dotR (bvec S L j) (bvec S L j) ≠ 0 := by
  by_cases h : j.val < 4094
  · exact left_ne _ _ (hA.bent j.val h)
  · have e : j.val = 4093 + 1 := by omega
    rw [e]
    exact right_ne _ _ (hA.bent 4093 (by omega))

theorem bond_force (x2 : FVec Ideal S4095x2 .f32) (j : Fin 4095) (k : Fin 3) : val_main_v45 (F := Ideal) x0 x1 x2 x9 (ix2 j k) = bondF (bvec S L j) (x2 (ix2 j 0)) (x2 (ix2 j 1)) k := by
  have e : val_main_v45 (F := Ideal) x0 x1 x2 x9 (ix2 j k) = Ideal.div (val_main_v27 (F := Ideal) x0 x1 x9 (ix2 j k)) (val_main_v28 (F := Ideal) x0 x1 x9 (ix1 j))
      * (Ideal.ofBits .f32 0x40000000#32 * x2 (ix2 j 0) * (val_main_v28 (F := Ideal) x0 x1 x9 (ix1 j) - x2 (ix2 j 1))) := by
    unfold val_main_v45 val_main_v44 val_main_v43 val_main_v42 val_main_v41 val_main_v40 val_main_cst_4 val_main_v36 val_main_v35 val_main_v34 val_main_v33 val_main_v32 val_main_v31 val_main_v30 val_main_v29
    pointwise
  rw [e, bond_vec hA hI, bond_dist hA hI, Ideal.div_coe (Real.sqrt_ne_zero'.mpr (lt_of_le_of_ne (dot_nonneg _) (Ne.symm (bond_ne hA hI j)))), mul_assoc, mul_comm ((1 / _ : ℝ) : EReal)]
  rfl

theorem bond_word0 (j : Fin 4095) : (val_main_v54 (F := Ideal) x1 (ix2 j 0)).toInt = (j.val : ℤ) + (0 : ℕ) := by
  have e : val_main_v54 (F := Ideal) x1 (ix2 j 0) = Scalar.select (IntOp.cmpi .slt (x1 (ix2 j 0)) 0#32) (IntOp.addi (x1 (ix2 j 0)) 4096#32) (x1 (ix2 j 0)) := by
    unfold val_main_v54 val_main_v53 val_main_v52 val_main_v51 val_main_v50 val_main_v49 val_main_v47 val_main_v46
    pointwise
    rfl
  exact word_int _ j.val 0 _ (e.trans (wrap_word _ _ _ (hI.bond j 0) (by simp; omega))) rfl (by simp; omega)

theorem bond_word1 (j : Fin 4095) : (val_main_v63 (F := Ideal) x1 (ix2 j 0)).toInt = (j.val : ℤ) + (1 : ℕ) := by
  have e : val_main_v63 (F := Ideal) x1 (ix2 j 0) = Scalar.select (IntOp.cmpi .slt (x1 (ix2 j 1)) 0#32) (IntOp.addi (x1 (ix2 j 1)) 4096#32) (x1 (ix2 j 1)) := by
    unfold val_main_v63 val_main_v62 val_main_v61 val_main_v60 val_main_v59 val_main_v58 val_main_v57 val_main_v56
    pointwise
    rfl
  exact word_int _ j.val 1 _ (e.trans (wrap_word _ _ _ (hI.bond j 1) (by simp; omega))) rfl (by simp; omega)

theorem bonds_at (x2 : FVec Ideal S4095x2 .f32) (i : Fin 4096) (k : Fin 3) : val_main_v64 (F := Ideal) x0 x1 x2 x9 (ix2 i k) = bondCol k (bondAt S L x2 k) 0 k i.val := by
  have hz : val_main_v0 (F := Ideal) (ix2 i k) = 0 := by
    unfold val_main_v0 val_main_cst
    pointwise
  have a := rows_add (R := 4096) (C := 3) (N := 4095) scatter_S4096x3_S4095x1_S4095x3_1_0_0_1 rfl rfl rfl rfl (val_main_v54 (F := Ideal) x1) (val_main_v48 (F := Ideal) x0 x1 x2 x9) i k
  have b := rows_add (R := 4096) (C := 3) (N := 4095) scatter_S4096x3_S4095x1_S4095x3_1_0_0_1 rfl rfl rfl rfl (val_main_v63 (F := Ideal) x1) (val_main_v45 (F := Ideal) x0 x1 x2 x9) i k
  show val_main_v0 (F := Ideal) (ix2 i k) + (∑ j ∈ Finset.univ.filter _, _) + (∑ j ∈ Finset.univ.filter _, _) = _
  refine (congrArg₂ (· + ·) (congrArg₂ (· + ·) hz a) b).trans ?_
  unfold bondCol
  refine congrArg₂ (· + ·) (congrArg₂ (· + ·) rfl ?_) ?_
  · refine rows_into (fun p => val_main_v54 (F := Ideal) x1 (ix2 p 0)) (fun p => val_main_v48 (F := Ideal) x0 x1 x2 x9 (ix2 p k)) 0 k i _ (bond_word0 hA hI) fun p => ?_
    rw [bondAt_eq, ← bond_force hA hI x2 p k]
    rfl
  · refine rows_into (fun p => val_main_v63 (F := Ideal) x1 (ix2 p 0)) (fun p => val_main_v45 (F := Ideal) x0 x1 x2 x9 (ix2 p k)) 1 k i _ (bond_word1 hA hI) fun p => ?_
    rw [bondAt_eq, ← bond_force hA hI x2 p k]

variable (x5 : FVec Ideal S4093x3 .f32)

theorem tor_coef (j : Fin 4093) : val_main_v317 (F := Ideal) x0 x3 x4 x5 x9 (ix1 j)
    = torC (bvec S L j) (bvec S L (j + 1)) (bvec S L (j + 2)) (x5 (ix2 j 0)) (x5 (ix2 j 1)) (x5 (ix2 j 2)) := by
  have hm : val_main_v298 (F := Ideal) x0 x3 x4 x9 (ix1 j) = val_main_v285 (F := Ideal) x0 x3 x9 (ix1 j) :=
    Routing.gather_take1 (N := 4093) (n := 4093) gather_S4093_S4093x1_S4093_n_0_n_n_0_1_1 rfl rfl rfl rfl (val_main_v285 (F := Ideal) x0 x3 x9) (val_main_v297 (F := Ideal) x4) j j (map_word hA hI j) (by norm_num)
  have e : val_main_v317 (F := Ideal) x0 x3 x4 x5 x9 (ix1 j)
      = -x5 (ix2 j 2) * x5 (ix2 j 0) * Ideal.sin (x5 (ix2 j 2) * val_main_v298 (F := Ideal) x0 x3 x4 x9 (ix1 j) - x5 (ix2 j 1)) := by
    unfold val_main_v317 val_main_v316 val_main_v315 val_main_v314 val_main_v300 val_main_v299 val_main_v291 val_main_v290 val_main_v289 val_main_v288 val_main_v287 val_main_v286
    pointwise
  rw [e, hm, phi_real hA hI]
  rfl

theorem coef_at (j : Fin 4093) : val_main_v324 (F := Ideal) x0 x3 x4 x5 x9 (ix1 j) = val_main_v317 (F := Ideal) x0 x3 x4 x5 x9 (ix1 j) := by
  have hz : val_main_v313 (F := Ideal) (ix1 j) = 0 := by
    unfold val_main_v313 val_main_cst_29
    pointwise
  have h : ∀ i : S4093.Idx, scatter_S4093_S4093x1_S4093_n_0_0_1.resultIdx? i (val_main_v323 (F := Ideal) x4) = some (ix1 j) ↔ i = ix1 j := by
    intro i
    obtain ⟨i, rfl⟩ : ∃ r : Fin 4093, i = ix1 r := ⟨i 0, by funext a; fin_cases a; rfl⟩
    refine (Routing.scatter_lands (N := 4093) scatter_S4093_S4093x1_S4093_n_0_0_1 rfl rfl rfl (val_main_v323 (F := Ideal) x4) id (fun i => map_word' hA hI i) (fun i => by simp; omega) i j).trans ?_
    constructor
    · intro e
      rw [Fin.ext e]
    · intro e
      exact congrArg (fun f : S4093.Idx => (f 0).val) e
  show val_main_v313 (F := Ideal) (ix1 j) + ∑ i ∈ Finset.univ.filter (fun i => scatter_S4093_S4093x1_S4093_n_0_0_1.resultIdx? i (val_main_v323 (F := Ideal) x4) = some (ix1 j)), val_main_v317 (F := Ideal) x0 x3 x4 x5 x9 i = _
  rw [hz, zero_add]
  simp only [h]
  rw [Finset.filter_eq' Finset.univ (ix1 j : S4093.Idx), if_pos (Finset.mem_univ _), Finset.sum_singleton]

theorem mid_len (j : Fin 4093) : val_main_v327 (F := Ideal) x0 x3 x9 (ix1 j) = ((√(dotR (bvec S L (j + 1)) (bvec S L (j + 1))) : ℝ) : EReal) := by
  have e : val_main_v327 (F := Ideal) x0 x3 x9 (ix1 j) = Ideal.sqrt (∑ k : Fin 3, val_main_v124 (F := Ideal) x0 x3 x9 (ix2 j k) * val_main_v124 (F := Ideal) x0 x3 x9 (ix2 j k)) := by
    unfold val_main_v327 val_main_call11_v1 val_main_call11_v0 val_main_call11_cst
    pointwise
  rw [e]
  simp only [r23_real hA hI, Fin.sum_univ_three, ← EReal.coe_mul, ← EReal.coe_add]
  exact sqrt_dot _

theorem sq_len (v : Fin 3 → ℝ) : ((√(dotR v v) : ℝ) : EReal) * ((√(dotR v v) : ℝ) : EReal) = ((dotR v v : ℝ) : EReal) := by
  rw [← EReal.coe_mul, Real.mul_self_sqrt (dot_nonneg _)]

theorem end0 (j : Fin 4093) (k : Fin 3) : val_main_v344 (F := Ideal) x0 x3 x4 x5 x9 (ix2 j k)
    = torF0 (bvec S L j) (bvec S L (j + 1)) (bvec S L (j + 2)) (x5 (ix2 j 0)) (x5 (ix2 j 1)) (x5 (ix2 j 2)) k := by
  have e : val_main_v344 (F := Ideal) x0 x3 x4 x5 x9 (ix2 j k) = Ideal.div (-val_main_v324 (F := Ideal) x0 x3 x4 x5 x9 (ix1 j) * val_main_v327 (F := Ideal) x0 x3 x9 (ix1 j))
      (val_main_v272 (F := Ideal) x0 x3 x9 (ix1 j) * val_main_v272 (F := Ideal) x0 x3 x9 (ix1 j)) * val_main_v197 (F := Ideal) x0 x3 x9 (ix2 j k) := by
    unfold val_main_v344 val_main_v343 val_main_v342 val_main_v332 val_main_v331 val_main_v330 val_main_v329
    pointwise
  rw [e, coef_at hA hI, tor_coef hA hI, mid_len hA hI, normA_real hA hI, crossA_real hA hI, sq_len hA hI, Ideal.div_coe (bentA hA hI j)]
  rfl

theorem end3 (j : Fin 4093) (k : Fin 3) : val_main_v347 (F := Ideal) x0 x3 x4 x5 x9 (ix2 j k)
    = torF3 (bvec S L j) (bvec S L (j + 1)) (bvec S L (j + 2)) (x5 (ix2 j 0)) (x5 (ix2 j 1)) (x5 (ix2 j 2)) k := by
  have e : val_main_v347 (F := Ideal) x0 x3 x4 x5 x9 (ix2 j k) = Ideal.div (val_main_v324 (F := Ideal) x0 x3 x4 x5 x9 (ix1 j) * val_main_v327 (F := Ideal) x0 x3 x9 (ix1 j))
      (val_main_v273 (F := Ideal) x0 x3 x9 (ix1 j) * val_main_v273 (F := Ideal) x0 x3 x9 (ix1 j)) * val_main_v234 (F := Ideal) x0 x3 x9 (ix2 j k) := by
    unfold val_main_v347 val_main_v346 val_main_v345 val_main_v341 val_main_v340 val_main_v339
    pointwise
  rw [e, coef_at hA hI, tor_coef hA hI, mid_len hA hI, normB_real hA hI, crossB_real hA hI, sq_len hA hI, Ideal.div_coe (bentB hA hI j)]
  rfl

theorem shared (j : Fin 4093) (k : Fin 3) : val_main_v354 (F := Ideal) x0 x3 x4 x5 x9 (ix2 j k)
    = torS (bvec S L j) (bvec S L (j + 1)) (bvec S L (j + 2)) (x5 (ix2 j 0)) (x5 (ix2 j 1)) (x5 (ix2 j 2)) k := by
  have e : val_main_v354 (F := Ideal) x0 x3 x4 x5 x9 (ix2 j k)
      = Ideal.div (∑ a : Fin 3, val_main_v92 (F := Ideal) x0 x3 x9 (ix2 j a) * val_main_v124 (F := Ideal) x0 x3 x9 (ix2 j a)) (val_main_v327 (F := Ideal) x0 x3 x9 (ix1 j) * val_main_v327 (F := Ideal) x0 x3 x9 (ix1 j))
          * val_main_v344 (F := Ideal) x0 x3 x4 x5 x9 (ix2 j k)
        - Ideal.div (∑ a : Fin 3, val_main_v156 (F := Ideal) x0 x3 x9 (ix2 j a) * val_main_v124 (F := Ideal) x0 x3 x9 (ix2 j a)) (val_main_v327 (F := Ideal) x0 x3 x9 (ix1 j) * val_main_v327 (F := Ideal) x0 x3 x9 (ix1 j))
          * val_main_v347 (F := Ideal) x0 x3 x4 x5 x9 (ix2 j k) := by
    unfold val_main_v354 val_main_v353 val_main_v352 val_main_v351 val_main_v350 val_main_v349 val_main_v348 val_main_v338 val_main_v337 val_main_v336 val_main_v335 val_main_v334 val_main_v333 val_main_v328 val_main_cst_33 val_main_cst_34
    pointwise
  rw [e, end0 hA hI, end3 hA hI, mid_len hA hI, sq_len hA hI, Ideal.div_coe (left_ne _ _ (bentB hA hI j)), Ideal.div_coe (left_ne _ _ (bentB hA hI j))]
  simp only [r12_real hA hI, r23_real hA hI, r34_real hA hI, Fin.sum_univ_three, ← EReal.coe_mul, ← EReal.coe_add]
  unfold torS
  simp only [← EReal.coe_mul]
  rfl

theorem dih_word0 (j : Fin 4093) : (val_main_v363 (F := Ideal) x3 (ix2 j 0)).toInt = (j.val : ℤ) + (0 : ℕ) := by
  have e : val_main_v363 (F := Ideal) x3 (ix2 j 0) = Scalar.select (IntOp.cmpi .slt (x3 (ix2 j 0)) 0#32) (IntOp.addi (x3 (ix2 j 0)) 4096#32) (x3 (ix2 j 0)) := by
    unfold val_main_v363 val_main_v362 val_main_v361 val_main_v360 val_main_v359 val_main_v358 val_main_v356 val_main_v355
    pointwise
    rfl
  exact word_int _ j.val 0 _ (e.trans (wrap_word _ _ _ (hI.dih j 0) (by simp; omega))) rfl (by simp; omega)

theorem dih_word1 (j : Fin 4093) : (val_main_v373 (F := Ideal) x3 (ix2 j 0)).toInt = (j.val : ℤ) + (1 : ℕ) := by
  have e : val_main_v373 (F := Ideal) x3 (ix2 j 0) = Scalar.select (IntOp.cmpi .slt (x3 (ix2 j 1)) 0#32) (IntOp.addi (x3 (ix2 j 1)) 4096#32) (x3 (ix2 j 1)) := by
    unfold val_main_v373 val_main_v372 val_main_v371 val_main_v370 val_main_v369 val_main_v368 val_main_v366 val_main_v365
    pointwise
    rfl
  exact word_int _ j.val 1 _ (e.trans (wrap_word _ _ _ (hI.dih j 1) (by simp; omega))) rfl (by simp; omega)

theorem dih_word2 (j : Fin 4093) : (val_main_v383 (F := Ideal) x3 (ix2 j 0)).toInt = (j.val : ℤ) + (2 : ℕ) := by
  have e : val_main_v383 (F := Ideal) x3 (ix2 j 0) = Scalar.select (IntOp.cmpi .slt (x3 (ix2 j 2)) 0#32) (IntOp.addi (x3 (ix2 j 2)) 4096#32) (x3 (ix2 j 2)) := by
    unfold val_main_v383 val_main_v382 val_main_v381 val_main_v380 val_main_v379 val_main_v378 val_main_v376 val_main_v375
    pointwise
    rfl
  exact word_int _ j.val 2 _ (e.trans (wrap_word _ _ _ (hI.dih j 2) (by simp; omega))) rfl (by simp; omega)

theorem dih_word3 (j : Fin 4093) : (val_main_v393 (F := Ideal) x3 (ix2 j 0)).toInt = (j.val : ℤ) + (3 : ℕ) := by
  have e : val_main_v393 (F := Ideal) x3 (ix2 j 0) = Scalar.select (IntOp.cmpi .slt (x3 (ix2 j 3)) 0#32) (IntOp.addi (x3 (ix2 j 3)) 4096#32) (x3 (ix2 j 3)) := by
    unfold val_main_v393 val_main_v392 val_main_v391 val_main_v390 val_main_v389 val_main_v388 val_main_v386 val_main_v385
    pointwise
    rfl
  exact word_int _ j.val 3 _ (e.trans (wrap_word _ _ _ (hI.dih j 3) (by simp; omega))) rfl (by simp; omega)

/-- The bonds and the dihedrals together. -/
theorem bonded_at (x2 : FVec Ideal S4095x2 .f32) (i : Fin 4096) (k : Fin 3) : val_main_v394 (F := Ideal) x0 x1 x2 x3 x4 x5 x9 (ix2 i k) = bondedFrc S L x2 x5 k i.val := by
  have w := fun idx upd => rows_add (R := 4096) (C := 3) (N := 4093) scatter_S4096x3_S4093x1_S4093x3_1_0_0_1 rfl rfl rfl rfl idx upd i k
  show val_main_v64 (F := Ideal) x0 x1 x2 x9 (ix2 i k) + (∑ j ∈ Finset.univ.filter _, _) + (∑ j ∈ Finset.univ.filter _, _) + (∑ j ∈ Finset.univ.filter _, _) + (∑ j ∈ Finset.univ.filter _, _) = _
  refine (congrArg₂ (· + ·) (congrArg₂ (· + ·) (congrArg₂ (· + ·) (congrArg₂ (· + ·) (bonds_at hA hI x2 i k) (w (val_main_v363 (F := Ideal) x3) (val_main_v357 (F := Ideal) x0 x3 x4 x5 x9)))
    (w (val_main_v373 (F := Ideal) x3) (val_main_v367 (F := Ideal) x0 x3 x4 x5 x9))) (w (val_main_v383 (F := Ideal) x3) (val_main_v377 (F := Ideal) x0 x3 x4 x5 x9)))
    (w (val_main_v393 (F := Ideal) x3) (val_main_v387 (F := Ideal) x0 x3 x4 x5 x9))).trans ?_
  unfold bondedFrc dihCol
  refine congrArg₂ (· + ·) (congrArg₂ (· + ·) (congrArg₂ (· + ·) (congrArg₂ (· + ·) rfl ?_) ?_) ?_) ?_
  · refine rows_into (fun p => val_main_v363 (F := Ideal) x3 (ix2 p 0)) (fun p => val_main_v357 (F := Ideal) x0 x3 x4 x5 x9 (ix2 p k)) 0 k i _ (dih_word0 hA hI) fun p => ?_
    rw [dihAt_eq, ← end0 hA hI x5 p k]
    rfl
  · refine rows_into (fun p => val_main_v373 (F := Ideal) x3 (ix2 p 0)) (fun p => val_main_v367 (F := Ideal) x0 x3 x4 x5 x9 (ix2 p k)) 1 k i _ (dih_word1 hA hI) fun p => ?_
    rw [dihAt_eq, dihAt_eq, ← end0 hA hI x5 p k, ← shared hA hI x5 p k]
    rfl
  · refine rows_into (fun p => val_main_v383 (F := Ideal) x3 (ix2 p 0)) (fun p => val_main_v377 (F := Ideal) x0 x3 x4 x5 x9 (ix2 p k)) 2 k i _ (dih_word2 hA hI) fun p => ?_
    rw [dihAt_eq, dihAt_eq, ← end3 hA hI x5 p k, ← shared hA hI x5 p k]
    rfl
  · refine rows_into (fun p => val_main_v393 (F := Ideal) x3 (ix2 p 0)) (fun p => val_main_v387 (F := Ideal) x0 x3 x4 x5 x9 (ix2 p k)) 3 k i _ (dih_word3 hA hI) fun p => ?_
    rw [dihAt_eq, ← end3 hA hI x5 p k]
    rfl

end

end Cert.Proof.Energy

end
-- ==== Proof.RefForce.lean ====
/-
  The reference's forces: the bonded ones, and each pair's at its two atoms, summed by rows and columns.
-/
module

public import proofs.«01_k».proof.Proof.RefBonded

@[expose] public section

set_option maxRecDepth 16384

noncomputable section

namespace Cert.Proof.Energy

open Cert.ReferenceIdeal Cert.ReferenceIdeal.Gen Cert.ReferenceIdeal.Read
open Idealize.ShloMosaic Idealize.ShloMosaic.TcCoe

/-- A pair's force as the reference has it. -/
theorem pair_force_real (L w C s : ℝ) (hL : L ≠ 0) (hs : 0 < s) :
    Ideal.div ((w * L : ℝ) : EReal) ((√(L * L * s) : ℝ) : EReal) * (Ideal.ofBits .f32 0xC0C00000#32 * ((C : ℝ) : EReal)
        * (Ideal.div 1 ((√(L * L * s) : ℝ) : EReal) * Ideal.div 1 ((√(L * L * s) : ℝ) : EReal) * (Ideal.div 1 ((√(L * L * s) : ℝ) : EReal) * Ideal.div 1 ((√(L * L * s) : ℝ) : EReal)
          * (Ideal.div 1 ((√(L * L * s) : ℝ) : EReal) * Ideal.div 1 ((√(L * L * s) : ℝ) : EReal)))) * Ideal.div 1 ((√(L * L * s) : ℝ) : EReal))
      = ((-(6 * L * pairTR (1 / (L * L)) s C w) : ℝ) : EReal) := by
  have h6 : Ideal.ofBits FTy.f32 0xC0C00000#32 = ((-6 : ℝ) : EReal) := by
    simp [Ideal.ofBits, Ideal.ieee, -EReal.coe_mul, -EReal.coe_neg]; norm_num
  have hp : 0 < L * L * s := mul_pos (mul_self_pos.mpr hL) hs
  have hd : √(L * L * s) ≠ 0 := Real.sqrt_ne_zero'.mpr hp
  have hq : √(L * L * s) * √(L * L * s) = L * L * s := Real.mul_self_sqrt hp.le
  rw [h6, Ideal.div_coe hd, Ideal.div_coe hd, one_mul]
  simp only [← EReal.coe_mul]
  congr 1
  generalize √(L * L * s) = d at *
  have e : 1 / d * (1 / d) = 1 / (L * L * s) := by rw [← hq]; field_simp
  have hs' : s ≠ 0 := hs.ne'
  unfold pairTR
  calc _ = -6 * (w * L) * C * ((1 / d * (1 / d)) * (1 / d * (1 / d)) * ((1 / d * (1 / d)) * (1 / d * (1 / d)))) := by ring
    _ = _ := by rw [e]; field_simp

section
variable {S : Sys} {L : ℝ} {X : ℕ → Fin 3 → ℝ} {x0 : FVec Ideal S4096x3 .f32} {x6 : IVec S4096 32} {x7 : FVec Ideal S20x20 .f32} {x9 : FVec Ideal S3 .f32}
  (hA : Args S L X x0 x6 x7 x9)
  {x1 : IVec S4095x2 32} {x3 : IVec S4093x4 32} {x4 : IVec S4093 32} {x8 : IVec S8382465x2 32} {P Q : ℕ → ℕ} (hI : Indices x1 x3 x4 x8 P Q)
include hA hI

/-- The force of pair `p` on its right atom, and the opposite on its left. -/
theorem pair_force (p : Fin 8382465) (k : Fin 3) : val_main_v472 (F := Ideal) x0 x6 x7 x8 x9 (ix2 p k) = ((-(6 * L * S.G k (P p.val) (Q p.val)) : ℝ) : EReal) := by
  have ha := hI.apart p.val p.isLt
  have hs : 0 < sq2 (S.U (P p.val)) (S.U (Q p.val)) := lt_of_le_of_ne (sq2_nonneg _ _) (Ne.symm (S.sep _ _ ha (hI.below p.val p.isLt)))
  have e : val_main_v472 (F := Ideal) x0 x6 x7 x8 x9 (ix2 p k) = Ideal.div (val_main_v421 (F := Ideal) x0 x8 x9 (ix2 p k)) (val_main_v422 (F := Ideal) x0 x8 x9 (ix1 p))
      * (Ideal.ofBits .f32 0xC0C00000#32 * val_main_v457 (F := Ideal) x6 x7 x8 (ix1 p) * val_main_v462 (F := Ideal) x0 x8 x9 (ix1 p) * val_main_v459 (F := Ideal) x0 x8 x9 (ix1 p)) := by
    have w : idx_main_v470 (idx_main_v471 (ix2 p k)) = ix1 p := by
      funext a
      match a with
      | ⟨0, _⟩ => rfl
    have w' : idx_main_v423 (idx_main_v424 (ix2 p k)) = ix1 p := by
      funext a
      match a with
      | ⟨0, _⟩ => rfl
    rw [val_main_v472_apply, val_main_v425_apply, val_main_v424_apply, val_main_v423_apply, val_main_v471_apply, val_main_v470_apply, w, w',
      val_main_v469_apply, val_main_v468_apply, val_main_v467_apply, val_main_v466_apply]
    generalize val_main_v421 (F := Ideal) x0 x8 x9 (ix2 p k) = a1
    generalize val_main_v422 (F := Ideal) x0 x8 x9 (ix1 p) = a2
    generalize val_main_v457 (F := Ideal) x6 x7 x8 (ix1 p) = a3
    generalize val_main_v462 (F := Ideal) x0 x8 x9 (ix1 p) = a4
    generalize val_main_v459 (F := Ideal) x0 x8 x9 (ix1 p) = a5
    rfl
  have hG : S.G k (P p.val) (Q p.val) = pairTR S.ib (sq2 (S.U (P p.val)) (S.U (Q p.val))) (S.C (S.T (P p.val)) (S.T (Q p.val))) (wr (S.U (P p.val) k - S.U (Q p.val) k)) := if_pos ha
  rw [e, val_main_v462_apply, val_main_v461_apply, val_main_v460_apply, pair_inv hA hI p, pair_coef hA hI p, pair_dist hA hI p, pair_vec hA hI p k, hG, hA.hib]
  exact pair_force_real L _ _ _ hA.hL hs

theorem pair_left (p : Fin 8382465) (i : Fin 4096) : (val_main_v481 (F := Ideal) x8 (ix2 p 0)).toInt = (i.val : ℤ) ↔ P p.val = i.val := by
  have ha := hI.apart p.val p.isLt
  have hb := hI.below p.val p.isLt
  have e : val_main_v481 (F := Ideal) x8 (ix2 p 0) = Scalar.select (IntOp.cmpi .slt (x8 (ix2 p 0)) 0#32) (IntOp.addi (x8 (ix2 p 0)) 4096#32) (x8 (ix2 p 0)) := by
    unfold val_main_v481 val_main_v480 val_main_v479 val_main_v478 val_main_v477 val_main_v476 val_main_v474 val_main_v473
    pointwise
    rfl
  rw [word_int _ (P p.val) 0 _ (e.trans (wrap_word _ _ _ (hI.left p) (by omega))) rfl (by omega)]
  omega

theorem pair_right (p : Fin 8382465) (i : Fin 4096) : (val_main_v490 (F := Ideal) x8 (ix2 p 0)).toInt = (i.val : ℤ) ↔ Q p.val = i.val := by
  have hb := hI.below p.val p.isLt
  have e : val_main_v490 (F := Ideal) x8 (ix2 p 0) = Scalar.select (IntOp.cmpi .slt (x8 (ix2 p 1)) 0#32) (IntOp.addi (x8 (ix2 p 1)) 4096#32) (x8 (ix2 p 1)) := by
    unfold val_main_v490 val_main_v489 val_main_v488 val_main_v487 val_main_v486 val_main_v485 val_main_v484 val_main_v483
    pointwise
    rfl
  rw [word_int _ (Q p.val) 0 _ (e.trans (wrap_word _ _ _ (hI.right p) (by omega))) rfl (by omega)]
  omega

omit hA in
/-- The pairs whose left atom is `i` are a row, those whose right atom is `i` a column. -/
theorem left_sum (k : Fin 3) (i : Fin 4096) : ∑ p : Fin 8382465, (if P p.val = i.val then 6 * L * S.G k (P p.val) (Q p.val) else 0) = 6 * L * ∑ q ∈ Finset.range 4096, S.G k i.val q := by
  rw [← Finset.sum_range (fun p => if P p = i.val then 6 * L * S.G k (P p) (Q p) else 0),
    triangle_sum P Q hI.apart hI.below hI.rank (fun r q => if r = i.val then 6 * L * S.G k r q else 0) (fun r q h => by rw [S.G_zero (by omega), mul_zero, ite_self]),
    Finset.sum_comm, Finset.mul_sum]
  refine Finset.sum_congr rfl fun q _ => ?_
  rw [Finset.sum_ite_eq', if_pos (Finset.mem_range.mpr i.isLt)]

omit hA in
theorem right_sum (k : Fin 3) (i : Fin 4096) : ∑ p : Fin 8382465, (if Q p.val = i.val then -(6 * L * S.G k (P p.val) (Q p.val)) else 0) = -(6 * L * ∑ r ∈ Finset.range 4096, S.G k r i.val) := by
  rw [← Finset.sum_range (fun p => if Q p = i.val then -(6 * L * S.G k (P p) (Q p)) else 0),
    triangle_sum P Q hI.apart hI.below hI.rank (fun r q => if q = i.val then -(6 * L * S.G k r q) else 0) (fun r q h => by rw [S.G_zero (by omega), mul_zero, neg_zero, ite_self]),
    Finset.mul_sum, ← Finset.sum_neg_distrib]
  refine Finset.sum_congr rfl fun r _ => ?_
  rw [Finset.sum_ite_eq', if_pos (Finset.mem_range.mpr i.isLt)]

end

/-- A scatter of rows, and a sum over them, at any length. -/
theorem scatter_rows {n : ℕ} (d : ScatterDims ⟨2, ![4096, 3]⟩ ⟨2, ![n, 1]⟩ ⟨2, ![n, 3]⟩) (huw : d.updateWindowDims = [1]) (hiw : d.insertedWindowDims = [0])
    (hsd : d.scatterDimsToOperandDims = [0]) (hivd : d.indexVectorDim = 1) (v : FVec Ideal ⟨2, ![4096, 3]⟩ .f32) (idx : IVec ⟨2, ![n, 1]⟩ 32) (upd : FVec Ideal ⟨2, ![n, 3]⟩ .f32)
    (i : Fin 4096) (k : Fin 3) (h : Fin n → Prop) [DecidablePred h] (hh : ∀ p, (idx (ix2 p 0)).toInt = (i.val : ℤ) ↔ h p) (f : Fin n → ℝ) (hf : ∀ p, upd (ix2 p k) = ((f p : ℝ) : EReal)) :
    Host.scatterAdd d v idx upd (ix2 i k) = v (ix2 i k) + ((∑ p : Fin n, (if h p then f p else 0) : ℝ) : EReal) := by
  show v (ix2 i k) + ∑ j ∈ Finset.univ.filter _, upd j = _
  refine congrArg (v (ix2 i k) + ·) ((rows_add (R := 4096) (C := 3) (N := n) d huw hiw hsd hivd idx upd i k).trans ?_)
  rw [← coe_sum]
  refine Finset.sum_congr rfl fun p _ => ?_
  by_cases e : h p
  · rw [if_pos e]
    exact (if_pos ((hh p).mpr e)).trans (hf p)
  · rw [if_neg e]
    exact (if_neg fun e' => e ((hh p).mp e')).trans rfl

/-- A scatter of the pairs' rows; then two of them, one after the other. -/
theorem pair_scatter (v : FVec Ideal S4096x3 .f32) (w : IVec S8382465x1 32) (u : FVec Ideal S8382465x3 .f32) (i : Fin 4096) (k : Fin 3) (h : Fin 8382465 → Prop) [DecidablePred h]
    (hw : ∀ p, (w (ix2 p 0)).toInt = (i.val : ℤ) ↔ h p) (f : Fin 8382465 → ℝ) (hf : ∀ p, u (ix2 p k) = ((f p : ℝ) : EReal)) (b : ℝ) (hb : (∑ p : Fin 8382465, if h p then f p else 0) = b) :
    Host.scatterAdd scatter_S4096x3_S8382465x1_S8382465x3_1_0_0_1 v w u (ix2 i k) = v (ix2 i k) + ((b : ℝ) : EReal) := by
  rw [← hb]
  exact scatter_rows (n := 8382465) scatter_S4096x3_S8382465x1_S8382465x3_1_0_0_1 rfl rfl rfl rfl v w u i k h hw f hf

theorem pair_scatters (v : FVec Ideal S4096x3 .f32) (w w' : IVec S8382465x1 32) (u u' : FVec Ideal S8382465x3 .f32) (i : Fin 4096) (k : Fin 3) (h h' : Fin 8382465 → Prop)
    [DecidablePred h] [DecidablePred h'] (hw : ∀ p, (w (ix2 p 0)).toInt = (i.val : ℤ) ↔ h p) (hw' : ∀ p, (w' (ix2 p 0)).toInt = (i.val : ℤ) ↔ h' p) (f f' : Fin 8382465 → ℝ)
    (hf : ∀ p, u (ix2 p k) = ((f p : ℝ) : EReal)) (hf' : ∀ p, u' (ix2 p k) = ((f' p : ℝ) : EReal)) (b b' : ℝ) (hb : (∑ p : Fin 8382465, if h p then f p else 0) = b)
    (hb' : (∑ p : Fin 8382465, if h' p then f' p else 0) = b') :
    Host.scatterAdd scatter_S4096x3_S8382465x1_S8382465x3_1_0_0_1 (Host.scatterAdd scatter_S4096x3_S8382465x1_S8382465x3_1_0_0_1 v w u) w' u' (ix2 i k)
      = v (ix2 i k) + ((b + b' : ℝ) : EReal) := by
  rw [pair_scatter _ w' u' i k h' hw' f' hf' b' hb', pair_scatter v w u i k h hw f hf b hb, add_assoc, ← EReal.coe_add]

section
variable {S : Sys} {L : ℝ} {X : ℕ → Fin 3 → ℝ} {x0 : FVec Ideal S4096x3 .f32} {x6 : IVec S4096 32} {x7 : FVec Ideal S20x20 .f32} {x9 : FVec Ideal S3 .f32}
  (hA : Args S L X x0 x6 x7 x9)
  {x1 : IVec S4095x2 32} {x3 : IVec S4093x4 32} {x4 : IVec S4093 32} {x8 : IVec S8382465x2 32} {P Q : ℕ → ℕ} (hI : Indices x1 x3 x4 x8 P Q)
include hA hI

/-- The reference's forces. -/
theorem ref_forces (x2 : FVec Ideal S4095x2 .f32) (x5 : FVec Ideal S4093x3 .f32) (i : Fin 4096) (k : Fin 3) : val_main_v491 (F := Ideal) x0 x1 x2 x3 x4 x5 x6 x7 x8 x9 (ix2 i k)
    = bondedFrc S L x2 x5 k i.val + ((6 * L * ((∑ q ∈ Finset.range 4096, S.G k i.val q) - ∑ r ∈ Finset.range 4096, S.G k r i.val) : ℝ) : EReal) := by
  have h1 := fun p => pair_right hA hI p i
  have h2 := fun p => pair_left hA hI p i
  have f1 := fun p => pair_force hA hI p k
  have f2 : ∀ p : Fin 8382465, val_main_v475 (F := Ideal) x0 x6 x7 x8 x9 (ix2 p k) = ((6 * L * S.G k (P p.val) (Q p.val) : ℝ) : EReal) := fun p => by
    rw [val_main_v475_apply, f1 p]
    exact (EReal.coe_neg _).symm.trans (congrArg _ (neg_neg _))
  have s1 := right_sum hI (L := L) (S := S) k i
  have s2 := left_sum hI (L := L) (S := S) k i
  have hb := bonded_at hA hI x5 x2 i k
  have t := pair_scatters (val_main_v394 (F := Ideal) x0 x1 x2 x3 x4 x5 x9) (val_main_v481 (F := Ideal) x8) (val_main_v490 (F := Ideal) x8) (val_main_v475 (F := Ideal) x0 x6 x7 x8 x9)
    (val_main_v472 (F := Ideal) x0 x6 x7 x8 x9) i k (fun p => P p.val = i.val) (fun p => Q p.val = i.val) h2 h1 (fun p => 6 * L * S.G k (P p.val) (Q p.val))
    (fun p => -(6 * L * S.G k (P p.val) (Q p.val))) f2 f1 _ _ s2 s1
  rw [hb] at t
  unfold val_main_v491 val_main_v482
  refine t.trans (congrArg (fun a : ℝ => bondedFrc S L x2 x5 k i.val + (a : EReal)) ?_)
  ring

end

end Cert.Proof.Energy

end
-- ==== Proof.Value.lean ====
/-
  The values: the kernel's energy and the reference's are one number, and so is each component of the forces.
-/
module

public import proofs.«01_k».proof.Proof.Setup
public import proofs.«01_k».proof.Proof.ForceRun
public import proofs.«01_k».proof.Proof.RefForce
public import proofs.«01_k».proof.Proof.RefRun

@[expose] public section

set_option maxRecDepth 16384

noncomputable section

namespace Cert.Proof.Energy

open Idealize.ShloMosaic Idealize.ShloMosaic.TcCoe Idealize.SL.Sem

instance : Cert.KernelIdeal.Facts := Cert.KernelIdeal.Gen.facts
instance : Cert.Pre_regular.Facts := Cert.Pre_regular.Gen.facts

section
open Cert.KernelIdeal Cert.KernelIdeal.Gen Cert.Proof.KernelIdeal
variable (m : (ℓ : Loc nD τ sig) → Buf (Elt Ideal) ℓ)

/-- The reference's energy, of the kernel's arguments. -/
def energyOf (c : Dev nD) : EReal :=
  Cert.ReferenceIdeal.Read.val_main_v465 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) ix0

/-- The reference's forces, of the kernel's arguments. -/
def forcesOf (c : Dev nD) : FVec Ideal S4096x3 .f32 :=
  Cert.ReferenceIdeal.Read.val_main_v491 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9))

theorem kernel_energy (hp : Cert.Pre_KernelIdeal_regular m) (c : Dev nD) (hn : 3 < cfg0.N) :
    (Cert.Proof.KernelIdeal.outsN m c 3 hn).2.2 (ix2 0 0) = energyOf m c := by
  obtain ⟨h0, h1, h2, h3, h4, h5, h6, h7, h8, h9, h10⟩ := hp c
  obtain ⟨S, L, X, hA⟩ := setup _ _ _ _ _ _ _ _ _ _ h0 h1 h2 h3 h9 h10
  have hI := indices _ _ _ _ _ _ _ _ _ _ h4 h5 h6 h7 h8
  exact (outs_total m c hA hn).trans (ref_total hA hI _ _).symm

theorem kernel_forces (hp : Cert.Pre_KernelIdeal_regular m) (c : Dev nD) (i : Fin 4096) (k : Fin 3) :
    rowsOf m c (ix2 i k) + colsOf m c (ix2 k i) = forcesOf m c (ix2 i k) := by
  obtain ⟨h0, h1, h2, h3, h4, h5, h6, h7, h8, h9, h10⟩ := hp c
  obtain ⟨S, L, X, hA⟩ := setup _ _ _ _ _ _ _ _ _ _ h0 h1 h2 h3 h9 h10
  have hI := indices _ _ _ _ _ _ _ _ _ _ h4 h5 h6 h7 h8
  exact (out_forces m c hA i k).trans (ref_forces hA hI _ _ i k).symm
end

open Cert.ReferenceIdeal in
/-- The reference's energy, of equal arguments. -/
theorem energy_congr {x0 y0 : FVec Ideal S4096x3 .f32} {x1 y1 : IVec S4095x2 32} {x2 y2 : FVec Ideal S4095x2 .f32} {x3 y3 : IVec S4093x4 32} {x4 y4 : IVec S4093 32}
    {x5 y5 : FVec Ideal S4093x3 .f32} {x6 y6 : IVec S4096 32} {x7 y7 : FVec Ideal S20x20 .f32} {x8 y8 : IVec S8382465x2 32} {x9 y9 : FVec Ideal S3 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) :
    Cert.ReferenceIdeal.Read.val_main_v465 (F := Ideal) x0 x1 x2 x3 x4 x5 x6 x7 x8 x9 ix0
      = Cert.ReferenceIdeal.Read.val_main_v465 (F := Ideal) y0 y1 y2 y3 y4 y5 y6 y7 y8 y9 ix0 := by
  subst h0 h1 h2 h3 h4 h5 h6 h7 h8 h9
  rfl

open Cert.ReferenceIdeal in
/-- The reference's forces, of equal arguments. -/
theorem forces_congr {x0 y0 : FVec Ideal S4096x3 .f32} {x1 y1 : IVec S4095x2 32} {x2 y2 : FVec Ideal S4095x2 .f32} {x3 y3 : IVec S4093x4 32} {x4 y4 : IVec S4093 32}
    {x5 y5 : FVec Ideal S4093x3 .f32} {x6 y6 : IVec S4096 32} {x7 y7 : FVec Ideal S20x20 .f32} {x8 y8 : IVec S8382465x2 32} {x9 y9 : FVec Ideal S3 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) :
    Cert.ReferenceIdeal.Read.val_main_v491 (F := Ideal) x0 x1 x2 x3 x4 x5 x6 x7 x8 x9
      = Cert.ReferenceIdeal.Read.val_main_v491 (F := Ideal) y0 y1 y2 y3 y4 y5 y6 y7 y8 y9 := by
  subst h0 h1 h2 h3 h4 h5 h6 h7 h8 h9
  rfl

theorem scalar (i : (⟨0, ![]⟩ : Shape).Idx) : i = ix0 := funext fun a => a.elim0

theorem algebraic : Cert.algebraic_KernelIdeal_ReferenceIdeal_pre_regular := by
  intro m g m' g' hp he
  refine ⟨fun c _ => energyOf m c, fun c => forcesOf m c, ?_, ?_⟩
  · refine θ_run_mono (θ_run_and (kernel_run m g) (θ_run_and (forces_run m g) (Cert.KernelIdeal.Gen.frame_of m g (Cert.Proof.KernelIdeal.dats m) (fun _ _ => rfl)
      (θ_run_mono (Cert.Proof.KernelIdeal.run_main (F := Ideal) m g) fun _ h => h.1)))) fun r hr c => ⟨funext fun i => ?_, funext fun i => ?_, hr.2.2 c⟩
    · exact (hr.1 c i).trans (kernel_energy m hp c _)
    · rw [eq_ix2 (n0 := 4096) (n1 := 3) i]
      exact (hr.2.1 c (i 0) (i 1)).trans (kernel_forces m hp c (i 0) (i 1))
  · refine θ_run_mono (Cert.ReferenceIdeal.Value.run (F := Ideal) m' g') fun r hr c => ⟨funext fun i => ?_, ?_, (hr c).2.2⟩
    · refine (congrFun ((hr c).1.trans (Cert.ReferenceIdeal.Read.val_main_v465_eq (StableHlo.launchContents m' c))) i).trans ?_
      obtain ⟨e0, e1, e2, e3, e4, e5, e6, e7, e8, e9⟩ := he c
      rw [scalar i]
      exact energy_congr e0 e1 e2 e3 e4 e5 e6 e7 e8 e9
    · refine ((hr c).2.1.trans (Cert.ReferenceIdeal.Read.val_main_v491_eq (StableHlo.launchContents m' c))).trans ?_
      obtain ⟨e0, e1, e2, e3, e4, e5, e6, e7, e8, e9⟩ := he c
      exact forces_congr e0 e1 e2 e3 e4 e5 e6 e7 e8 e9

end Cert.Proof.Energy

end
-- ==== Proof.lean ====
/-
  The certificate's proof: the claims of Defs.lean, each from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Run
public import proofs.«01_k».proof.Proof.RunIdeal
public import proofs.«01_k».proof.Proof.RefRun
public import proofs.«01_k».proof.Proof.Value
public import Idealize.ShloMosaic.Adequacy
public import Idealize.ShloMosaic.Init

@[expose] public section

noncomputable section

namespace Cert.Proof

open Idealize.ShloMosaic Idealize.SL.Sem

theorem frameIdeal : Cert.quiescent_KernelIdeal (hKernelIdeal := Cert.KernelIdeal.Gen.facts) := fun m g _ =>
  θ_run_with_sems (Cert.KernelIdeal.Gen.frame_of m g (KernelIdeal.dats m) fun _ _ => rfl) (KernelIdeal.run_main (F := Ideal) m g)

/-- The frames, the named constant, and the energy and the forces. -/
theorem claim : Cert.Claim :=
  ⟨Cert.Kernel.Gen.facts, Cert.KernelIdeal.Gen.facts, Cert.ReferenceIdeal.Gen.facts, Cert.Pre_regular.Gen.facts,
    fun m g _ => θ_run_with_sems (Cert.Kernel.Gen.frame_of m g (Kernel.dats m) fun _ _ => rfl)
      (Kernel.run_main (F := Bits) m g),
    frameIdeal,
    fun m g _ => frameIdeal m g trivial,
    ReferenceIdeal.frame,
    fun m g _ => ReferenceIdeal.frame m g trivial,
    IdealRules.named_const.statement Cert.KernelIdeal.κ "mask" .f32 0x7149F2CA#32 ⊤ rfl,
    Energy.algebraic⟩

end Cert.Proof

end
